-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S32 : Shape := ⟨1, ![32]⟩
abbrev S_ : Shape := ⟨0, ![]⟩
abbrev S1 : Shape := ⟨1, ![1]⟩
abbrev S4 : Shape := ⟨1, ![4]⟩
abbrev S256x1024 : Shape := ⟨2, ![256, 1024]⟩
abbrev S256x2048 : Shape := ⟨2, ![256, 2048]⟩
abbrev S4x32x1024 : Shape := ⟨3, ![4, 32, 1024]⟩
abbrev S31 : Shape := ⟨1, ![31]⟩
abbrev S32x1024 : Shape := ⟨2, ![32, 1024]⟩
abbrev S1x32x1024 : Shape := ⟨3, ![1, 32, 1024]⟩

abbrev nBuf : Space → Nat
  | .hbm => 48
  | .vmem => 30
  | .smem => 3
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S4, .i32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .f32⟩
  | .local _ .vmem, ⟨3, _⟩ => ⟨S2048x1024, .f32⟩
  | .local _ .vmem, ⟨4, _⟩ => ⟨S256x1024, .f32⟩
  | .local _ .vmem, ⟨5, _⟩ => ⟨S256x1024, .f32⟩
  | .local _ .vmem, ⟨6, _⟩ => ⟨S2048x1024, .f32⟩
  | .local _ .vmem, ⟨7, _⟩ => ⟨S2048x1024, .f32⟩
  | .local _ .vmem, ⟨8, _⟩ => ⟨S4x32x1024, .f32⟩
  | .local _ .vmem, ⟨9, _⟩ => ⟨S4x32x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .f32⟩
  | .local _ .vmem, ⟨13, _⟩ => ⟨S2048x1024, .f32⟩
  | .local _ .vmem, ⟨14, _⟩ => ⟨S256x1024, .f32⟩
  | .local _ .vmem, ⟨15, _⟩ => ⟨S256x1024, .f32⟩
  | .local _ .vmem, ⟨16, _⟩ => ⟨S2048x1024, .f32⟩
  | .local _ .vmem, ⟨17, _⟩ => ⟨S2048x1024, .f32⟩
  | .local _ .vmem, ⟨18, _⟩ => ⟨S4x32x1024, .f32⟩
  | .local _ .vmem, ⟨19, _⟩ => ⟨S4x32x1024, .f32⟩
  | .local _ .vmem, ⟨20, _⟩ => ⟨S256x1024, .f32⟩
  | .local _ .vmem, ⟨21, _⟩ => ⟨S256x1024, .f32⟩
  | .local _ .vmem, ⟨22, _⟩ => ⟨S1024x2048, .f32⟩
  | .local _ .vmem, ⟨23, _⟩ => ⟨S2048x1024, .f32⟩
  | .local _ .vmem, ⟨24, _⟩ => ⟨S256x1024, .f32⟩
  | .local _ .vmem, ⟨25, _⟩ => ⟨S256x1024, .f32⟩
  | .local _ .vmem, ⟨26, _⟩ => ⟨S2048x1024, .f32⟩
  | .local _ .vmem, ⟨27, _⟩ => ⟨S2048x1024, .f32⟩
  | .local _ .vmem, ⟨28, _⟩ => ⟨S4x32x1024, .f32⟩
  | .local _ .vmem, ⟨29, _⟩ => ⟨S4x32x1024, .f32⟩
  | .local _ .smem, ⟨0, _⟩ => ⟨S4, .i32⟩
  | .local _ .smem, ⟨1, _⟩ => ⟨S4, .i32⟩
  | .local _ .smem, ⟨2, _⟩ => ⟨S4, .i32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_5 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_6 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | 5 => dmaSemScopedAt0_5 i
  | 6 => dmaSemScopedAt0_6 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 771 → Bool
  | ⟨i, _⟩ => dmaSemScopedAt i

abbrev sig : RefSig :=
  (ofTc nBuf bufTy 1 771 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_4 : Ref sig .tc := ⟨.hbm, 16, rfl⟩
abbrev main_v5 : Ref sig .tc := ⟨.hbm, 17, rfl⟩
abbrev main_c_5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_6 : Ref sig .tc := ⟨.hbm, 23, rfl⟩
abbrev main_v10 : Ref sig .tc := ⟨.hbm, 24, rfl⟩
abbrev main_c_7 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_8 : Ref sig .tc := ⟨.hbm, 30, rfl⟩
abbrev main_v15 : Ref sig .tc := ⟨.hbm, 31, rfl⟩
abbrev main_c_9 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_scratch0 : Ref sig .tc := ⟨.vmem, 8, rfl⟩
abbrev cc1_scratch1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_scratch0 : Ref sig .tc := ⟨.vmem, 18, rfl⟩
abbrev cc3_scratch1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_scratch0 : Ref sig .tc := ⟨.vmem, 28, rfl⟩
abbrev cc5_scratch1 : Ref sig .tc := ⟨.vmem, 29, rfl⟩
abbrev cc1_stg0_0 : Ref sig .tc := ⟨.smem, 0, rfl⟩
abbrev cc3_stg0_0 : Ref sig .tc := ⟨.smem, 1, rfl⟩
abbrev cc5_stg0_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc2_sem0_0 : DmaSem sig := 257
abbrev cc2_sem0_1 : DmaSem sig := 258
abbrev cc2_sem1_0 : DmaSem sig := 259
abbrev cc2_sem2_0 : DmaSem sig := 260
abbrev cc2_sem3_0 : DmaSem sig := 261
abbrev cc2_sem3_1 : DmaSem sig := 262
abbrev cc3_sem0_0 : DmaSem sig := 263
abbrev cc3_sem1_0 : DmaSem sig := 264
abbrev cc3_sem2_0 : DmaSem sig := 265
abbrev cc4_sem0_0 : DmaSem sig := 514
abbrev cc4_sem0_1 : DmaSem sig := 515
abbrev cc4_sem1_0 : DmaSem sig := 516
abbrev cc4_sem2_0 : DmaSem sig := 517
abbrev cc4_sem3_0 : DmaSem sig := 518
abbrev cc4_sem3_1 : DmaSem sig := 519
abbrev cc5_sem0_0 : DmaSem sig := 520
abbrev cc5_sem1_0 : DmaSem sig := 521
abbrev cc5_sem2_0 : DmaSem sig := 522
abbrev barrier1 : Sem sig := 0

abbrev nD : Nat := 32
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

def k1_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k1_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k1_off1 (v0 : BitVec 32) : Fin 2 → Nat :=
  let c32_i32 : BitVec 32 := 32#32
  let v8 : BitVec 32 := Scalar.muli v0 c32_i32
  let v9 : Index := Scalar.indexCast v8
  let c0_4 : Index := 0#32
  ![v9.toNat, 0]

def k1_off2 (v0 : BitVec 32) : Fin 2 → Nat :=
  let c1024_i32 : BitVec 32 := 1024#32
  let c32_i32_8 : BitVec 32 := 32#32
  let v15 : BitVec 32 := Scalar.muli v0 c32_i32_8
  let v16 : BitVec 32 := Scalar.addi c1024_i32 v15
  let v17 : Index := Scalar.indexCast v16
  let c0_9 : Index := 0#32
  ![v17.toNat, 0]
def k1_dev3 (v1 : BitVec 32) : Nat :=
  let c0_i32_18 : BitVec 32 := 0#32
  let c1_i32_17 : BitVec 32 := 1#32
  let v23 : BitVec 32 := Scalar.muli v1 c1_i32_17
  let v24 : BitVec 32 := Scalar.addi c0_i32_18 v23
  v24.toNat
def k1_dev4 (v2 : BitVec 32) : Nat :=
  let c0_i32_28 : BitVec 32 := 0#32
  let c1_i32_27 : BitVec 32 := 1#32
  let v33 : BitVec 32 := Scalar.muli v2 c1_i32_27
  let v34 : BitVec 32 := Scalar.addi c0_i32_28 v33
  v34.toNat
def k1_off3 (v0 : BitVec 32) (c0_i32_71 : BitVec 32) : Fin 2 → Nat :=
  let v71 : BitVec 32 := Scalar.subi v0 c0_i32_71
  let c1_i32_72 : BitVec 32 := 1#32
  let v72 : BitVec 32 := Scalar.subi v71 c1_i32_72
  let c32_i32_73 : BitVec 32 := 32#32
  let c0_i32_74 : BitVec 32 := 0#32
  let v73 : BitVec 1 := Scalar.cmpi .eq c32_i32_73 c0_i32_74
  let c1_i32_75 : BitVec 32 := 1#32
  let v74 : BitVec 32 := Scalar.select v73 c1_i32_75 c32_i32_73
  let v75 : BitVec 32 := Scalar.remsi v72 v74
  let c0_i32_77 : BitVec 32 := 0#32
  let v77 : BitVec 1 := Scalar.cmpi .slt v75 c0_i32_77
  let c0_i32_78 : BitVec 32 := 0#32
  let v78 : BitVec 1 := Scalar.cmpi .slt v74 c0_i32_78
  let v79 : BitVec 1 := Scalar.xori v77 v78
  let c0_i32_76 : BitVec 32 := 0#32
  let v76 : BitVec 1 := Scalar.cmpi .ne v75 c0_i32_76
  let v80 : BitVec 1 := Scalar.andi v79 v76
  let v81 : BitVec 32 := Scalar.addi v75 v74
  let v82 : BitVec 32 := Scalar.select v80 v81 v75
  let c32_i32_90 : BitVec 32 := 32#32
  let v97 : BitVec 32 := Scalar.muli v82 c32_i32_90
  let v98 : Index := Scalar.indexCast v97
  let c0_91 : Index := 0#32
  ![v98.toNat, 0]
def k1_off4 (v0 : BitVec 32) (c0_i32_79 : BitVec 32) : Fin 2 → Nat :=
  let c1024_i32_99 : BitVec 32 := 1024#32
  let v83 : BitVec 32 := Scalar.addi v0 c0_i32_79
  let c1_i32_80 : BitVec 32 := 1#32
  let v84 : BitVec 32 := Scalar.addi v83 c1_i32_80
  let c32_i32_81 : BitVec 32 := 32#32
  let c0_i32_82 : BitVec 32 := 0#32
  let v85 : BitVec 1 := Scalar.cmpi .eq c32_i32_81 c0_i32_82
  let c1_i32_83 : BitVec 32 := 1#32
  let v86 : BitVec 32 := Scalar.select v85 c1_i32_83 c32_i32_81
  let v87 : BitVec 32 := Scalar.remsi v84 v86
  let c0_i32_85 : BitVec 32 := 0#32
  let v89 : BitVec 1 := Scalar.cmpi .slt v87 c0_i32_85
  let c0_i32_86 : BitVec 32 := 0#32
  let v90 : BitVec 1 := Scalar.cmpi .slt v86 c0_i32_86
  let v91 : BitVec 1 := Scalar.xori v89 v90
  let c0_i32_84 : BitVec 32 := 0#32
  let v88 : BitVec 1 := Scalar.cmpi .ne v87 c0_i32_84
  let v92 : BitVec 1 := Scalar.andi v91 v88
  let v93 : BitVec 32 := Scalar.addi v87 v86
  let v94 : BitVec 32 := Scalar.select v92 v93 v87
  let c32_i32_98 : BitVec 32 := 32#32
  let v107 : BitVec 32 := Scalar.muli v94 c32_i32_98
  let v108 : BitVec 32 := Scalar.addi c1024_i32_99 v107
  let v109 : Index := Scalar.indexCast v108
  let c0_100 : Index := 0#32
  ![v109.toNat, 0]
def k1_dev5 (v1 : BitVec 32) : Nat :=
  let c0_i32_109 : BitVec 32 := 0#32
  let c1_i32_108 : BitVec 32 := 1#32
  let v116 : BitVec 32 := Scalar.muli v1 c1_i32_108
  let v117 : BitVec 32 := Scalar.addi c0_i32_109 v116
  v117.toNat
def k1_dev6 (v2 : BitVec 32) : Nat :=
  let c0_i32_119 : BitVec 32 := 0#32
  let c1_i32_118 : BitVec 32 := 1#32
  let v126 : BitVec 32 := Scalar.muli v2 c1_i32_118
  let v127 : BitVec 32 := Scalar.addi c0_i32_119 v126
  v127.toNat
def k1_dev7 (v1 : BitVec 32) : Nat :=
  let c0_i32_199 : BitVec 32 := 0#32
  let c1_i32_198 : BitVec 32 := 1#32
  let v209 : BitVec 32 := Scalar.muli v1 c1_i32_198
  let v210 : BitVec 32 := Scalar.addi c0_i32_199 v209
  v210.toNat
def k1_dev8 (v2 : BitVec 32) : Nat :=
  let c0_i32_209 : BitVec 32 := 0#32
  let c1_i32_208 : BitVec 32 := 1#32
  let v219 : BitVec 32 := Scalar.muli v2 c1_i32_208
  let v220 : BitVec 32 := Scalar.addi c0_i32_209 v219
  v220.toNat
def k1_dev9 (v1 : BitVec 32) : Nat :=
  let c0_i32_289 : BitVec 32 := 0#32
  let c1_i32_288 : BitVec 32 := 1#32
  let v302 : BitVec 32 := Scalar.muli v1 c1_i32_288
  let v303 : BitVec 32 := Scalar.addi c0_i32_289 v302
  v303.toNat
def k1_dev10 (v2 : BitVec 32) : Nat :=
  let c0_i32_299 : BitVec 32 := 0#32
  let c1_i32_298 : BitVec 32 := 1#32
  let v312 : BitVec 32 := Scalar.muli v2 c1_i32_298
  let v313 : BitVec 32 := Scalar.addi c0_i32_299 v312
  v313.toNat
def k1_dev11 (v1 : BitVec 32) : Nat :=
  let c0_i32_379 : BitVec 32 := 0#32
  let c1_i32_378 : BitVec 32 := 1#32
  let v395 : BitVec 32 := Scalar.muli v1 c1_i32_378
  let v396 : BitVec 32 := Scalar.addi c0_i32_379 v395
  v396.toNat
def k1_dev12 (v2 : BitVec 32) : Nat :=
  let c0_i32_389 : BitVec 32 := 0#32
  let c1_i32_388 : BitVec 32 := 1#32
  let v405 : BitVec 32 := Scalar.muli v2 c1_i32_388
  let v406 : BitVec 32 := Scalar.addi c0_i32_389 v405
  v406.toNat
def k1_dev13 (v1 : BitVec 32) : Nat :=
  let c0_i32_469 : BitVec 32 := 0#32
  let c1_i32_468 : BitVec 32 := 1#32
  let v488 : BitVec 32 := Scalar.muli v1 c1_i32_468
  let v489 : BitVec 32 := Scalar.addi c0_i32_469 v488
  v489.toNat
def k1_dev14 (v2 : BitVec 32) : Nat :=
  let c0_i32_479 : BitVec 32 := 0#32
  let c1_i32_478 : BitVec 32 := 1#32
  let v498 : BitVec 32 := Scalar.muli v2 c1_i32_478
  let v499 : BitVec 32 := Scalar.addi c0_i32_479 v498
  v499.toNat
def k1_dev15 (v1 : BitVec 32) : Nat :=
  let c0_i32_559 : BitVec 32 := 0#32
  let c1_i32_558 : BitVec 32 := 1#32
  let v581 : BitVec 32 := Scalar.muli v1 c1_i32_558
  let v582 : BitVec 32 := Scalar.addi c0_i32_559 v581
  v582.toNat
def k1_dev16 (v2 : BitVec 32) : Nat :=
  let c0_i32_569 : BitVec 32 := 0#32
  let c1_i32_568 : BitVec 32 := 1#32
  let v591 : BitVec 32 := Scalar.muli v2 c1_i32_568
  let v592 : BitVec 32 := Scalar.addi c0_i32_569 v591
  v592.toNat
def k1_dev17 (v1 : BitVec 32) : Nat :=
  let c0_i32_649 : BitVec 32 := 0#32
  let c1_i32_648 : BitVec 32 := 1#32
  let v674 : BitVec 32 := Scalar.muli v1 c1_i32_648
  let v675 : BitVec 32 := Scalar.addi c0_i32_649 v674
  v675.toNat
def k1_dev18 (v2 : BitVec 32) : Nat :=
  let c0_i32_659 : BitVec 32 := 0#32
  let c1_i32_658 : BitVec 32 := 1#32
  let v684 : BitVec 32 := Scalar.muli v2 c1_i32_658
  let v685 : BitVec 32 := Scalar.addi c0_i32_659 v684
  v685.toNat
def k1_dev19 (v1 : BitVec 32) : Nat :=
  let c0_i32_739 : BitVec 32 := 0#32
  let c1_i32_738 : BitVec 32 := 1#32
  let v767 : BitVec 32 := Scalar.muli v1 c1_i32_738
  let v768 : BitVec 32 := Scalar.addi c0_i32_739 v767
  v768.toNat
def k1_dev20 (v2 : BitVec 32) : Nat :=
  let c0_i32_749 : BitVec 32 := 0#32
  let c1_i32_748 : BitVec 32 := 1#32
  let v777 : BitVec 32 := Scalar.muli v2 c1_i32_748
  let v778 : BitVec 32 := Scalar.addi c0_i32_749 v777
  v778.toNat
def k1_dev21 (v1 : BitVec 32) : Nat :=
  let c0_i32_829 : BitVec 32 := 0#32
  let c1_i32_828 : BitVec 32 := 1#32
  let v860 : BitVec 32 := Scalar.muli v1 c1_i32_828
  let v861 : BitVec 32 := Scalar.addi c0_i32_829 v860
  v861.toNat
def k1_dev22 (v2 : BitVec 32) : Nat :=
  let c0_i32_839 : BitVec 32 := 0#32
  let c1_i32_838 : BitVec 32 := 1#32
  let v870 : BitVec 32 := Scalar.muli v2 c1_i32_838
  let v871 : BitVec 32 := Scalar.addi c0_i32_839 v870
  v871.toNat
def k1_dev23 (v1 : BitVec 32) : Nat :=
  let c0_i32_919 : BitVec 32 := 0#32
  let c1_i32_918 : BitVec 32 := 1#32
  let v953 : BitVec 32 := Scalar.muli v1 c1_i32_918
  let v954 : BitVec 32 := Scalar.addi c0_i32_919 v953
  v954.toNat
def k1_dev24 (v2 : BitVec 32) : Nat :=
  let c0_i32_929 : BitVec 32 := 0#32
  let c1_i32_928 : BitVec 32 := 1#32
  let v963 : BitVec 32 := Scalar.muli v2 c1_i32_928
  let v964 : BitVec 32 := Scalar.addi c0_i32_929 v963
  v964.toNat
def k1_dev25 (v1 : BitVec 32) : Nat :=
  let c0_i32_1009 : BitVec 32 := 0#32
  let c1_i32_1008 : BitVec 32 := 1#32
  let v1046 : BitVec 32 := Scalar.muli v1 c1_i32_1008
  let v1047 : BitVec 32 := Scalar.addi c0_i32_1009 v1046
  v1047.toNat
def k1_dev26 (v2 : BitVec 32) : Nat :=
  let c0_i32_1019 : BitVec 32 := 0#32
  let c1_i32_1018 : BitVec 32 := 1#32
  let v1056 : BitVec 32 := Scalar.muli v2 c1_i32_1018
  let v1057 : BitVec 32 := Scalar.addi c0_i32_1019 v1056
  v1057.toNat
def k1_dev27 (v1 : BitVec 32) : Nat :=
  let c0_i32_1099 : BitVec 32 := 0#32
  let c1_i32_1098 : BitVec 32 := 1#32
  let v1139 : BitVec 32 := Scalar.muli v1 c1_i32_1098
  let v1140 : BitVec 32 := Scalar.addi c0_i32_1099 v1139
  v1140.toNat
def k1_dev28 (v2 : BitVec 32) : Nat :=
  let c0_i32_1109 : BitVec 32 := 0#32
  let c1_i32_1108 : BitVec 32 := 1#32
  let v1149 : BitVec 32 := Scalar.muli v2 c1_i32_1108
  let v1150 : BitVec 32 := Scalar.addi c0_i32_1109 v1149
  v1150.toNat
def k1_dev29 (v1 : BitVec 32) : Nat :=
  let c0_i32_1189 : BitVec 32 := 0#32
  let c1_i32_1188 : BitVec 32 := 1#32
  let v1232 : BitVec 32 := Scalar.muli v1 c1_i32_1188
  let v1233 : BitVec 32 := Scalar.addi c0_i32_1189 v1232
  v1233.toNat
def k1_dev30 (v2 : BitVec 32) : Nat :=
  let c0_i32_1199 : BitVec 32 := 0#32
  let c1_i32_1198 : BitVec 32 := 1#32
  let v1242 : BitVec 32 := Scalar.muli v2 c1_i32_1198
  let v1243 : BitVec 32 := Scalar.addi c0_i32_1199 v1242
  v1243.toNat
def k1_dev31 (v1 : BitVec 32) : Nat :=
  let c0_i32_1279 : BitVec 32 := 0#32
  let c1_i32_1278 : BitVec 32 := 1#32
  let v1325 : BitVec 32 := Scalar.muli v1 c1_i32_1278
  let v1326 : BitVec 32 := Scalar.addi c0_i32_1279 v1325
  v1326.toNat
def k1_dev32 (v2 : BitVec 32) : Nat :=
  let c0_i32_1289 : BitVec 32 := 0#32
  let c1_i32_1288 : BitVec 32 := 1#32
  let v1335 : BitVec 32 := Scalar.muli v2 c1_i32_1288
  let v1336 : BitVec 32 := Scalar.addi c0_i32_1289 v1335
  v1336.toNat
def k1_dev33 (v1 : BitVec 32) : Nat :=
  let c0_i32_1369 : BitVec 32 := 0#32
  let c1_i32_1368 : BitVec 32 := 1#32
  let v1418 : BitVec 32 := Scalar.muli v1 c1_i32_1368
  let v1419 : BitVec 32 := Scalar.addi c0_i32_1369 v1418
  v1419.toNat
def k1_dev34 (v2 : BitVec 32) : Nat :=
  let c0_i32_1379 : BitVec 32 := 0#32
  let c1_i32_1378 : BitVec 32 := 1#32
  let v1428 : BitVec 32 := Scalar.muli v2 c1_i32_1378
  let v1429 : BitVec 32 := Scalar.addi c0_i32_1379 v1428
  v1429.toNat
def k1_dev35 (v1 : BitVec 32) : Nat :=
  let c0_i32_1459 : BitVec 32 := 0#32
  let c1_i32_1458 : BitVec 32 := 1#32
  let v1511 : BitVec 32 := Scalar.muli v1 c1_i32_1458
  let v1512 : BitVec 32 := Scalar.addi c0_i32_1459 v1511
  v1512.toNat
def k1_dev36 (v2 : BitVec 32) : Nat :=
  let c0_i32_1469 : BitVec 32 := 0#32
  let c1_i32_1468 : BitVec 32 := 1#32
  let v1521 : BitVec 32 := Scalar.muli v2 c1_i32_1468
  let v1522 : BitVec 32 := Scalar.addi c0_i32_1469 v1521
  v1522.toNat
def k1_dev37 (v1 : BitVec 32) : Nat :=
  let c0_i32_1549 : BitVec 32 := 0#32
  let c1_i32_1548 : BitVec 32 := 1#32
  let v1604 : BitVec 32 := Scalar.muli v1 c1_i32_1548
  let v1605 : BitVec 32 := Scalar.addi c0_i32_1549 v1604
  v1605.toNat
def k1_dev38 (v2 : BitVec 32) : Nat :=
  let c0_i32_1559 : BitVec 32 := 0#32
  let c1_i32_1558 : BitVec 32 := 1#32
  let v1614 : BitVec 32 := Scalar.muli v2 c1_i32_1558
  let v1615 : BitVec 32 := Scalar.addi c0_i32_1559 v1614
  v1615.toNat
def k1_dev39 (v1 : BitVec 32) : Nat :=
  let c0_i32_1639 : BitVec 32 := 0#32
  let c1_i32_1638 : BitVec 32 := 1#32
  let v1697 : BitVec 32 := Scalar.muli v1 c1_i32_1638
  let v1698 : BitVec 32 := Scalar.addi c0_i32_1639 v1697
  v1698.toNat
def k1_dev40 (v2 : BitVec 32) : Nat :=
  let c0_i32_1649 : BitVec 32 := 0#32
  let c1_i32_1648 : BitVec 32 := 1#32
  let v1707 : BitVec 32 := Scalar.muli v2 c1_i32_1648
  let v1708 : BitVec 32 := Scalar.addi c0_i32_1649 v1707
  v1708.toNat
def k1_dev41 (v1 : BitVec 32) : Nat :=
  let c0_i32_1729 : BitVec 32 := 0#32
  let c1_i32_1728 : BitVec 32 := 1#32
  let v1790 : BitVec 32 := Scalar.muli v1 c1_i32_1728
  let v1791 : BitVec 32 := Scalar.addi c0_i32_1729 v1790
  v1791.toNat
def k1_dev42 (v2 : BitVec 32) : Nat :=
  let c0_i32_1739 : BitVec 32 := 0#32
  let c1_i32_1738 : BitVec 32 := 1#32
  let v1800 : BitVec 32 := Scalar.muli v2 c1_i32_1738
  let v1801 : BitVec 32 := Scalar.addi c0_i32_1739 v1800
  v1801.toNat
def k1_dev43 (v1 : BitVec 32) : Nat :=
  let c0_i32_1819 : BitVec 32 := 0#32
  let c1_i32_1818 : BitVec 32 := 1#32
  let v1883 : BitVec 32 := Scalar.muli v1 c1_i32_1818
  let v1884 : BitVec 32 := Scalar.addi c0_i32_1819 v1883
  v1884.toNat
def k1_dev44 (v2 : BitVec 32) : Nat :=
  let c0_i32_1829 : BitVec 32 := 0#32
  let c1_i32_1828 : BitVec 32 := 1#32
  let v1893 : BitVec 32 := Scalar.muli v2 c1_i32_1828
  let v1894 : BitVec 32 := Scalar.addi c0_i32_1829 v1893
  v1894.toNat
def k1_dev45 (v1 : BitVec 32) : Nat :=
  let c0_i32_1909 : BitVec 32 := 0#32
  let c1_i32_1908 : BitVec 32 := 1#32
  let v1976 : BitVec 32 := Scalar.muli v1 c1_i32_1908
  let v1977 : BitVec 32 := Scalar.addi c0_i32_1909 v1976
  v1977.toNat
def k1_dev46 (v2 : BitVec 32) : Nat :=
  let c0_i32_1919 : BitVec 32 := 0#32
  let c1_i32_1918 : BitVec 32 := 1#32
  let v1986 : BitVec 32 := Scalar.muli v2 c1_i32_1918
  let v1987 : BitVec 32 := Scalar.addi c0_i32_1919 v1986
  v1987.toNat
def k1_dev47 (v1 : BitVec 32) : Nat :=
  let c0_i32_1999 : BitVec 32 := 0#32
  let c1_i32_1998 : BitVec 32 := 1#32
  let v2069 : BitVec 32 := Scalar.muli v1 c1_i32_1998
  let v2070 : BitVec 32 := Scalar.addi c0_i32_1999 v2069
  v2070.toNat
def k1_dev48 (v2 : BitVec 32) : Nat :=
  let c0_i32_2009 : BitVec 32 := 0#32
  let c1_i32_2008 : BitVec 32 := 1#32
  let v2079 : BitVec 32 := Scalar.muli v2 c1_i32_2008
  let v2080 : BitVec 32 := Scalar.addi c0_i32_2009 v2079
  v2080.toNat
def k1_dev49 (v1 : BitVec 32) : Nat :=
  let c0_i32_2089 : BitVec 32 := 0#32
  let c1_i32_2088 : BitVec 32 := 1#32
  let v2162 : BitVec 32 := Scalar.muli v1 c1_i32_2088
  let v2163 : BitVec 32 := Scalar.addi c0_i32_2089 v2162
  v2163.toNat
def k1_dev50 (v2 : BitVec 32) : Nat :=
  let c0_i32_2099 : BitVec 32 := 0#32
  let c1_i32_2098 : BitVec 32 := 1#32
  let v2172 : BitVec 32 := Scalar.muli v2 c1_i32_2098
  let v2173 : BitVec 32 := Scalar.addi c0_i32_2099 v2172
  v2173.toNat
def k1_dev51 (v1 : BitVec 32) : Nat :=
  let c0_i32_2179 : BitVec 32 := 0#32
  let c1_i32_2178 : BitVec 32 := 1#32
  let v2255 : BitVec 32 := Scalar.muli v1 c1_i32_2178
  let v2256 : BitVec 32 := Scalar.addi c0_i32_2179 v2255
  v2256.toNat
def k1_dev52 (v2 : BitVec 32) : Nat :=
  let c0_i32_2189 : BitVec 32 := 0#32
  let c1_i32_2188 : BitVec 32 := 1#32
  let v2265 : BitVec 32 := Scalar.muli v2 c1_i32_2188
  let v2266 : BitVec 32 := Scalar.addi c0_i32_2189 v2265
  v2266.toNat
def k1_dev53 (v1 : BitVec 32) : Nat :=
  let c0_i32_2269 : BitVec 32 := 0#32
  let c1_i32_2268 : BitVec 32 := 1#32
  let v2348 : BitVec 32 := Scalar.muli v1 c1_i32_2268
  let v2349 : BitVec 32 := Scalar.addi c0_i32_2269 v2348
  v2349.toNat
def k1_dev54 (v2 : BitVec 32) : Nat :=
  let c0_i32_2279 : BitVec 32 := 0#32
  let c1_i32_2278 : BitVec 32 := 1#32
  let v2358 : BitVec 32 := Scalar.muli v2 c1_i32_2278
  let v2359 : BitVec 32 := Scalar.addi c0_i32_2279 v2358
  v2359.toNat
def k1_dev55 (v1 : BitVec 32) : Nat :=
  let c0_i32_2359 : BitVec 32 := 0#32
  let c1_i32_2358 : BitVec 32 := 1#32
  let v2441 : BitVec 32 := Scalar.muli v1 c1_i32_2358
  let v2442 : BitVec 32 := Scalar.addi c0_i32_2359 v2441
  v2442.toNat
def k1_dev56 (v2 : BitVec 32) : Nat :=
  let c0_i32_2369 : BitVec 32 := 0#32
  let c1_i32_2368 : BitVec 32 := 1#32
  let v2451 : BitVec 32 := Scalar.muli v2 c1_i32_2368
  let v2452 : BitVec 32 := Scalar.addi c0_i32_2369 v2451
  v2452.toNat
def k1_dev57 (v1 : BitVec 32) : Nat :=
  let c0_i32_2449 : BitVec 32 := 0#32
  let c1_i32_2448 : BitVec 32 := 1#32
  let v2534 : BitVec 32 := Scalar.muli v1 c1_i32_2448
  let v2535 : BitVec 32 := Scalar.addi c0_i32_2449 v2534
  v2535.toNat
def k1_dev58 (v2 : BitVec 32) : Nat :=
  let c0_i32_2459 : BitVec 32 := 0#32
  let c1_i32_2458 : BitVec 32 := 1#32
  let v2544 : BitVec 32 := Scalar.muli v2 c1_i32_2458
  let v2545 : BitVec 32 := Scalar.addi c0_i32_2459 v2544
  v2545.toNat
def k1_dev59 (v1 : BitVec 32) : Nat :=
  let c0_i32_2539 : BitVec 32 := 0#32
  let c1_i32_2538 : BitVec 32 := 1#32
  let v2627 : BitVec 32 := Scalar.muli v1 c1_i32_2538
  let v2628 : BitVec 32 := Scalar.addi c0_i32_2539 v2627
  v2628.toNat
def k1_dev60 (v2 : BitVec 32) : Nat :=
  let c0_i32_2549 : BitVec 32 := 0#32
  let c1_i32_2548 : BitVec 32 := 1#32
  let v2637 : BitVec 32 := Scalar.muli v2 c1_i32_2548
  let v2638 : BitVec 32 := Scalar.addi c0_i32_2549 v2637
  v2638.toNat
def k1_dev61 (v1 : BitVec 32) : Nat :=
  let c0_i32_2629 : BitVec 32 := 0#32
  let c1_i32_2628 : BitVec 32 := 1#32
  let v2720 : BitVec 32 := Scalar.muli v1 c1_i32_2628
  let v2721 : BitVec 32 := Scalar.addi c0_i32_2629 v2720
  v2721.toNat
def k1_dev62 (v2 : BitVec 32) : Nat :=
  let c0_i32_2639 : BitVec 32 := 0#32
  let c1_i32_2638 : BitVec 32 := 1#32
  let v2730 : BitVec 32 := Scalar.muli v2 c1_i32_2638
  let v2731 : BitVec 32 := Scalar.addi c0_i32_2639 v2730
  v2731.toNat
def k1_dev63 (v1 : BitVec 32) : Nat :=
  let c0_i32_2719 : BitVec 32 := 0#32
  let c1_i32_2718 : BitVec 32 := 1#32
  let v2813 : BitVec 32 := Scalar.muli v1 c1_i32_2718
  let v2814 : BitVec 32 := Scalar.addi c0_i32_2719 v2813
  v2814.toNat
def k1_dev64 (v2 : BitVec 32) : Nat :=
  let c0_i32_2729 : BitVec 32 := 0#32
  let c1_i32_2728 : BitVec 32 := 1#32
  let v2823 : BitVec 32 := Scalar.muli v2 c1_i32_2728
  let v2824 : BitVec 32 := Scalar.addi c0_i32_2729 v2823
  v2824.toNat
def k1_off5 (v0 : BitVec 32) : Fin 2 → Nat :=
  let c1_i32_2808 : BitVec 32 := 1#32
  let v2908 : BitVec 32 := Scalar.addi v0 c1_i32_2808
  let c32_i32_2809 : BitVec 32 := 32#32
  let c0_i32_2810 : BitVec 32 := 0#32
  let v2909 : BitVec 1 := Scalar.cmpi .eq c32_i32_2809 c0_i32_2810
  let c1_i32_2811 : BitVec 32 := 1#32
  let v2910 : BitVec 32 := Scalar.select v2909 c1_i32_2811 c32_i32_2809
  let v2911 : BitVec 32 := Scalar.remsi v2908 v2910
  let c0_i32_2813 : BitVec 32 := 0#32
  let v2913 : BitVec 1 := Scalar.cmpi .slt v2911 c0_i32_2813
  let c0_i32_2814 : BitVec 32 := 0#32
  let v2914 : BitVec 1 := Scalar.cmpi .slt v2910 c0_i32_2814
  let v2915 : BitVec 1 := Scalar.xori v2913 v2914
  let c0_i32_2812 : BitVec 32 := 0#32
  let v2912 : BitVec 1 := Scalar.cmpi .ne v2911 c0_i32_2812
  let v2916 : BitVec 1 := Scalar.andi v2915 v2912
  let v2917 : BitVec 32 := Scalar.addi v2911 v2910
  let v2918 : BitVec 32 := Scalar.select v2916 v2917 v2911
  let c32_i32_2815 : BitVec 32 := 32#32
  let v2919 : BitVec 32 := Scalar.muli v2918 c32_i32_2815
  let v2920 : Index := Scalar.indexCast v2919
  let c0_2816 : Index := 0#32
  ![v2920.toNat, 0]
def k1_off6 (v0 : BitVec 32) : Fin 2 → Nat :=
  let c1024_i32_2828 : BitVec 32 := 1024#32
  let c1_i32_2820 : BitVec 32 := 1#32
  let v2924 : BitVec 32 := Scalar.subi v0 c1_i32_2820
  let c32_i32_2821 : BitVec 32 := 32#32
  let c0_i32_2822 : BitVec 32 := 0#32
  let v2925 : BitVec 1 := Scalar.cmpi .eq c32_i32_2821 c0_i32_2822
  let c1_i32_2823 : BitVec 32 := 1#32
  let v2926 : BitVec 32 := Scalar.select v2925 c1_i32_2823 c32_i32_2821
  let v2927 : BitVec 32 := Scalar.remsi v2924 v2926
  let c0_i32_2825 : BitVec 32 := 0#32
  let v2929 : BitVec 1 := Scalar.cmpi .slt v2927 c0_i32_2825
  let c0_i32_2826 : BitVec 32 := 0#32
  let v2930 : BitVec 1 := Scalar.cmpi .slt v2926 c0_i32_2826
  let v2931 : BitVec 1 := Scalar.xori v2929 v2930
  let c0_i32_2824 : BitVec 32 := 0#32
  let v2928 : BitVec 1 := Scalar.cmpi .ne v2927 c0_i32_2824
  let v2932 : BitVec 1 := Scalar.andi v2931 v2928
  let v2933 : BitVec 32 := Scalar.addi v2927 v2926
  let v2934 : BitVec 32 := Scalar.select v2932 v2933 v2927
  let c32_i32_2827 : BitVec 32 := 32#32
  let v2935 : BitVec 32 := Scalar.muli v2934 c32_i32_2827
  let v2936 : BitVec 32 := Scalar.addi c1024_i32_2828 v2935
  let v2937 : Index := Scalar.indexCast v2936
  let c0_2829 : Index := 0#32
  ![v2937.toNat, 0]
def k1_dev65 (v1 : BitVec 32) : Nat :=
  let c0_i32_2835 : BitVec 32 := 0#32
  let c1_i32_2834 : BitVec 32 := 1#32
  let v2939 : BitVec 32 := Scalar.muli v1 c1_i32_2834
  let v2940 : BitVec 32 := Scalar.addi c0_i32_2835 v2939
  v2940.toNat
def k1_dev66 (v2 : BitVec 32) : Nat :=
  let c0_i32_2845 : BitVec 32 := 0#32
  let c1_i32_2844 : BitVec 32 := 1#32
  let v2949 : BitVec 32 := Scalar.muli v2 c1_i32_2844
  let v2950 : BitVec 32 := Scalar.addi c0_i32_2845 v2949
  v2950.toNat
def k1_off7 (v0 : BitVec 32) (c0_i32_2891 : BitVec 32) : Fin 2 → Nat :=
  let v2989 : BitVec 32 := Scalar.subi v0 c0_i32_2891
  let c32_i32_2892 : BitVec 32 := 32#32
  let c0_i32_2893 : BitVec 32 := 0#32
  let v2990 : BitVec 1 := Scalar.cmpi .eq c32_i32_2892 c0_i32_2893
  let c1_i32_2894 : BitVec 32 := 1#32
  let v2991 : BitVec 32 := Scalar.select v2990 c1_i32_2894 c32_i32_2892
  let v2992 : BitVec 32 := Scalar.remsi v2989 v2991
  let c0_i32_2896 : BitVec 32 := 0#32
  let v2994 : BitVec 1 := Scalar.cmpi .slt v2992 c0_i32_2896
  let c0_i32_2897 : BitVec 32 := 0#32
  let v2995 : BitVec 1 := Scalar.cmpi .slt v2991 c0_i32_2897
  let v2996 : BitVec 1 := Scalar.xori v2994 v2995
  let c0_i32_2895 : BitVec 32 := 0#32
  let v2993 : BitVec 1 := Scalar.cmpi .ne v2992 c0_i32_2895
  let v2997 : BitVec 1 := Scalar.andi v2996 v2993
  let v2998 : BitVec 32 := Scalar.addi v2992 v2991
  let v2999 : BitVec 32 := Scalar.select v2997 v2998 v2992
  let c32_i32_2898 : BitVec 32 := 32#32
  let v3000 : BitVec 32 := Scalar.muli v2999 c32_i32_2898
  let v3001 : Index := Scalar.indexCast v3000
  let c0_2899 : Index := 0#32
  ![v3001.toNat, 0]
def k1_off8 (v0 : BitVec 32) (c0_i32_2903 : BitVec 32) : Fin 2 → Nat :=
  let c1024_i32_2911 : BitVec 32 := 1024#32
  let v3005 : BitVec 32 := Scalar.addi v0 c0_i32_2903
  let c32_i32_2904 : BitVec 32 := 32#32
  let c0_i32_2905 : BitVec 32 := 0#32
  let v3006 : BitVec 1 := Scalar.cmpi .eq c32_i32_2904 c0_i32_2905
  let c1_i32_2906 : BitVec 32 := 1#32
  let v3007 : BitVec 32 := Scalar.select v3006 c1_i32_2906 c32_i32_2904
  let v3008 : BitVec 32 := Scalar.remsi v3005 v3007
  let c0_i32_2908 : BitVec 32 := 0#32
  let v3010 : BitVec 1 := Scalar.cmpi .slt v3008 c0_i32_2908
  let c0_i32_2909 : BitVec 32 := 0#32
  let v3011 : BitVec 1 := Scalar.cmpi .slt v3007 c0_i32_2909
  let v3012 : BitVec 1 := Scalar.xori v3010 v3011
  let c0_i32_2907 : BitVec 32 := 0#32
  let v3009 : BitVec 1 := Scalar.cmpi .ne v3008 c0_i32_2907
  let v3013 : BitVec 1 := Scalar.andi v3012 v3009
  let v3014 : BitVec 32 := Scalar.addi v3008 v3007
  let v3015 : BitVec 32 := Scalar.select v3013 v3014 v3008
  let c32_i32_2910 : BitVec 32 := 32#32
  let v3016 : BitVec 32 := Scalar.muli v3015 c32_i32_2910
  let v3017 : BitVec 32 := Scalar.addi c1024_i32_2911 v3016
  let v3018 : Index := Scalar.indexCast v3017
  let c0_2912 : Index := 0#32
  ![v3018.toNat, 0]

def k1_chk3 (v0 : BitVec 32) : Prop :=
  (∀ a, (k1_off1 v0) a + S32x1024.size a ≤ S2048x1024.size a) ∧
  (∀ a, (k1_off2 v0) a + S32x1024.size a ≤ S2048x1024.size a) ∧
  (∀ (r : Fin 31), ∀ a, (k1_off3 v0 (BitVec.ofNat 32 r.val)) a + S32x1024.size a ≤ S2048x1024.size a) ∧
  (∀ (r : Fin 31), ∀ a, (k1_off4 v0 (BitVec.ofNat 32 r.val)) a + S32x1024.size a ≤ S2048x1024.size a) ∧
  (∀ a, (k1_off5 v0) a + S32x1024.size a ≤ S2048x1024.size a) ∧
  (∀ a, (k1_off6 v0) a + S32x1024.size a ≤ S2048x1024.size a) ∧
  (∀ (r : Fin 31), ∀ a, (k1_off7 v0 (BitVec.ofNat 32 r.val)) a + S32x1024.size a ≤ S2048x1024.size a) ∧
  (∀ (r : Fin 31), ∀ a, (k1_off8 v0 (BitVec.ofNat 32 r.val)) a + S32x1024.size a ≤ S2048x1024.size a)
theorem k1_off1_inb : ∀ (v0 : BitVec 32) (k1_hw3 : k1_chk3 v0), ∀ a, (k1_off1 v0) a + S32x1024.size a ≤ S2048x1024.size a := fun v0 k1_hw3 => k1_hw3.1
theorem k1_off2_inb : ∀ (v0 : BitVec 32) (k1_hw3 : k1_chk3 v0), ∀ a, (k1_off2 v0) a + S32x1024.size a ≤ S2048x1024.size a := fun v0 k1_hw3 => k1_hw3.2.1
theorem k1_off3_inb : ∀ (v0 : BitVec 32) (k1_hw3 : k1_chk3 v0), ∀ (r : Fin 31), ∀ a, (k1_off3 v0 (BitVec.ofNat 32 r.val)) a + S32x1024.size a ≤ S2048x1024.size a := fun v0 k1_hw3 r => k1_hw3.2.2.1 r
theorem k1_off4_inb : ∀ (v0 : BitVec 32) (k1_hw3 : k1_chk3 v0), ∀ (r : Fin 31), ∀ a, (k1_off4 v0 (BitVec.ofNat 32 r.val)) a + S32x1024.size a ≤ S2048x1024.size a := fun v0 k1_hw3 r => k1_hw3.2.2.2.1 r
theorem k1_off5_inb : ∀ (v0 : BitVec 32) (k1_hw3 : k1_chk3 v0), ∀ a, (k1_off5 v0) a + S32x1024.size a ≤ S2048x1024.size a := fun v0 k1_hw3 => k1_hw3.2.2.2.2.1
theorem k1_off6_inb : ∀ (v0 : BitVec 32) (k1_hw3 : k1_chk3 v0), ∀ a, (k1_off6 v0) a + S32x1024.size a ≤ S2048x1024.size a := fun v0 k1_hw3 => k1_hw3.2.2.2.2.2.1
theorem k1_off7_inb : ∀ (v0 : BitVec 32) (k1_hw3 : k1_chk3 v0), ∀ (r : Fin 31), ∀ a, (k1_off7 v0 (BitVec.ofNat 32 r.val)) a + S32x1024.size a ≤ S2048x1024.size a := fun v0 k1_hw3 r => k1_hw3.2.2.2.2.2.2.1 r
theorem k1_off8_inb : ∀ (v0 : BitVec 32) (k1_hw3 : k1_chk3 v0), ∀ (r : Fin 31), ∀ a, (k1_off8 v0 (BitVec.ofNat 32 r.val)) a + S32x1024.size a ≤ S2048x1024.size a := fun v0 k1_hw3 r => k1_hw3.2.2.2.2.2.2.2 r

def k1_dev67 (v1 : BitVec 32) : Nat :=
  let c0_i32_2918 : BitVec 32 := 0#32
  let c1_i32_2917 : BitVec 32 := 1#32
  let v3020 : BitVec 32 := Scalar.muli v1 c1_i32_2917
  let v3021 : BitVec 32 := Scalar.addi c0_i32_2918 v3020
  v3021.toNat
def k1_dev68 (v2 : BitVec 32) : Nat :=
  let c0_i32_2928 : BitVec 32 := 0#32
  let c1_i32_2927 : BitVec 32 := 1#32
  let v3030 : BitVec 32 := Scalar.muli v2 c1_i32_2927
  let v3031 : BitVec 32 := Scalar.addi c0_i32_2928 v3030
  v3031.toNat
def k1_dev69 (v1 : BitVec 32) : Nat :=
  let c0_i32_3001 : BitVec 32 := 0#32
  let c1_i32_3000 : BitVec 32 := 1#32
  let v3101 : BitVec 32 := Scalar.muli v1 c1_i32_3000
  let v3102 : BitVec 32 := Scalar.addi c0_i32_3001 v3101
  v3102.toNat
def k1_dev70 (v2 : BitVec 32) : Nat :=
  let c0_i32_3011 : BitVec 32 := 0#32
  let c1_i32_3010 : BitVec 32 := 1#32
  let v3111 : BitVec 32 := Scalar.muli v2 c1_i32_3010
  let v3112 : BitVec 32 := Scalar.addi c0_i32_3011 v3111
  v3112.toNat
def k1_dev71 (v1 : BitVec 32) : Nat :=
  let c0_i32_3084 : BitVec 32 := 0#32
  let c1_i32_3083 : BitVec 32 := 1#32
  let v3182 : BitVec 32 := Scalar.muli v1 c1_i32_3083
  let v3183 : BitVec 32 := Scalar.addi c0_i32_3084 v3182
  v3183.toNat
def k1_dev72 (v2 : BitVec 32) : Nat :=
  let c0_i32_3094 : BitVec 32 := 0#32
  let c1_i32_3093 : BitVec 32 := 1#32
  let v3192 : BitVec 32 := Scalar.muli v2 c1_i32_3093
  let v3193 : BitVec 32 := Scalar.addi c0_i32_3094 v3192
  v3193.toNat
def k1_dev73 (v1 : BitVec 32) : Nat :=
  let c0_i32_3167 : BitVec 32 := 0#32
  let c1_i32_3166 : BitVec 32 := 1#32
  let v3263 : BitVec 32 := Scalar.muli v1 c1_i32_3166
  let v3264 : BitVec 32 := Scalar.addi c0_i32_3167 v3263
  v3264.toNat
def k1_dev74 (v2 : BitVec 32) : Nat :=
  let c0_i32_3177 : BitVec 32 := 0#32
  let c1_i32_3176 : BitVec 32 := 1#32
  let v3273 : BitVec 32 := Scalar.muli v2 c1_i32_3176
  let v3274 : BitVec 32 := Scalar.addi c0_i32_3177 v3273
  v3274.toNat
def k1_dev75 (v1 : BitVec 32) : Nat :=
  let c0_i32_3250 : BitVec 32 := 0#32
  let c1_i32_3249 : BitVec 32 := 1#32
  let v3344 : BitVec 32 := Scalar.muli v1 c1_i32_3249
  let v3345 : BitVec 32 := Scalar.addi c0_i32_3250 v3344
  v3345.toNat
def k1_dev76 (v2 : BitVec 32) : Nat :=
  let c0_i32_3260 : BitVec 32 := 0#32
  let c1_i32_3259 : BitVec 32 := 1#32
  let v3354 : BitVec 32 := Scalar.muli v2 c1_i32_3259
  let v3355 : BitVec 32 := Scalar.addi c0_i32_3260 v3354
  v3355.toNat
def k1_dev77 (v1 : BitVec 32) : Nat :=
  let c0_i32_3333 : BitVec 32 := 0#32
  let c1_i32_3332 : BitVec 32 := 1#32
  let v3425 : BitVec 32 := Scalar.muli v1 c1_i32_3332
  let v3426 : BitVec 32 := Scalar.addi c0_i32_3333 v3425
  v3426.toNat
def k1_dev78 (v2 : BitVec 32) : Nat :=
  let c0_i32_3343 : BitVec 32 := 0#32
  let c1_i32_3342 : BitVec 32 := 1#32
  let v3435 : BitVec 32 := Scalar.muli v2 c1_i32_3342
  let v3436 : BitVec 32 := Scalar.addi c0_i32_3343 v3435
  v3436.toNat
def k1_dev79 (v1 : BitVec 32) : Nat :=
  let c0_i32_3416 : BitVec 32 := 0#32
  let c1_i32_3415 : BitVec 32 := 1#32
  let v3506 : BitVec 32 := Scalar.muli v1 c1_i32_3415
  let v3507 : BitVec 32 := Scalar.addi c0_i32_3416 v3506
  v3507.toNat
def k1_dev80 (v2 : BitVec 32) : Nat :=
  let c0_i32_3426 : BitVec 32 := 0#32
  let c1_i32_3425 : BitVec 32 := 1#32
  let v3516 : BitVec 32 := Scalar.muli v2 c1_i32_3425
  let v3517 : BitVec 32 := Scalar.addi c0_i32_3426 v3516
  v3517.toNat
def k1_dev81 (v1 : BitVec 32) : Nat :=
  let c0_i32_3499 : BitVec 32 := 0#32
  let c1_i32_3498 : BitVec 32 := 1#32
  let v3587 : BitVec 32 := Scalar.muli v1 c1_i32_3498
  let v3588 : BitVec 32 := Scalar.addi c0_i32_3499 v3587
  v3588.toNat
def k1_dev82 (v2 : BitVec 32) : Nat :=
  let c0_i32_3509 : BitVec 32 := 0#32
  let c1_i32_3508 : BitVec 32 := 1#32
  let v3597 : BitVec 32 := Scalar.muli v2 c1_i32_3508
  let v3598 : BitVec 32 := Scalar.addi c0_i32_3509 v3597
  v3598.toNat
def k1_dev83 (v1 : BitVec 32) : Nat :=
  let c0_i32_3582 : BitVec 32 := 0#32
  let c1_i32_3581 : BitVec 32 := 1#32
  let v3668 : BitVec 32 := Scalar.muli v1 c1_i32_3581
  let v3669 : BitVec 32 := Scalar.addi c0_i32_3582 v3668
  v3669.toNat
def k1_dev84 (v2 : BitVec 32) : Nat :=
  let c0_i32_3592 : BitVec 32 := 0#32
  let c1_i32_3591 : BitVec 32 := 1#32
  let v3678 : BitVec 32 := Scalar.muli v2 c1_i32_3591
  let v3679 : BitVec 32 := Scalar.addi c0_i32_3592 v3678
  v3679.toNat
def k1_dev85 (v1 : BitVec 32) : Nat :=
  let c0_i32_3665 : BitVec 32 := 0#32
  let c1_i32_3664 : BitVec 32 := 1#32
  let v3749 : BitVec 32 := Scalar.muli v1 c1_i32_3664
  let v3750 : BitVec 32 := Scalar.addi c0_i32_3665 v3749
  v3750.toNat
def k1_dev86 (v2 : BitVec 32) : Nat :=
  let c0_i32_3675 : BitVec 32 := 0#32
  let c1_i32_3674 : BitVec 32 := 1#32
  let v3759 : BitVec 32 := Scalar.muli v2 c1_i32_3674
  let v3760 : BitVec 32 := Scalar.addi c0_i32_3675 v3759
  v3760.toNat
def k1_dev87 (v1 : BitVec 32) : Nat :=
  let c0_i32_3748 : BitVec 32 := 0#32
  let c1_i32_3747 : BitVec 32 := 1#32
  let v3830 : BitVec 32 := Scalar.muli v1 c1_i32_3747
  let v3831 : BitVec 32 := Scalar.addi c0_i32_3748 v3830
  v3831.toNat
def k1_dev88 (v2 : BitVec 32) : Nat :=
  let c0_i32_3758 : BitVec 32 := 0#32
  let c1_i32_3757 : BitVec 32 := 1#32
  let v3840 : BitVec 32 := Scalar.muli v2 c1_i32_3757
  let v3841 : BitVec 32 := Scalar.addi c0_i32_3758 v3840
  v3841.toNat
def k1_dev89 (v1 : BitVec 32) : Nat :=
  let c0_i32_3831 : BitVec 32 := 0#32
  let c1_i32_3830 : BitVec 32 := 1#32
  let v3911 : BitVec 32 := Scalar.muli v1 c1_i32_3830
  let v3912 : BitVec 32 := Scalar.addi c0_i32_3831 v3911
  v3912.toNat
def k1_dev90 (v2 : BitVec 32) : Nat :=
  let c0_i32_3841 : BitVec 32 := 0#32
  let c1_i32_3840 : BitVec 32 := 1#32
  let v3921 : BitVec 32 := Scalar.muli v2 c1_i32_3840
  let v3922 : BitVec 32 := Scalar.addi c0_i32_3841 v3921
  v3922.toNat
def k1_dev91 (v1 : BitVec 32) : Nat :=
  let c0_i32_3914 : BitVec 32 := 0#32
  let c1_i32_3913 : BitVec 32 := 1#32
  let v3992 : BitVec 32 := Scalar.muli v1 c1_i32_3913
  let v3993 : BitVec 32 := Scalar.addi c0_i32_3914 v3992
  v3993.toNat
def k1_dev92 (v2 : BitVec 32) : Nat :=
  let c0_i32_3924 : BitVec 32 := 0#32
  let c1_i32_3923 : BitVec 32 := 1#32
  let v4002 : BitVec 32 := Scalar.muli v2 c1_i32_3923
  let v4003 : BitVec 32 := Scalar.addi c0_i32_3924 v4002
  v4003.toNat
def k1_dev93 (v1 : BitVec 32) : Nat :=
  let c0_i32_3997 : BitVec 32 := 0#32
  let c1_i32_3996 : BitVec 32 := 1#32
  let v4073 : BitVec 32 := Scalar.muli v1 c1_i32_3996
  let v4074 : BitVec 32 := Scalar.addi c0_i32_3997 v4073
  v4074.toNat
def k1_dev94 (v2 : BitVec 32) : Nat :=
  let c0_i32_4007 : BitVec 32 := 0#32
  let c1_i32_4006 : BitVec 32 := 1#32
  let v4083 : BitVec 32 := Scalar.muli v2 c1_i32_4006
  let v4084 : BitVec 32 := Scalar.addi c0_i32_4007 v4083
  v4084.toNat
def k1_dev95 (v1 : BitVec 32) : Nat :=
  let c0_i32_4080 : BitVec 32 := 0#32
  let c1_i32_4079 : BitVec 32 := 1#32
  let v4154 : BitVec 32 := Scalar.muli v1 c1_i32_4079
  let v4155 : BitVec 32 := Scalar.addi c0_i32_4080 v4154
  v4155.toNat
def k1_dev96 (v2 : BitVec 32) : Nat :=
  let c0_i32_4090 : BitVec 32 := 0#32
  let c1_i32_4089 : BitVec 32 := 1#32
  let v4164 : BitVec 32 := Scalar.muli v2 c1_i32_4089
  let v4165 : BitVec 32 := Scalar.addi c0_i32_4090 v4164
  v4165.toNat
def k1_dev97 (v1 : BitVec 32) : Nat :=
  let c0_i32_4163 : BitVec 32 := 0#32
  let c1_i32_4162 : BitVec 32 := 1#32
  let v4235 : BitVec 32 := Scalar.muli v1 c1_i32_4162
  let v4236 : BitVec 32 := Scalar.addi c0_i32_4163 v4235
  v4236.toNat
def k1_dev98 (v2 : BitVec 32) : Nat :=
  let c0_i32_4173 : BitVec 32 := 0#32
  let c1_i32_4172 : BitVec 32 := 1#32
  let v4245 : BitVec 32 := Scalar.muli v2 c1_i32_4172
  let v4246 : BitVec 32 := Scalar.addi c0_i32_4173 v4245
  v4246.toNat
def k1_dev99 (v1 : BitVec 32) : Nat :=
  let c0_i32_4246 : BitVec 32 := 0#32
  let c1_i32_4245 : BitVec 32 := 1#32
  let v4316 : BitVec 32 := Scalar.muli v1 c1_i32_4245
  let v4317 : BitVec 32 := Scalar.addi c0_i32_4246 v4316
  v4317.toNat
def k1_dev100 (v2 : BitVec 32) : Nat :=
  let c0_i32_4256 : BitVec 32 := 0#32
  let c1_i32_4255 : BitVec 32 := 1#32
  let v4326 : BitVec 32 := Scalar.muli v2 c1_i32_4255
  let v4327 : BitVec 32 := Scalar.addi c0_i32_4256 v4326
  v4327.toNat
def k1_dev101 (v1 : BitVec 32) : Nat :=
  let c0_i32_4329 : BitVec 32 := 0#32
  let c1_i32_4328 : BitVec 32 := 1#32
  let v4397 : BitVec 32 := Scalar.muli v1 c1_i32_4328
  let v4398 : BitVec 32 := Scalar.addi c0_i32_4329 v4397
  v4398.toNat
def k1_dev102 (v2 : BitVec 32) : Nat :=
  let c0_i32_4339 : BitVec 32 := 0#32
  let c1_i32_4338 : BitVec 32 := 1#32
  let v4407 : BitVec 32 := Scalar.muli v2 c1_i32_4338
  let v4408 : BitVec 32 := Scalar.addi c0_i32_4339 v4407
  v4408.toNat
def k1_dev103 (v1 : BitVec 32) : Nat :=
  let c0_i32_4412 : BitVec 32 := 0#32
  let c1_i32_4411 : BitVec 32 := 1#32
  let v4478 : BitVec 32 := Scalar.muli v1 c1_i32_4411
  let v4479 : BitVec 32 := Scalar.addi c0_i32_4412 v4478
  v4479.toNat
def k1_dev104 (v2 : BitVec 32) : Nat :=
  let c0_i32_4422 : BitVec 32 := 0#32
  let c1_i32_4421 : BitVec 32 := 1#32
  let v4488 : BitVec 32 := Scalar.muli v2 c1_i32_4421
  let v4489 : BitVec 32 := Scalar.addi c0_i32_4422 v4488
  v4489.toNat
def k1_dev105 (v1 : BitVec 32) : Nat :=
  let c0_i32_4495 : BitVec 32 := 0#32
  let c1_i32_4494 : BitVec 32 := 1#32
  let v4559 : BitVec 32 := Scalar.muli v1 c1_i32_4494
  let v4560 : BitVec 32 := Scalar.addi c0_i32_4495 v4559
  v4560.toNat
def k1_dev106 (v2 : BitVec 32) : Nat :=
  let c0_i32_4505 : BitVec 32 := 0#32
  let c1_i32_4504 : BitVec 32 := 1#32
  let v4569 : BitVec 32 := Scalar.muli v2 c1_i32_4504
  let v4570 : BitVec 32 := Scalar.addi c0_i32_4505 v4569
  v4570.toNat
def k1_dev107 (v1 : BitVec 32) : Nat :=
  let c0_i32_4578 : BitVec 32 := 0#32
  let c1_i32_4577 : BitVec 32 := 1#32
  let v4640 : BitVec 32 := Scalar.muli v1 c1_i32_4577
  let v4641 : BitVec 32 := Scalar.addi c0_i32_4578 v4640
  v4641.toNat
def k1_dev108 (v2 : BitVec 32) : Nat :=
  let c0_i32_4588 : BitVec 32 := 0#32
  let c1_i32_4587 : BitVec 32 := 1#32
  let v4650 : BitVec 32 := Scalar.muli v2 c1_i32_4587
  let v4651 : BitVec 32 := Scalar.addi c0_i32_4588 v4650
  v4651.toNat
def k1_dev109 (v1 : BitVec 32) : Nat :=
  let c0_i32_4661 : BitVec 32 := 0#32
  let c1_i32_4660 : BitVec 32 := 1#32
  let v4721 : BitVec 32 := Scalar.muli v1 c1_i32_4660
  let v4722 : BitVec 32 := Scalar.addi c0_i32_4661 v4721
  v4722.toNat
def k1_dev110 (v2 : BitVec 32) : Nat :=
  let c0_i32_4671 : BitVec 32 := 0#32
  let c1_i32_4670 : BitVec 32 := 1#32
  let v4731 : BitVec 32 := Scalar.muli v2 c1_i32_4670
  let v4732 : BitVec 32 := Scalar.addi c0_i32_4671 v4731
  v4732.toNat
def k1_dev111 (v1 : BitVec 32) : Nat :=
  let c0_i32_4744 : BitVec 32 := 0#32
  let c1_i32_4743 : BitVec 32 := 1#32
  let v4802 : BitVec 32 := Scalar.muli v1 c1_i32_4743
  let v4803 : BitVec 32 := Scalar.addi c0_i32_4744 v4802
  v4803.toNat
def k1_dev112 (v2 : BitVec 32) : Nat :=
  let c0_i32_4754 : BitVec 32 := 0#32
  let c1_i32_4753 : BitVec 32 := 1#32
  let v4812 : BitVec 32 := Scalar.muli v2 c1_i32_4753
  let v4813 : BitVec 32 := Scalar.addi c0_i32_4754 v4812
  v4813.toNat
def k1_dev113 (v1 : BitVec 32) : Nat :=
  let c0_i32_4827 : BitVec 32 := 0#32
  let c1_i32_4826 : BitVec 32 := 1#32
  let v4883 : BitVec 32 := Scalar.muli v1 c1_i32_4826
  let v4884 : BitVec 32 := Scalar.addi c0_i32_4827 v4883
  v4884.toNat
def k1_dev114 (v2 : BitVec 32) : Nat :=
  let c0_i32_4837 : BitVec 32 := 0#32
  let c1_i32_4836 : BitVec 32 := 1#32
  let v4893 : BitVec 32 := Scalar.muli v2 c1_i32_4836
  let v4894 : BitVec 32 := Scalar.addi c0_i32_4837 v4893
  v4894.toNat
def k1_dev115 (v1 : BitVec 32) : Nat :=
  let c0_i32_4910 : BitVec 32 := 0#32
  let c1_i32_4909 : BitVec 32 := 1#32
  let v4964 : BitVec 32 := Scalar.muli v1 c1_i32_4909
  let v4965 : BitVec 32 := Scalar.addi c0_i32_4910 v4964
  v4965.toNat
def k1_dev116 (v2 : BitVec 32) : Nat :=
  let c0_i32_4920 : BitVec 32 := 0#32
  let c1_i32_4919 : BitVec 32 := 1#32
  let v4974 : BitVec 32 := Scalar.muli v2 c1_i32_4919
  let v4975 : BitVec 32 := Scalar.addi c0_i32_4920 v4974
  v4975.toNat
def k1_dev117 (v1 : BitVec 32) : Nat :=
  let c0_i32_4993 : BitVec 32 := 0#32
  let c1_i32_4992 : BitVec 32 := 1#32
  let v5045 : BitVec 32 := Scalar.muli v1 c1_i32_4992
  let v5046 : BitVec 32 := Scalar.addi c0_i32_4993 v5045
  v5046.toNat
def k1_dev118 (v2 : BitVec 32) : Nat :=
  let c0_i32_5003 : BitVec 32 := 0#32
  let c1_i32_5002 : BitVec 32 := 1#32
  let v5055 : BitVec 32 := Scalar.muli v2 c1_i32_5002
  let v5056 : BitVec 32 := Scalar.addi c0_i32_5003 v5055
  v5056.toNat
def k1_dev119 (v1 : BitVec 32) : Nat :=
  let c0_i32_5076 : BitVec 32 := 0#32
  let c1_i32_5075 : BitVec 32 := 1#32
  let v5126 : BitVec 32 := Scalar.muli v1 c1_i32_5075
  let v5127 : BitVec 32 := Scalar.addi c0_i32_5076 v5126
  v5127.toNat
def k1_dev120 (v2 : BitVec 32) : Nat :=
  let c0_i32_5086 : BitVec 32 := 0#32
  let c1_i32_5085 : BitVec 32 := 1#32
  let v5136 : BitVec 32 := Scalar.muli v2 c1_i32_5085
  let v5137 : BitVec 32 := Scalar.addi c0_i32_5086 v5136
  v5137.toNat
def k1_dev121 (v1 : BitVec 32) : Nat :=
  let c0_i32_5159 : BitVec 32 := 0#32
  let c1_i32_5158 : BitVec 32 := 1#32
  let v5207 : BitVec 32 := Scalar.muli v1 c1_i32_5158
  let v5208 : BitVec 32 := Scalar.addi c0_i32_5159 v5207
  v5208.toNat
def k1_dev122 (v2 : BitVec 32) : Nat :=
  let c0_i32_5169 : BitVec 32 := 0#32
  let c1_i32_5168 : BitVec 32 := 1#32
  let v5217 : BitVec 32 := Scalar.muli v2 c1_i32_5168
  let v5218 : BitVec 32 := Scalar.addi c0_i32_5169 v5217
  v5218.toNat
def k1_dev123 (v1 : BitVec 32) : Nat :=
  let c0_i32_5242 : BitVec 32 := 0#32
  let c1_i32_5241 : BitVec 32 := 1#32
  let v5288 : BitVec 32 := Scalar.muli v1 c1_i32_5241
  let v5289 : BitVec 32 := Scalar.addi c0_i32_5242 v5288
  v5289.toNat
def k1_dev124 (v2 : BitVec 32) : Nat :=
  let c0_i32_5252 : BitVec 32 := 0#32
  let c1_i32_5251 : BitVec 32 := 1#32
  let v5298 : BitVec 32 := Scalar.muli v2 c1_i32_5251
  let v5299 : BitVec 32 := Scalar.addi c0_i32_5252 v5298
  v5299.toNat
def k1_dev125 (v1 : BitVec 32) : Nat :=
  let c0_i32_5325 : BitVec 32 := 0#32
  let c1_i32_5324 : BitVec 32 := 1#32
  let v5369 : BitVec 32 := Scalar.muli v1 c1_i32_5324
  let v5370 : BitVec 32 := Scalar.addi c0_i32_5325 v5369
  v5370.toNat

def k1_chk1_0 (v1 : BitVec 32) : Prop :=
  ((k1_dev1 v1) < nD) ∧
  ((k1_dev3 v1) < nD) ∧
  ((k1_dev5 v1) < nD) ∧
  ((k1_dev7 v1) < nD) ∧
  ((k1_dev9 v1) < nD) ∧
  ((k1_dev11 v1) < nD) ∧
  ((k1_dev13 v1) < nD) ∧
  ((k1_dev15 v1) < nD) ∧
  ((k1_dev17 v1) < nD) ∧
  ((k1_dev19 v1) < nD) ∧
  ((k1_dev21 v1) < nD) ∧
  ((k1_dev23 v1) < nD) ∧
  ((k1_dev25 v1) < nD) ∧
  ((k1_dev27 v1) < nD) ∧
  ((k1_dev29 v1) < nD) ∧
  ((k1_dev31 v1) < nD) ∧
  ((k1_dev33 v1) < nD) ∧
  ((k1_dev35 v1) < nD) ∧
  ((k1_dev37 v1) < nD) ∧
  ((k1_dev39 v1) < nD) ∧
  ((k1_dev41 v1) < nD) ∧
  ((k1_dev43 v1) < nD) ∧
  ((k1_dev45 v1) < nD) ∧
  ((k1_dev47 v1) < nD) ∧
  ((k1_dev49 v1) < nD) ∧
  ((k1_dev51 v1) < nD) ∧
  ((k1_dev53 v1) < nD) ∧
  ((k1_dev55 v1) < nD) ∧
  ((k1_dev57 v1) < nD) ∧
  ((k1_dev59 v1) < nD) ∧
  ((k1_dev61 v1) < nD) ∧
  ((k1_dev63 v1) < nD)
def k1_chk1_1 (v1 : BitVec 32) : Prop :=
  ((k1_dev65 v1) < nD) ∧
  ((k1_dev67 v1) < nD) ∧
  ((k1_dev69 v1) < nD) ∧
  ((k1_dev71 v1) < nD) ∧
  ((k1_dev73 v1) < nD) ∧
  ((k1_dev75 v1) < nD) ∧
  ((k1_dev77 v1) < nD) ∧
  ((k1_dev79 v1) < nD) ∧
  ((k1_dev81 v1) < nD) ∧
  ((k1_dev83 v1) < nD) ∧
  ((k1_dev85 v1) < nD) ∧
  ((k1_dev87 v1) < nD) ∧
  ((k1_dev89 v1) < nD) ∧
  ((k1_dev91 v1) < nD) ∧
  ((k1_dev93 v1) < nD) ∧
  ((k1_dev95 v1) < nD) ∧
  ((k1_dev97 v1) < nD) ∧
  ((k1_dev99 v1) < nD) ∧
  ((k1_dev101 v1) < nD) ∧
  ((k1_dev103 v1) < nD) ∧
  ((k1_dev105 v1) < nD) ∧
  ((k1_dev107 v1) < nD) ∧
  ((k1_dev109 v1) < nD) ∧
  ((k1_dev111 v1) < nD) ∧
  ((k1_dev113 v1) < nD) ∧
  ((k1_dev115 v1) < nD) ∧
  ((k1_dev117 v1) < nD) ∧
  ((k1_dev119 v1) < nD) ∧
  ((k1_dev121 v1) < nD) ∧
  ((k1_dev123 v1) < nD) ∧
  ((k1_dev125 v1) < nD)
def k1_chk1 (v1 : BitVec 32) : Prop :=
  k1_chk1_0 v1 ∧
  k1_chk1_1 v1
theorem k1_dev1_lt : ∀ (v1 : BitVec 32) (k1_hw1 : k1_chk1 v1), (k1_dev1 v1) < nD := fun v1 k1_hw1 => k1_hw1.1.1
theorem k1_dev3_lt : ∀ (v1 : BitVec 32) (k1_hw1 : k1_chk1 v1), (k1_dev3 v1) < nD := fun v1 k1_hw1 => k1_hw1.1.2.1
theorem k1_dev5_lt : ∀ (v1 : BitVec 32) (k1_hw1 : k1_chk1 v1), (k1_dev5 v1) < nD := fun v1 k1_hw1 => k1_hw1.1.2.2.1
theorem k1_dev7_lt : ∀ (v1 : BitVec 32) (k1_hw1 : k1_chk1 v1), (k1_dev7 v1) < nD := fun v1 k1_hw1 => k1_hw1.1.2.2.2.1
theorem k1_dev9_lt : ∀ (v1 : BitVec 32) (k1_hw1 : k1_chk1 v1), (k1_dev9 v1) < nD := fun v1 k1_hw1 => k1_hw1.1.2.2.2.2.1
theorem k1_dev11_lt : ∀ (v1 : BitVec 32) (k1_hw1 : k1_chk1 v1), (k1_dev11 v1) < nD := fun v1 k1_hw1 => k1_hw1.1.2.2.2.2.2.1
theorem k1_dev13_lt : ∀ (v1 : BitVec 32) (k1_hw1 : k1_chk1 v1), (k1_dev13 v1) < nD := fun v1 k1_hw1 => k1_hw1.1.2.2.2.2.2.2.1
theorem k1_dev15_lt : ∀ (v1 : BitVec 32) (k1_hw1 : k1_chk1 v1), (k1_dev15 v1) < nD := fun v1 k1_hw1 => k1_hw1.1.2.2.2.2.2.2.2.1
theorem k1_dev17_lt : ∀ (v1 : BitVec 32) (k1_hw1 : k1_chk1 v1), (k1_dev17 v1) < nD := fun v1 k1_hw1 => k1_hw1.1.2.2.2.2.2.2.2.2.1
theorem k1_dev19_lt : ∀ (v1 : BitVec 32) (k1_hw1 : k1_chk1 v1), (k1_dev19 v1) < nD := fun v1 k1_hw1 => k1_hw1.1.2.2.2.2.2.2.2.2.2.1
theorem k1_dev21_lt : ∀ (v1 : BitVec 32) (k1_hw1 : k1_chk1 v1), (k1_dev21 v1) < nD := fun v1 k1_hw1 => k1_hw1.1.2.2.2.2.2.2.2.2.2.2.1
theorem k1_dev23_lt : ∀ (v1 : BitVec 32) (k1_hw1 : k1_chk1 v1), (k1_dev23 v1) < nD := fun v1 k1_hw1 => k1_hw1.1.2.2.2.2.2.2.2.2.2.2.2.1
theorem k1_dev25_lt : ∀ (v1 : BitVec 32) (k1_hw1 : k1_chk1 v1), (k1_dev25 v1) < nD := fun v1 k1_hw1 => k1_hw1.1.2.2.2.2.2.2.2.2.2.2.2.2.1
theorem k1_dev27_lt : ∀ (v1 : BitVec 32) (k1_hw1 : k1_chk1 v1), (k1_dev27 v1) < nD := fun v1 k1_hw1 => k1_hw1.1.2.2.2.2.2.2.2.2.2.2.2.2.2.1
theorem k1_dev29_lt : ∀ (v1 : BitVec 32) (k1_hw1 : k1_chk1 v1), (k1_dev29 v1) < nD := fun v1 k1_hw1 => k1_hw1.1.2.2.2.2.2.2.2.2.2.2.2.2.2.2.1
theorem k1_dev31_lt : ∀ (v1 : BitVec 32) (k1_hw1 : k1_chk1 v1), (k1_dev31 v1) < nD := fun v1 k1_hw1 => k1_hw1.1.2.2.2.2.2.2.2.2.2.2.2.2.2.2.2.1
theorem k1_dev33_lt : ∀ (v1 : BitVec 32) (k1_hw1 : k1_chk1 v1), (k1_dev33 v1) < nD := fun v1 k1_hw1 => k1_hw1.1.2.2.2.2.2.2.2.2.2.2.2.2.2.2.2.2.1
theorem k1_dev35_lt : ∀ (v1 : BitVec 32) (k1_hw1 : k1_chk1 v1), (k1_dev35 v1) < nD := fun v1 k1_hw1 => k1_hw1.1.2.2.2.2.2.2.2.2.2.2.2.2.2.2.2.2.2.1
theorem k1_dev37_lt : ∀ (v1 : BitVec 32) (k1_hw1 : k1_chk1 v1), (k1_dev37 v1) < nD := fun v1 k1_hw1 => k1_hw1.1.2.2.2.2.2.2.2.2.2.2.2.2.2.2.2.2.2.2.1
theorem k1_dev39_lt : ∀ (v1 : BitVec 32) (k1_hw1 : k1_chk1 v1), (k1_dev39 v1) < nD := fun v1 k1_hw1 => k1_hw1.1.2.2.2.2.2.2.2.2.2.2.2.2.2.2.2.2.2.2.2.1
theorem k1_dev41_lt : ∀ (v1 : BitVec 32) (k1_hw1 : k1_chk1 v1), (k1_dev41 v1) < nD := fun v1 k1_hw1 => k1_hw1.1.2.2.2.2.2.2.2.2.2.2.2.2.2.2.2.2.2.2.2.2.1
theorem k1_dev43_lt : ∀ (v1 : BitVec 32) (k1_hw1 : k1_chk1 v1), (k1_dev43 v1) < nD := fun v1 k1_hw1 => k1_hw1.1.2.2.2.2.2.2.2.2.2.2.2.2.2.2.2.2.2.2.2.2.2.1
theorem k1_dev45_lt : ∀ (v1 : BitVec 32) (k1_hw1 : k1_chk1 v1), (k1_dev45 v1) < nD := fun v1 k1_hw1 => k1_hw1.1.2.2.2.2.2.2.2.2.2.2.2.2.2.2.2.2.2.2.2.2.2.2.1
theorem k1_dev47_lt : ∀ (v1 : BitVec 32) (k1_hw1 : k1_chk1 v1), (k1_dev47 v1) < nD := fun v1 k1_hw1 => k1_hw1.1.2.2.2.2.2.2.2.2.2.2.2.2.2.2.2.2.2.2.2.2.2.2.2.1
theorem k1_dev49_lt : ∀ (v1 : BitVec 32) (k1_hw1 : k1_chk1 v1), (k1_dev49 v1) < nD := fun v1 k1_hw1 => k1_hw1.1.2.2.2.2.2.2.2.2.2.2.2.2.2.2.2.2.2.2.2.2.2.2.2.2.1
theorem k1_dev51_lt : ∀ (v1 : BitVec 32) (k1_hw1 : k1_chk1 v1), (k1_dev51 v1) < nD := fun v1 k1_hw1 => k1_hw1.1.2.2.2.2.2.2.2.2.2.2.2.2.2.2.2.2.2.2.2.2.2.2.2.2.2.1
theorem k1_dev53_lt : ∀ (v1 : BitVec 32) (k1_hw1 : k1_chk1 v1), (k1_dev53 v1) < nD := fun v1 k1_hw1 => k1_hw1.1.2.2.2.2.2.2.2.2.2.2.2.2.2.2.2.2.2.2.2.2.2.2.2.2.2.2.1
theorem k1_dev55_lt : ∀ (v1 : BitVec 32) (k1_hw1 : k1_chk1 v1), (k1_dev55 v1) < nD := fun v1 k1_hw1 => k1_hw1.1.2.2.2.2.2.2.2.2.2.2.2.2.2.2.2.2.2.2.2.2.2.2.2.2.2.2.2.1
theorem k1_dev57_lt : ∀ (v1 : BitVec 32) (k1_hw1 : k1_chk1 v1), (k1_dev57 v1) < nD := fun v1 k1_hw1 => k1_hw1.1.2.2.2.2.2.2.2.2.2.2.2.2.2.2.2.2.2.2.2.2.2.2.2.2.2.2.2.2.1
theorem k1_dev59_lt : ∀ (v1 : BitVec 32) (k1_hw1 : k1_chk1 v1), (k1_dev59 v1) < nD := fun v1 k1_hw1 => k1_hw1.1.2.2.2.2.2.2.2.2.2.2.2.2.2.2.2.2.2.2.2.2.2.2.2.2.2.2.2.2.2.1
theorem k1_dev61_lt : ∀ (v1 : BitVec 32) (k1_hw1 : k1_chk1 v1), (k1_dev61 v1) < nD := fun v1 k1_hw1 => k1_hw1.1.2.2.2.2.2.2.2.2.2.2.2.2.2.2.2.2.2.2.2.2.2.2.2.2.2.2.2.2.2.2.1
theorem k1_dev63_lt : ∀ (v1 : BitVec 32) (k1_hw1 : k1_chk1 v1), (k1_dev63 v1) < nD := fun v1 k1_hw1 => k1_hw1.1.2.2.2.2.2.2.2.2.2.2.2.2.2.2.2.2.2.2.2.2.2.2.2.2.2.2.2.2.2.2.2
theorem k1_dev65_lt : ∀ (v1 : BitVec 32) (k1_hw1 : k1_chk1 v1), (k1_dev65 v1) < nD := fun v1 k1_hw1 => k1_hw1.2.1
theorem k1_dev67_lt : ∀ (v1 : BitVec 32) (k1_hw1 : k1_chk1 v1), (k1_dev67 v1) < nD := fun v1 k1_hw1 => k1_hw1.2.2.1
theorem k1_dev69_lt : ∀ (v1 : BitVec 32) (k1_hw1 : k1_chk1 v1), (k1_dev69 v1) < nD := fun v1 k1_hw1 => k1_hw1.2.2.2.1
theorem k1_dev71_lt : ∀ (v1 : BitVec 32) (k1_hw1 : k1_chk1 v1), (k1_dev71 v1) < nD := fun v1 k1_hw1 => k1_hw1.2.2.2.2.1
theorem k1_dev73_lt : ∀ (v1 : BitVec 32) (k1_hw1 : k1_chk1 v1), (k1_dev73 v1) < nD := fun v1 k1_hw1 => k1_hw1.2.2.2.2.2.1
theorem k1_dev75_lt : ∀ (v1 : BitVec 32) (k1_hw1 : k1_chk1 v1), (k1_dev75 v1) < nD := fun v1 k1_hw1 => k1_hw1.2.2.2.2.2.2.1
theorem k1_dev77_lt : ∀ (v1 : BitVec 32) (k1_hw1 : k1_chk1 v1), (k1_dev77 v1) < nD := fun v1 k1_hw1 => k1_hw1.2.2.2.2.2.2.2.1
theorem k1_dev79_lt : ∀ (v1 : BitVec 32) (k1_hw1 : k1_chk1 v1), (k1_dev79 v1) < nD := fun v1 k1_hw1 => k1_hw1.2.2.2.2.2.2.2.2.1
theorem k1_dev81_lt : ∀ (v1 : BitVec 32) (k1_hw1 : k1_chk1 v1), (k1_dev81 v1) < nD := fun v1 k1_hw1 => k1_hw1.2.2.2.2.2.2.2.2.2.1
theorem k1_dev83_lt : ∀ (v1 : BitVec 32) (k1_hw1 : k1_chk1 v1), (k1_dev83 v1) < nD := fun v1 k1_hw1 => k1_hw1.2.2.2.2.2.2.2.2.2.2.1
theorem k1_dev85_lt : ∀ (v1 : BitVec 32) (k1_hw1 : k1_chk1 v1), (k1_dev85 v1) < nD := fun v1 k1_hw1 => k1_hw1.2.2.2.2.2.2.2.2.2.2.2.1
theorem k1_dev87_lt : ∀ (v1 : BitVec 32) (k1_hw1 : k1_chk1 v1), (k1_dev87 v1) < nD := fun v1 k1_hw1 => k1_hw1.2.2.2.2.2.2.2.2.2.2.2.2.1
theorem k1_dev89_lt : ∀ (v1 : BitVec 32) (k1_hw1 : k1_chk1 v1), (k1_dev89 v1) < nD := fun v1 k1_hw1 => k1_hw1.2.2.2.2.2.2.2.2.2.2.2.2.2.1
theorem k1_dev91_lt : ∀ (v1 : BitVec 32) (k1_hw1 : k1_chk1 v1), (k1_dev91 v1) < nD := fun v1 k1_hw1 => k1_hw1.2.2.2.2.2.2.2.2.2.2.2.2.2.2.1
theorem k1_dev93_lt : ∀ (v1 : BitVec 32) (k1_hw1 : k1_chk1 v1), (k1_dev93 v1) < nD := fun v1 k1_hw1 => k1_hw1.2.2.2.2.2.2.2.2.2.2.2.2.2.2.2.1
theorem k1_dev95_lt : ∀ (v1 : BitVec 32) (k1_hw1 : k1_chk1 v1), (k1_dev95 v1) < nD := fun v1 k1_hw1 => k1_hw1.2.2.2.2.2.2.2.2.2.2.2.2.2.2.2.2.1
theorem k1_dev97_lt : ∀ (v1 : BitVec 32) (k1_hw1 : k1_chk1 v1), (k1_dev97 v1) < nD := fun v1 k1_hw1 => k1_hw1.2.2.2.2.2.2.2.2.2.2.2.2.2.2.2.2.2.1
theorem k1_dev99_lt : ∀ (v1 : BitVec 32) (k1_hw1 : k1_chk1 v1), (k1_dev99 v1) < nD := fun v1 k1_hw1 => k1_hw1.2.2.2.2.2.2.2.2.2.2.2.2.2.2.2.2.2.2.1
theorem k1_dev101_lt : ∀ (v1 : BitVec 32) (k1_hw1 : k1_chk1 v1), (k1_dev101 v1) < nD := fun v1 k1_hw1 => k1_hw1.2.2.2.2.2.2.2.2.2.2.2.2.2.2.2.2.2.2.2.1
theorem k1_dev103_lt : ∀ (v1 : BitVec 32) (k1_hw1 : k1_chk1 v1), (k1_dev103 v1) < nD := fun v1 k1_hw1 => k1_hw1.2.2.2.2.2.2.2.2.2.2.2.2.2.2.2.2.2.2.2.2.1
theorem k1_dev105_lt : ∀ (v1 : BitVec 32) (k1_hw1 : k1_chk1 v1), (k1_dev105 v1) < nD := fun v1 k1_hw1 => k1_hw1.2.2.2.2.2.2.2.2.2.2.2.2.2.2.2.2.2.2.2.2.2.1
theorem k1_dev107_lt : ∀ (v1 : BitVec 32) (k1_hw1 : k1_chk1 v1), (k1_dev107 v1) < nD := fun v1 k1_hw1 => k1_hw1.2.2.2.2.2.2.2.2.2.2.2.2.2.2.2.2.2.2.2.2.2.2.1
theorem k1_dev109_lt : ∀ (v1 : BitVec 32) (k1_hw1 : k1_chk1 v1), (k1_dev109 v1) < nD := fun v1 k1_hw1 => k1_hw1.2.2.2.2.2.2.2.2.2.2.2.2.2.2.2.2.2.2.2.2.2.2.2.1
theorem k1_dev111_lt : ∀ (v1 : BitVec 32) (k1_hw1 : k1_chk1 v1), (k1_dev111 v1) < nD := fun v1 k1_hw1 => k1_hw1.2.2.2.2.2.2.2.2.2.2.2.2.2.2.2.2.2.2.2.2.2.2.2.2.1
theorem k1_dev113_lt : ∀ (v1 : BitVec 32) (k1_hw1 : k1_chk1 v1), (k1_dev113 v1) < nD := fun v1 k1_hw1 => k1_hw1.2.2.2.2.2.2.2.2.2.2.2.2.2.2.2.2.2.2.2.2.2.2.2.2.2.1
theorem k1_dev115_lt : ∀ (v1 : BitVec 32) (k1_hw1 : k1_chk1 v1), (k1_dev115 v1) < nD := fun v1 k1_hw1 => k1_hw1.2.2.2.2.2.2.2.2.2.2.2.2.2.2.2.2.2.2.2.2.2.2.2.2.2.2.1
theorem k1_dev117_lt : ∀ (v1 : BitVec 32) (k1_hw1 : k1_chk1 v1), (k1_dev117 v1) < nD := fun v1 k1_hw1 => k1_hw1.2.2.2.2.2.2.2.2.2.2.2.2.2.2.2.2.2.2.2.2.2.2.2.2.2.2.2.1
theorem k1_dev119_lt : ∀ (v1 : BitVec 32) (k1_hw1 : k1_chk1 v1), (k1_dev119 v1) < nD := fun v1 k1_hw1 => k1_hw1.2.2.2.2.2.2.2.2.2.2.2.2.2.2.2.2.2.2.2.2.2.2.2.2.2.2.2.2.1
theorem k1_dev121_lt : ∀ (v1 : BitVec 32) (k1_hw1 : k1_chk1 v1), (k1_dev121 v1) < nD := fun v1 k1_hw1 => k1_hw1.2.2.2.2.2.2.2.2.2.2.2.2.2.2.2.2.2.2.2.2.2.2.2.2.2.2.2.2.2.1
theorem k1_dev123_lt : ∀ (v1 : BitVec 32) (k1_hw1 : k1_chk1 v1), (k1_dev123 v1) < nD := fun v1 k1_hw1 => k1_hw1.2.2.2.2.2.2.2.2.2.2.2.2.2.2.2.2.2.2.2.2.2.2.2.2.2.2.2.2.2.2.1
theorem k1_dev125_lt : ∀ (v1 : BitVec 32) (k1_hw1 : k1_chk1 v1), (k1_dev125 v1) < nD := fun v1 k1_hw1 => k1_hw1.2.2.2.2.2.2.2.2.2.2.2.2.2.2.2.2.2.2.2.2.2.2.2.2.2.2.2.2.2.2.2

def k1_dev126 (v2 : BitVec 32) : Nat :=
  let c0_i32_5335 : BitVec 32 := 0#32
  let c1_i32_5334 : BitVec 32 := 1#32
  let v5379 : BitVec 32 := Scalar.muli v2 c1_i32_5334
  let v5380 : BitVec 32 := Scalar.addi c0_i32_5335 v5379
  v5380.toNat

def k1_chk2_0 (v2 : BitVec 32) : Prop :=
  ((k1_dev2 v2) < nD) ∧
  ((k1_dev4 v2) < nD) ∧
  ((k1_dev6 v2) < nD) ∧
  ((k1_dev8 v2) < nD) ∧
  ((k1_dev10 v2) < nD) ∧
  ((k1_dev12 v2) < nD) ∧
  ((k1_dev14 v2) < nD) ∧
  ((k1_dev16 v2) < nD) ∧
  ((k1_dev18 v2) < nD) ∧
  ((k1_dev20 v2) < nD) ∧
  ((k1_dev22 v2) < nD) ∧
  ((k1_dev24 v2) < nD) ∧
  ((k1_dev26 v2) < nD) ∧
  ((k1_dev28 v2) < nD) ∧
  ((k1_dev30 v2) < nD) ∧
  ((k1_dev32 v2) < nD) ∧
  ((k1_dev34 v2) < nD) ∧
  ((k1_dev36 v2) < nD) ∧
  ((k1_dev38 v2) < nD) ∧
  ((k1_dev40 v2) < nD) ∧
  ((k1_dev42 v2) < nD) ∧
  ((k1_dev44 v2) < nD) ∧
  ((k1_dev46 v2) < nD) ∧
  ((k1_dev48 v2) < nD) ∧
  ((k1_dev50 v2) < nD) ∧
  ((k1_dev52 v2) < nD) ∧
  ((k1_dev54 v2) < nD) ∧
  ((k1_dev56 v2) < nD) ∧
  ((k1_dev58 v2) < nD) ∧
  ((k1_dev60 v2) < nD) ∧
  ((k1_dev62 v2) < nD) ∧
  ((k1_dev64 v2) < nD)
def k1_chk2_1 (v2 : BitVec 32) : Prop :=
  ((k1_dev66 v2) < nD) ∧
  ((k1_dev68 v2) < nD) ∧
  ((k1_dev70 v2) < nD) ∧
  ((k1_dev72 v2) < nD) ∧
  ((k1_dev74 v2) < nD) ∧
  ((k1_dev76 v2) < nD) ∧
  ((k1_dev78 v2) < nD) ∧
  ((k1_dev80 v2) < nD) ∧
  ((k1_dev82 v2) < nD) ∧
  ((k1_dev84 v2) < nD) ∧
  ((k1_dev86 v2) < nD) ∧
  ((k1_dev88 v2) < nD) ∧
  ((k1_dev90 v2) < nD) ∧
  ((k1_dev92 v2) < nD) ∧
  ((k1_dev94 v2) < nD) ∧
  ((k1_dev96 v2) < nD) ∧
  ((k1_dev98 v2) < nD) ∧
  ((k1_dev100 v2) < nD) ∧
  ((k1_dev102 v2) < nD) ∧
  ((k1_dev104 v2) < nD) ∧
  ((k1_dev106 v2) < nD) ∧
  ((k1_dev108 v2) < nD) ∧
  ((k1_dev110 v2) < nD) ∧
  ((k1_dev112 v2) < nD) ∧
  ((k1_dev114 v2) < nD) ∧
  ((k1_dev116 v2) < nD) ∧
  ((k1_dev118 v2) < nD) ∧
  ((k1_dev120 v2) < nD) ∧
  ((k1_dev122 v2) < nD) ∧
  ((k1_dev124 v2) < nD) ∧
  ((k1_dev126 v2) < nD)
def k1_chk2 (v2 : BitVec 32) : Prop :=
  k1_chk2_0 v2 ∧
  k1_chk2_1 v2
theorem k1_dev2_lt : ∀ (v2 : BitVec 32) (k1_hw2 : k1_chk2 v2), (k1_dev2 v2) < nD := fun v2 k1_hw2 => k1_hw2.1.1
theorem k1_dev4_lt : ∀ (v2 : BitVec 32) (k1_hw2 : k1_chk2 v2), (k1_dev4 v2) < nD := fun v2 k1_hw2 => k1_hw2.1.2.1
theorem k1_dev6_lt : ∀ (v2 : BitVec 32) (k1_hw2 : k1_chk2 v2), (k1_dev6 v2) < nD := fun v2 k1_hw2 => k1_hw2.1.2.2.1
theorem k1_dev8_lt : ∀ (v2 : BitVec 32) (k1_hw2 : k1_chk2 v2), (k1_dev8 v2) < nD := fun v2 k1_hw2 => k1_hw2.1.2.2.2.1
theorem k1_dev10_lt : ∀ (v2 : BitVec 32) (k1_hw2 : k1_chk2 v2), (k1_dev10 v2) < nD := fun v2 k1_hw2 => k1_hw2.1.2.2.2.2.1
theorem k1_dev12_lt : ∀ (v2 : BitVec 32) (k1_hw2 : k1_chk2 v2), (k1_dev12 v2) < nD := fun v2 k1_hw2 => k1_hw2.1.2.2.2.2.2.1
theorem k1_dev14_lt : ∀ (v2 : BitVec 32) (k1_hw2 : k1_chk2 v2), (k1_dev14 v2) < nD := fun v2 k1_hw2 => k1_hw2.1.2.2.2.2.2.2.1
theorem k1_dev16_lt : ∀ (v2 : BitVec 32) (k1_hw2 : k1_chk2 v2), (k1_dev16 v2) < nD := fun v2 k1_hw2 => k1_hw2.1.2.2.2.2.2.2.2.1
theorem k1_dev18_lt : ∀ (v2 : BitVec 32) (k1_hw2 : k1_chk2 v2), (k1_dev18 v2) < nD := fun v2 k1_hw2 => k1_hw2.1.2.2.2.2.2.2.2.2.1
theorem k1_dev20_lt : ∀ (v2 : BitVec 32) (k1_hw2 : k1_chk2 v2), (k1_dev20 v2) < nD := fun v2 k1_hw2 => k1_hw2.1.2.2.2.2.2.2.2.2.2.1
theorem k1_dev22_lt : ∀ (v2 : BitVec 32) (k1_hw2 : k1_chk2 v2), (k1_dev22 v2) < nD := fun v2 k1_hw2 => k1_hw2.1.2.2.2.2.2.2.2.2.2.2.1
theorem k1_dev24_lt : ∀ (v2 : BitVec 32) (k1_hw2 : k1_chk2 v2), (k1_dev24 v2) < nD := fun v2 k1_hw2 => k1_hw2.1.2.2.2.2.2.2.2.2.2.2.2.1
theorem k1_dev26_lt : ∀ (v2 : BitVec 32) (k1_hw2 : k1_chk2 v2), (k1_dev26 v2) < nD := fun v2 k1_hw2 => k1_hw2.1.2.2.2.2.2.2.2.2.2.2.2.2.1
theorem k1_dev28_lt : ∀ (v2 : BitVec 32) (k1_hw2 : k1_chk2 v2), (k1_dev28 v2) < nD := fun v2 k1_hw2 => k1_hw2.1.2.2.2.2.2.2.2.2.2.2.2.2.2.1
theorem k1_dev30_lt : ∀ (v2 : BitVec 32) (k1_hw2 : k1_chk2 v2), (k1_dev30 v2) < nD := fun v2 k1_hw2 => k1_hw2.1.2.2.2.2.2.2.2.2.2.2.2.2.2.2.1
theorem k1_dev32_lt : ∀ (v2 : BitVec 32) (k1_hw2 : k1_chk2 v2), (k1_dev32 v2) < nD := fun v2 k1_hw2 => k1_hw2.1.2.2.2.2.2.2.2.2.2.2.2.2.2.2.2.1
theorem k1_dev34_lt : ∀ (v2 : BitVec 32) (k1_hw2 : k1_chk2 v2), (k1_dev34 v2) < nD := fun v2 k1_hw2 => k1_hw2.1.2.2.2.2.2.2.2.2.2.2.2.2.2.2.2.2.1
theorem k1_dev36_lt : ∀ (v2 : BitVec 32) (k1_hw2 : k1_chk2 v2), (k1_dev36 v2) < nD := fun v2 k1_hw2 => k1_hw2.1.2.2.2.2.2.2.2.2.2.2.2.2.2.2.2.2.2.1
theorem k1_dev38_lt : ∀ (v2 : BitVec 32) (k1_hw2 : k1_chk2 v2), (k1_dev38 v2) < nD := fun v2 k1_hw2 => k1_hw2.1.2.2.2.2.2.2.2.2.2.2.2.2.2.2.2.2.2.2.1
theorem k1_dev40_lt : ∀ (v2 : BitVec 32) (k1_hw2 : k1_chk2 v2), (k1_dev40 v2) < nD := fun v2 k1_hw2 => k1_hw2.1.2.2.2.2.2.2.2.2.2.2.2.2.2.2.2.2.2.2.2.1
theorem k1_dev42_lt : ∀ (v2 : BitVec 32) (k1_hw2 : k1_chk2 v2), (k1_dev42 v2) < nD := fun v2 k1_hw2 => k1_hw2.1.2.2.2.2.2.2.2.2.2.2.2.2.2.2.2.2.2.2.2.2.1
theorem k1_dev44_lt : ∀ (v2 : BitVec 32) (k1_hw2 : k1_chk2 v2), (k1_dev44 v2) < nD := fun v2 k1_hw2 => k1_hw2.1.2.2.2.2.2.2.2.2.2.2.2.2.2.2.2.2.2.2.2.2.2.1
theorem k1_dev46_lt : ∀ (v2 : BitVec 32) (k1_hw2 : k1_chk2 v2), (k1_dev46 v2) < nD := fun v2 k1_hw2 => k1_hw2.1.2.2.2.2.2.2.2.2.2.2.2.2.2.2.2.2.2.2.2.2.2.2.1
theorem k1_dev48_lt : ∀ (v2 : BitVec 32) (k1_hw2 : k1_chk2 v2), (k1_dev48 v2) < nD := fun v2 k1_hw2 => k1_hw2.1.2.2.2.2.2.2.2.2.2.2.2.2.2.2.2.2.2.2.2.2.2.2.2.1
theorem k1_dev50_lt : ∀ (v2 : BitVec 32) (k1_hw2 : k1_chk2 v2), (k1_dev50 v2) < nD := fun v2 k1_hw2 => k1_hw2.1.2.2.2.2.2.2.2.2.2.2.2.2.2.2.2.2.2.2.2.2.2.2.2.2.1
theorem k1_dev52_lt : ∀ (v2 : BitVec 32) (k1_hw2 : k1_chk2 v2), (k1_dev52 v2) < nD := fun v2 k1_hw2 => k1_hw2.1.2.2.2.2.2.2.2.2.2.2.2.2.2.2.2.2.2.2.2.2.2.2.2.2.2.1
theorem k1_dev54_lt : ∀ (v2 : BitVec 32) (k1_hw2 : k1_chk2 v2), (k1_dev54 v2) < nD := fun v2 k1_hw2 => k1_hw2.1.2.2.2.2.2.2.2.2.2.2.2.2.2.2.2.2.2.2.2.2.2.2.2.2.2.2.1
theorem k1_dev56_lt : ∀ (v2 : BitVec 32) (k1_hw2 : k1_chk2 v2), (k1_dev56 v2) < nD := fun v2 k1_hw2 => k1_hw2.1.2.2.2.2.2.2.2.2.2.2.2.2.2.2.2.2.2.2.2.2.2.2.2.2.2.2.2.1
theorem k1_dev58_lt : ∀ (v2 : BitVec 32) (k1_hw2 : k1_chk2 v2), (k1_dev58 v2) < nD := fun v2 k1_hw2 => k1_hw2.1.2.2.2.2.2.2.2.2.2.2.2.2.2.2.2.2.2.2.2.2.2.2.2.2.2.2.2.2.1
theorem k1_dev60_lt : ∀ (v2 : BitVec 32) (k1_hw2 : k1_chk2 v2), (k1_dev60 v2) < nD := fun v2 k1_hw2 => k1_hw2.1.2.2.2.2.2.2.2.2.2.2.2.2.2.2.2.2.2.2.2.2.2.2.2.2.2.2.2.2.2.1
theorem k1_dev62_lt : ∀ (v2 : BitVec 32) (k1_hw2 : k1_chk2 v2), (k1_dev62 v2) < nD := fun v2 k1_hw2 => k1_hw2.1.2.2.2.2.2.2.2.2.2.2.2.2.2.2.2.2.2.2.2.2.2.2.2.2.2.2.2.2.2.2.1
theorem k1_dev64_lt : ∀ (v2 : BitVec 32) (k1_hw2 : k1_chk2 v2), (k1_dev64 v2) < nD := fun v2 k1_hw2 => k1_hw2.1.2.2.2.2.2.2.2.2.2.2.2.2.2.2.2.2.2.2.2.2.2.2.2.2.2.2.2.2.2.2.2
theorem k1_dev66_lt : ∀ (v2 : BitVec 32) (k1_hw2 : k1_chk2 v2), (k1_dev66 v2) < nD := fun v2 k1_hw2 => k1_hw2.2.1
theorem k1_dev68_lt : ∀ (v2 : BitVec 32) (k1_hw2 : k1_chk2 v2), (k1_dev68 v2) < nD := fun v2 k1_hw2 => k1_hw2.2.2.1
theorem k1_dev70_lt : ∀ (v2 : BitVec 32) (k1_hw2 : k1_chk2 v2), (k1_dev70 v2) < nD := fun v2 k1_hw2 => k1_hw2.2.2.2.1
theorem k1_dev72_lt : ∀ (v2 : BitVec 32) (k1_hw2 : k1_chk2 v2), (k1_dev72 v2) < nD := fun v2 k1_hw2 => k1_hw2.2.2.2.2.1
theorem k1_dev74_lt : ∀ (v2 : BitVec 32) (k1_hw2 : k1_chk2 v2), (k1_dev74 v2) < nD := fun v2 k1_hw2 => k1_hw2.2.2.2.2.2.1
theorem k1_dev76_lt : ∀ (v2 : BitVec 32) (k1_hw2 : k1_chk2 v2), (k1_dev76 v2) < nD := fun v2 k1_hw2 => k1_hw2.2.2.2.2.2.2.1
theorem k1_dev78_lt : ∀ (v2 : BitVec 32) (k1_hw2 : k1_chk2 v2), (k1_dev78 v2) < nD := fun v2 k1_hw2 => k1_hw2.2.2.2.2.2.2.2.1
theorem k1_dev80_lt : ∀ (v2 : BitVec 32) (k1_hw2 : k1_chk2 v2), (k1_dev80 v2) < nD := fun v2 k1_hw2 => k1_hw2.2.2.2.2.2.2.2.2.1
theorem k1_dev82_lt : ∀ (v2 : BitVec 32) (k1_hw2 : k1_chk2 v2), (k1_dev82 v2) < nD := fun v2 k1_hw2 => k1_hw2.2.2.2.2.2.2.2.2.2.1
theorem k1_dev84_lt : ∀ (v2 : BitVec 32) (k1_hw2 : k1_chk2 v2), (k1_dev84 v2) < nD := fun v2 k1_hw2 => k1_hw2.2.2.2.2.2.2.2.2.2.2.1
theorem k1_dev86_lt : ∀ (v2 : BitVec 32) (k1_hw2 : k1_chk2 v2), (k1_dev86 v2) < nD := fun v2 k1_hw2 => k1_hw2.2.2.2.2.2.2.2.2.2.2.2.1
theorem k1_dev88_lt : ∀ (v2 : BitVec 32) (k1_hw2 : k1_chk2 v2), (k1_dev88 v2) < nD := fun v2 k1_hw2 => k1_hw2.2.2.2.2.2.2.2.2.2.2.2.2.1
theorem k1_dev90_lt : ∀ (v2 : BitVec 32) (k1_hw2 : k1_chk2 v2), (k1_dev90 v2) < nD := fun v2 k1_hw2 => k1_hw2.2.2.2.2.2.2.2.2.2.2.2.2.2.1
theorem k1_dev92_lt : ∀ (v2 : BitVec 32) (k1_hw2 : k1_chk2 v2), (k1_dev92 v2) < nD := fun v2 k1_hw2 => k1_hw2.2.2.2.2.2.2.2.2.2.2.2.2.2.2.1
theorem k1_dev94_lt : ∀ (v2 : BitVec 32) (k1_hw2 : k1_chk2 v2), (k1_dev94 v2) < nD := fun v2 k1_hw2 => k1_hw2.2.2.2.2.2.2.2.2.2.2.2.2.2.2.2.1
theorem k1_dev96_lt : ∀ (v2 : BitVec 32) (k1_hw2 : k1_chk2 v2), (k1_dev96 v2) < nD := fun v2 k1_hw2 => k1_hw2.2.2.2.2.2.2.2.2.2.2.2.2.2.2.2.2.1
theorem k1_dev98_lt : ∀ (v2 : BitVec 32) (k1_hw2 : k1_chk2 v2), (k1_dev98 v2) < nD := fun v2 k1_hw2 => k1_hw2.2.2.2.2.2.2.2.2.2.2.2.2.2.2.2.2.2.1
theorem k1_dev100_lt : ∀ (v2 : BitVec 32) (k1_hw2 : k1_chk2 v2), (k1_dev100 v2) < nD := fun v2 k1_hw2 => k1_hw2.2.2.2.2.2.2.2.2.2.2.2.2.2.2.2.2.2.2.1
theorem k1_dev102_lt : ∀ (v2 : BitVec 32) (k1_hw2 : k1_chk2 v2), (k1_dev102 v2) < nD := fun v2 k1_hw2 => k1_hw2.2.2.2.2.2.2.2.2.2.2.2.2.2.2.2.2.2.2.2.1
theorem k1_dev104_lt : ∀ (v2 : BitVec 32) (k1_hw2 : k1_chk2 v2), (k1_dev104 v2) < nD := fun v2 k1_hw2 => k1_hw2.2.2.2.2.2.2.2.2.2.2.2.2.2.2.2.2.2.2.2.2.1
theorem k1_dev106_lt : ∀ (v2 : BitVec 32) (k1_hw2 : k1_chk2 v2), (k1_dev106 v2) < nD := fun v2 k1_hw2 => k1_hw2.2.2.2.2.2.2.2.2.2.2.2.2.2.2.2.2.2.2.2.2.2.1
theorem k1_dev108_lt : ∀ (v2 : BitVec 32) (k1_hw2 : k1_chk2 v2), (k1_dev108 v2) < nD := fun v2 k1_hw2 => k1_hw2.2.2.2.2.2.2.2.2.2.2.2.2.2.2.2.2.2.2.2.2.2.2.1
theorem k1_dev110_lt : ∀ (v2 : BitVec 32) (k1_hw2 : k1_chk2 v2), (k1_dev110 v2) < nD := fun v2 k1_hw2 => k1_hw2.2.2.2.2.2.2.2.2.2.2.2.2.2.2.2.2.2.2.2.2.2.2.2.1
theorem k1_dev112_lt : ∀ (v2 : BitVec 32) (k1_hw2 : k1_chk2 v2), (k1_dev112 v2) < nD := fun v2 k1_hw2 => k1_hw2.2.2.2.2.2.2.2.2.2.2.2.2.2.2.2.2.2.2.2.2.2.2.2.2.1
theorem k1_dev114_lt : ∀ (v2 : BitVec 32) (k1_hw2 : k1_chk2 v2), (k1_dev114 v2) < nD := fun v2 k1_hw2 => k1_hw2.2.2.2.2.2.2.2.2.2.2.2.2.2.2.2.2.2.2.2.2.2.2.2.2.2.1
theorem k1_dev116_lt : ∀ (v2 : BitVec 32) (k1_hw2 : k1_chk2 v2), (k1_dev116 v2) < nD := fun v2 k1_hw2 => k1_hw2.2.2.2.2.2.2.2.2.2.2.2.2.2.2.2.2.2.2.2.2.2.2.2.2.2.2.1
theorem k1_dev118_lt : ∀ (v2 : BitVec 32) (k1_hw2 : k1_chk2 v2), (k1_dev118 v2) < nD := fun v2 k1_hw2 => k1_hw2.2.2.2.2.2.2.2.2.2.2.2.2.2.2.2.2.2.2.2.2.2.2.2.2.2.2.2.1
theorem k1_dev120_lt : ∀ (v2 : BitVec 32) (k1_hw2 : k1_chk2 v2), (k1_dev120 v2) < nD := fun v2 k1_hw2 => k1_hw2.2.2.2.2.2.2.2.2.2.2.2.2.2.2.2.2.2.2.2.2.2.2.2.2.2.2.2.2.1
theorem k1_dev122_lt : ∀ (v2 : BitVec 32) (k1_hw2 : k1_chk2 v2), (k1_dev122 v2) < nD := fun v2 k1_hw2 => k1_hw2.2.2.2.2.2.2.2.2.2.2.2.2.2.2.2.2.2.2.2.2.2.2.2.2.2.2.2.2.2.1
theorem k1_dev124_lt : ∀ (v2 : BitVec 32) (k1_hw2 : k1_chk2 v2), (k1_dev124 v2) < nD := fun v2 k1_hw2 => k1_hw2.2.2.2.2.2.2.2.2.2.2.2.2.2.2.2.2.2.2.2.2.2.2.2.2.2.2.2.2.2.2.1
theorem k1_dev126_lt : ∀ (v2 : BitVec 32) (k1_hw2 : k1_chk2 v2), (k1_dev126 v2) < nD := fun v2 k1_hw2 => k1_hw2.2.2.2.2.2.2.2.2.2.2.2.2.2.2.2.2.2.2.2.2.2.2.2.2.2.2.2.2.2.2.2

abbrev stage1_0 : Fin 1 → Memref sig .tc .smem S4 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := .none

def k3_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k3_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k3_off1 (v0 : BitVec 32) : Fin 2 → Nat :=
  let c32_i32 : BitVec 32 := 32#32
  let v8 : BitVec 32 := Scalar.muli v0 c32_i32
  let v9 : Index := Scalar.indexCast v8
  let c0_4 : Index := 0#32
  ![v9.toNat, 0]

def k3_off2 (v0 : BitVec 32) : Fin 2 → Nat :=
  let c1024_i32 : BitVec 32 := 1024#32
  let c32_i32_8 : BitVec 32 := 32#32
  let v15 : BitVec 32 := Scalar.muli v0 c32_i32_8
  let v16 : BitVec 32 := Scalar.addi c1024_i32 v15
  let v17 : Index := Scalar.indexCast v16
  let c0_9 : Index := 0#32
  ![v17.toNat, 0]
def k3_dev3 (v1 : BitVec 32) : Nat :=
  let c0_i32_18 : BitVec 32 := 0#32
  let c1_i32_17 : BitVec 32 := 1#32
  let v23 : BitVec 32 := Scalar.muli v1 c1_i32_17
  let v24 : BitVec 32 := Scalar.addi c0_i32_18 v23
  v24.toNat
def k3_dev4 (v2 : BitVec 32) : Nat :=
  let c0_i32_28 : BitVec 32 := 0#32
  let c1_i32_27 : BitVec 32 := 1#32
  let v33 : BitVec 32 := Scalar.muli v2 c1_i32_27
  let v34 : BitVec 32 := Scalar.addi c0_i32_28 v33
  v34.toNat
def k3_off3 (v0 : BitVec 32) (c0_i32_71 : BitVec 32) : Fin 2 → Nat :=
  let v71 : BitVec 32 := Scalar.subi v0 c0_i32_71
  let c1_i32_72 : BitVec 32 := 1#32
  let v72 : BitVec 32 := Scalar.subi v71 c1_i32_72
  let c32_i32_73 : BitVec 32 := 32#32
  let c0_i32_74 : BitVec 32 := 0#32
  let v73 : BitVec 1 := Scalar.cmpi .eq c32_i32_73 c0_i32_74
  let c1_i32_75 : BitVec 32 := 1#32
  let v74 : BitVec 32 := Scalar.select v73 c1_i32_75 c32_i32_73
  let v75 : BitVec 32 := Scalar.remsi v72 v74
  let c0_i32_77 : BitVec 32 := 0#32
  let v77 : BitVec 1 := Scalar.cmpi .slt v75 c0_i32_77
  let c0_i32_78 : BitVec 32 := 0#32
  let v78 : BitVec 1 := Scalar.cmpi .slt v74 c0_i32_78
  let v79 : BitVec 1 := Scalar.xori v77 v78
  let c0_i32_76 : BitVec 32 := 0#32
  let v76 : BitVec 1 := Scalar.cmpi .ne v75 c0_i32_76
  let v80 : BitVec 1 := Scalar.andi v79 v76
  let v81 : BitVec 32 := Scalar.addi v75 v74
  let v82 : BitVec 32 := Scalar.select v80 v81 v75
  let c32_i32_90 : BitVec 32 := 32#32
  let v97 : BitVec 32 := Scalar.muli v82 c32_i32_90
  let v98 : Index := Scalar.indexCast v97
  let c0_91 : Index := 0#32
  ![v98.toNat, 0]
def k3_off4 (v0 : BitVec 32) (c0_i32_79 : BitVec 32) : Fin 2 → Nat :=
  let c1024_i32_99 : BitVec 32 := 1024#32
  let v83 : BitVec 32 := Scalar.addi v0 c0_i32_79
  let c1_i32_80 : BitVec 32 := 1#32
  let v84 : BitVec 32 := Scalar.addi v83 c1_i32_80
  let c32_i32_81 : BitVec 32 := 32#32
  let c0_i32_82 : BitVec 32 := 0#32
  let v85 : BitVec 1 := Scalar.cmpi .eq c32_i32_81 c0_i32_82
  let c1_i32_83 : BitVec 32 := 1#32
  let v86 : BitVec 32 := Scalar.select v85 c1_i32_83 c32_i32_81
  let v87 : BitVec 32 := Scalar.remsi v84 v86
  let c0_i32_85 : BitVec 32 := 0#32
  let v89 : BitVec 1 := Scalar.cmpi .slt v87 c0_i32_85
  let c0_i32_86 : BitVec 32 := 0#32
  let v90 : BitVec 1 := Scalar.cmpi .slt v86 c0_i32_86
  let v91 : BitVec 1 := Scalar.xori v89 v90
  let c0_i32_84 : BitVec 32 := 0#32
  let v88 : BitVec 1 := Scalar.cmpi .ne v87 c0_i32_84
  let v92 : BitVec 1 := Scalar.andi v91 v88
  let v93 : BitVec 32 := Scalar.addi v87 v86
  let v94 : BitVec 32 := Scalar.select v92 v93 v87
  let c32_i32_98 : BitVec 32 := 32#32
  let v107 : BitVec 32 := Scalar.muli v94 c32_i32_98
  let v108 : BitVec 32 := Scalar.addi c1024_i32_99 v107
  let v109 : Index := Scalar.indexCast v108
  let c0_100 : Index := 0#32
  ![v109.toNat, 0]
def k3_dev5 (v1 : BitVec 32) : Nat :=
  let c0_i32_109 : BitVec 32 := 0#32
  let c1_i32_108 : BitVec 32 := 1#32
  let v116 : BitVec 32 := Scalar.muli v1 c1_i32_108
  let v117 : BitVec 32 := Scalar.addi c0_i32_109 v116
  v117.toNat
def k3_dev6 (v2 : BitVec 32) : Nat :=
  let c0_i32_119 : BitVec 32 := 0#32
  let c1_i32_118 : BitVec 32 := 1#32
  let v126 : BitVec 32 := Scalar.muli v2 c1_i32_118
  let v127 : BitVec 32 := Scalar.addi c0_i32_119 v126
  v127.toNat
def k3_dev7 (v1 : BitVec 32) : Nat :=
  let c0_i32_199 : BitVec 32 := 0#32
  let c1_i32_198 : BitVec 32 := 1#32
  let v209 : BitVec 32 := Scalar.muli v1 c1_i32_198
  let v210 : BitVec 32 := Scalar.addi c0_i32_199 v209
  v210.toNat
def k3_dev8 (v2 : BitVec 32) : Nat :=
  let c0_i32_209 : BitVec 32 := 0#32
  let c1_i32_208 : BitVec 32 := 1#32
  let v219 : BitVec 32 := Scalar.muli v2 c1_i32_208
  let v220 : BitVec 32 := Scalar.addi c0_i32_209 v219
  v220.toNat
def k3_dev9 (v1 : BitVec 32) : Nat :=
  let c0_i32_289 : BitVec 32 := 0#32
  let c1_i32_288 : BitVec 32 := 1#32
  let v302 : BitVec 32 := Scalar.muli v1 c1_i32_288
  let v303 : BitVec 32 := Scalar.addi c0_i32_289 v302
  v303.toNat
def k3_dev10 (v2 : BitVec 32) : Nat :=
  let c0_i32_299 : BitVec 32 := 0#32
  let c1_i32_298 : BitVec 32 := 1#32
  let v312 : BitVec 32 := Scalar.muli v2 c1_i32_298
  let v313 : BitVec 32 := Scalar.addi c0_i32_299 v312
  v313.toNat
def k3_dev11 (v1 : BitVec 32) : Nat :=
  let c0_i32_379 : BitVec 32 := 0#32
  let c1_i32_378 : BitVec 32 := 1#32
  let v395 : BitVec 32 := Scalar.muli v1 c1_i32_378
  let v396 : BitVec 32 := Scalar.addi c0_i32_379 v395
  v396.toNat
def k3_dev12 (v2 : BitVec 32) : Nat :=
  let c0_i32_389 : BitVec 32 := 0#32
  let c1_i32_388 : BitVec 32 := 1#32
  let v405 : BitVec 32 := Scalar.muli v2 c1_i32_388
  let v406 : BitVec 32 := Scalar.addi c0_i32_389 v405
  v406.toNat
def k3_dev13 (v1 : BitVec 32) : Nat :=
  let c0_i32_469 : BitVec 32 := 0#32
  let c1_i32_468 : BitVec 32 := 1#32
  let v488 : BitVec 32 := Scalar.muli v1 c1_i32_468
  let v489 : BitVec 32 := Scalar.addi c0_i32_469 v488
  v489.toNat
def k3_dev14 (v2 : BitVec 32) : Nat :=
  let c0_i32_479 : BitVec 32 := 0#32
  let c1_i32_478 : BitVec 32 := 1#32
  let v498 : BitVec 32 := Scalar.muli v2 c1_i32_478
  let v499 : BitVec 32 := Scalar.addi c0_i32_479 v498
  v499.toNat
def k3_dev15 (v1 : BitVec 32) : Nat :=
  let c0_i32_559 : BitVec 32 := 0#32
  let c1_i32_558 : BitVec 32 := 1#32
  let v581 : BitVec 32 := Scalar.muli v1 c1_i32_558
  let v582 : BitVec 32 := Scalar.addi c0_i32_559 v581
  v582.toNat
def k3_dev16 (v2 : BitVec 32) : Nat :=
  let c0_i32_569 : BitVec 32 := 0#32
  let c1_i32_568 : BitVec 32 := 1#32
  let v591 : BitVec 32 := Scalar.muli v2 c1_i32_568
  let v592 : BitVec 32 := Scalar.addi c0_i32_569 v591
  v592.toNat
def k3_dev17 (v1 : BitVec 32) : Nat :=
  let c0_i32_649 : BitVec 32 := 0#32
  let c1_i32_648 : BitVec 32 := 1#32
  let v674 : BitVec 32 := Scalar.muli v1 c1_i32_648
  let v675 : BitVec 32 := Scalar.addi c0_i32_649 v674
  v675.toNat
def k3_dev18 (v2 : BitVec 32) : Nat :=
  let c0_i32_659 : BitVec 32 := 0#32
  let c1_i32_658 : BitVec 32 := 1#32
  let v684 : BitVec 32 := Scalar.muli v2 c1_i32_658
  let v685 : BitVec 32 := Scalar.addi c0_i32_659 v684
  v685.toNat
def k3_dev19 (v1 : BitVec 32) : Nat :=
  let c0_i32_739 : BitVec 32 := 0#32
  let c1_i32_738 : BitVec 32 := 1#32
  let v767 : BitVec 32 := Scalar.muli v1 c1_i32_738
  let v768 : BitVec 32 := Scalar.addi c0_i32_739 v767
  v768.toNat
def k3_dev20 (v2 : BitVec 32) : Nat :=
  let c0_i32_749 : BitVec 32 := 0#32
  let c1_i32_748 : BitVec 32 := 1#32
  let v777 : BitVec 32 := Scalar.muli v2 c1_i32_748
  let v778 : BitVec 32 := Scalar.addi c0_i32_749 v777
  v778.toNat
def k3_dev21 (v1 : BitVec 32) : Nat :=
  let c0_i32_829 : BitVec 32 := 0#32
  let c1_i32_828 : BitVec 32 := 1#32
  let v860 : BitVec 32 := Scalar.muli v1 c1_i32_828
  let v861 : BitVec 32 := Scalar.addi c0_i32_829 v860
  v861.toNat
def k3_dev22 (v2 : BitVec 32) : Nat :=
  let c0_i32_839 : BitVec 32 := 0#32
  let c1_i32_838 : BitVec 32 := 1#32
  let v870 : BitVec 32 := Scalar.muli v2 c1_i32_838
  let v871 : BitVec 32 := Scalar.addi c0_i32_839 v870
  v871.toNat
def k3_dev23 (v1 : BitVec 32) : Nat :=
  let c0_i32_919 : BitVec 32 := 0#32
  let c1_i32_918 : BitVec 32 := 1#32
  let v953 : BitVec 32 := Scalar.muli v1 c1_i32_918
  let v954 : BitVec 32 := Scalar.addi c0_i32_919 v953
  v954.toNat
def k3_dev24 (v2 : BitVec 32) : Nat :=
  let c0_i32_929 : BitVec 32 := 0#32
  let c1_i32_928 : BitVec 32 := 1#32
  let v963 : BitVec 32 := Scalar.muli v2 c1_i32_928
  let v964 : BitVec 32 := Scalar.addi c0_i32_929 v963
  v964.toNat
def k3_dev25 (v1 : BitVec 32) : Nat :=
  let c0_i32_1009 : BitVec 32 := 0#32
  let c1_i32_1008 : BitVec 32 := 1#32
  let v1046 : BitVec 32 := Scalar.muli v1 c1_i32_1008
  let v1047 : BitVec 32 := Scalar.addi c0_i32_1009 v1046
  v1047.toNat
def k3_dev26 (v2 : BitVec 32) : Nat :=
  let c0_i32_1019 : BitVec 32 := 0#32
  let c1_i32_1018 : BitVec 32 := 1#32
  let v1056 : BitVec 32 := Scalar.muli v2 c1_i32_1018
  let v1057 : BitVec 32 := Scalar.addi c0_i32_1019 v1056
  v1057.toNat
def k3_dev27 (v1 : BitVec 32) : Nat :=
  let c0_i32_1099 : BitVec 32 := 0#32
  let c1_i32_1098 : BitVec 32 := 1#32
  let v1139 : BitVec 32 := Scalar.muli v1 c1_i32_1098
  let v1140 : BitVec 32 := Scalar.addi c0_i32_1099 v1139
  v1140.toNat
def k3_dev28 (v2 : BitVec 32) : Nat :=
  let c0_i32_1109 : BitVec 32 := 0#32
  let c1_i32_1108 : BitVec 32 := 1#32
  let v1149 : BitVec 32 := Scalar.muli v2 c1_i32_1108
  let v1150 : BitVec 32 := Scalar.addi c0_i32_1109 v1149
  v1150.toNat
def k3_dev29 (v1 : BitVec 32) : Nat :=
  let c0_i32_1189 : BitVec 32 := 0#32
  let c1_i32_1188 : BitVec 32 := 1#32
  let v1232 : BitVec 32 := Scalar.muli v1 c1_i32_1188
  let v1233 : BitVec 32 := Scalar.addi c0_i32_1189 v1232
  v1233.toNat
def k3_dev30 (v2 : BitVec 32) : Nat :=
  let c0_i32_1199 : BitVec 32 := 0#32
  let c1_i32_1198 : BitVec 32 := 1#32
  let v1242 : BitVec 32 := Scalar.muli v2 c1_i32_1198
  let v1243 : BitVec 32 := Scalar.addi c0_i32_1199 v1242
  v1243.toNat
def k3_dev31 (v1 : BitVec 32) : Nat :=
  let c0_i32_1279 : BitVec 32 := 0#32
  let c1_i32_1278 : BitVec 32 := 1#32
  let v1325 : BitVec 32 := Scalar.muli v1 c1_i32_1278
  let v1326 : BitVec 32 := Scalar.addi c0_i32_1279 v1325
  v1326.toNat
def k3_dev32 (v2 : BitVec 32) : Nat :=
  let c0_i32_1289 : BitVec 32 := 0#32
  let c1_i32_1288 : BitVec 32 := 1#32
  let v1335 : BitVec 32 := Scalar.muli v2 c1_i32_1288
  let v1336 : BitVec 32 := Scalar.addi c0_i32_1289 v1335
  v1336.toNat
def k3_dev33 (v1 : BitVec 32) : Nat :=
  let c0_i32_1369 : BitVec 32 := 0#32
  let c1_i32_1368 : BitVec 32 := 1#32
  let v1418 : BitVec 32 := Scalar.muli v1 c1_i32_1368
  let v1419 : BitVec 32 := Scalar.addi c0_i32_1369 v1418
  v1419.toNat
def k3_dev34 (v2 : BitVec 32) : Nat :=
  let c0_i32_1379 : BitVec 32 := 0#32
  let c1_i32_1378 : BitVec 32 := 1#32
  let v1428 : BitVec 32 := Scalar.muli v2 c1_i32_1378
  let v1429 : BitVec 32 := Scalar.addi c0_i32_1379 v1428
  v1429.toNat
def k3_dev35 (v1 : BitVec 32) : Nat :=
  let c0_i32_1459 : BitVec 32 := 0#32
  let c1_i32_1458 : BitVec 32 := 1#32
  let v1511 : BitVec 32 := Scalar.muli v1 c1_i32_1458
  let v1512 : BitVec 32 := Scalar.addi c0_i32_1459 v1511
  v1512.toNat
def k3_dev36 (v2 : BitVec 32) : Nat :=
  let c0_i32_1469 : BitVec 32 := 0#32
  let c1_i32_1468 : BitVec 32 := 1#32
  let v1521 : BitVec 32 := Scalar.muli v2 c1_i32_1468
  let v1522 : BitVec 32 := Scalar.addi c0_i32_1469 v1521
  v1522.toNat
def k3_dev37 (v1 : BitVec 32) : Nat :=
  let c0_i32_1549 : BitVec 32 := 0#32
  let c1_i32_1548 : BitVec 32 := 1#32
  let v1604 : BitVec 32 := Scalar.muli v1 c1_i32_1548
  let v1605 : BitVec 32 := Scalar.addi c0_i32_1549 v1604
  v1605.toNat
def k3_dev38 (v2 : BitVec 32) : Nat :=
  let c0_i32_1559 : BitVec 32 := 0#32
  let c1_i32_1558 : BitVec 32 := 1#32
  let v1614 : BitVec 32 := Scalar.muli v2 c1_i32_1558
  let v1615 : BitVec 32 := Scalar.addi c0_i32_1559 v1614
  v1615.toNat
def k3_dev39 (v1 : BitVec 32) : Nat :=
  let c0_i32_1639 : BitVec 32 := 0#32
  let c1_i32_1638 : BitVec 32 := 1#32
  let v1697 : BitVec 32 := Scalar.muli v1 c1_i32_1638
  let v1698 : BitVec 32 := Scalar.addi c0_i32_1639 v1697
  v1698.toNat
def k3_dev40 (v2 : BitVec 32) : Nat :=
  let c0_i32_1649 : BitVec 32 := 0#32
  let c1_i32_1648 : BitVec 32 := 1#32
  let v1707 : BitVec 32 := Scalar.muli v2 c1_i32_1648
  let v1708 : BitVec 32 := Scalar.addi c0_i32_1649 v1707
  v1708.toNat
def k3_dev41 (v1 : BitVec 32) : Nat :=
  let c0_i32_1729 : BitVec 32 := 0#32
  let c1_i32_1728 : BitVec 32 := 1#32
  let v1790 : BitVec 32 := Scalar.muli v1 c1_i32_1728
  let v1791 : BitVec 32 := Scalar.addi c0_i32_1729 v1790
  v1791.toNat
def k3_dev42 (v2 : BitVec 32) : Nat :=
  let c0_i32_1739 : BitVec 32 := 0#32
  let c1_i32_1738 : BitVec 32 := 1#32
  let v1800 : BitVec 32 := Scalar.muli v2 c1_i32_1738
  let v1801 : BitVec 32 := Scalar.addi c0_i32_1739 v1800
  v1801.toNat
def k3_dev43 (v1 : BitVec 32) : Nat :=
  let c0_i32_1819 : BitVec 32 := 0#32
  let c1_i32_1818 : BitVec 32 := 1#32
  let v1883 : BitVec 32 := Scalar.muli v1 c1_i32_1818
  let v1884 : BitVec 32 := Scalar.addi c0_i32_1819 v1883
  v1884.toNat
def k3_dev44 (v2 : BitVec 32) : Nat :=
  let c0_i32_1829 : BitVec 32 := 0#32
  let c1_i32_1828 : BitVec 32 := 1#32
  let v1893 : BitVec 32 := Scalar.muli v2 c1_i32_1828
  let v1894 : BitVec 32 := Scalar.addi c0_i32_1829 v1893
  v1894.toNat
def k3_dev45 (v1 : BitVec 32) : Nat :=
  let c0_i32_1909 : BitVec 32 := 0#32
  let c1_i32_1908 : BitVec 32 := 1#32
  let v1976 : BitVec 32 := Scalar.muli v1 c1_i32_1908
  let v1977 : BitVec 32 := Scalar.addi c0_i32_1909 v1976
  v1977.toNat
def k3_dev46 (v2 : BitVec 32) : Nat :=
  let c0_i32_1919 : BitVec 32 := 0#32
  let c1_i32_1918 : BitVec 32 := 1#32
  let v1986 : BitVec 32 := Scalar.muli v2 c1_i32_1918
  let v1987 : BitVec 32 := Scalar.addi c0_i32_1919 v1986
  v1987.toNat
def k3_dev47 (v1 : BitVec 32) : Nat :=
  let c0_i32_1999 : BitVec 32 := 0#32
  let c1_i32_1998 : BitVec 32 := 1#32
  let v2069 : BitVec 32 := Scalar.muli v1 c1_i32_1998
  let v2070 : BitVec 32 := Scalar.addi c0_i32_1999 v2069
  v2070.toNat
def k3_dev48 (v2 : BitVec 32) : Nat :=
  let c0_i32_2009 : BitVec 32 := 0#32
  let c1_i32_2008 : BitVec 32 := 1#32
  let v2079 : BitVec 32 := Scalar.muli v2 c1_i32_2008
  let v2080 : BitVec 32 := Scalar.addi c0_i32_2009 v2079
  v2080.toNat
def k3_dev49 (v1 : BitVec 32) : Nat :=
  let c0_i32_2089 : BitVec 32 := 0#32
  let c1_i32_2088 : BitVec 32 := 1#32
  let v2162 : BitVec 32 := Scalar.muli v1 c1_i32_2088
  let v2163 : BitVec 32 := Scalar.addi c0_i32_2089 v2162
  v2163.toNat
def k3_dev50 (v2 : BitVec 32) : Nat :=
  let c0_i32_2099 : BitVec 32 := 0#32
  let c1_i32_2098 : BitVec 32 := 1#32
  let v2172 : BitVec 32 := Scalar.muli v2 c1_i32_2098
  let v2173 : BitVec 32 := Scalar.addi c0_i32_2099 v2172
  v2173.toNat
def k3_dev51 (v1 : BitVec 32) : Nat :=
  let c0_i32_2179 : BitVec 32 := 0#32
  let c1_i32_2178 : BitVec 32 := 1#32
  let v2255 : BitVec 32 := Scalar.muli v1 c1_i32_2178
  let v2256 : BitVec 32 := Scalar.addi c0_i32_2179 v2255
  v2256.toNat
def k3_dev52 (v2 : BitVec 32) : Nat :=
  let c0_i32_2189 : BitVec 32 := 0#32
  let c1_i32_2188 : BitVec 32 := 1#32
  let v2265 : BitVec 32 := Scalar.muli v2 c1_i32_2188
  let v2266 : BitVec 32 := Scalar.addi c0_i32_2189 v2265
  v2266.toNat
def k3_dev53 (v1 : BitVec 32) : Nat :=
  let c0_i32_2269 : BitVec 32 := 0#32
  let c1_i32_2268 : BitVec 32 := 1#32
  let v2348 : BitVec 32 := Scalar.muli v1 c1_i32_2268
  let v2349 : BitVec 32 := Scalar.addi c0_i32_2269 v2348
  v2349.toNat
def k3_dev54 (v2 : BitVec 32) : Nat :=
  let c0_i32_2279 : BitVec 32 := 0#32
  let c1_i32_2278 : BitVec 32 := 1#32
  let v2358 : BitVec 32 := Scalar.muli v2 c1_i32_2278
  let v2359 : BitVec 32 := Scalar.addi c0_i32_2279 v2358
  v2359.toNat
def k3_dev55 (v1 : BitVec 32) : Nat :=
  let c0_i32_2359 : BitVec 32 := 0#32
  let c1_i32_2358 : BitVec 32 := 1#32
  let v2441 : BitVec 32 := Scalar.muli v1 c1_i32_2358
  let v2442 : BitVec 32 := Scalar.addi c0_i32_2359 v2441
  v2442.toNat
def k3_dev56 (v2 : BitVec 32) : Nat :=
  let c0_i32_2369 : BitVec 32 := 0#32
  let c1_i32_2368 : BitVec 32 := 1#32
  let v2451 : BitVec 32 := Scalar.muli v2 c1_i32_2368
  let v2452 : BitVec 32 := Scalar.addi c0_i32_2369 v2451
  v2452.toNat
def k3_dev57 (v1 : BitVec 32) : Nat :=
  let c0_i32_2449 : BitVec 32 := 0#32
  let c1_i32_2448 : BitVec 32 := 1#32
  let v2534 : BitVec 32 := Scalar.muli v1 c1_i32_2448
  let v2535 : BitVec 32 := Scalar.addi c0_i32_2449 v2534
  v2535.toNat
def k3_dev58 (v2 : BitVec 32) : Nat :=
  let c0_i32_2459 : BitVec 32 := 0#32
  let c1_i32_2458 : BitVec 32 := 1#32
  let v2544 : BitVec 32 := Scalar.muli v2 c1_i32_2458
  let v2545 : BitVec 32 := Scalar.addi c0_i32_2459 v2544
  v2545.toNat
def k3_dev59 (v1 : BitVec 32) : Nat :=
  let c0_i32_2539 : BitVec 32 := 0#32
  let c1_i32_2538 : BitVec 32 := 1#32
  let v2627 : BitVec 32 := Scalar.muli v1 c1_i32_2538
  let v2628 : BitVec 32 := Scalar.addi c0_i32_2539 v2627
  v2628.toNat
def k3_dev60 (v2 : BitVec 32) : Nat :=
  let c0_i32_2549 : BitVec 32 := 0#32
  let c1_i32_2548 : BitVec 32 := 1#32
  let v2637 : BitVec 32 := Scalar.muli v2 c1_i32_2548
  let v2638 : BitVec 32 := Scalar.addi c0_i32_2549 v2637
  v2638.toNat
def k3_dev61 (v1 : BitVec 32) : Nat :=
  let c0_i32_2629 : BitVec 32 := 0#32
  let c1_i32_2628 : BitVec 32 := 1#32
  let v2720 : BitVec 32 := Scalar.muli v1 c1_i32_2628
  let v2721 : BitVec 32 := Scalar.addi c0_i32_2629 v2720
  v2721.toNat
def k3_dev62 (v2 : BitVec 32) : Nat :=
  let c0_i32_2639 : BitVec 32 := 0#32
  let c1_i32_2638 : BitVec 32 := 1#32
  let v2730 : BitVec 32 := Scalar.muli v2 c1_i32_2638
  let v2731 : BitVec 32 := Scalar.addi c0_i32_2639 v2730
  v2731.toNat
def k3_dev63 (v1 : BitVec 32) : Nat :=
  let c0_i32_2719 : BitVec 32 := 0#32
  let c1_i32_2718 : BitVec 32 := 1#32
  let v2813 : BitVec 32 := Scalar.muli v1 c1_i32_2718
  let v2814 : BitVec 32 := Scalar.addi c0_i32_2719 v2813
  v2814.toNat
def k3_dev64 (v2 : BitVec 32) : Nat :=
  let c0_i32_2729 : BitVec 32 := 0#32
  let c1_i32_2728 : BitVec 32 := 1#32
  let v2823 : BitVec 32 := Scalar.muli v2 c1_i32_2728
  let v2824 : BitVec 32 := Scalar.addi c0_i32_2729 v2823
  v2824.toNat
def k3_off5 (v0 : BitVec 32) : Fin 2 → Nat :=
  let c1_i32_2808 : BitVec 32 := 1#32
  let v2908 : BitVec 32 := Scalar.addi v0 c1_i32_2808
  let c32_i32_2809 : BitVec 32 := 32#32
  let c0_i32_2810 : BitVec 32 := 0#32
  let v2909 : BitVec 1 := Scalar.cmpi .eq c32_i32_2809 c0_i32_2810
  let c1_i32_2811 : BitVec 32 := 1#32
  let v2910 : BitVec 32 := Scalar.select v2909 c1_i32_2811 c32_i32_2809
  let v2911 : BitVec 32 := Scalar.remsi v2908 v2910
  let c0_i32_2813 : BitVec 32 := 0#32
  let v2913 : BitVec 1 := Scalar.cmpi .slt v2911 c0_i32_2813
  let c0_i32_2814 : BitVec 32 := 0#32
  let v2914 : BitVec 1 := Scalar.cmpi .slt v2910 c0_i32_2814
  let v2915 : BitVec 1 := Scalar.xori v2913 v2914
  let c0_i32_2812 : BitVec 32 := 0#32
  let v2912 : BitVec 1 := Scalar.cmpi .ne v2911 c0_i32_2812
  let v2916 : BitVec 1 := Scalar.andi v2915 v2912
  let v2917 : BitVec 32 := Scalar.addi v2911 v2910
  let v2918 : BitVec 32 := Scalar.select v2916 v2917 v2911
  let c32_i32_2815 : BitVec 32 := 32#32
  let v2919 : BitVec 32 := Scalar.muli v2918 c32_i32_2815
  let v2920 : Index := Scalar.indexCast v2919
  let c0_2816 : Index := 0#32
  ![v2920.toNat, 0]
def k3_off6 (v0 : BitVec 32) : Fin 2 → Nat :=
  let c1024_i32_2828 : BitVec 32 := 1024#32
  let c1_i32_2820 : BitVec 32 := 1#32
  let v2924 : BitVec 32 := Scalar.subi v0 c1_i32_2820
  let c32_i32_2821 : BitVec 32 := 32#32
  let c0_i32_2822 : BitVec 32 := 0#32
  let v2925 : BitVec 1 := Scalar.cmpi .eq c32_i32_2821 c0_i32_2822
  let c1_i32_2823 : BitVec 32 := 1#32
  let v2926 : BitVec 32 := Scalar.select v2925 c1_i32_2823 c32_i32_2821
  let v2927 : BitVec 32 := Scalar.remsi v2924 v2926
  let c0_i32_2825 : BitVec 32 := 0#32
  let v2929 : BitVec 1 := Scalar.cmpi .slt v2927 c0_i32_2825
  let c0_i32_2826 : BitVec 32 := 0#32
  let v2930 : BitVec 1 := Scalar.cmpi .slt v2926 c0_i32_2826
  let v2931 : BitVec 1 := Scalar.xori v2929 v2930
  let c0_i32_2824 : BitVec 32 := 0#32
  let v2928 : BitVec 1 := Scalar.cmpi .ne v2927 c0_i32_2824
  let v2932 : BitVec 1 := Scalar.andi v2931 v2928
  let v2933 : BitVec 32 := Scalar.addi v2927 v2926
  let v2934 : BitVec 32 := Scalar.select v2932 v2933 v2927
  let c32_i32_2827 : BitVec 32 := 32#32
  let v2935 : BitVec 32 := Scalar.muli v2934 c32_i32_2827
  let v2936 : BitVec 32 := Scalar.addi c1024_i32_2828 v2935
  let v2937 : Index := Scalar.indexCast v2936
  let c0_2829 : Index := 0#32
  ![v2937.toNat, 0]
def k3_dev65 (v1 : BitVec 32) : Nat :=
  let c0_i32_2835 : BitVec 32 := 0#32
  let c1_i32_2834 : BitVec 32 := 1#32
  let v2939 : BitVec 32 := Scalar.muli v1 c1_i32_2834
  let v2940 : BitVec 32 := Scalar.addi c0_i32_2835 v2939
  v2940.toNat
def k3_dev66 (v2 : BitVec 32) : Nat :=
  let c0_i32_2845 : BitVec 32 := 0#32
  let c1_i32_2844 : BitVec 32 := 1#32
  let v2949 : BitVec 32 := Scalar.muli v2 c1_i32_2844
  let v2950 : BitVec 32 := Scalar.addi c0_i32_2845 v2949
  v2950.toNat
def k3_off7 (v0 : BitVec 32) (c0_i32_2891 : BitVec 32) : Fin 2 → Nat :=
  let v2989 : BitVec 32 := Scalar.subi v0 c0_i32_2891
  let c32_i32_2892 : BitVec 32 := 32#32
  let c0_i32_2893 : BitVec 32 := 0#32
  let v2990 : BitVec 1 := Scalar.cmpi .eq c32_i32_2892 c0_i32_2893
  let c1_i32_2894 : BitVec 32 := 1#32
  let v2991 : BitVec 32 := Scalar.select v2990 c1_i32_2894 c32_i32_2892
  let v2992 : BitVec 32 := Scalar.remsi v2989 v2991
  let c0_i32_2896 : BitVec 32 := 0#32
  let v2994 : BitVec 1 := Scalar.cmpi .slt v2992 c0_i32_2896
  let c0_i32_2897 : BitVec 32 := 0#32
  let v2995 : BitVec 1 := Scalar.cmpi .slt v2991 c0_i32_2897
  let v2996 : BitVec 1 := Scalar.xori v2994 v2995
  let c0_i32_2895 : BitVec 32 := 0#32
  let v2993 : BitVec 1 := Scalar.cmpi .ne v2992 c0_i32_2895
  let v2997 : BitVec 1 := Scalar.andi v2996 v2993
  let v2998 : BitVec 32 := Scalar.addi v2992 v2991
  let v2999 : BitVec 32 := Scalar.select v2997 v2998 v2992
  let c32_i32_2898 : BitVec 32 := 32#32
  let v3000 : BitVec 32 := Scalar.muli v2999 c32_i32_2898
  let v3001 : Index := Scalar.indexCast v3000
  let c0_2899 : Index := 0#32
  ![v3001.toNat, 0]
def k3_off8 (v0 : BitVec 32) (c0_i32_2903 : BitVec 32) : Fin 2 → Nat :=
  let c1024_i32_2911 : BitVec 32 := 1024#32
  let v3005 : BitVec 32 := Scalar.addi v0 c0_i32_2903
  let c32_i32_2904 : BitVec 32 := 32#32
  let c0_i32_2905 : BitVec 32 := 0#32
  let v3006 : BitVec 1 := Scalar.cmpi .eq c32_i32_2904 c0_i32_2905
  let c1_i32_2906 : BitVec 32 := 1#32
  let v3007 : BitVec 32 := Scalar.select v3006 c1_i32_2906 c32_i32_2904
  let v3008 : BitVec 32 := Scalar.remsi v3005 v3007
  let c0_i32_2908 : BitVec 32 := 0#32
  let v3010 : BitVec 1 := Scalar.cmpi .slt v3008 c0_i32_2908
  let c0_i32_2909 : BitVec 32 := 0#32
  let v3011 : BitVec 1 := Scalar.cmpi .slt v3007 c0_i32_2909
  let v3012 : BitVec 1 := Scalar.xori v3010 v3011
  let c0_i32_2907 : BitVec 32 := 0#32
  let v3009 : BitVec 1 := Scalar.cmpi .ne v3008 c0_i32_2907
  let v3013 : BitVec 1 := Scalar.andi v3012 v3009
  let v3014 : BitVec 32 := Scalar.addi v3008 v3007
  let v3015 : BitVec 32 := Scalar.select v3013 v3014 v3008
  let c32_i32_2910 : BitVec 32 := 32#32
  let v3016 : BitVec 32 := Scalar.muli v3015 c32_i32_2910
  let v3017 : BitVec 32 := Scalar.addi c1024_i32_2911 v3016
  let v3018 : Index := Scalar.indexCast v3017
  let c0_2912 : Index := 0#32
  ![v3018.toNat, 0]

def k3_chk3 (v0 : BitVec 32) : Prop :=
  (∀ a, (k3_off1 v0) a + S32x1024.size a ≤ S2048x1024.size a) ∧
  (∀ a, (k3_off2 v0) a + S32x1024.size a ≤ S2048x1024.size a) ∧
  (∀ (r : Fin 31), ∀ a, (k3_off3 v0 (BitVec.ofNat 32 r.val)) a + S32x1024.size a ≤ S2048x1024.size a) ∧
  (∀ (r : Fin 31), ∀ a, (k3_off4 v0 (BitVec.ofNat 32 r.val)) a + S32x1024.size a ≤ S2048x1024.size a) ∧
  (∀ a, (k3_off5 v0) a + S32x1024.size a ≤ S2048x1024.size a) ∧
  (∀ a, (k3_off6 v0) a + S32x1024.size a ≤ S2048x1024.size a) ∧
  (∀ (r : Fin 31), ∀ a, (k3_off7 v0 (BitVec.ofNat 32 r.val)) a + S32x1024.size a ≤ S2048x1024.size a) ∧
  (∀ (r : Fin 31), ∀ a, (k3_off8 v0 (BitVec.ofNat 32 r.val)) a + S32x1024.size a ≤ S2048x1024.size a)
theorem k3_off1_inb : ∀ (v0 : BitVec 32) (k3_hw3 : k3_chk3 v0), ∀ a, (k3_off1 v0) a + S32x1024.size a ≤ S2048x1024.size a := fun v0 k3_hw3 => k3_hw3.1
theorem k3_off2_inb : ∀ (v0 : BitVec 32) (k3_hw3 : k3_chk3 v0), ∀ a, (k3_off2 v0) a + S32x1024.size a ≤ S2048x1024.size a := fun v0 k3_hw3 => k3_hw3.2.1
theorem k3_off3_inb : ∀ (v0 : BitVec 32) (k3_hw3 : k3_chk3 v0), ∀ (r : Fin 31), ∀ a, (k3_off3 v0 (BitVec.ofNat 32 r.val)) a + S32x1024.size a ≤ S2048x1024.size a := fun v0 k3_hw3 r => k3_hw3.2.2.1 r
theorem k3_off4_inb : ∀ (v0 : BitVec 32) (k3_hw3 : k3_chk3 v0), ∀ (r : Fin 31), ∀ a, (k3_off4 v0 (BitVec.ofNat 32 r.val)) a + S32x1024.size a ≤ S2048x1024.size a := fun v0 k3_hw3 r => k3_hw3.2.2.2.1 r
theorem k3_off5_inb : ∀ (v0 : BitVec 32) (k3_hw3 : k3_chk3 v0), ∀ a, (k3_off5 v0) a + S32x1024.size a ≤ S2048x1024.size a := fun v0 k3_hw3 => k3_hw3.2.2.2.2.1
theorem k3_off6_inb : ∀ (v0 : BitVec 32) (k3_hw3 : k3_chk3 v0), ∀ a, (k3_off6 v0) a + S32x1024.size a ≤ S2048x1024.size a := fun v0 k3_hw3 => k3_hw3.2.2.2.2.2.1
theorem k3_off7_inb : ∀ (v0 : BitVec 32) (k3_hw3 : k3_chk3 v0), ∀ (r : Fin 31), ∀ a, (k3_off7 v0 (BitVec.ofNat 32 r.val)) a + S32x1024.size a ≤ S2048x1024.size a := fun v0 k3_hw3 r => k3_hw3.2.2.2.2.2.2.1 r
theorem k3_off8_inb : ∀ (v0 : BitVec 32) (k3_hw3 : k3_chk3 v0), ∀ (r : Fin 31), ∀ a, (k3_off8 v0 (BitVec.ofNat 32 r.val)) a + S32x1024.size a ≤ S2048x1024.size a := fun v0 k3_hw3 r => k3_hw3.2.2.2.2.2.2.2 r

def k3_dev67 (v1 : BitVec 32) : Nat :=
  let c0_i32_2918 : BitVec 32 := 0#32
  let c1_i32_2917 : BitVec 32 := 1#32
  let v3020 : BitVec 32 := Scalar.muli v1 c1_i32_2917
  let v3021 : BitVec 32 := Scalar.addi c0_i32_2918 v3020
  v3021.toNat
def k3_dev68 (v2 : BitVec 32) : Nat :=
  let c0_i32_2928 : BitVec 32 := 0#32
  let c1_i32_2927 : BitVec 32 := 1#32
  let v3030 : BitVec 32 := Scalar.muli v2 c1_i32_2927
  let v3031 : BitVec 32 := Scalar.addi c0_i32_2928 v3030
  v3031.toNat
def k3_dev69 (v1 : BitVec 32) : Nat :=
  let c0_i32_3001 : BitVec 32 := 0#32
  let c1_i32_3000 : BitVec 32 := 1#32
  let v3101 : BitVec 32 := Scalar.muli v1 c1_i32_3000
  let v3102 : BitVec 32 := Scalar.addi c0_i32_3001 v3101
  v3102.toNat
def k3_dev70 (v2 : BitVec 32) : Nat :=
  let c0_i32_3011 : BitVec 32 := 0#32
  let c1_i32_3010 : BitVec 32 := 1#32
  let v3111 : BitVec 32 := Scalar.muli v2 c1_i32_3010
  let v3112 : BitVec 32 := Scalar.addi c0_i32_3011 v3111
  v3112.toNat
def k3_dev71 (v1 : BitVec 32) : Nat :=
  let c0_i32_3084 : BitVec 32 := 0#32
  let c1_i32_3083 : BitVec 32 := 1#32
  let v3182 : BitVec 32 := Scalar.muli v1 c1_i32_3083
  let v3183 : BitVec 32 := Scalar.addi c0_i32_3084 v3182
  v3183.toNat
def k3_dev72 (v2 : BitVec 32) : Nat :=
  let c0_i32_3094 : BitVec 32 := 0#32
  let c1_i32_3093 : BitVec 32 := 1#32
  let v3192 : BitVec 32 := Scalar.muli v2 c1_i32_3093
  let v3193 : BitVec 32 := Scalar.addi c0_i32_3094 v3192
  v3193.toNat
def k3_dev73 (v1 : BitVec 32) : Nat :=
  let c0_i32_3167 : BitVec 32 := 0#32
  let c1_i32_3166 : BitVec 32 := 1#32
  let v3263 : BitVec 32 := Scalar.muli v1 c1_i32_3166
  let v3264 : BitVec 32 := Scalar.addi c0_i32_3167 v3263
  v3264.toNat
def k3_dev74 (v2 : BitVec 32) : Nat :=
  let c0_i32_3177 : BitVec 32 := 0#32
  let c1_i32_3176 : BitVec 32 := 1#32
  let v3273 : BitVec 32 := Scalar.muli v2 c1_i32_3176
  let v3274 : BitVec 32 := Scalar.addi c0_i32_3177 v3273
  v3274.toNat
def k3_dev75 (v1 : BitVec 32) : Nat :=
  let c0_i32_3250 : BitVec 32 := 0#32
  let c1_i32_3249 : BitVec 32 := 1#32
  let v3344 : BitVec 32 := Scalar.muli v1 c1_i32_3249
  let v3345 : BitVec 32 := Scalar.addi c0_i32_3250 v3344
  v3345.toNat
def k3_dev76 (v2 : BitVec 32) : Nat :=
  let c0_i32_3260 : BitVec 32 := 0#32
  let c1_i32_3259 : BitVec 32 := 1#32
  let v3354 : BitVec 32 := Scalar.muli v2 c1_i32_3259
  let v3355 : BitVec 32 := Scalar.addi c0_i32_3260 v3354
  v3355.toNat
def k3_dev77 (v1 : BitVec 32) : Nat :=
  let c0_i32_3333 : BitVec 32 := 0#32
  let c1_i32_3332 : BitVec 32 := 1#32
  let v3425 : BitVec 32 := Scalar.muli v1 c1_i32_3332
  let v3426 : BitVec 32 := Scalar.addi c0_i32_3333 v3425
  v3426.toNat
def k3_dev78 (v2 : BitVec 32) : Nat :=
  let c0_i32_3343 : BitVec 32 := 0#32
  let c1_i32_3342 : BitVec 32 := 1#32
  let v3435 : BitVec 32 := Scalar.muli v2 c1_i32_3342
  let v3436 : BitVec 32 := Scalar.addi c0_i32_3343 v3435
  v3436.toNat
def k3_dev79 (v1 : BitVec 32) : Nat :=
  let c0_i32_3416 : BitVec 32 := 0#32
  let c1_i32_3415 : BitVec 32 := 1#32
  let v3506 : BitVec 32 := Scalar.muli v1 c1_i32_3415
  let v3507 : BitVec 32 := Scalar.addi c0_i32_3416 v3506
  v3507.toNat
def k3_dev80 (v2 : BitVec 32) : Nat :=
  let c0_i32_3426 : BitVec 32 := 0#32
  let c1_i32_3425 : BitVec 32 := 1#32
  let v3516 : BitVec 32 := Scalar.muli v2 c1_i32_3425
  let v3517 : BitVec 32 := Scalar.addi c0_i32_3426 v3516
  v3517.toNat
def k3_dev81 (v1 : BitVec 32) : Nat :=
  let c0_i32_3499 : BitVec 32 := 0#32
  let c1_i32_3498 : BitVec 32 := 1#32
  let v3587 : BitVec 32 := Scalar.muli v1 c1_i32_3498
  let v3588 : BitVec 32 := Scalar.addi c0_i32_3499 v3587
  v3588.toNat
def k3_dev82 (v2 : BitVec 32) : Nat :=
  let c0_i32_3509 : BitVec 32 := 0#32
  let c1_i32_3508 : BitVec 32 := 1#32
  let v3597 : BitVec 32 := Scalar.muli v2 c1_i32_3508
  let v3598 : BitVec 32 := Scalar.addi c0_i32_3509 v3597
  v3598.toNat
def k3_dev83 (v1 : BitVec 32) : Nat :=
  let c0_i32_3582 : BitVec 32 := 0#32
  let c1_i32_3581 : BitVec 32 := 1#32
  let v3668 : BitVec 32 := Scalar.muli v1 c1_i32_3581
  let v3669 : BitVec 32 := Scalar.addi c0_i32_3582 v3668
  v3669.toNat
def k3_dev84 (v2 : BitVec 32) : Nat :=
  let c0_i32_3592 : BitVec 32 := 0#32
  let c1_i32_3591 : BitVec 32 := 1#32
  let v3678 : BitVec 32 := Scalar.muli v2 c1_i32_3591
  let v3679 : BitVec 32 := Scalar.addi c0_i32_3592 v3678
  v3679.toNat
def k3_dev85 (v1 : BitVec 32) : Nat :=
  let c0_i32_3665 : BitVec 32 := 0#32
  let c1_i32_3664 : BitVec 32 := 1#32
  let v3749 : BitVec 32 := Scalar.muli v1 c1_i32_3664
  let v3750 : BitVec 32 := Scalar.addi c0_i32_3665 v3749
  v3750.toNat
def k3_dev86 (v2 : BitVec 32) : Nat :=
  let c0_i32_3675 : BitVec 32 := 0#32
  let c1_i32_3674 : BitVec 32 := 1#32
  let v3759 : BitVec 32 := Scalar.muli v2 c1_i32_3674
  let v3760 : BitVec 32 := Scalar.addi c0_i32_3675 v3759
  v3760.toNat
def k3_dev87 (v1 : BitVec 32) : Nat :=
  let c0_i32_3748 : BitVec 32 := 0#32
  let c1_i32_3747 : BitVec 32 := 1#32
  let v3830 : BitVec 32 := Scalar.muli v1 c1_i32_3747
  let v3831 : BitVec 32 := Scalar.addi c0_i32_3748 v3830
  v3831.toNat
def k3_dev88 (v2 : BitVec 32) : Nat :=
  let c0_i32_3758 : BitVec 32 := 0#32
  let c1_i32_3757 : BitVec 32 := 1#32
  let v3840 : BitVec 32 := Scalar.muli v2 c1_i32_3757
  let v3841 : BitVec 32 := Scalar.addi c0_i32_3758 v3840
  v3841.toNat
def k3_dev89 (v1 : BitVec 32) : Nat :=
  let c0_i32_3831 : BitVec 32 := 0#32
  let c1_i32_3830 : BitVec 32 := 1#32
  let v3911 : BitVec 32 := Scalar.muli v1 c1_i32_3830
  let v3912 : BitVec 32 := Scalar.addi c0_i32_3831 v3911
  v3912.toNat
def k3_dev90 (v2 : BitVec 32) : Nat :=
  let c0_i32_3841 : BitVec 32 := 0#32
  let c1_i32_3840 : BitVec 32 := 1#32
  let v3921 : BitVec 32 := Scalar.muli v2 c1_i32_3840
  let v3922 : BitVec 32 := Scalar.addi c0_i32_3841 v3921
  v3922.toNat
def k3_dev91 (v1 : BitVec 32) : Nat :=
  let c0_i32_3914 : BitVec 32 := 0#32
  let c1_i32_3913 : BitVec 32 := 1#32
  let v3992 : BitVec 32 := Scalar.muli v1 c1_i32_3913
  let v3993 : BitVec 32 := Scalar.addi c0_i32_3914 v3992
  v3993.toNat
def k3_dev92 (v2 : BitVec 32) : Nat :=
  let c0_i32_3924 : BitVec 32 := 0#32
  let c1_i32_3923 : BitVec 32 := 1#32
  let v4002 : BitVec 32 := Scalar.muli v2 c1_i32_3923
  let v4003 : BitVec 32 := Scalar.addi c0_i32_3924 v4002
  v4003.toNat
def k3_dev93 (v1 : BitVec 32) : Nat :=
  let c0_i32_3997 : BitVec 32 := 0#32
  let c1_i32_3996 : BitVec 32 := 1#32
  let v4073 : BitVec 32 := Scalar.muli v1 c1_i32_3996
  let v4074 : BitVec 32 := Scalar.addi c0_i32_3997 v4073
  v4074.toNat
def k3_dev94 (v2 : BitVec 32) : Nat :=
  let c0_i32_4007 : BitVec 32 := 0#32
  let c1_i32_4006 : BitVec 32 := 1#32
  let v4083 : BitVec 32 := Scalar.muli v2 c1_i32_4006
  let v4084 : BitVec 32 := Scalar.addi c0_i32_4007 v4083
  v4084.toNat
def k3_dev95 (v1 : BitVec 32) : Nat :=
  let c0_i32_4080 : BitVec 32 := 0#32
  let c1_i32_4079 : BitVec 32 := 1#32
  let v4154 : BitVec 32 := Scalar.muli v1 c1_i32_4079
  let v4155 : BitVec 32 := Scalar.addi c0_i32_4080 v4154
  v4155.toNat
def k3_dev96 (v2 : BitVec 32) : Nat :=
  let c0_i32_4090 : BitVec 32 := 0#32
  let c1_i32_4089 : BitVec 32 := 1#32
  let v4164 : BitVec 32 := Scalar.muli v2 c1_i32_4089
  let v4165 : BitVec 32 := Scalar.addi c0_i32_4090 v4164
  v4165.toNat
def k3_dev97 (v1 : BitVec 32) : Nat :=
  let c0_i32_4163 : BitVec 32 := 0#32
  let c1_i32_4162 : BitVec 32 := 1#32
  let v4235 : BitVec 32 := Scalar.muli v1 c1_i32_4162
  let v4236 : BitVec 32 := Scalar.addi c0_i32_4163 v4235
  v4236.toNat
def k3_dev98 (v2 : BitVec 32) : Nat :=
  let c0_i32_4173 : BitVec 32 := 0#32
  let c1_i32_4172 : BitVec 32 := 1#32
  let v4245 : BitVec 32 := Scalar.muli v2 c1_i32_4172
  let v4246 : BitVec 32 := Scalar.addi c0_i32_4173 v4245
  v4246.toNat
def k3_dev99 (v1 : BitVec 32) : Nat :=
  let c0_i32_4246 : BitVec 32 := 0#32
  let c1_i32_4245 : BitVec 32 := 1#32
  let v4316 : BitVec 32 := Scalar.muli v1 c1_i32_4245
  let v4317 : BitVec 32 := Scalar.addi c0_i32_4246 v4316
  v4317.toNat
def k3_dev100 (v2 : BitVec 32) : Nat :=
  let c0_i32_4256 : BitVec 32 := 0#32
  let c1_i32_4255 : BitVec 32 := 1#32
  let v4326 : BitVec 32 := Scalar.muli v2 c1_i32_4255
  let v4327 : BitVec 32 := Scalar.addi c0_i32_4256 v4326
  v4327.toNat
def k3_dev101 (v1 : BitVec 32) : Nat :=
  let c0_i32_4329 : BitVec 32 := 0#32
  let c1_i32_4328 : BitVec 32 := 1#32
  let v4397 : BitVec 32 := Scalar.muli v1 c1_i32_4328
  let v4398 : BitVec 32 := Scalar.addi c0_i32_4329 v4397
  v4398.toNat
def k3_dev102 (v2 : BitVec 32) : Nat :=
  let c0_i32_4339 : BitVec 32 := 0#32
  let c1_i32_4338 : BitVec 32 := 1#32
  let v4407 : BitVec 32 := Scalar.muli v2 c1_i32_4338
  let v4408 : BitVec 32 := Scalar.addi c0_i32_4339 v4407
  v4408.toNat
def k3_dev103 (v1 : BitVec 32) : Nat :=
  let c0_i32_4412 : BitVec 32 := 0#32
  let c1_i32_4411 : BitVec 32 := 1#32
  let v4478 : BitVec 32 := Scalar.muli v1 c1_i32_4411
  let v4479 : BitVec 32 := Scalar.addi c0_i32_4412 v4478
  v4479.toNat
def k3_dev104 (v2 : BitVec 32) : Nat :=
  let c0_i32_4422 : BitVec 32 := 0#32
  let c1_i32_4421 : BitVec 32 := 1#32
  let v4488 : BitVec 32 := Scalar.muli v2 c1_i32_4421
  let v4489 : BitVec 32 := Scalar.addi c0_i32_4422 v4488
  v4489.toNat
def k3_dev105 (v1 : BitVec 32) : Nat :=
  let c0_i32_4495 : BitVec 32 := 0#32
  let c1_i32_4494 : BitVec 32 := 1#32
  let v4559 : BitVec 32 := Scalar.muli v1 c1_i32_4494
  let v4560 : BitVec 32 := Scalar.addi c0_i32_4495 v4559
  v4560.toNat
def k3_dev106 (v2 : BitVec 32) : Nat :=
  let c0_i32_4505 : BitVec 32 := 0#32
  let c1_i32_4504 : BitVec 32 := 1#32
  let v4569 : BitVec 32 := Scalar.muli v2 c1_i32_4504
  let v4570 : BitVec 32 := Scalar.addi c0_i32_4505 v4569
  v4570.toNat
def k3_dev107 (v1 : BitVec 32) : Nat :=
  let c0_i32_4578 : BitVec 32 := 0#32
  let c1_i32_4577 : BitVec 32 := 1#32
  let v4640 : BitVec 32 := Scalar.muli v1 c1_i32_4577
  let v4641 : BitVec 32 := Scalar.addi c0_i32_4578 v4640
  v4641.toNat
def k3_dev108 (v2 : BitVec 32) : Nat :=
  let c0_i32_4588 : BitVec 32 := 0#32
  let c1_i32_4587 : BitVec 32 := 1#32
  let v4650 : BitVec 32 := Scalar.muli v2 c1_i32_4587
  let v4651 : BitVec 32 := Scalar.addi c0_i32_4588 v4650
  v4651.toNat
def k3_dev109 (v1 : BitVec 32) : Nat :=
  let c0_i32_4661 : BitVec 32 := 0#32
  let c1_i32_4660 : BitVec 32 := 1#32
  let v4721 : BitVec 32 := Scalar.muli v1 c1_i32_4660
  let v4722 : BitVec 32 := Scalar.addi c0_i32_4661 v4721
  v4722.toNat
def k3_dev110 (v2 : BitVec 32) : Nat :=
  let c0_i32_4671 : BitVec 32 := 0#32
  let c1_i32_4670 : BitVec 32 := 1#32
  let v4731 : BitVec 32 := Scalar.muli v2 c1_i32_4670
  let v4732 : BitVec 32 := Scalar.addi c0_i32_4671 v4731
  v4732.toNat
def k3_dev111 (v1 : BitVec 32) : Nat :=
  let c0_i32_4744 : BitVec 32 := 0#32
  let c1_i32_4743 : BitVec 32 := 1#32
  let v4802 : BitVec 32 := Scalar.muli v1 c1_i32_4743
  let v4803 : BitVec 32 := Scalar.addi c0_i32_4744 v4802
  v4803.toNat
def k3_dev112 (v2 : BitVec 32) : Nat :=
  let c0_i32_4754 : BitVec 32 := 0#32
  let c1_i32_4753 : BitVec 32 := 1#32
  let v4812 : BitVec 32 := Scalar.muli v2 c1_i32_4753
  let v4813 : BitVec 32 := Scalar.addi c0_i32_4754 v4812
  v4813.toNat
def k3_dev113 (v1 : BitVec 32) : Nat :=
  let c0_i32_4827 : BitVec 32 := 0#32
  let c1_i32_4826 : BitVec 32 := 1#32
  let v4883 : BitVec 32 := Scalar.muli v1 c1_i32_4826
  let v4884 : BitVec 32 := Scalar.addi c0_i32_4827 v4883
  v4884.toNat
def k3_dev114 (v2 : BitVec 32) : Nat :=
  let c0_i32_4837 : BitVec 32 := 0#32
  let c1_i32_4836 : BitVec 32 := 1#32
  let v4893 : BitVec 32 := Scalar.muli v2 c1_i32_4836
  let v4894 : BitVec 32 := Scalar.addi c0_i32_4837 v4893
  v4894.toNat
def k3_dev115 (v1 : BitVec 32) : Nat :=
  let c0_i32_4910 : BitVec 32 := 0#32
  let c1_i32_4909 : BitVec 32 := 1#32
  let v4964 : BitVec 32 := Scalar.muli v1 c1_i32_4909
  let v4965 : BitVec 32 := Scalar.addi c0_i32_4910 v4964
  v4965.toNat
def k3_dev116 (v2 : BitVec 32) : Nat :=
  let c0_i32_4920 : BitVec 32 := 0#32
  let c1_i32_4919 : BitVec 32 := 1#32
  let v4974 : BitVec 32 := Scalar.muli v2 c1_i32_4919
  let v4975 : BitVec 32 := Scalar.addi c0_i32_4920 v4974
  v4975.toNat
def k3_dev117 (v1 : BitVec 32) : Nat :=
  let c0_i32_4993 : BitVec 32 := 0#32
  let c1_i32_4992 : BitVec 32 := 1#32
  let v5045 : BitVec 32 := Scalar.muli v1 c1_i32_4992
  let v5046 : BitVec 32 := Scalar.addi c0_i32_4993 v5045
  v5046.toNat
def k3_dev118 (v2 : BitVec 32) : Nat :=
  let c0_i32_5003 : BitVec 32 := 0#32
  let c1_i32_5002 : BitVec 32 := 1#32
  let v5055 : BitVec 32 := Scalar.muli v2 c1_i32_5002
  let v5056 : BitVec 32 := Scalar.addi c0_i32_5003 v5055
  v5056.toNat
def k3_dev119 (v1 : BitVec 32) : Nat :=
  let c0_i32_5076 : BitVec 32 := 0#32
  let c1_i32_5075 : BitVec 32 := 1#32
  let v5126 : BitVec 32 := Scalar.muli v1 c1_i32_5075
  let v5127 : BitVec 32 := Scalar.addi c0_i32_5076 v5126
  v5127.toNat
def k3_dev120 (v2 : BitVec 32) : Nat :=
  let c0_i32_5086 : BitVec 32 := 0#32
  let c1_i32_5085 : BitVec 32 := 1#32
  let v5136 : BitVec 32 := Scalar.muli v2 c1_i32_5085
  let v5137 : BitVec 32 := Scalar.addi c0_i32_5086 v5136
  v5137.toNat
def k3_dev121 (v1 : BitVec 32) : Nat :=
  let c0_i32_5159 : BitVec 32 := 0#32
  let c1_i32_5158 : BitVec 32 := 1#32
  let v5207 : BitVec 32 := Scalar.muli v1 c1_i32_5158
  let v5208 : BitVec 32 := Scalar.addi c0_i32_5159 v5207
  v5208.toNat
def k3_dev122 (v2 : BitVec 32) : Nat :=
  let c0_i32_5169 : BitVec 32 := 0#32
  let c1_i32_5168 : BitVec 32 := 1#32
  let v5217 : BitVec 32 := Scalar.muli v2 c1_i32_5168
  let v5218 : BitVec 32 := Scalar.addi c0_i32_5169 v5217
  v5218.toNat
def k3_dev123 (v1 : BitVec 32) : Nat :=
  let c0_i32_5242 : BitVec 32 := 0#32
  let c1_i32_5241 : BitVec 32 := 1#32
  let v5288 : BitVec 32 := Scalar.muli v1 c1_i32_5241
  let v5289 : BitVec 32 := Scalar.addi c0_i32_5242 v5288
  v5289.toNat
def k3_dev124 (v2 : BitVec 32) : Nat :=
  let c0_i32_5252 : BitVec 32 := 0#32
  let c1_i32_5251 : BitVec 32 := 1#32
  let v5298 : BitVec 32 := Scalar.muli v2 c1_i32_5251
  let v5299 : BitVec 32 := Scalar.addi c0_i32_5252 v5298
  v5299.toNat
def k3_dev125 (v1 : BitVec 32) : Nat :=
  let c0_i32_5325 : BitVec 32 := 0#32
  let c1_i32_5324 : BitVec 32 := 1#32
  let v5369 : BitVec 32 := Scalar.muli v1 c1_i32_5324
  let v5370 : BitVec 32 := Scalar.addi c0_i32_5325 v5369
  v5370.toNat

def k3_chk1_0 (v1 : BitVec 32) : Prop :=
  ((k3_dev1 v1) < nD) ∧
  ((k3_dev3 v1) < nD) ∧
  ((k3_dev5 v1) < nD) ∧
  ((k3_dev7 v1) < nD) ∧
  ((k3_dev9 v1) < nD) ∧
  ((k3_dev11 v1) < nD) ∧
  ((k3_dev13 v1) < nD) ∧
  ((k3_dev15 v1) < nD) ∧
  ((k3_dev17 v1) < nD) ∧
  ((k3_dev19 v1) < nD) ∧
  ((k3_dev21 v1) < nD) ∧
  ((k3_dev23 v1) < nD) ∧
  ((k3_dev25 v1) < nD) ∧
  ((k3_dev27 v1) < nD) ∧
  ((k3_dev29 v1) < nD) ∧
  ((k3_dev31 v1) < nD) ∧
  ((k3_dev33 v1) < nD) ∧
  ((k3_dev35 v1) < nD) ∧
  ((k3_dev37 v1) < nD) ∧
  ((k3_dev39 v1) < nD) ∧
  ((k3_dev41 v1) < nD) ∧
  ((k3_dev43 v1) < nD) ∧
  ((k3_dev45 v1) < nD) ∧
  ((k3_dev47 v1) < nD) ∧
  ((k3_dev49 v1) < nD) ∧
  ((k3_dev51 v1) < nD) ∧
  ((k3_dev53 v1) < nD) ∧
  ((k3_dev55 v1) < nD) ∧
  ((k3_dev57 v1) < nD) ∧
  ((k3_dev59 v1) < nD) ∧
  ((k3_dev61 v1) < nD) ∧
  ((k3_dev63 v1) < nD)
def k3_chk1_1 (v1 : BitVec 32) : Prop :=
  ((k3_dev65 v1) < nD) ∧
  ((k3_dev67 v1) < nD) ∧
  ((k3_dev69 v1) < nD) ∧
  ((k3_dev71 v1) < nD) ∧
  ((k3_dev73 v1) < nD) ∧
  ((k3_dev75 v1) < nD) ∧
  ((k3_dev77 v1) < nD) ∧
  ((k3_dev79 v1) < nD) ∧
  ((k3_dev81 v1) < nD) ∧
  ((k3_dev83 v1) < nD) ∧
  ((k3_dev85 v1) < nD) ∧
  ((k3_dev87 v1) < nD) ∧
  ((k3_dev89 v1) < nD) ∧
  ((k3_dev91 v1) < nD) ∧
  ((k3_dev93 v1) < nD) ∧
  ((k3_dev95 v1) < nD) ∧
  ((k3_dev97 v1) < nD) ∧
  ((k3_dev99 v1) < nD) ∧
  ((k3_dev101 v1) < nD) ∧
  ((k3_dev103 v1) < nD) ∧
  ((k3_dev105 v1) < nD) ∧
  ((k3_dev107 v1) < nD) ∧
  ((k3_dev109 v1) < nD) ∧
  ((k3_dev111 v1) < nD) ∧
  ((k3_dev113 v1) < nD) ∧
  ((k3_dev115 v1) < nD) ∧
  ((k3_dev117 v1) < nD) ∧
  ((k3_dev119 v1) < nD) ∧
  ((k3_dev121 v1) < nD) ∧
  ((k3_dev123 v1) < nD) ∧
  ((k3_dev125 v1) < nD)
def k3_chk1 (v1 : BitVec 32) : Prop :=
  k3_chk1_0 v1 ∧
  k3_chk1_1 v1
theorem k3_dev1_lt : ∀ (v1 : BitVec 32) (k3_hw1 : k3_chk1 v1), (k3_dev1 v1) < nD := fun v1 k3_hw1 => k3_hw1.1.1
theorem k3_dev3_lt : ∀ (v1 : BitVec 32) (k3_hw1 : k3_chk1 v1), (k3_dev3 v1) < nD := fun v1 k3_hw1 => k3_hw1.1.2.1
theorem k3_dev5_lt : ∀ (v1 : BitVec 32) (k3_hw1 : k3_chk1 v1), (k3_dev5 v1) < nD := fun v1 k3_hw1 => k3_hw1.1.2.2.1
theorem k3_dev7_lt : ∀ (v1 : BitVec 32) (k3_hw1 : k3_chk1 v1), (k3_dev7 v1) < nD := fun v1 k3_hw1 => k3_hw1.1.2.2.2.1
theorem k3_dev9_lt : ∀ (v1 : BitVec 32) (k3_hw1 : k3_chk1 v1), (k3_dev9 v1) < nD := fun v1 k3_hw1 => k3_hw1.1.2.2.2.2.1
theorem k3_dev11_lt : ∀ (v1 : BitVec 32) (k3_hw1 : k3_chk1 v1), (k3_dev11 v1) < nD := fun v1 k3_hw1 => k3_hw1.1.2.2.2.2.2.1
theorem k3_dev13_lt : ∀ (v1 : BitVec 32) (k3_hw1 : k3_chk1 v1), (k3_dev13 v1) < nD := fun v1 k3_hw1 => k3_hw1.1.2.2.2.2.2.2.1
theorem k3_dev15_lt : ∀ (v1 : BitVec 32) (k3_hw1 : k3_chk1 v1), (k3_dev15 v1) < nD := fun v1 k3_hw1 => k3_hw1.1.2.2.2.2.2.2.2.1
theorem k3_dev17_lt : ∀ (v1 : BitVec 32) (k3_hw1 : k3_chk1 v1), (k3_dev17 v1) < nD := fun v1 k3_hw1 => k3_hw1.1.2.2.2.2.2.2.2.2.1
theorem k3_dev19_lt : ∀ (v1 : BitVec 32) (k3_hw1 : k3_chk1 v1), (k3_dev19 v1) < nD := fun v1 k3_hw1 => k3_hw1.1.2.2.2.2.2.2.2.2.2.1
theorem k3_dev21_lt : ∀ (v1 : BitVec 32) (k3_hw1 : k3_chk1 v1), (k3_dev21 v1) < nD := fun v1 k3_hw1 => k3_hw1.1.2.2.2.2.2.2.2.2.2.2.1
theorem k3_dev23_lt : ∀ (v1 : BitVec 32) (k3_hw1 : k3_chk1 v1), (k3_dev23 v1) < nD := fun v1 k3_hw1 => k3_hw1.1.2.2.2.2.2.2.2.2.2.2.2.1
theorem k3_dev25_lt : ∀ (v1 : BitVec 32) (k3_hw1 : k3_chk1 v1), (k3_dev25 v1) < nD := fun v1 k3_hw1 => k3_hw1.1.2.2.2.2.2.2.2.2.2.2.2.2.1
theorem k3_dev27_lt : ∀ (v1 : BitVec 32) (k3_hw1 : k3_chk1 v1), (k3_dev27 v1) < nD := fun v1 k3_hw1 => k3_hw1.1.2.2.2.2.2.2.2.2.2.2.2.2.2.1
theorem k3_dev29_lt : ∀ (v1 : BitVec 32) (k3_hw1 : k3_chk1 v1), (k3_dev29 v1) < nD := fun v1 k3_hw1 => k3_hw1.1.2.2.2.2.2.2.2.2.2.2.2.2.2.2.1
theorem k3_dev31_lt : ∀ (v1 : BitVec 32) (k3_hw1 : k3_chk1 v1), (k3_dev31 v1) < nD := fun v1 k3_hw1 => k3_hw1.1.2.2.2.2.2.2.2.2.2.2.2.2.2.2.2.1
theorem k3_dev33_lt : ∀ (v1 : BitVec 32) (k3_hw1 : k3_chk1 v1), (k3_dev33 v1) < nD := fun v1 k3_hw1 => k3_hw1.1.2.2.2.2.2.2.2.2.2.2.2.2.2.2.2.2.1
theorem k3_dev35_lt : ∀ (v1 : BitVec 32) (k3_hw1 : k3_chk1 v1), (k3_dev35 v1) < nD := fun v1 k3_hw1 => k3_hw1.1.2.2.2.2.2.2.2.2.2.2.2.2.2.2.2.2.2.1
theorem k3_dev37_lt : ∀ (v1 : BitVec 32) (k3_hw1 : k3_chk1 v1), (k3_dev37 v1) < nD := fun v1 k3_hw1 => k3_hw1.1.2.2.2.2.2.2.2.2.2.2.2.2.2.2.2.2.2.2.1
theorem k3_dev39_lt : ∀ (v1 : BitVec 32) (k3_hw1 : k3_chk1 v1), (k3_dev39 v1) < nD := fun v1 k3_hw1 => k3_hw1.1.2.2.2.2.2.2.2.2.2.2.2.2.2.2.2.2.2.2.2.1
theorem k3_dev41_lt : ∀ (v1 : BitVec 32) (k3_hw1 : k3_chk1 v1), (k3_dev41 v1) < nD := fun v1 k3_hw1 => k3_hw1.1.2.2.2.2.2.2.2.2.2.2.2.2.2.2.2.2.2.2.2.2.1
theorem k3_dev43_lt : ∀ (v1 : BitVec 32) (k3_hw1 : k3_chk1 v1), (k3_dev43 v1) < nD := fun v1 k3_hw1 => k3_hw1.1.2.2.2.2.2.2.2.2.2.2.2.2.2.2.2.2.2.2.2.2.2.1
theorem k3_dev45_lt : ∀ (v1 : BitVec 32) (k3_hw1 : k3_chk1 v1), (k3_dev45 v1) < nD := fun v1 k3_hw1 => k3_hw1.1.2.2.2.2.2.2.2.2.2.2.2.2.2.2.2.2.2.2.2.2.2.2.1
theorem k3_dev47_lt : ∀ (v1 : BitVec 32) (k3_hw1 : k3_chk1 v1), (k3_dev47 v1) < nD := fun v1 k3_hw1 => k3_hw1.1.2.2.2.2.2.2.2.2.2.2.2.2.2.2.2.2.2.2.2.2.2.2.2.1
theorem k3_dev49_lt : ∀ (v1 : BitVec 32) (k3_hw1 : k3_chk1 v1), (k3_dev49 v1) < nD := fun v1 k3_hw1 => k3_hw1.1.2.2.2.2.2.2.2.2.2.2.2.2.2.2.2.2.2.2.2.2.2.2.2.2.1
theorem k3_dev51_lt : ∀ (v1 : BitVec 32) (k3_hw1 : k3_chk1 v1), (k3_dev51 v1) < nD := fun v1 k3_hw1 => k3_hw1.1.2.2.2.2.2.2.2.2.2.2.2.2.2.2.2.2.2.2.2.2.2.2.2.2.2.1
theorem k3_dev53_lt : ∀ (v1 : BitVec 32) (k3_hw1 : k3_chk1 v1), (k3_dev53 v1) < nD := fun v1 k3_hw1 => k3_hw1.1.2.2.2.2.2.2.2.2.2.2.2.2.2.2.2.2.2.2.2.2.2.2.2.2.2.2.1
theorem k3_dev55_lt : ∀ (v1 : BitVec 32) (k3_hw1 : k3_chk1 v1), (k3_dev55 v1) < nD := fun v1 k3_hw1 => k3_hw1.1.2.2.2.2.2.2.2.2.2.2.2.2.2.2.2.2.2.2.2.2.2.2.2.2.2.2.2.1
theorem k3_dev57_lt : ∀ (v1 : BitVec 32) (k3_hw1 : k3_chk1 v1), (k3_dev57 v1) < nD := fun v1 k3_hw1 => k3_hw1.1.2.2.2.2.2.2.2.2.2.2.2.2.2.2.2.2.2.2.2.2.2.2.2.2.2.2.2.2.1
theorem k3_dev59_lt : ∀ (v1 : BitVec 32) (k3_hw1 : k3_chk1 v1), (k3_dev59 v1) < nD := fun v1 k3_hw1 => k3_hw1.1.2.2.2.2.2.2.2.2.2.2.2.2.2.2.2.2.2.2.2.2.2.2.2.2.2.2.2.2.2.1
theorem k3_dev61_lt : ∀ (v1 : BitVec 32) (k3_hw1 : k3_chk1 v1), (k3_dev61 v1) < nD := fun v1 k3_hw1 => k3_hw1.1.2.2.2.2.2.2.2.2.2.2.2.2.2.2.2.2.2.2.2.2.2.2.2.2.2.2.2.2.2.2.1
theorem k3_dev63_lt : ∀ (v1 : BitVec 32) (k3_hw1 : k3_chk1 v1), (k3_dev63 v1) < nD := fun v1 k3_hw1 => k3_hw1.1.2.2.2.2.2.2.2.2.2.2.2.2.2.2.2.2.2.2.2.2.2.2.2.2.2.2.2.2.2.2.2
theorem k3_dev65_lt : ∀ (v1 : BitVec 32) (k3_hw1 : k3_chk1 v1), (k3_dev65 v1) < nD := fun v1 k3_hw1 => k3_hw1.2.1
theorem k3_dev67_lt : ∀ (v1 : BitVec 32) (k3_hw1 : k3_chk1 v1), (k3_dev67 v1) < nD := fun v1 k3_hw1 => k3_hw1.2.2.1
theorem k3_dev69_lt : ∀ (v1 : BitVec 32) (k3_hw1 : k3_chk1 v1), (k3_dev69 v1) < nD := fun v1 k3_hw1 => k3_hw1.2.2.2.1
theorem k3_dev71_lt : ∀ (v1 : BitVec 32) (k3_hw1 : k3_chk1 v1), (k3_dev71 v1) < nD := fun v1 k3_hw1 => k3_hw1.2.2.2.2.1
theorem k3_dev73_lt : ∀ (v1 : BitVec 32) (k3_hw1 : k3_chk1 v1), (k3_dev73 v1) < nD := fun v1 k3_hw1 => k3_hw1.2.2.2.2.2.1
theorem k3_dev75_lt : ∀ (v1 : BitVec 32) (k3_hw1 : k3_chk1 v1), (k3_dev75 v1) < nD := fun v1 k3_hw1 => k3_hw1.2.2.2.2.2.2.1
theorem k3_dev77_lt : ∀ (v1 : BitVec 32) (k3_hw1 : k3_chk1 v1), (k3_dev77 v1) < nD := fun v1 k3_hw1 => k3_hw1.2.2.2.2.2.2.2.1
theorem k3_dev79_lt : ∀ (v1 : BitVec 32) (k3_hw1 : k3_chk1 v1), (k3_dev79 v1) < nD := fun v1 k3_hw1 => k3_hw1.2.2.2.2.2.2.2.2.1
theorem k3_dev81_lt : ∀ (v1 : BitVec 32) (k3_hw1 : k3_chk1 v1), (k3_dev81 v1) < nD := fun v1 k3_hw1 => k3_hw1.2.2.2.2.2.2.2.2.2.1
theorem k3_dev83_lt : ∀ (v1 : BitVec 32) (k3_hw1 : k3_chk1 v1), (k3_dev83 v1) < nD := fun v1 k3_hw1 => k3_hw1.2.2.2.2.2.2.2.2.2.2.1
theorem k3_dev85_lt : ∀ (v1 : BitVec 32) (k3_hw1 : k3_chk1 v1), (k3_dev85 v1) < nD := fun v1 k3_hw1 => k3_hw1.2.2.2.2.2.2.2.2.2.2.2.1
theorem k3_dev87_lt : ∀ (v1 : BitVec 32) (k3_hw1 : k3_chk1 v1), (k3_dev87 v1) < nD := fun v1 k3_hw1 => k3_hw1.2.2.2.2.2.2.2.2.2.2.2.2.1
theorem k3_dev89_lt : ∀ (v1 : BitVec 32) (k3_hw1 : k3_chk1 v1), (k3_dev89 v1) < nD := fun v1 k3_hw1 => k3_hw1.2.2.2.2.2.2.2.2.2.2.2.2.2.1
theorem k3_dev91_lt : ∀ (v1 : BitVec 32) (k3_hw1 : k3_chk1 v1), (k3_dev91 v1) < nD := fun v1 k3_hw1 => k3_hw1.2.2.2.2.2.2.2.2.2.2.2.2.2.2.1
theorem k3_dev93_lt : ∀ (v1 : BitVec 32) (k3_hw1 : k3_chk1 v1), (k3_dev93 v1) < nD := fun v1 k3_hw1 => k3_hw1.2.2.2.2.2.2.2.2.2.2.2.2.2.2.2.1
theorem k3_dev95_lt : ∀ (v1 : BitVec 32) (k3_hw1 : k3_chk1 v1), (k3_dev95 v1) < nD := fun v1 k3_hw1 => k3_hw1.2.2.2.2.2.2.2.2.2.2.2.2.2.2.2.2.1
theorem k3_dev97_lt : ∀ (v1 : BitVec 32) (k3_hw1 : k3_chk1 v1), (k3_dev97 v1) < nD := fun v1 k3_hw1 => k3_hw1.2.2.2.2.2.2.2.2.2.2.2.2.2.2.2.2.2.1
theorem k3_dev99_lt : ∀ (v1 : BitVec 32) (k3_hw1 : k3_chk1 v1), (k3_dev99 v1) < nD := fun v1 k3_hw1 => k3_hw1.2.2.2.2.2.2.2.2.2.2.2.2.2.2.2.2.2.2.1
theorem k3_dev101_lt : ∀ (v1 : BitVec 32) (k3_hw1 : k3_chk1 v1), (k3_dev101 v1) < nD := fun v1 k3_hw1 => k3_hw1.2.2.2.2.2.2.2.2.2.2.2.2.2.2.2.2.2.2.2.1
theorem k3_dev103_lt : ∀ (v1 : BitVec 32) (k3_hw1 : k3_chk1 v1), (k3_dev103 v1) < nD := fun v1 k3_hw1 => k3_hw1.2.2.2.2.2.2.2.2.2.2.2.2.2.2.2.2.2.2.2.2.1
theorem k3_dev105_lt : ∀ (v1 : BitVec 32) (k3_hw1 : k3_chk1 v1), (k3_dev105 v1) < nD := fun v1 k3_hw1 => k3_hw1.2.2.2.2.2.2.2.2.2.2.2.2.2.2.2.2.2.2.2.2.2.1
theorem k3_dev107_lt : ∀ (v1 : BitVec 32) (k3_hw1 : k3_chk1 v1), (k3_dev107 v1) < nD := fun v1 k3_hw1 => k3_hw1.2.2.2.2.2.2.2.2.2.2.2.2.2.2.2.2.2.2.2.2.2.2.1
theorem k3_dev109_lt : ∀ (v1 : BitVec 32) (k3_hw1 : k3_chk1 v1), (k3_dev109 v1) < nD := fun v1 k3_hw1 => k3_hw1.2.2.2.2.2.2.2.2.2.2.2.2.2.2.2.2.2.2.2.2.2.2.2.1
theorem k3_dev111_lt : ∀ (v1 : BitVec 32) (k3_hw1 : k3_chk1 v1), (k3_dev111 v1) < nD := fun v1 k3_hw1 => k3_hw1.2.2.2.2.2.2.2.2.2.2.2.2.2.2.2.2.2.2.2.2.2.2.2.2.1
theorem k3_dev113_lt : ∀ (v1 : BitVec 32) (k3_hw1 : k3_chk1 v1), (k3_dev113 v1) < nD := fun v1 k3_hw1 => k3_hw1.2.2.2.2.2.2.2.2.2.2.2.2.2.2.2.2.2.2.2.2.2.2.2.2.2.1
theorem k3_dev115_lt : ∀ (v1 : BitVec 32) (k3_hw1 : k3_chk1 v1), (k3_dev115 v1) < nD := fun v1 k3_hw1 => k3_hw1.2.2.2.2.2.2.2.2.2.2.2.2.2.2.2.2.2.2.2.2.2.2.2.2.2.2.1
theorem k3_dev117_lt : ∀ (v1 : BitVec 32) (k3_hw1 : k3_chk1 v1), (k3_dev117 v1) < nD := fun v1 k3_hw1 => k3_hw1.2.2.2.2.2.2.2.2.2.2.2.2.2.2.2.2.2.2.2.2.2.2.2.2.2.2.2.1
theorem k3_dev119_lt : ∀ (v1 : BitVec 32) (k3_hw1 : k3_chk1 v1), (k3_dev119 v1) < nD := fun v1 k3_hw1 => k3_hw1.2.2.2.2.2.2.2.2.2.2.2.2.2.2.2.2.2.2.2.2.2.2.2.2.2.2.2.2.1
theorem k3_dev121_lt : ∀ (v1 : BitVec 32) (k3_hw1 : k3_chk1 v1), (k3_dev121 v1) < nD := fun v1 k3_hw1 => k3_hw1.2.2.2.2.2.2.2.2.2.2.2.2.2.2.2.2.2.2.2.2.2.2.2.2.2.2.2.2.2.1
theorem k3_dev123_lt : ∀ (v1 : BitVec 32) (k3_hw1 : k3_chk1 v1), (k3_dev123 v1) < nD := fun v1 k3_hw1 => k3_hw1.2.2.2.2.2.2.2.2.2.2.2.2.2.2.2.2.2.2.2.2.2.2.2.2.2.2.2.2.2.2.1
theorem k3_dev125_lt : ∀ (v1 : BitVec 32) (k3_hw1 : k3_chk1 v1), (k3_dev125 v1) < nD := fun v1 k3_hw1 => k3_hw1.2.2.2.2.2.2.2.2.2.2.2.2.2.2.2.2.2.2.2.2.2.2.2.2.2.2.2.2.2.2.2

def k3_dev126 (v2 : BitVec 32) : Nat :=
  let c0_i32_5335 : BitVec 32 := 0#32
  let c1_i32_5334 : BitVec 32 := 1#32
  let v5379 : BitVec 32 := Scalar.muli v2 c1_i32_5334
  let v5380 : BitVec 32 := Scalar.addi c0_i32_5335 v5379
  v5380.toNat

def k3_chk2_0 (v2 : BitVec 32) : Prop :=
  ((k3_dev2 v2) < nD) ∧
  ((k3_dev4 v2) < nD) ∧
  ((k3_dev6 v2) < nD) ∧
  ((k3_dev8 v2) < nD) ∧
  ((k3_dev10 v2) < nD) ∧
  ((k3_dev12 v2) < nD) ∧
  ((k3_dev14 v2) < nD) ∧
  ((k3_dev16 v2) < nD) ∧
  ((k3_dev18 v2) < nD) ∧
  ((k3_dev20 v2) < nD) ∧
  ((k3_dev22 v2) < nD) ∧
  ((k3_dev24 v2) < nD) ∧
  ((k3_dev26 v2) < nD) ∧
  ((k3_dev28 v2) < nD) ∧
  ((k3_dev30 v2) < nD) ∧
  ((k3_dev32 v2) < nD) ∧
  ((k3_dev34 v2) < nD) ∧
  ((k3_dev36 v2) < nD) ∧
  ((k3_dev38 v2) < nD) ∧
  ((k3_dev40 v2) < nD) ∧
  ((k3_dev42 v2) < nD) ∧
  ((k3_dev44 v2) < nD) ∧
  ((k3_dev46 v2) < nD) ∧
  ((k3_dev48 v2) < nD) ∧
  ((k3_dev50 v2) < nD) ∧
  ((k3_dev52 v2) < nD) ∧
  ((k3_dev54 v2) < nD) ∧
  ((k3_dev56 v2) < nD) ∧
  ((k3_dev58 v2) < nD) ∧
  ((k3_dev60 v2) < nD) ∧
  ((k3_dev62 v2) < nD) ∧
  ((k3_dev64 v2) < nD)
def k3_chk2_1 (v2 : BitVec 32) : Prop :=
  ((k3_dev66 v2) < nD) ∧
  ((k3_dev68 v2) < nD) ∧
  ((k3_dev70 v2) < nD) ∧
  ((k3_dev72 v2) < nD) ∧
  ((k3_dev74 v2) < nD) ∧
  ((k3_dev76 v2) < nD) ∧
  ((k3_dev78 v2) < nD) ∧
  ((k3_dev80 v2) < nD) ∧
  ((k3_dev82 v2) < nD) ∧
  ((k3_dev84 v2) < nD) ∧
  ((k3_dev86 v2) < nD) ∧
  ((k3_dev88 v2) < nD) ∧
  ((k3_dev90 v2) < nD) ∧
  ((k3_dev92 v2) < nD) ∧
  ((k3_dev94 v2) < nD) ∧
  ((k3_dev96 v2) < nD) ∧
  ((k3_dev98 v2) < nD) ∧
  ((k3_dev100 v2) < nD) ∧
  ((k3_dev102 v2) < nD) ∧
  ((k3_dev104 v2) < nD) ∧
  ((k3_dev106 v2) < nD) ∧
  ((k3_dev108 v2) < nD) ∧
  ((k3_dev110 v2) < nD) ∧
  ((k3_dev112 v2) < nD) ∧
  ((k3_dev114 v2) < nD) ∧
  ((k3_dev116 v2) < nD) ∧
  ((k3_dev118 v2) < nD) ∧
  ((k3_dev120 v2) < nD) ∧
  ((k3_dev122 v2) < nD) ∧
  ((k3_dev124 v2) < nD) ∧
  ((k3_dev126 v2) < nD)
def k3_chk2 (v2 : BitVec 32) : Prop :=
  k3_chk2_0 v2 ∧
  k3_chk2_1 v2
theorem k3_dev2_lt : ∀ (v2 : BitVec 32) (k3_hw2 : k3_chk2 v2), (k3_dev2 v2) < nD := fun v2 k3_hw2 => k3_hw2.1.1
theorem k3_dev4_lt : ∀ (v2 : BitVec 32) (k3_hw2 : k3_chk2 v2), (k3_dev4 v2) < nD := fun v2 k3_hw2 => k3_hw2.1.2.1
theorem k3_dev6_lt : ∀ (v2 : BitVec 32) (k3_hw2 : k3_chk2 v2), (k3_dev6 v2) < nD := fun v2 k3_hw2 => k3_hw2.1.2.2.1
theorem k3_dev8_lt : ∀ (v2 : BitVec 32) (k3_hw2 : k3_chk2 v2), (k3_dev8 v2) < nD := fun v2 k3_hw2 => k3_hw2.1.2.2.2.1
theorem k3_dev10_lt : ∀ (v2 : BitVec 32) (k3_hw2 : k3_chk2 v2), (k3_dev10 v2) < nD := fun v2 k3_hw2 => k3_hw2.1.2.2.2.2.1
theorem k3_dev12_lt : ∀ (v2 : BitVec 32) (k3_hw2 : k3_chk2 v2), (k3_dev12 v2) < nD := fun v2 k3_hw2 => k3_hw2.1.2.2.2.2.2.1
theorem k3_dev14_lt : ∀ (v2 : BitVec 32) (k3_hw2 : k3_chk2 v2), (k3_dev14 v2) < nD := fun v2 k3_hw2 => k3_hw2.1.2.2.2.2.2.2.1
theorem k3_dev16_lt : ∀ (v2 : BitVec 32) (k3_hw2 : k3_chk2 v2), (k3_dev16 v2) < nD := fun v2 k3_hw2 => k3_hw2.1.2.2.2.2.2.2.2.1
theorem k3_dev18_lt : ∀ (v2 : BitVec 32) (k3_hw2 : k3_chk2 v2), (k3_dev18 v2) < nD := fun v2 k3_hw2 => k3_hw2.1.2.2.2.2.2.2.2.2.1
theorem k3_dev20_lt : ∀ (v2 : BitVec 32) (k3_hw2 : k3_chk2 v2), (k3_dev20 v2) < nD := fun v2 k3_hw2 => k3_hw2.1.2.2.2.2.2.2.2.2.2.1
theorem k3_dev22_lt : ∀ (v2 : BitVec 32) (k3_hw2 : k3_chk2 v2), (k3_dev22 v2) < nD := fun v2 k3_hw2 => k3_hw2.1.2.2.2.2.2.2.2.2.2.2.1
theorem k3_dev24_lt : ∀ (v2 : BitVec 32) (k3_hw2 : k3_chk2 v2), (k3_dev24 v2) < nD := fun v2 k3_hw2 => k3_hw2.1.2.2.2.2.2.2.2.2.2.2.2.1
theorem k3_dev26_lt : ∀ (v2 : BitVec 32) (k3_hw2 : k3_chk2 v2), (k3_dev26 v2) < nD := fun v2 k3_hw2 => k3_hw2.1.2.2.2.2.2.2.2.2.2.2.2.2.1
theorem k3_dev28_lt : ∀ (v2 : BitVec 32) (k3_hw2 : k3_chk2 v2), (k3_dev28 v2) < nD := fun v2 k3_hw2 => k3_hw2.1.2.2.2.2.2.2.2.2.2.2.2.2.2.1
theorem k3_dev30_lt : ∀ (v2 : BitVec 32) (k3_hw2 : k3_chk2 v2), (k3_dev30 v2) < nD := fun v2 k3_hw2 => k3_hw2.1.2.2.2.2.2.2.2.2.2.2.2.2.2.2.1
theorem k3_dev32_lt : ∀ (v2 : BitVec 32) (k3_hw2 : k3_chk2 v2), (k3_dev32 v2) < nD := fun v2 k3_hw2 => k3_hw2.1.2.2.2.2.2.2.2.2.2.2.2.2.2.2.2.1
theorem k3_dev34_lt : ∀ (v2 : BitVec 32) (k3_hw2 : k3_chk2 v2), (k3_dev34 v2) < nD := fun v2 k3_hw2 => k3_hw2.1.2.2.2.2.2.2.2.2.2.2.2.2.2.2.2.2.1
theorem k3_dev36_lt : ∀ (v2 : BitVec 32) (k3_hw2 : k3_chk2 v2), (k3_dev36 v2) < nD := fun v2 k3_hw2 => k3_hw2.1.2.2.2.2.2.2.2.2.2.2.2.2.2.2.2.2.2.1
theorem k3_dev38_lt : ∀ (v2 : BitVec 32) (k3_hw2 : k3_chk2 v2), (k3_dev38 v2) < nD := fun v2 k3_hw2 => k3_hw2.1.2.2.2.2.2.2.2.2.2.2.2.2.2.2.2.2.2.2.1
theorem k3_dev40_lt : ∀ (v2 : BitVec 32) (k3_hw2 : k3_chk2 v2), (k3_dev40 v2) < nD := fun v2 k3_hw2 => k3_hw2.1.2.2.2.2.2.2.2.2.2.2.2.2.2.2.2.2.2.2.2.1
theorem k3_dev42_lt : ∀ (v2 : BitVec 32) (k3_hw2 : k3_chk2 v2), (k3_dev42 v2) < nD := fun v2 k3_hw2 => k3_hw2.1.2.2.2.2.2.2.2.2.2.2.2.2.2.2.2.2.2.2.2.2.1
theorem k3_dev44_lt : ∀ (v2 : BitVec 32) (k3_hw2 : k3_chk2 v2), (k3_dev44 v2) < nD := fun v2 k3_hw2 => k3_hw2.1.2.2.2.2.2.2.2.2.2.2.2.2.2.2.2.2.2.2.2.2.2.1
theorem k3_dev46_lt : ∀ (v2 : BitVec 32) (k3_hw2 : k3_chk2 v2), (k3_dev46 v2) < nD := fun v2 k3_hw2 => k3_hw2.1.2.2.2.2.2.2.2.2.2.2.2.2.2.2.2.2.2.2.2.2.2.2.1
theorem k3_dev48_lt : ∀ (v2 : BitVec 32) (k3_hw2 : k3_chk2 v2), (k3_dev48 v2) < nD := fun v2 k3_hw2 => k3_hw2.1.2.2.2.2.2.2.2.2.2.2.2.2.2.2.2.2.2.2.2.2.2.2.2.1
theorem k3_dev50_lt : ∀ (v2 : BitVec 32) (k3_hw2 : k3_chk2 v2), (k3_dev50 v2) < nD := fun v2 k3_hw2 => k3_hw2.1.2.2.2.2.2.2.2.2.2.2.2.2.2.2.2.2.2.2.2.2.2.2.2.2.1
theorem k3_dev52_lt : ∀ (v2 : BitVec 32) (k3_hw2 : k3_chk2 v2), (k3_dev52 v2) < nD := fun v2 k3_hw2 => k3_hw2.1.2.2.2.2.2.2.2.2.2.2.2.2.2.2.2.2.2.2.2.2.2.2.2.2.2.1
theorem k3_dev54_lt : ∀ (v2 : BitVec 32) (k3_hw2 : k3_chk2 v2), (k3_dev54 v2) < nD := fun v2 k3_hw2 => k3_hw2.1.2.2.2.2.2.2.2.2.2.2.2.2.2.2.2.2.2.2.2.2.2.2.2.2.2.2.1
theorem k3_dev56_lt : ∀ (v2 : BitVec 32) (k3_hw2 : k3_chk2 v2), (k3_dev56 v2) < nD := fun v2 k3_hw2 => k3_hw2.1.2.2.2.2.2.2.2.2.2.2.2.2.2.2.2.2.2.2.2.2.2.2.2.2.2.2.2.1
theorem k3_dev58_lt : ∀ (v2 : BitVec 32) (k3_hw2 : k3_chk2 v2), (k3_dev58 v2) < nD := fun v2 k3_hw2 => k3_hw2.1.2.2.2.2.2.2.2.2.2.2.2.2.2.2.2.2.2.2.2.2.2.2.2.2.2.2.2.2.1
theorem k3_dev60_lt : ∀ (v2 : BitVec 32) (k3_hw2 : k3_chk2 v2), (k3_dev60 v2) < nD := fun v2 k3_hw2 => k3_hw2.1.2.2.2.2.2.2.2.2.2.2.2.2.2.2.2.2.2.2.2.2.2.2.2.2.2.2.2.2.2.1
theorem k3_dev62_lt : ∀ (v2 : BitVec 32) (k3_hw2 : k3_chk2 v2), (k3_dev62 v2) < nD := fun v2 k3_hw2 => k3_hw2.1.2.2.2.2.2.2.2.2.2.2.2.2.2.2.2.2.2.2.2.2.2.2.2.2.2.2.2.2.2.2.1
theorem k3_dev64_lt : ∀ (v2 : BitVec 32) (k3_hw2 : k3_chk2 v2), (k3_dev64 v2) < nD := fun v2 k3_hw2 => k3_hw2.1.2.2.2.2.2.2.2.2.2.2.2.2.2.2.2.2.2.2.2.2.2.2.2.2.2.2.2.2.2.2.2
theorem k3_dev66_lt : ∀ (v2 : BitVec 32) (k3_hw2 : k3_chk2 v2), (k3_dev66 v2) < nD := fun v2 k3_hw2 => k3_hw2.2.1
theorem k3_dev68_lt : ∀ (v2 : BitVec 32) (k3_hw2 : k3_chk2 v2), (k3_dev68 v2) < nD := fun v2 k3_hw2 => k3_hw2.2.2.1
theorem k3_dev70_lt : ∀ (v2 : BitVec 32) (k3_hw2 : k3_chk2 v2), (k3_dev70 v2) < nD := fun v2 k3_hw2 => k3_hw2.2.2.2.1
theorem k3_dev72_lt : ∀ (v2 : BitVec 32) (k3_hw2 : k3_chk2 v2), (k3_dev72 v2) < nD := fun v2 k3_hw2 => k3_hw2.2.2.2.2.1
theorem k3_dev74_lt : ∀ (v2 : BitVec 32) (k3_hw2 : k3_chk2 v2), (k3_dev74 v2) < nD := fun v2 k3_hw2 => k3_hw2.2.2.2.2.2.1
theorem k3_dev76_lt : ∀ (v2 : BitVec 32) (k3_hw2 : k3_chk2 v2), (k3_dev76 v2) < nD := fun v2 k3_hw2 => k3_hw2.2.2.2.2.2.2.1
theorem k3_dev78_lt : ∀ (v2 : BitVec 32) (k3_hw2 : k3_chk2 v2), (k3_dev78 v2) < nD := fun v2 k3_hw2 => k3_hw2.2.2.2.2.2.2.2.1
theorem k3_dev80_lt : ∀ (v2 : BitVec 32) (k3_hw2 : k3_chk2 v2), (k3_dev80 v2) < nD := fun v2 k3_hw2 => k3_hw2.2.2.2.2.2.2.2.2.1
theorem k3_dev82_lt : ∀ (v2 : BitVec 32) (k3_hw2 : k3_chk2 v2), (k3_dev82 v2) < nD := fun v2 k3_hw2 => k3_hw2.2.2.2.2.2.2.2.2.2.1
theorem k3_dev84_lt : ∀ (v2 : BitVec 32) (k3_hw2 : k3_chk2 v2), (k3_dev84 v2) < nD := fun v2 k3_hw2 => k3_hw2.2.2.2.2.2.2.2.2.2.2.1
theorem k3_dev86_lt : ∀ (v2 : BitVec 32) (k3_hw2 : k3_chk2 v2), (k3_dev86 v2) < nD := fun v2 k3_hw2 => k3_hw2.2.2.2.2.2.2.2.2.2.2.2.1
theorem k3_dev88_lt : ∀ (v2 : BitVec 32) (k3_hw2 : k3_chk2 v2), (k3_dev88 v2) < nD := fun v2 k3_hw2 => k3_hw2.2.2.2.2.2.2.2.2.2.2.2.2.1
theorem k3_dev90_lt : ∀ (v2 : BitVec 32) (k3_hw2 : k3_chk2 v2), (k3_dev90 v2) < nD := fun v2 k3_hw2 => k3_hw2.2.2.2.2.2.2.2.2.2.2.2.2.2.1
theorem k3_dev92_lt : ∀ (v2 : BitVec 32) (k3_hw2 : k3_chk2 v2), (k3_dev92 v2) < nD := fun v2 k3_hw2 => k3_hw2.2.2.2.2.2.2.2.2.2.2.2.2.2.2.1
theorem k3_dev94_lt : ∀ (v2 : BitVec 32) (k3_hw2 : k3_chk2 v2), (k3_dev94 v2) < nD := fun v2 k3_hw2 => k3_hw2.2.2.2.2.2.2.2.2.2.2.2.2.2.2.2.1
theorem k3_dev96_lt : ∀ (v2 : BitVec 32) (k3_hw2 : k3_chk2 v2), (k3_dev96 v2) < nD := fun v2 k3_hw2 => k3_hw2.2.2.2.2.2.2.2.2.2.2.2.2.2.2.2.2.1
theorem k3_dev98_lt : ∀ (v2 : BitVec 32) (k3_hw2 : k3_chk2 v2), (k3_dev98 v2) < nD := fun v2 k3_hw2 => k3_hw2.2.2.2.2.2.2.2.2.2.2.2.2.2.2.2.2.2.1
theorem k3_dev100_lt : ∀ (v2 : BitVec 32) (k3_hw2 : k3_chk2 v2), (k3_dev100 v2) < nD := fun v2 k3_hw2 => k3_hw2.2.2.2.2.2.2.2.2.2.2.2.2.2.2.2.2.2.2.1
theorem k3_dev102_lt : ∀ (v2 : BitVec 32) (k3_hw2 : k3_chk2 v2), (k3_dev102 v2) < nD := fun v2 k3_hw2 => k3_hw2.2.2.2.2.2.2.2.2.2.2.2.2.2.2.2.2.2.2.2.1
theorem k3_dev104_lt : ∀ (v2 : BitVec 32) (k3_hw2 : k3_chk2 v2), (k3_dev104 v2) < nD := fun v2 k3_hw2 => k3_hw2.2.2.2.2.2.2.2.2.2.2.2.2.2.2.2.2.2.2.2.2.1
theorem k3_dev106_lt : ∀ (v2 : BitVec 32) (k3_hw2 : k3_chk2 v2), (k3_dev106 v2) < nD := fun v2 k3_hw2 => k3_hw2.2.2.2.2.2.2.2.2.2.2.2.2.2.2.2.2.2.2.2.2.2.1
theorem k3_dev108_lt : ∀ (v2 : BitVec 32) (k3_hw2 : k3_chk2 v2), (k3_dev108 v2) < nD := fun v2 k3_hw2 => k3_hw2.2.2.2.2.2.2.2.2.2.2.2.2.2.2.2.2.2.2.2.2.2.2.1
theorem k3_dev110_lt : ∀ (v2 : BitVec 32) (k3_hw2 : k3_chk2 v2), (k3_dev110 v2) < nD := fun v2 k3_hw2 => k3_hw2.2.2.2.2.2.2.2.2.2.2.2.2.2.2.2.2.2.2.2.2.2.2.2.1
theorem k3_dev112_lt : ∀ (v2 : BitVec 32) (k3_hw2 : k3_chk2 v2), (k3_dev112 v2) < nD := fun v2 k3_hw2 => k3_hw2.2.2.2.2.2.2.2.2.2.2.2.2.2.2.2.2.2.2.2.2.2.2.2.2.1
theorem k3_dev114_lt : ∀ (v2 : BitVec 32) (k3_hw2 : k3_chk2 v2), (k3_dev114 v2) < nD := fun v2 k3_hw2 => k3_hw2.2.2.2.2.2.2.2.2.2.2.2.2.2.2.2.2.2.2.2.2.2.2.2.2.2.1
theorem k3_dev116_lt : ∀ (v2 : BitVec 32) (k3_hw2 : k3_chk2 v2), (k3_dev116 v2) < nD := fun v2 k3_hw2 => k3_hw2.2.2.2.2.2.2.2.2.2.2.2.2.2.2.2.2.2.2.2.2.2.2.2.2.2.2.1
theorem k3_dev118_lt : ∀ (v2 : BitVec 32) (k3_hw2 : k3_chk2 v2), (k3_dev118 v2) < nD := fun v2 k3_hw2 => k3_hw2.2.2.2.2.2.2.2.2.2.2.2.2.2.2.2.2.2.2.2.2.2.2.2.2.2.2.2.1
theorem k3_dev120_lt : ∀ (v2 : BitVec 32) (k3_hw2 : k3_chk2 v2), (k3_dev120 v2) < nD := fun v2 k3_hw2 => k3_hw2.2.2.2.2.2.2.2.2.2.2.2.2.2.2.2.2.2.2.2.2.2.2.2.2.2.2.2.2.1
theorem k3_dev122_lt : ∀ (v2 : BitVec 32) (k3_hw2 : k3_chk2 v2), (k3_dev122 v2) < nD := fun v2 k3_hw2 => k3_hw2.2.2.2.2.2.2.2.2.2.2.2.2.2.2.2.2.2.2.2.2.2.2.2.2.2.2.2.2.2.1
theorem k3_dev124_lt : ∀ (v2 : BitVec 32) (k3_hw2 : k3_chk2 v2), (k3_dev124 v2) < nD := fun v2 k3_hw2 => k3_hw2.2.2.2.2.2.2.2.2.2.2.2.2.2.2.2.2.2.2.2.2.2.2.2.2.2.2.2.2.2.2.1
theorem k3_dev126_lt : ∀ (v2 : BitVec 32) (k3_hw2 : k3_chk2 v2), (k3_dev126 v2) < nD := fun v2 k3_hw2 => k3_hw2.2.2.2.2.2.2.2.2.2.2.2.2.2.2.2.2.2.2.2.2.2.2.2.2.2.2.2.2.2.2.2

abbrev stage3_0 : Fin 1 → Memref sig .tc .smem S4 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S2048x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := .none

def k5_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k5_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k5_off1 (v0 : BitVec 32) : Fin 2 → Nat :=
  let c32_i32 : BitVec 32 := 32#32
  let v8 : BitVec 32 := Scalar.muli v0 c32_i32
  let v9 : Index := Scalar.indexCast v8
  let c0_4 : Index := 0#32
  ![v9.toNat, 0]

def k5_off2 (v0 : BitVec 32) : Fin 2 → Nat :=
  let c1024_i32 : BitVec 32 := 1024#32
  let c32_i32_8 : BitVec 32 := 32#32
  let v15 : BitVec 32 := Scalar.muli v0 c32_i32_8
  let v16 : BitVec 32 := Scalar.addi c1024_i32 v15
  let v17 : Index := Scalar.indexCast v16
  let c0_9 : Index := 0#32
  ![v17.toNat, 0]
def k5_dev3 (v1 : BitVec 32) : Nat :=
  let c0_i32_18 : BitVec 32 := 0#32
  let c1_i32_17 : BitVec 32 := 1#32
  let v23 : BitVec 32 := Scalar.muli v1 c1_i32_17
  let v24 : BitVec 32 := Scalar.addi c0_i32_18 v23
  v24.toNat
def k5_dev4 (v2 : BitVec 32) : Nat :=
  let c0_i32_28 : BitVec 32 := 0#32
  let c1_i32_27 : BitVec 32 := 1#32
  let v33 : BitVec 32 := Scalar.muli v2 c1_i32_27
  let v34 : BitVec 32 := Scalar.addi c0_i32_28 v33
  v34.toNat
def k5_off3 (v0 : BitVec 32) (c0_i32_71 : BitVec 32) : Fin 2 → Nat :=
  let v71 : BitVec 32 := Scalar.subi v0 c0_i32_71
  let c1_i32_72 : BitVec 32 := 1#32
  let v72 : BitVec 32 := Scalar.subi v71 c1_i32_72
  let c32_i32_73 : BitVec 32 := 32#32
  let c0_i32_74 : BitVec 32 := 0#32
  let v73 : BitVec 1 := Scalar.cmpi .eq c32_i32_73 c0_i32_74
  let c1_i32_75 : BitVec 32 := 1#32
  let v74 : BitVec 32 := Scalar.select v73 c1_i32_75 c32_i32_73
  let v75 : BitVec 32 := Scalar.remsi v72 v74
  let c0_i32_77 : BitVec 32 := 0#32
  let v77 : BitVec 1 := Scalar.cmpi .slt v75 c0_i32_77
  let c0_i32_78 : BitVec 32 := 0#32
  let v78 : BitVec 1 := Scalar.cmpi .slt v74 c0_i32_78
  let v79 : BitVec 1 := Scalar.xori v77 v78
  let c0_i32_76 : BitVec 32 := 0#32
  let v76 : BitVec 1 := Scalar.cmpi .ne v75 c0_i32_76
  let v80 : BitVec 1 := Scalar.andi v79 v76
  let v81 : BitVec 32 := Scalar.addi v75 v74
  let v82 : BitVec 32 := Scalar.select v80 v81 v75
  let c32_i32_90 : BitVec 32 := 32#32
  let v97 : BitVec 32 := Scalar.muli v82 c32_i32_90
  let v98 : Index := Scalar.indexCast v97
  let c0_91 : Index := 0#32
  ![v98.toNat, 0]
def k5_off4 (v0 : BitVec 32) (c0_i32_79 : BitVec 32) : Fin 2 → Nat :=
  let c1024_i32_99 : BitVec 32 := 1024#32
  let v83 : BitVec 32 := Scalar.addi v0 c0_i32_79
  let c1_i32_80 : BitVec 32 := 1#32
  let v84 : BitVec 32 := Scalar.addi v83 c1_i32_80
  let c32_i32_81 : BitVec 32 := 32#32
  let c0_i32_82 : BitVec 32 := 0#32
  let v85 : BitVec 1 := Scalar.cmpi .eq c32_i32_81 c0_i32_82
  let c1_i32_83 : BitVec 32 := 1#32
  let v86 : BitVec 32 := Scalar.select v85 c1_i32_83 c32_i32_81
  let v87 : BitVec 32 := Scalar.remsi v84 v86
  let c0_i32_85 : BitVec 32 := 0#32
  let v89 : BitVec 1 := Scalar.cmpi .slt v87 c0_i32_85
  let c0_i32_86 : BitVec 32 := 0#32
  let v90 : BitVec 1 := Scalar.cmpi .slt v86 c0_i32_86
  let v91 : BitVec 1 := Scalar.xori v89 v90
  let c0_i32_84 : BitVec 32 := 0#32
  let v88 : BitVec 1 := Scalar.cmpi .ne v87 c0_i32_84
  let v92 : BitVec 1 := Scalar.andi v91 v88
  let v93 : BitVec 32 := Scalar.addi v87 v86
  let v94 : BitVec 32 := Scalar.select v92 v93 v87
  let c32_i32_98 : BitVec 32 := 32#32
  let v107 : BitVec 32 := Scalar.muli v94 c32_i32_98
  let v108 : BitVec 32 := Scalar.addi c1024_i32_99 v107
  let v109 : Index := Scalar.indexCast v108
  let c0_100 : Index := 0#32
  ![v109.toNat, 0]
def k5_dev5 (v1 : BitVec 32) : Nat :=
  let c0_i32_109 : BitVec 32 := 0#32
  let c1_i32_108 : BitVec 32 := 1#32
  let v116 : BitVec 32 := Scalar.muli v1 c1_i32_108
  let v117 : BitVec 32 := Scalar.addi c0_i32_109 v116
  v117.toNat
def k5_dev6 (v2 : BitVec 32) : Nat :=
  let c0_i32_119 : BitVec 32 := 0#32
  let c1_i32_118 : BitVec 32 := 1#32
  let v126 : BitVec 32 := Scalar.muli v2 c1_i32_118
  let v127 : BitVec 32 := Scalar.addi c0_i32_119 v126
  v127.toNat
def k5_dev7 (v1 : BitVec 32) : Nat :=
  let c0_i32_199 : BitVec 32 := 0#32
  let c1_i32_198 : BitVec 32 := 1#32
  let v209 : BitVec 32 := Scalar.muli v1 c1_i32_198
  let v210 : BitVec 32 := Scalar.addi c0_i32_199 v209
  v210.toNat
def k5_dev8 (v2 : BitVec 32) : Nat :=
  let c0_i32_209 : BitVec 32 := 0#32
  let c1_i32_208 : BitVec 32 := 1#32
  let v219 : BitVec 32 := Scalar.muli v2 c1_i32_208
  let v220 : BitVec 32 := Scalar.addi c0_i32_209 v219
  v220.toNat
def k5_dev9 (v1 : BitVec 32) : Nat :=
  let c0_i32_289 : BitVec 32 := 0#32
  let c1_i32_288 : BitVec 32 := 1#32
  let v302 : BitVec 32 := Scalar.muli v1 c1_i32_288
  let v303 : BitVec 32 := Scalar.addi c0_i32_289 v302
  v303.toNat
def k5_dev10 (v2 : BitVec 32) : Nat :=
  let c0_i32_299 : BitVec 32 := 0#32
  let c1_i32_298 : BitVec 32 := 1#32
  let v312 : BitVec 32 := Scalar.muli v2 c1_i32_298
  let v313 : BitVec 32 := Scalar.addi c0_i32_299 v312
  v313.toNat
def k5_dev11 (v1 : BitVec 32) : Nat :=
  let c0_i32_379 : BitVec 32 := 0#32
  let c1_i32_378 : BitVec 32 := 1#32
  let v395 : BitVec 32 := Scalar.muli v1 c1_i32_378
  let v396 : BitVec 32 := Scalar.addi c0_i32_379 v395
  v396.toNat
def k5_dev12 (v2 : BitVec 32) : Nat :=
  let c0_i32_389 : BitVec 32 := 0#32
  let c1_i32_388 : BitVec 32 := 1#32
  let v405 : BitVec 32 := Scalar.muli v2 c1_i32_388
  let v406 : BitVec 32 := Scalar.addi c0_i32_389 v405
  v406.toNat
def k5_dev13 (v1 : BitVec 32) : Nat :=
  let c0_i32_469 : BitVec 32 := 0#32
  let c1_i32_468 : BitVec 32 := 1#32
  let v488 : BitVec 32 := Scalar.muli v1 c1_i32_468
  let v489 : BitVec 32 := Scalar.addi c0_i32_469 v488
  v489.toNat
def k5_dev14 (v2 : BitVec 32) : Nat :=
  let c0_i32_479 : BitVec 32 := 0#32
  let c1_i32_478 : BitVec 32 := 1#32
  let v498 : BitVec 32 := Scalar.muli v2 c1_i32_478
  let v499 : BitVec 32 := Scalar.addi c0_i32_479 v498
  v499.toNat
def k5_dev15 (v1 : BitVec 32) : Nat :=
  let c0_i32_559 : BitVec 32 := 0#32
  let c1_i32_558 : BitVec 32 := 1#32
  let v581 : BitVec 32 := Scalar.muli v1 c1_i32_558
  let v582 : BitVec 32 := Scalar.addi c0_i32_559 v581
  v582.toNat
def k5_dev16 (v2 : BitVec 32) : Nat :=
  let c0_i32_569 : BitVec 32 := 0#32
  let c1_i32_568 : BitVec 32 := 1#32
  let v591 : BitVec 32 := Scalar.muli v2 c1_i32_568
  let v592 : BitVec 32 := Scalar.addi c0_i32_569 v591
  v592.toNat
def k5_dev17 (v1 : BitVec 32) : Nat :=
  let c0_i32_649 : BitVec 32 := 0#32
  let c1_i32_648 : BitVec 32 := 1#32
  let v674 : BitVec 32 := Scalar.muli v1 c1_i32_648
  let v675 : BitVec 32 := Scalar.addi c0_i32_649 v674
  v675.toNat
def k5_dev18 (v2 : BitVec 32) : Nat :=
  let c0_i32_659 : BitVec 32 := 0#32
  let c1_i32_658 : BitVec 32 := 1#32
  let v684 : BitVec 32 := Scalar.muli v2 c1_i32_658
  let v685 : BitVec 32 := Scalar.addi c0_i32_659 v684
  v685.toNat
def k5_dev19 (v1 : BitVec 32) : Nat :=
  let c0_i32_739 : BitVec 32 := 0#32
  let c1_i32_738 : BitVec 32 := 1#32
  let v767 : BitVec 32 := Scalar.muli v1 c1_i32_738
  let v768 : BitVec 32 := Scalar.addi c0_i32_739 v767
  v768.toNat
def k5_dev20 (v2 : BitVec 32) : Nat :=
  let c0_i32_749 : BitVec 32 := 0#32
  let c1_i32_748 : BitVec 32 := 1#32
  let v777 : BitVec 32 := Scalar.muli v2 c1_i32_748
  let v778 : BitVec 32 := Scalar.addi c0_i32_749 v777
  v778.toNat
def k5_dev21 (v1 : BitVec 32) : Nat :=
  let c0_i32_829 : BitVec 32 := 0#32
  let c1_i32_828 : BitVec 32 := 1#32
  let v860 : BitVec 32 := Scalar.muli v1 c1_i32_828
  let v861 : BitVec 32 := Scalar.addi c0_i32_829 v860
  v861.toNat
def k5_dev22 (v2 : BitVec 32) : Nat :=
  let c0_i32_839 : BitVec 32 := 0#32
  let c1_i32_838 : BitVec 32 := 1#32
  let v870 : BitVec 32 := Scalar.muli v2 c1_i32_838
  let v871 : BitVec 32 := Scalar.addi c0_i32_839 v870
  v871.toNat
def k5_dev23 (v1 : BitVec 32) : Nat :=
  let c0_i32_919 : BitVec 32 := 0#32
  let c1_i32_918 : BitVec 32 := 1#32
  let v953 : BitVec 32 := Scalar.muli v1 c1_i32_918
  let v954 : BitVec 32 := Scalar.addi c0_i32_919 v953
  v954.toNat
def k5_dev24 (v2 : BitVec 32) : Nat :=
  let c0_i32_929 : BitVec 32 := 0#32
  let c1_i32_928 : BitVec 32 := 1#32
  let v963 : BitVec 32 := Scalar.muli v2 c1_i32_928
  let v964 : BitVec 32 := Scalar.addi c0_i32_929 v963
  v964.toNat
def k5_dev25 (v1 : BitVec 32) : Nat :=
  let c0_i32_1009 : BitVec 32 := 0#32
  let c1_i32_1008 : BitVec 32 := 1#32
  let v1046 : BitVec 32 := Scalar.muli v1 c1_i32_1008
  let v1047 : BitVec 32 := Scalar.addi c0_i32_1009 v1046
  v1047.toNat
def k5_dev26 (v2 : BitVec 32) : Nat :=
  let c0_i32_1019 : BitVec 32 := 0#32
  let c1_i32_1018 : BitVec 32 := 1#32
  let v1056 : BitVec 32 := Scalar.muli v2 c1_i32_1018
  let v1057 : BitVec 32 := Scalar.addi c0_i32_1019 v1056
  v1057.toNat
def k5_dev27 (v1 : BitVec 32) : Nat :=
  let c0_i32_1099 : BitVec 32 := 0#32
  let c1_i32_1098 : BitVec 32 := 1#32
  let v1139 : BitVec 32 := Scalar.muli v1 c1_i32_1098
  let v1140 : BitVec 32 := Scalar.addi c0_i32_1099 v1139
  v1140.toNat
def k5_dev28 (v2 : BitVec 32) : Nat :=
  let c0_i32_1109 : BitVec 32 := 0#32
  let c1_i32_1108 : BitVec 32 := 1#32
  let v1149 : BitVec 32 := Scalar.muli v2 c1_i32_1108
  let v1150 : BitVec 32 := Scalar.addi c0_i32_1109 v1149
  v1150.toNat
def k5_dev29 (v1 : BitVec 32) : Nat :=
  let c0_i32_1189 : BitVec 32 := 0#32
  let c1_i32_1188 : BitVec 32 := 1#32
  let v1232 : BitVec 32 := Scalar.muli v1 c1_i32_1188
  let v1233 : BitVec 32 := Scalar.addi c0_i32_1189 v1232
  v1233.toNat
def k5_dev30 (v2 : BitVec 32) : Nat :=
  let c0_i32_1199 : BitVec 32 := 0#32
  let c1_i32_1198 : BitVec 32 := 1#32
  let v1242 : BitVec 32 := Scalar.muli v2 c1_i32_1198
  let v1243 : BitVec 32 := Scalar.addi c0_i32_1199 v1242
  v1243.toNat
def k5_dev31 (v1 : BitVec 32) : Nat :=
  let c0_i32_1279 : BitVec 32 := 0#32
  let c1_i32_1278 : BitVec 32 := 1#32
  let v1325 : BitVec 32 := Scalar.muli v1 c1_i32_1278
  let v1326 : BitVec 32 := Scalar.addi c0_i32_1279 v1325
  v1326.toNat
def k5_dev32 (v2 : BitVec 32) : Nat :=
  let c0_i32_1289 : BitVec 32 := 0#32
  let c1_i32_1288 : BitVec 32 := 1#32
  let v1335 : BitVec 32 := Scalar.muli v2 c1_i32_1288
  let v1336 : BitVec 32 := Scalar.addi c0_i32_1289 v1335
  v1336.toNat
def k5_dev33 (v1 : BitVec 32) : Nat :=
  let c0_i32_1369 : BitVec 32 := 0#32
  let c1_i32_1368 : BitVec 32 := 1#32
  let v1418 : BitVec 32 := Scalar.muli v1 c1_i32_1368
  let v1419 : BitVec 32 := Scalar.addi c0_i32_1369 v1418
  v1419.toNat
def k5_dev34 (v2 : BitVec 32) : Nat :=
  let c0_i32_1379 : BitVec 32 := 0#32
  let c1_i32_1378 : BitVec 32 := 1#32
  let v1428 : BitVec 32 := Scalar.muli v2 c1_i32_1378
  let v1429 : BitVec 32 := Scalar.addi c0_i32_1379 v1428
  v1429.toNat
def k5_dev35 (v1 : BitVec 32) : Nat :=
  let c0_i32_1459 : BitVec 32 := 0#32
  let c1_i32_1458 : BitVec 32 := 1#32
  let v1511 : BitVec 32 := Scalar.muli v1 c1_i32_1458
  let v1512 : BitVec 32 := Scalar.addi c0_i32_1459 v1511
  v1512.toNat
def k5_dev36 (v2 : BitVec 32) : Nat :=
  let c0_i32_1469 : BitVec 32 := 0#32
  let c1_i32_1468 : BitVec 32 := 1#32
  let v1521 : BitVec 32 := Scalar.muli v2 c1_i32_1468
  let v1522 : BitVec 32 := Scalar.addi c0_i32_1469 v1521
  v1522.toNat
def k5_dev37 (v1 : BitVec 32) : Nat :=
  let c0_i32_1549 : BitVec 32 := 0#32
  let c1_i32_1548 : BitVec 32 := 1#32
  let v1604 : BitVec 32 := Scalar.muli v1 c1_i32_1548
  let v1605 : BitVec 32 := Scalar.addi c0_i32_1549 v1604
  v1605.toNat
def k5_dev38 (v2 : BitVec 32) : Nat :=
  let c0_i32_1559 : BitVec 32 := 0#32
  let c1_i32_1558 : BitVec 32 := 1#32
  let v1614 : BitVec 32 := Scalar.muli v2 c1_i32_1558
  let v1615 : BitVec 32 := Scalar.addi c0_i32_1559 v1614
  v1615.toNat
def k5_dev39 (v1 : BitVec 32) : Nat :=
  let c0_i32_1639 : BitVec 32 := 0#32
  let c1_i32_1638 : BitVec 32 := 1#32
  let v1697 : BitVec 32 := Scalar.muli v1 c1_i32_1638
  let v1698 : BitVec 32 := Scalar.addi c0_i32_1639 v1697
  v1698.toNat
def k5_dev40 (v2 : BitVec 32) : Nat :=
  let c0_i32_1649 : BitVec 32 := 0#32
  let c1_i32_1648 : BitVec 32 := 1#32
  let v1707 : BitVec 32 := Scalar.muli v2 c1_i32_1648
  let v1708 : BitVec 32 := Scalar.addi c0_i32_1649 v1707
  v1708.toNat
def k5_dev41 (v1 : BitVec 32) : Nat :=
  let c0_i32_1729 : BitVec 32 := 0#32
  let c1_i32_1728 : BitVec 32 := 1#32
  let v1790 : BitVec 32 := Scalar.muli v1 c1_i32_1728
  let v1791 : BitVec 32 := Scalar.addi c0_i32_1729 v1790
  v1791.toNat
def k5_dev42 (v2 : BitVec 32) : Nat :=
  let c0_i32_1739 : BitVec 32 := 0#32
  let c1_i32_1738 : BitVec 32 := 1#32
  let v1800 : BitVec 32 := Scalar.muli v2 c1_i32_1738
  let v1801 : BitVec 32 := Scalar.addi c0_i32_1739 v1800
  v1801.toNat
def k5_dev43 (v1 : BitVec 32) : Nat :=
  let c0_i32_1819 : BitVec 32 := 0#32
  let c1_i32_1818 : BitVec 32 := 1#32
  let v1883 : BitVec 32 := Scalar.muli v1 c1_i32_1818
  let v1884 : BitVec 32 := Scalar.addi c0_i32_1819 v1883
  v1884.toNat
def k5_dev44 (v2 : BitVec 32) : Nat :=
  let c0_i32_1829 : BitVec 32 := 0#32
  let c1_i32_1828 : BitVec 32 := 1#32
  let v1893 : BitVec 32 := Scalar.muli v2 c1_i32_1828
  let v1894 : BitVec 32 := Scalar.addi c0_i32_1829 v1893
  v1894.toNat
def k5_dev45 (v1 : BitVec 32) : Nat :=
  let c0_i32_1909 : BitVec 32 := 0#32
  let c1_i32_1908 : BitVec 32 := 1#32
  let v1976 : BitVec 32 := Scalar.muli v1 c1_i32_1908
  let v1977 : BitVec 32 := Scalar.addi c0_i32_1909 v1976
  v1977.toNat
def k5_dev46 (v2 : BitVec 32) : Nat :=
  let c0_i32_1919 : BitVec 32 := 0#32
  let c1_i32_1918 : BitVec 32 := 1#32
  let v1986 : BitVec 32 := Scalar.muli v2 c1_i32_1918
  let v1987 : BitVec 32 := Scalar.addi c0_i32_1919 v1986
  v1987.toNat
def k5_dev47 (v1 : BitVec 32) : Nat :=
  let c0_i32_1999 : BitVec 32 := 0#32
  let c1_i32_1998 : BitVec 32 := 1#32
  let v2069 : BitVec 32 := Scalar.muli v1 c1_i32_1998
  let v2070 : BitVec 32 := Scalar.addi c0_i32_1999 v2069
  v2070.toNat
def k5_dev48 (v2 : BitVec 32) : Nat :=
  let c0_i32_2009 : BitVec 32 := 0#32
  let c1_i32_2008 : BitVec 32 := 1#32
  let v2079 : BitVec 32 := Scalar.muli v2 c1_i32_2008
  let v2080 : BitVec 32 := Scalar.addi c0_i32_2009 v2079
  v2080.toNat
def k5_dev49 (v1 : BitVec 32) : Nat :=
  let c0_i32_2089 : BitVec 32 := 0#32
  let c1_i32_2088 : BitVec 32 := 1#32
  let v2162 : BitVec 32 := Scalar.muli v1 c1_i32_2088
  let v2163 : BitVec 32 := Scalar.addi c0_i32_2089 v2162
  v2163.toNat
def k5_dev50 (v2 : BitVec 32) : Nat :=
  let c0_i32_2099 : BitVec 32 := 0#32
  let c1_i32_2098 : BitVec 32 := 1#32
  let v2172 : BitVec 32 := Scalar.muli v2 c1_i32_2098
  let v2173 : BitVec 32 := Scalar.addi c0_i32_2099 v2172
  v2173.toNat
def k5_dev51 (v1 : BitVec 32) : Nat :=
  let c0_i32_2179 : BitVec 32 := 0#32
  let c1_i32_2178 : BitVec 32 := 1#32
  let v2255 : BitVec 32 := Scalar.muli v1 c1_i32_2178
  let v2256 : BitVec 32 := Scalar.addi c0_i32_2179 v2255
  v2256.toNat
def k5_dev52 (v2 : BitVec 32) : Nat :=
  let c0_i32_2189 : BitVec 32 := 0#32
  let c1_i32_2188 : BitVec 32 := 1#32
  let v2265 : BitVec 32 := Scalar.muli v2 c1_i32_2188
  let v2266 : BitVec 32 := Scalar.addi c0_i32_2189 v2265
  v2266.toNat
def k5_dev53 (v1 : BitVec 32) : Nat :=
  let c0_i32_2269 : BitVec 32 := 0#32
  let c1_i32_2268 : BitVec 32 := 1#32
  let v2348 : BitVec 32 := Scalar.muli v1 c1_i32_2268
  let v2349 : BitVec 32 := Scalar.addi c0_i32_2269 v2348
  v2349.toNat
def k5_dev54 (v2 : BitVec 32) : Nat :=
  let c0_i32_2279 : BitVec 32 := 0#32
  let c1_i32_2278 : BitVec 32 := 1#32
  let v2358 : BitVec 32 := Scalar.muli v2 c1_i32_2278
  let v2359 : BitVec 32 := Scalar.addi c0_i32_2279 v2358
  v2359.toNat
def k5_dev55 (v1 : BitVec 32) : Nat :=
  let c0_i32_2359 : BitVec 32 := 0#32
  let c1_i32_2358 : BitVec 32 := 1#32
  let v2441 : BitVec 32 := Scalar.muli v1 c1_i32_2358
  let v2442 : BitVec 32 := Scalar.addi c0_i32_2359 v2441
  v2442.toNat
def k5_dev56 (v2 : BitVec 32) : Nat :=
  let c0_i32_2369 : BitVec 32 := 0#32
  let c1_i32_2368 : BitVec 32 := 1#32
  let v2451 : BitVec 32 := Scalar.muli v2 c1_i32_2368
  let v2452 : BitVec 32 := Scalar.addi c0_i32_2369 v2451
  v2452.toNat
def k5_dev57 (v1 : BitVec 32) : Nat :=
  let c0_i32_2449 : BitVec 32 := 0#32
  let c1_i32_2448 : BitVec 32 := 1#32
  let v2534 : BitVec 32 := Scalar.muli v1 c1_i32_2448
  let v2535 : BitVec 32 := Scalar.addi c0_i32_2449 v2534
  v2535.toNat
def k5_dev58 (v2 : BitVec 32) : Nat :=
  let c0_i32_2459 : BitVec 32 := 0#32
  let c1_i32_2458 : BitVec 32 := 1#32
  let v2544 : BitVec 32 := Scalar.muli v2 c1_i32_2458
  let v2545 : BitVec 32 := Scalar.addi c0_i32_2459 v2544
  v2545.toNat
def k5_dev59 (v1 : BitVec 32) : Nat :=
  let c0_i32_2539 : BitVec 32 := 0#32
  let c1_i32_2538 : BitVec 32 := 1#32
  let v2627 : BitVec 32 := Scalar.muli v1 c1_i32_2538
  let v2628 : BitVec 32 := Scalar.addi c0_i32_2539 v2627
  v2628.toNat
def k5_dev60 (v2 : BitVec 32) : Nat :=
  let c0_i32_2549 : BitVec 32 := 0#32
  let c1_i32_2548 : BitVec 32 := 1#32
  let v2637 : BitVec 32 := Scalar.muli v2 c1_i32_2548
  let v2638 : BitVec 32 := Scalar.addi c0_i32_2549 v2637
  v2638.toNat
def k5_dev61 (v1 : BitVec 32) : Nat :=
  let c0_i32_2629 : BitVec 32 := 0#32
  let c1_i32_2628 : BitVec 32 := 1#32
  let v2720 : BitVec 32 := Scalar.muli v1 c1_i32_2628
  let v2721 : BitVec 32 := Scalar.addi c0_i32_2629 v2720
  v2721.toNat
def k5_dev62 (v2 : BitVec 32) : Nat :=
  let c0_i32_2639 : BitVec 32 := 0#32
  let c1_i32_2638 : BitVec 32 := 1#32
  let v2730 : BitVec 32 := Scalar.muli v2 c1_i32_2638
  let v2731 : BitVec 32 := Scalar.addi c0_i32_2639 v2730
  v2731.toNat
def k5_dev63 (v1 : BitVec 32) : Nat :=
  let c0_i32_2719 : BitVec 32 := 0#32
  let c1_i32_2718 : BitVec 32 := 1#32
  let v2813 : BitVec 32 := Scalar.muli v1 c1_i32_2718
  let v2814 : BitVec 32 := Scalar.addi c0_i32_2719 v2813
  v2814.toNat
def k5_dev64 (v2 : BitVec 32) : Nat :=
  let c0_i32_2729 : BitVec 32 := 0#32
  let c1_i32_2728 : BitVec 32 := 1#32
  let v2823 : BitVec 32 := Scalar.muli v2 c1_i32_2728
  let v2824 : BitVec 32 := Scalar.addi c0_i32_2729 v2823
  v2824.toNat
def k5_off5 (v0 : BitVec 32) : Fin 2 → Nat :=
  let c1_i32_2808 : BitVec 32 := 1#32
  let v2908 : BitVec 32 := Scalar.addi v0 c1_i32_2808
  let c32_i32_2809 : BitVec 32 := 32#32
  let c0_i32_2810 : BitVec 32 := 0#32
  let v2909 : BitVec 1 := Scalar.cmpi .eq c32_i32_2809 c0_i32_2810
  let c1_i32_2811 : BitVec 32 := 1#32
  let v2910 : BitVec 32 := Scalar.select v2909 c1_i32_2811 c32_i32_2809
  let v2911 : BitVec 32 := Scalar.remsi v2908 v2910
  let c0_i32_2813 : BitVec 32 := 0#32
  let v2913 : BitVec 1 := Scalar.cmpi .slt v2911 c0_i32_2813
  let c0_i32_2814 : BitVec 32 := 0#32
  let v2914 : BitVec 1 := Scalar.cmpi .slt v2910 c0_i32_2814
  let v2915 : BitVec 1 := Scalar.xori v2913 v2914
  let c0_i32_2812 : BitVec 32 := 0#32
  let v2912 : BitVec 1 := Scalar.cmpi .ne v2911 c0_i32_2812
  let v2916 : BitVec 1 := Scalar.andi v2915 v2912
  let v2917 : BitVec 32 := Scalar.addi v2911 v2910
  let v2918 : BitVec 32 := Scalar.select v2916 v2917 v2911
  let c32_i32_2815 : BitVec 32 := 32#32
  let v2919 : BitVec 32 := Scalar.muli v2918 c32_i32_2815
  let v2920 : Index := Scalar.indexCast v2919
  let c0_2816 : Index := 0#32
  ![v2920.toNat, 0]
def k5_off6 (v0 : BitVec 32) : Fin 2 → Nat :=
  let c1024_i32_2828 : BitVec 32 := 1024#32
  let c1_i32_2820 : BitVec 32 := 1#32
  let v2924 : BitVec 32 := Scalar.subi v0 c1_i32_2820
  let c32_i32_2821 : BitVec 32 := 32#32
  let c0_i32_2822 : BitVec 32 := 0#32
  let v2925 : BitVec 1 := Scalar.cmpi .eq c32_i32_2821 c0_i32_2822
  let c1_i32_2823 : BitVec 32 := 1#32
  let v2926 : BitVec 32 := Scalar.select v2925 c1_i32_2823 c32_i32_2821
  let v2927 : BitVec 32 := Scalar.remsi v2924 v2926
  let c0_i32_2825 : BitVec 32 := 0#32
  let v2929 : BitVec 1 := Scalar.cmpi .slt v2927 c0_i32_2825
  let c0_i32_2826 : BitVec 32 := 0#32
  let v2930 : BitVec 1 := Scalar.cmpi .slt v2926 c0_i32_2826
  let v2931 : BitVec 1 := Scalar.xori v2929 v2930
  let c0_i32_2824 : BitVec 32 := 0#32
  let v2928 : BitVec 1 := Scalar.cmpi .ne v2927 c0_i32_2824
  let v2932 : BitVec 1 := Scalar.andi v2931 v2928
  let v2933 : BitVec 32 := Scalar.addi v2927 v2926
  let v2934 : BitVec 32 := Scalar.select v2932 v2933 v2927
  let c32_i32_2827 : BitVec 32 := 32#32
  let v2935 : BitVec 32 := Scalar.muli v2934 c32_i32_2827
  let v2936 : BitVec 32 := Scalar.addi c1024_i32_2828 v2935
  let v2937 : Index := Scalar.indexCast v2936
  let c0_2829 : Index := 0#32
  ![v2937.toNat, 0]
def k5_dev65 (v1 : BitVec 32) : Nat :=
  let c0_i32_2835 : BitVec 32 := 0#32
  let c1_i32_2834 : BitVec 32 := 1#32
  let v2939 : BitVec 32 := Scalar.muli v1 c1_i32_2834
  let v2940 : BitVec 32 := Scalar.addi c0_i32_2835 v2939
  v2940.toNat
def k5_dev66 (v2 : BitVec 32) : Nat :=
  let c0_i32_2845 : BitVec 32 := 0#32
  let c1_i32_2844 : BitVec 32 := 1#32
  let v2949 : BitVec 32 := Scalar.muli v2 c1_i32_2844
  let v2950 : BitVec 32 := Scalar.addi c0_i32_2845 v2949
  v2950.toNat
def k5_off7 (v0 : BitVec 32) (c0_i32_2891 : BitVec 32) : Fin 2 → Nat :=
  let v2989 : BitVec 32 := Scalar.subi v0 c0_i32_2891
  let c32_i32_2892 : BitVec 32 := 32#32
  let c0_i32_2893 : BitVec 32 := 0#32
  let v2990 : BitVec 1 := Scalar.cmpi .eq c32_i32_2892 c0_i32_2893
  let c1_i32_2894 : BitVec 32 := 1#32
  let v2991 : BitVec 32 := Scalar.select v2990 c1_i32_2894 c32_i32_2892
  let v2992 : BitVec 32 := Scalar.remsi v2989 v2991
  let c0_i32_2896 : BitVec 32 := 0#32
  let v2994 : BitVec 1 := Scalar.cmpi .slt v2992 c0_i32_2896
  let c0_i32_2897 : BitVec 32 := 0#32
  let v2995 : BitVec 1 := Scalar.cmpi .slt v2991 c0_i32_2897
  let v2996 : BitVec 1 := Scalar.xori v2994 v2995
  let c0_i32_2895 : BitVec 32 := 0#32
  let v2993 : BitVec 1 := Scalar.cmpi .ne v2992 c0_i32_2895
  let v2997 : BitVec 1 := Scalar.andi v2996 v2993
  let v2998 : BitVec 32 := Scalar.addi v2992 v2991
  let v2999 : BitVec 32 := Scalar.select v2997 v2998 v2992
  let c32_i32_2898 : BitVec 32 := 32#32
  let v3000 : BitVec 32 := Scalar.muli v2999 c32_i32_2898
  let v3001 : Index := Scalar.indexCast v3000
  let c0_2899 : Index := 0#32
  ![v3001.toNat, 0]
def k5_off8 (v0 : BitVec 32) (c0_i32_2903 : BitVec 32) : Fin 2 → Nat :=
  let c1024_i32_2911 : BitVec 32 := 1024#32
  let v3005 : BitVec 32 := Scalar.addi v0 c0_i32_2903
  let c32_i32_2904 : BitVec 32 := 32#32
  let c0_i32_2905 : BitVec 32 := 0#32
  let v3006 : BitVec 1 := Scalar.cmpi .eq c32_i32_2904 c0_i32_2905
  let c1_i32_2906 : BitVec 32 := 1#32
  let v3007 : BitVec 32 := Scalar.select v3006 c1_i32_2906 c32_i32_2904
  let v3008 : BitVec 32 := Scalar.remsi v3005 v3007
  let c0_i32_2908 : BitVec 32 := 0#32
  let v3010 : BitVec 1 := Scalar.cmpi .slt v3008 c0_i32_2908
  let c0_i32_2909 : BitVec 32 := 0#32
  let v3011 : BitVec 1 := Scalar.cmpi .slt v3007 c0_i32_2909
  let v3012 : BitVec 1 := Scalar.xori v3010 v3011
  let c0_i32_2907 : BitVec 32 := 0#32
  let v3009 : BitVec 1 := Scalar.cmpi .ne v3008 c0_i32_2907
  let v3013 : BitVec 1 := Scalar.andi v3012 v3009
  let v3014 : BitVec 32 := Scalar.addi v3008 v3007
  let v3015 : BitVec 32 := Scalar.select v3013 v3014 v3008
  let c32_i32_2910 : BitVec 32 := 32#32
  let v3016 : BitVec 32 := Scalar.muli v3015 c32_i32_2910
  let v3017 : BitVec 32 := Scalar.addi c1024_i32_2911 v3016
  let v3018 : Index := Scalar.indexCast v3017
  let c0_2912 : Index := 0#32
  ![v3018.toNat, 0]

def k5_chk3 (v0 : BitVec 32) : Prop :=
  (∀ a, (k5_off1 v0) a + S32x1024.size a ≤ S2048x1024.size a) ∧
  (∀ a, (k5_off2 v0) a + S32x1024.size a ≤ S2048x1024.size a) ∧
  (∀ (r : Fin 31), ∀ a, (k5_off3 v0 (BitVec.ofNat 32 r.val)) a + S32x1024.size a ≤ S2048x1024.size a) ∧
  (∀ (r : Fin 31), ∀ a, (k5_off4 v0 (BitVec.ofNat 32 r.val)) a + S32x1024.size a ≤ S2048x1024.size a) ∧
  (∀ a, (k5_off5 v0) a + S32x1024.size a ≤ S2048x1024.size a) ∧
  (∀ a, (k5_off6 v0) a + S32x1024.size a ≤ S2048x1024.size a) ∧
  (∀ (r : Fin 31), ∀ a, (k5_off7 v0 (BitVec.ofNat 32 r.val)) a + S32x1024.size a ≤ S2048x1024.size a) ∧
  (∀ (r : Fin 31), ∀ a, (k5_off8 v0 (BitVec.ofNat 32 r.val)) a + S32x1024.size a ≤ S2048x1024.size a)
theorem k5_off1_inb : ∀ (v0 : BitVec 32) (k5_hw3 : k5_chk3 v0), ∀ a, (k5_off1 v0) a + S32x1024.size a ≤ S2048x1024.size a := fun v0 k5_hw3 => k5_hw3.1
theorem k5_off2_inb : ∀ (v0 : BitVec 32) (k5_hw3 : k5_chk3 v0), ∀ a, (k5_off2 v0) a + S32x1024.size a ≤ S2048x1024.size a := fun v0 k5_hw3 => k5_hw3.2.1
theorem k5_off3_inb : ∀ (v0 : BitVec 32) (k5_hw3 : k5_chk3 v0), ∀ (r : Fin 31), ∀ a, (k5_off3 v0 (BitVec.ofNat 32 r.val)) a + S32x1024.size a ≤ S2048x1024.size a := fun v0 k5_hw3 r => k5_hw3.2.2.1 r
theorem k5_off4_inb : ∀ (v0 : BitVec 32) (k5_hw3 : k5_chk3 v0), ∀ (r : Fin 31), ∀ a, (k5_off4 v0 (BitVec.ofNat 32 r.val)) a + S32x1024.size a ≤ S2048x1024.size a := fun v0 k5_hw3 r => k5_hw3.2.2.2.1 r
theorem k5_off5_inb : ∀ (v0 : BitVec 32) (k5_hw3 : k5_chk3 v0), ∀ a, (k5_off5 v0) a + S32x1024.size a ≤ S2048x1024.size a := fun v0 k5_hw3 => k5_hw3.2.2.2.2.1
theorem k5_off6_inb : ∀ (v0 : BitVec 32) (k5_hw3 : k5_chk3 v0), ∀ a, (k5_off6 v0) a + S32x1024.size a ≤ S2048x1024.size a := fun v0 k5_hw3 => k5_hw3.2.2.2.2.2.1
theorem k5_off7_inb : ∀ (v0 : BitVec 32) (k5_hw3 : k5_chk3 v0), ∀ (r : Fin 31), ∀ a, (k5_off7 v0 (BitVec.ofNat 32 r.val)) a + S32x1024.size a ≤ S2048x1024.size a := fun v0 k5_hw3 r => k5_hw3.2.2.2.2.2.2.1 r
theorem k5_off8_inb : ∀ (v0 : BitVec 32) (k5_hw3 : k5_chk3 v0), ∀ (r : Fin 31), ∀ a, (k5_off8 v0 (BitVec.ofNat 32 r.val)) a + S32x1024.size a ≤ S2048x1024.size a := fun v0 k5_hw3 r => k5_hw3.2.2.2.2.2.2.2 r

def k5_dev67 (v1 : BitVec 32) : Nat :=
  let c0_i32_2918 : BitVec 32 := 0#32
  let c1_i32_2917 : BitVec 32 := 1#32
  let v3020 : BitVec 32 := Scalar.muli v1 c1_i32_2917
  let v3021 : BitVec 32 := Scalar.addi c0_i32_2918 v3020
  v3021.toNat
def k5_dev68 (v2 : BitVec 32) : Nat :=
  let c0_i32_2928 : BitVec 32 := 0#32
  let c1_i32_2927 : BitVec 32 := 1#32
  let v3030 : BitVec 32 := Scalar.muli v2 c1_i32_2927
  let v3031 : BitVec 32 := Scalar.addi c0_i32_2928 v3030
  v3031.toNat
def k5_dev69 (v1 : BitVec 32) : Nat :=
  let c0_i32_3001 : BitVec 32 := 0#32
  let c1_i32_3000 : BitVec 32 := 1#32
  let v3101 : BitVec 32 := Scalar.muli v1 c1_i32_3000
  let v3102 : BitVec 32 := Scalar.addi c0_i32_3001 v3101
  v3102.toNat
def k5_dev70 (v2 : BitVec 32) : Nat :=
  let c0_i32_3011 : BitVec 32 := 0#32
  let c1_i32_3010 : BitVec 32 := 1#32
  let v3111 : BitVec 32 := Scalar.muli v2 c1_i32_3010
  let v3112 : BitVec 32 := Scalar.addi c0_i32_3011 v3111
  v3112.toNat
def k5_dev71 (v1 : BitVec 32) : Nat :=
  let c0_i32_3084 : BitVec 32 := 0#32
  let c1_i32_3083 : BitVec 32 := 1#32
  let v3182 : BitVec 32 := Scalar.muli v1 c1_i32_3083
  let v3183 : BitVec 32 := Scalar.addi c0_i32_3084 v3182
  v3183.toNat
def k5_dev72 (v2 : BitVec 32) : Nat :=
  let c0_i32_3094 : BitVec 32 := 0#32
  let c1_i32_3093 : BitVec 32 := 1#32
  let v3192 : BitVec 32 := Scalar.muli v2 c1_i32_3093
  let v3193 : BitVec 32 := Scalar.addi c0_i32_3094 v3192
  v3193.toNat
def k5_dev73 (v1 : BitVec 32) : Nat :=
  let c0_i32_3167 : BitVec 32 := 0#32
  let c1_i32_3166 : BitVec 32 := 1#32
  let v3263 : BitVec 32 := Scalar.muli v1 c1_i32_3166
  let v3264 : BitVec 32 := Scalar.addi c0_i32_3167 v3263
  v3264.toNat
def k5_dev74 (v2 : BitVec 32) : Nat :=
  let c0_i32_3177 : BitVec 32 := 0#32
  let c1_i32_3176 : BitVec 32 := 1#32
  let v3273 : BitVec 32 := Scalar.muli v2 c1_i32_3176
  let v3274 : BitVec 32 := Scalar.addi c0_i32_3177 v3273
  v3274.toNat
def k5_dev75 (v1 : BitVec 32) : Nat :=
  let c0_i32_3250 : BitVec 32 := 0#32
  let c1_i32_3249 : BitVec 32 := 1#32
  let v3344 : BitVec 32 := Scalar.muli v1 c1_i32_3249
  let v3345 : BitVec 32 := Scalar.addi c0_i32_3250 v3344
  v3345.toNat
def k5_dev76 (v2 : BitVec 32) : Nat :=
  let c0_i32_3260 : BitVec 32 := 0#32
  let c1_i32_3259 : BitVec 32 := 1#32
  let v3354 : BitVec 32 := Scalar.muli v2 c1_i32_3259
  let v3355 : BitVec 32 := Scalar.addi c0_i32_3260 v3354
  v3355.toNat
def k5_dev77 (v1 : BitVec 32) : Nat :=
  let c0_i32_3333 : BitVec 32 := 0#32
  let c1_i32_3332 : BitVec 32 := 1#32
  let v3425 : BitVec 32 := Scalar.muli v1 c1_i32_3332
  let v3426 : BitVec 32 := Scalar.addi c0_i32_3333 v3425
  v3426.toNat
def k5_dev78 (v2 : BitVec 32) : Nat :=
  let c0_i32_3343 : BitVec 32 := 0#32
  let c1_i32_3342 : BitVec 32 := 1#32
  let v3435 : BitVec 32 := Scalar.muli v2 c1_i32_3342
  let v3436 : BitVec 32 := Scalar.addi c0_i32_3343 v3435
  v3436.toNat
def k5_dev79 (v1 : BitVec 32) : Nat :=
  let c0_i32_3416 : BitVec 32 := 0#32
  let c1_i32_3415 : BitVec 32 := 1#32
  let v3506 : BitVec 32 := Scalar.muli v1 c1_i32_3415
  let v3507 : BitVec 32 := Scalar.addi c0_i32_3416 v3506
  v3507.toNat
def k5_dev80 (v2 : BitVec 32) : Nat :=
  let c0_i32_3426 : BitVec 32 := 0#32
  let c1_i32_3425 : BitVec 32 := 1#32
  let v3516 : BitVec 32 := Scalar.muli v2 c1_i32_3425
  let v3517 : BitVec 32 := Scalar.addi c0_i32_3426 v3516
  v3517.toNat
def k5_dev81 (v1 : BitVec 32) : Nat :=
  let c0_i32_3499 : BitVec 32 := 0#32
  let c1_i32_3498 : BitVec 32 := 1#32
  let v3587 : BitVec 32 := Scalar.muli v1 c1_i32_3498
  let v3588 : BitVec 32 := Scalar.addi c0_i32_3499 v3587
  v3588.toNat
def k5_dev82 (v2 : BitVec 32) : Nat :=
  let c0_i32_3509 : BitVec 32 := 0#32
  let c1_i32_3508 : BitVec 32 := 1#32
  let v3597 : BitVec 32 := Scalar.muli v2 c1_i32_3508
  let v3598 : BitVec 32 := Scalar.addi c0_i32_3509 v3597
  v3598.toNat
def k5_dev83 (v1 : BitVec 32) : Nat :=
  let c0_i32_3582 : BitVec 32 := 0#32
  let c1_i32_3581 : BitVec 32 := 1#32
  let v3668 : BitVec 32 := Scalar.muli v1 c1_i32_3581
  let v3669 : BitVec 32 := Scalar.addi c0_i32_3582 v3668
  v3669.toNat
def k5_dev84 (v2 : BitVec 32) : Nat :=
  let c0_i32_3592 : BitVec 32 := 0#32
  let c1_i32_3591 : BitVec 32 := 1#32
  let v3678 : BitVec 32 := Scalar.muli v2 c1_i32_3591
  let v3679 : BitVec 32 := Scalar.addi c0_i32_3592 v3678
  v3679.toNat
def k5_dev85 (v1 : BitVec 32) : Nat :=
  let c0_i32_3665 : BitVec 32 := 0#32
  let c1_i32_3664 : BitVec 32 := 1#32
  let v3749 : BitVec 32 := Scalar.muli v1 c1_i32_3664
  let v3750 : BitVec 32 := Scalar.addi c0_i32_3665 v3749
  v3750.toNat
def k5_dev86 (v2 : BitVec 32) : Nat :=
  let c0_i32_3675 : BitVec 32 := 0#32
  let c1_i32_3674 : BitVec 32 := 1#32
  let v3759 : BitVec 32 := Scalar.muli v2 c1_i32_3674
  let v3760 : BitVec 32 := Scalar.addi c0_i32_3675 v3759
  v3760.toNat
def k5_dev87 (v1 : BitVec 32) : Nat :=
  let c0_i32_3748 : BitVec 32 := 0#32
  let c1_i32_3747 : BitVec 32 := 1#32
  let v3830 : BitVec 32 := Scalar.muli v1 c1_i32_3747
  let v3831 : BitVec 32 := Scalar.addi c0_i32_3748 v3830
  v3831.toNat
def k5_dev88 (v2 : BitVec 32) : Nat :=
  let c0_i32_3758 : BitVec 32 := 0#32
  let c1_i32_3757 : BitVec 32 := 1#32
  let v3840 : BitVec 32 := Scalar.muli v2 c1_i32_3757
  let v3841 : BitVec 32 := Scalar.addi c0_i32_3758 v3840
  v3841.toNat
def k5_dev89 (v1 : BitVec 32) : Nat :=
  let c0_i32_3831 : BitVec 32 := 0#32
  let c1_i32_3830 : BitVec 32 := 1#32
  let v3911 : BitVec 32 := Scalar.muli v1 c1_i32_3830
  let v3912 : BitVec 32 := Scalar.addi c0_i32_3831 v3911
  v3912.toNat
def k5_dev90 (v2 : BitVec 32) : Nat :=
  let c0_i32_3841 : BitVec 32 := 0#32
  let c1_i32_3840 : BitVec 32 := 1#32
  let v3921 : BitVec 32 := Scalar.muli v2 c1_i32_3840
  let v3922 : BitVec 32 := Scalar.addi c0_i32_3841 v3921
  v3922.toNat
def k5_dev91 (v1 : BitVec 32) : Nat :=
  let c0_i32_3914 : BitVec 32 := 0#32
  let c1_i32_3913 : BitVec 32 := 1#32
  let v3992 : BitVec 32 := Scalar.muli v1 c1_i32_3913
  let v3993 : BitVec 32 := Scalar.addi c0_i32_3914 v3992
  v3993.toNat
def k5_dev92 (v2 : BitVec 32) : Nat :=
  let c0_i32_3924 : BitVec 32 := 0#32
  let c1_i32_3923 : BitVec 32 := 1#32
  let v4002 : BitVec 32 := Scalar.muli v2 c1_i32_3923
  let v4003 : BitVec 32 := Scalar.addi c0_i32_3924 v4002
  v4003.toNat
def k5_dev93 (v1 : BitVec 32) : Nat :=
  let c0_i32_3997 : BitVec 32 := 0#32
  let c1_i32_3996 : BitVec 32 := 1#32
  let v4073 : BitVec 32 := Scalar.muli v1 c1_i32_3996
  let v4074 : BitVec 32 := Scalar.addi c0_i32_3997 v4073
  v4074.toNat
def k5_dev94 (v2 : BitVec 32) : Nat :=
  let c0_i32_4007 : BitVec 32 := 0#32
  let c1_i32_4006 : BitVec 32 := 1#32
  let v4083 : BitVec 32 := Scalar.muli v2 c1_i32_4006
  let v4084 : BitVec 32 := Scalar.addi c0_i32_4007 v4083
  v4084.toNat
def k5_dev95 (v1 : BitVec 32) : Nat :=
  let c0_i32_4080 : BitVec 32 := 0#32
  let c1_i32_4079 : BitVec 32 := 1#32
  let v4154 : BitVec 32 := Scalar.muli v1 c1_i32_4079
  let v4155 : BitVec 32 := Scalar.addi c0_i32_4080 v4154
  v4155.toNat
def k5_dev96 (v2 : BitVec 32) : Nat :=
  let c0_i32_4090 : BitVec 32 := 0#32
  let c1_i32_4089 : BitVec 32 := 1#32
  let v4164 : BitVec 32 := Scalar.muli v2 c1_i32_4089
  let v4165 : BitVec 32 := Scalar.addi c0_i32_4090 v4164
  v4165.toNat
def k5_dev97 (v1 : BitVec 32) : Nat :=
  let c0_i32_4163 : BitVec 32 := 0#32
  let c1_i32_4162 : BitVec 32 := 1#32
  let v4235 : BitVec 32 := Scalar.muli v1 c1_i32_4162
  let v4236 : BitVec 32 := Scalar.addi c0_i32_4163 v4235
  v4236.toNat
def k5_dev98 (v2 : BitVec 32) : Nat :=
  let c0_i32_4173 : BitVec 32 := 0#32
  let c1_i32_4172 : BitVec 32 := 1#32
  let v4245 : BitVec 32 := Scalar.muli v2 c1_i32_4172
  let v4246 : BitVec 32 := Scalar.addi c0_i32_4173 v4245
  v4246.toNat
def k5_dev99 (v1 : BitVec 32) : Nat :=
  let c0_i32_4246 : BitVec 32 := 0#32
  let c1_i32_4245 : BitVec 32 := 1#32
  let v4316 : BitVec 32 := Scalar.muli v1 c1_i32_4245
  let v4317 : BitVec 32 := Scalar.addi c0_i32_4246 v4316
  v4317.toNat
def k5_dev100 (v2 : BitVec 32) : Nat :=
  let c0_i32_4256 : BitVec 32 := 0#32
  let c1_i32_4255 : BitVec 32 := 1#32
  let v4326 : BitVec 32 := Scalar.muli v2 c1_i32_4255
  let v4327 : BitVec 32 := Scalar.addi c0_i32_4256 v4326
  v4327.toNat
def k5_dev101 (v1 : BitVec 32) : Nat :=
  let c0_i32_4329 : BitVec 32 := 0#32
  let c1_i32_4328 : BitVec 32 := 1#32
  let v4397 : BitVec 32 := Scalar.muli v1 c1_i32_4328
  let v4398 : BitVec 32 := Scalar.addi c0_i32_4329 v4397
  v4398.toNat
def k5_dev102 (v2 : BitVec 32) : Nat :=
  let c0_i32_4339 : BitVec 32 := 0#32
  let c1_i32_4338 : BitVec 32 := 1#32
  let v4407 : BitVec 32 := Scalar.muli v2 c1_i32_4338
  let v4408 : BitVec 32 := Scalar.addi c0_i32_4339 v4407
  v4408.toNat
def k5_dev103 (v1 : BitVec 32) : Nat :=
  let c0_i32_4412 : BitVec 32 := 0#32
  let c1_i32_4411 : BitVec 32 := 1#32
  let v4478 : BitVec 32 := Scalar.muli v1 c1_i32_4411
  let v4479 : BitVec 32 := Scalar.addi c0_i32_4412 v4478
  v4479.toNat
def k5_dev104 (v2 : BitVec 32) : Nat :=
  let c0_i32_4422 : BitVec 32 := 0#32
  let c1_i32_4421 : BitVec 32 := 1#32
  let v4488 : BitVec 32 := Scalar.muli v2 c1_i32_4421
  let v4489 : BitVec 32 := Scalar.addi c0_i32_4422 v4488
  v4489.toNat
def k5_dev105 (v1 : BitVec 32) : Nat :=
  let c0_i32_4495 : BitVec 32 := 0#32
  let c1_i32_4494 : BitVec 32 := 1#32
  let v4559 : BitVec 32 := Scalar.muli v1 c1_i32_4494
  let v4560 : BitVec 32 := Scalar.addi c0_i32_4495 v4559
  v4560.toNat
def k5_dev106 (v2 : BitVec 32) : Nat :=
  let c0_i32_4505 : BitVec 32 := 0#32
  let c1_i32_4504 : BitVec 32 := 1#32
  let v4569 : BitVec 32 := Scalar.muli v2 c1_i32_4504
  let v4570 : BitVec 32 := Scalar.addi c0_i32_4505 v4569
  v4570.toNat
def k5_dev107 (v1 : BitVec 32) : Nat :=
  let c0_i32_4578 : BitVec 32 := 0#32
  let c1_i32_4577 : BitVec 32 := 1#32
  let v4640 : BitVec 32 := Scalar.muli v1 c1_i32_4577
  let v4641 : BitVec 32 := Scalar.addi c0_i32_4578 v4640
  v4641.toNat
def k5_dev108 (v2 : BitVec 32) : Nat :=
  let c0_i32_4588 : BitVec 32 := 0#32
  let c1_i32_4587 : BitVec 32 := 1#32
  let v4650 : BitVec 32 := Scalar.muli v2 c1_i32_4587
  let v4651 : BitVec 32 := Scalar.addi c0_i32_4588 v4650
  v4651.toNat
def k5_dev109 (v1 : BitVec 32) : Nat :=
  let c0_i32_4661 : BitVec 32 := 0#32
  let c1_i32_4660 : BitVec 32 := 1#32
  let v4721 : BitVec 32 := Scalar.muli v1 c1_i32_4660
  let v4722 : BitVec 32 := Scalar.addi c0_i32_4661 v4721
  v4722.toNat
def k5_dev110 (v2 : BitVec 32) : Nat :=
  let c0_i32_4671 : BitVec 32 := 0#32
  let c1_i32_4670 : BitVec 32 := 1#32
  let v4731 : BitVec 32 := Scalar.muli v2 c1_i32_4670
  let v4732 : BitVec 32 := Scalar.addi c0_i32_4671 v4731
  v4732.toNat
def k5_dev111 (v1 : BitVec 32) : Nat :=
  let c0_i32_4744 : BitVec 32 := 0#32
  let c1_i32_4743 : BitVec 32 := 1#32
  let v4802 : BitVec 32 := Scalar.muli v1 c1_i32_4743
  let v4803 : BitVec 32 := Scalar.addi c0_i32_4744 v4802
  v4803.toNat
def k5_dev112 (v2 : BitVec 32) : Nat :=
  let c0_i32_4754 : BitVec 32 := 0#32
  let c1_i32_4753 : BitVec 32 := 1#32
  let v4812 : BitVec 32 := Scalar.muli v2 c1_i32_4753
  let v4813 : BitVec 32 := Scalar.addi c0_i32_4754 v4812
  v4813.toNat
def k5_dev113 (v1 : BitVec 32) : Nat :=
  let c0_i32_4827 : BitVec 32 := 0#32
  let c1_i32_4826 : BitVec 32 := 1#32
  let v4883 : BitVec 32 := Scalar.muli v1 c1_i32_4826
  let v4884 : BitVec 32 := Scalar.addi c0_i32_4827 v4883
  v4884.toNat
def k5_dev114 (v2 : BitVec 32) : Nat :=
  let c0_i32_4837 : BitVec 32 := 0#32
  let c1_i32_4836 : BitVec 32 := 1#32
  let v4893 : BitVec 32 := Scalar.muli v2 c1_i32_4836
  let v4894 : BitVec 32 := Scalar.addi c0_i32_4837 v4893
  v4894.toNat
def k5_dev115 (v1 : BitVec 32) : Nat :=
  let c0_i32_4910 : BitVec 32 := 0#32
  let c1_i32_4909 : BitVec 32 := 1#32
  let v4964 : BitVec 32 := Scalar.muli v1 c1_i32_4909
  let v4965 : BitVec 32 := Scalar.addi c0_i32_4910 v4964
  v4965.toNat
def k5_dev116 (v2 : BitVec 32) : Nat :=
  let c0_i32_4920 : BitVec 32 := 0#32
  let c1_i32_4919 : BitVec 32 := 1#32
  let v4974 : BitVec 32 := Scalar.muli v2 c1_i32_4919
  let v4975 : BitVec 32 := Scalar.addi c0_i32_4920 v4974
  v4975.toNat
def k5_dev117 (v1 : BitVec 32) : Nat :=
  let c0_i32_4993 : BitVec 32 := 0#32
  let c1_i32_4992 : BitVec 32 := 1#32
  let v5045 : BitVec 32 := Scalar.muli v1 c1_i32_4992
  let v5046 : BitVec 32 := Scalar.addi c0_i32_4993 v5045
  v5046.toNat
def k5_dev118 (v2 : BitVec 32) : Nat :=
  let c0_i32_5003 : BitVec 32 := 0#32
  let c1_i32_5002 : BitVec 32 := 1#32
  let v5055 : BitVec 32 := Scalar.muli v2 c1_i32_5002
  let v5056 : BitVec 32 := Scalar.addi c0_i32_5003 v5055
  v5056.toNat
def k5_dev119 (v1 : BitVec 32) : Nat :=
  let c0_i32_5076 : BitVec 32 := 0#32
  let c1_i32_5075 : BitVec 32 := 1#32
  let v5126 : BitVec 32 := Scalar.muli v1 c1_i32_5075
  let v5127 : BitVec 32 := Scalar.addi c0_i32_5076 v5126
  v5127.toNat
def k5_dev120 (v2 : BitVec 32) : Nat :=
  let c0_i32_5086 : BitVec 32 := 0#32
  let c1_i32_5085 : BitVec 32 := 1#32
  let v5136 : BitVec 32 := Scalar.muli v2 c1_i32_5085
  let v5137 : BitVec 32 := Scalar.addi c0_i32_5086 v5136
  v5137.toNat
def k5_dev121 (v1 : BitVec 32) : Nat :=
  let c0_i32_5159 : BitVec 32 := 0#32
  let c1_i32_5158 : BitVec 32 := 1#32
  let v5207 : BitVec 32 := Scalar.muli v1 c1_i32_5158
  let v5208 : BitVec 32 := Scalar.addi c0_i32_5159 v5207
  v5208.toNat
def k5_dev122 (v2 : BitVec 32) : Nat :=
  let c0_i32_5169 : BitVec 32 := 0#32
  let c1_i32_5168 : BitVec 32 := 1#32
  let v5217 : BitVec 32 := Scalar.muli v2 c1_i32_5168
  let v5218 : BitVec 32 := Scalar.addi c0_i32_5169 v5217
  v5218.toNat
def k5_dev123 (v1 : BitVec 32) : Nat :=
  let c0_i32_5242 : BitVec 32 := 0#32
  let c1_i32_5241 : BitVec 32 := 1#32
  let v5288 : BitVec 32 := Scalar.muli v1 c1_i32_5241
  let v5289 : BitVec 32 := Scalar.addi c0_i32_5242 v5288
  v5289.toNat
def k5_dev124 (v2 : BitVec 32) : Nat :=
  let c0_i32_5252 : BitVec 32 := 0#32
  let c1_i32_5251 : BitVec 32 := 1#32
  let v5298 : BitVec 32 := Scalar.muli v2 c1_i32_5251
  let v5299 : BitVec 32 := Scalar.addi c0_i32_5252 v5298
  v5299.toNat
def k5_dev125 (v1 : BitVec 32) : Nat :=
  let c0_i32_5325 : BitVec 32 := 0#32
  let c1_i32_5324 : BitVec 32 := 1#32
  let v5369 : BitVec 32 := Scalar.muli v1 c1_i32_5324
  let v5370 : BitVec 32 := Scalar.addi c0_i32_5325 v5369
  v5370.toNat

def k5_chk1_0 (v1 : BitVec 32) : Prop :=
  ((k5_dev1 v1) < nD) ∧
  ((k5_dev3 v1) < nD) ∧
  ((k5_dev5 v1) < nD) ∧
  ((k5_dev7 v1) < nD) ∧
  ((k5_dev9 v1) < nD) ∧
  ((k5_dev11 v1) < nD) ∧
  ((k5_dev13 v1) < nD) ∧
  ((k5_dev15 v1) < nD) ∧
  ((k5_dev17 v1) < nD) ∧
  ((k5_dev19 v1) < nD) ∧
  ((k5_dev21 v1) < nD) ∧
  ((k5_dev23 v1) < nD) ∧
  ((k5_dev25 v1) < nD) ∧
  ((k5_dev27 v1) < nD) ∧
  ((k5_dev29 v1) < nD) ∧
  ((k5_dev31 v1) < nD) ∧
  ((k5_dev33 v1) < nD) ∧
  ((k5_dev35 v1) < nD) ∧
  ((k5_dev37 v1) < nD) ∧
  ((k5_dev39 v1) < nD) ∧
  ((k5_dev41 v1) < nD) ∧
  ((k5_dev43 v1) < nD) ∧
  ((k5_dev45 v1) < nD) ∧
  ((k5_dev47 v1) < nD) ∧
  ((k5_dev49 v1) < nD) ∧
  ((k5_dev51 v1) < nD) ∧
  ((k5_dev53 v1) < nD) ∧
  ((k5_dev55 v1) < nD) ∧
  ((k5_dev57 v1) < nD) ∧
  ((k5_dev59 v1) < nD) ∧
  ((k5_dev61 v1) < nD) ∧
  ((k5_dev63 v1) < nD)
def k5_chk1_1 (v1 : BitVec 32) : Prop :=
  ((k5_dev65 v1) < nD) ∧
  ((k5_dev67 v1) < nD) ∧
  ((k5_dev69 v1) < nD) ∧
  ((k5_dev71 v1) < nD) ∧
  ((k5_dev73 v1) < nD) ∧
  ((k5_dev75 v1) < nD) ∧
  ((k5_dev77 v1) < nD) ∧
  ((k5_dev79 v1) < nD) ∧
  ((k5_dev81 v1) < nD) ∧
  ((k5_dev83 v1) < nD) ∧
  ((k5_dev85 v1) < nD) ∧
  ((k5_dev87 v1) < nD) ∧
  ((k5_dev89 v1) < nD) ∧
  ((k5_dev91 v1) < nD) ∧
  ((k5_dev93 v1) < nD) ∧
  ((k5_dev95 v1) < nD) ∧
  ((k5_dev97 v1) < nD) ∧
  ((k5_dev99 v1) < nD) ∧
  ((k5_dev101 v1) < nD) ∧
  ((k5_dev103 v1) < nD) ∧
  ((k5_dev105 v1) < nD) ∧
  ((k5_dev107 v1) < nD) ∧
  ((k5_dev109 v1) < nD) ∧
  ((k5_dev111 v1) < nD) ∧
  ((k5_dev113 v1) < nD) ∧
  ((k5_dev115 v1) < nD) ∧
  ((k5_dev117 v1) < nD) ∧
  ((k5_dev119 v1) < nD) ∧
  ((k5_dev121 v1) < nD) ∧
  ((k5_dev123 v1) < nD) ∧
  ((k5_dev125 v1) < nD)
def k5_chk1 (v1 : BitVec 32) : Prop :=
  k5_chk1_0 v1 ∧
  k5_chk1_1 v1
theorem k5_dev1_lt : ∀ (v1 : BitVec 32) (k5_hw1 : k5_chk1 v1), (k5_dev1 v1) < nD := fun v1 k5_hw1 => k5_hw1.1.1
theorem k5_dev3_lt : ∀ (v1 : BitVec 32) (k5_hw1 : k5_chk1 v1), (k5_dev3 v1) < nD := fun v1 k5_hw1 => k5_hw1.1.2.1
theorem k5_dev5_lt : ∀ (v1 : BitVec 32) (k5_hw1 : k5_chk1 v1), (k5_dev5 v1) < nD := fun v1 k5_hw1 => k5_hw1.1.2.2.1
theorem k5_dev7_lt : ∀ (v1 : BitVec 32) (k5_hw1 : k5_chk1 v1), (k5_dev7 v1) < nD := fun v1 k5_hw1 => k5_hw1.1.2.2.2.1
theorem k5_dev9_lt : ∀ (v1 : BitVec 32) (k5_hw1 : k5_chk1 v1), (k5_dev9 v1) < nD := fun v1 k5_hw1 => k5_hw1.1.2.2.2.2.1
theorem k5_dev11_lt : ∀ (v1 : BitVec 32) (k5_hw1 : k5_chk1 v1), (k5_dev11 v1) < nD := fun v1 k5_hw1 => k5_hw1.1.2.2.2.2.2.1
theorem k5_dev13_lt : ∀ (v1 : BitVec 32) (k5_hw1 : k5_chk1 v1), (k5_dev13 v1) < nD := fun v1 k5_hw1 => k5_hw1.1.2.2.2.2.2.2.1
theorem k5_dev15_lt : ∀ (v1 : BitVec 32) (k5_hw1 : k5_chk1 v1), (k5_dev15 v1) < nD := fun v1 k5_hw1 => k5_hw1.1.2.2.2.2.2.2.2.1
theorem k5_dev17_lt : ∀ (v1 : BitVec 32) (k5_hw1 : k5_chk1 v1), (k5_dev17 v1) < nD := fun v1 k5_hw1 => k5_hw1.1.2.2.2.2.2.2.2.2.1
theorem k5_dev19_lt : ∀ (v1 : BitVec 32) (k5_hw1 : k5_chk1 v1), (k5_dev19 v1) < nD := fun v1 k5_hw1 => k5_hw1.1.2.2.2.2.2.2.2.2.2.1
theorem k5_dev21_lt : ∀ (v1 : BitVec 32) (k5_hw1 : k5_chk1 v1), (k5_dev21 v1) < nD := fun v1 k5_hw1 => k5_hw1.1.2.2.2.2.2.2.2.2.2.2.1
theorem k5_dev23_lt : ∀ (v1 : BitVec 32) (k5_hw1 : k5_chk1 v1), (k5_dev23 v1) < nD := fun v1 k5_hw1 => k5_hw1.1.2.2.2.2.2.2.2.2.2.2.2.1
theorem k5_dev25_lt : ∀ (v1 : BitVec 32) (k5_hw1 : k5_chk1 v1), (k5_dev25 v1) < nD := fun v1 k5_hw1 => k5_hw1.1.2.2.2.2.2.2.2.2.2.2.2.2.1
theorem k5_dev27_lt : ∀ (v1 : BitVec 32) (k5_hw1 : k5_chk1 v1), (k5_dev27 v1) < nD := fun v1 k5_hw1 => k5_hw1.1.2.2.2.2.2.2.2.2.2.2.2.2.2.1
theorem k5_dev29_lt : ∀ (v1 : BitVec 32) (k5_hw1 : k5_chk1 v1), (k5_dev29 v1) < nD := fun v1 k5_hw1 => k5_hw1.1.2.2.2.2.2.2.2.2.2.2.2.2.2.2.1
theorem k5_dev31_lt : ∀ (v1 : BitVec 32) (k5_hw1 : k5_chk1 v1), (k5_dev31 v1) < nD := fun v1 k5_hw1 => k5_hw1.1.2.2.2.2.2.2.2.2.2.2.2.2.2.2.2.1
theorem k5_dev33_lt : ∀ (v1 : BitVec 32) (k5_hw1 : k5_chk1 v1), (k5_dev33 v1) < nD := fun v1 k5_hw1 => k5_hw1.1.2.2.2.2.2.2.2.2.2.2.2.2.2.2.2.2.1
theorem k5_dev35_lt : ∀ (v1 : BitVec 32) (k5_hw1 : k5_chk1 v1), (k5_dev35 v1) < nD := fun v1 k5_hw1 => k5_hw1.1.2.2.2.2.2.2.2.2.2.2.2.2.2.2.2.2.2.1
theorem k5_dev37_lt : ∀ (v1 : BitVec 32) (k5_hw1 : k5_chk1 v1), (k5_dev37 v1) < nD := fun v1 k5_hw1 => k5_hw1.1.2.2.2.2.2.2.2.2.2.2.2.2.2.2.2.2.2.2.1
theorem k5_dev39_lt : ∀ (v1 : BitVec 32) (k5_hw1 : k5_chk1 v1), (k5_dev39 v1) < nD := fun v1 k5_hw1 => k5_hw1.1.2.2.2.2.2.2.2.2.2.2.2.2.2.2.2.2.2.2.2.1
theorem k5_dev41_lt : ∀ (v1 : BitVec 32) (k5_hw1 : k5_chk1 v1), (k5_dev41 v1) < nD := fun v1 k5_hw1 => k5_hw1.1.2.2.2.2.2.2.2.2.2.2.2.2.2.2.2.2.2.2.2.2.1
theorem k5_dev43_lt : ∀ (v1 : BitVec 32) (k5_hw1 : k5_chk1 v1), (k5_dev43 v1) < nD := fun v1 k5_hw1 => k5_hw1.1.2.2.2.2.2.2.2.2.2.2.2.2.2.2.2.2.2.2.2.2.2.1
theorem k5_dev45_lt : ∀ (v1 : BitVec 32) (k5_hw1 : k5_chk1 v1), (k5_dev45 v1) < nD := fun v1 k5_hw1 => k5_hw1.1.2.2.2.2.2.2.2.2.2.2.2.2.2.2.2.2.2.2.2.2.2.2.1
theorem k5_dev47_lt : ∀ (v1 : BitVec 32) (k5_hw1 : k5_chk1 v1), (k5_dev47 v1) < nD := fun v1 k5_hw1 => k5_hw1.1.2.2.2.2.2.2.2.2.2.2.2.2.2.2.2.2.2.2.2.2.2.2.2.1
theorem k5_dev49_lt : ∀ (v1 : BitVec 32) (k5_hw1 : k5_chk1 v1), (k5_dev49 v1) < nD := fun v1 k5_hw1 => k5_hw1.1.2.2.2.2.2.2.2.2.2.2.2.2.2.2.2.2.2.2.2.2.2.2.2.2.1
theorem k5_dev51_lt : ∀ (v1 : BitVec 32) (k5_hw1 : k5_chk1 v1), (k5_dev51 v1) < nD := fun v1 k5_hw1 => k5_hw1.1.2.2.2.2.2.2.2.2.2.2.2.2.2.2.2.2.2.2.2.2.2.2.2.2.2.1
theorem k5_dev53_lt : ∀ (v1 : BitVec 32) (k5_hw1 : k5_chk1 v1), (k5_dev53 v1) < nD := fun v1 k5_hw1 => k5_hw1.1.2.2.2.2.2.2.2.2.2.2.2.2.2.2.2.2.2.2.2.2.2.2.2.2.2.2.1
theorem k5_dev55_lt : ∀ (v1 : BitVec 32) (k5_hw1 : k5_chk1 v1), (k5_dev55 v1) < nD := fun v1 k5_hw1 => k5_hw1.1.2.2.2.2.2.2.2.2.2.2.2.2.2.2.2.2.2.2.2.2.2.2.2.2.2.2.2.1
theorem k5_dev57_lt : ∀ (v1 : BitVec 32) (k5_hw1 : k5_chk1 v1), (k5_dev57 v1) < nD := fun v1 k5_hw1 => k5_hw1.1.2.2.2.2.2.2.2.2.2.2.2.2.2.2.2.2.2.2.2.2.2.2.2.2.2.2.2.2.1
theorem k5_dev59_lt : ∀ (v1 : BitVec 32) (k5_hw1 : k5_chk1 v1), (k5_dev59 v1) < nD := fun v1 k5_hw1 => k5_hw1.1.2.2.2.2.2.2.2.2.2.2.2.2.2.2.2.2.2.2.2.2.2.2.2.2.2.2.2.2.2.1
theorem k5_dev61_lt : ∀ (v1 : BitVec 32) (k5_hw1 : k5_chk1 v1), (k5_dev61 v1) < nD := fun v1 k5_hw1 => k5_hw1.1.2.2.2.2.2.2.2.2.2.2.2.2.2.2.2.2.2.2.2.2.2.2.2.2.2.2.2.2.2.2.1
theorem k5_dev63_lt : ∀ (v1 : BitVec 32) (k5_hw1 : k5_chk1 v1), (k5_dev63 v1) < nD := fun v1 k5_hw1 => k5_hw1.1.2.2.2.2.2.2.2.2.2.2.2.2.2.2.2.2.2.2.2.2.2.2.2.2.2.2.2.2.2.2.2
theorem k5_dev65_lt : ∀ (v1 : BitVec 32) (k5_hw1 : k5_chk1 v1), (k5_dev65 v1) < nD := fun v1 k5_hw1 => k5_hw1.2.1
theorem k5_dev67_lt : ∀ (v1 : BitVec 32) (k5_hw1 : k5_chk1 v1), (k5_dev67 v1) < nD := fun v1 k5_hw1 => k5_hw1.2.2.1
theorem k5_dev69_lt : ∀ (v1 : BitVec 32) (k5_hw1 : k5_chk1 v1), (k5_dev69 v1) < nD := fun v1 k5_hw1 => k5_hw1.2.2.2.1
theorem k5_dev71_lt : ∀ (v1 : BitVec 32) (k5_hw1 : k5_chk1 v1), (k5_dev71 v1) < nD := fun v1 k5_hw1 => k5_hw1.2.2.2.2.1
theorem k5_dev73_lt : ∀ (v1 : BitVec 32) (k5_hw1 : k5_chk1 v1), (k5_dev73 v1) < nD := fun v1 k5_hw1 => k5_hw1.2.2.2.2.2.1
theorem k5_dev75_lt : ∀ (v1 : BitVec 32) (k5_hw1 : k5_chk1 v1), (k5_dev75 v1) < nD := fun v1 k5_hw1 => k5_hw1.2.2.2.2.2.2.1
theorem k5_dev77_lt : ∀ (v1 : BitVec 32) (k5_hw1 : k5_chk1 v1), (k5_dev77 v1) < nD := fun v1 k5_hw1 => k5_hw1.2.2.2.2.2.2.2.1
theorem k5_dev79_lt : ∀ (v1 : BitVec 32) (k5_hw1 : k5_chk1 v1), (k5_dev79 v1) < nD := fun v1 k5_hw1 => k5_hw1.2.2.2.2.2.2.2.2.1
theorem k5_dev81_lt : ∀ (v1 : BitVec 32) (k5_hw1 : k5_chk1 v1), (k5_dev81 v1) < nD := fun v1 k5_hw1 => k5_hw1.2.2.2.2.2.2.2.2.2.1
theorem k5_dev83_lt : ∀ (v1 : BitVec 32) (k5_hw1 : k5_chk1 v1), (k5_dev83 v1) < nD := fun v1 k5_hw1 => k5_hw1.2.2.2.2.2.2.2.2.2.2.1
theorem k5_dev85_lt : ∀ (v1 : BitVec 32) (k5_hw1 : k5_chk1 v1), (k5_dev85 v1) < nD := fun v1 k5_hw1 => k5_hw1.2.2.2.2.2.2.2.2.2.2.2.1
theorem k5_dev87_lt : ∀ (v1 : BitVec 32) (k5_hw1 : k5_chk1 v1), (k5_dev87 v1) < nD := fun v1 k5_hw1 => k5_hw1.2.2.2.2.2.2.2.2.2.2.2.2.1
theorem k5_dev89_lt : ∀ (v1 : BitVec 32) (k5_hw1 : k5_chk1 v1), (k5_dev89 v1) < nD := fun v1 k5_hw1 => k5_hw1.2.2.2.2.2.2.2.2.2.2.2.2.2.1
theorem k5_dev91_lt : ∀ (v1 : BitVec 32) (k5_hw1 : k5_chk1 v1), (k5_dev91 v1) < nD := fun v1 k5_hw1 => k5_hw1.2.2.2.2.2.2.2.2.2.2.2.2.2.2.1
theorem k5_dev93_lt : ∀ (v1 : BitVec 32) (k5_hw1 : k5_chk1 v1), (k5_dev93 v1) < nD := fun v1 k5_hw1 => k5_hw1.2.2.2.2.2.2.2.2.2.2.2.2.2.2.2.1
theorem k5_dev95_lt : ∀ (v1 : BitVec 32) (k5_hw1 : k5_chk1 v1), (k5_dev95 v1) < nD := fun v1 k5_hw1 => k5_hw1.2.2.2.2.2.2.2.2.2.2.2.2.2.2.2.2.1
theorem k5_dev97_lt : ∀ (v1 : BitVec 32) (k5_hw1 : k5_chk1 v1), (k5_dev97 v1) < nD := fun v1 k5_hw1 => k5_hw1.2.2.2.2.2.2.2.2.2.2.2.2.2.2.2.2.2.1
theorem k5_dev99_lt : ∀ (v1 : BitVec 32) (k5_hw1 : k5_chk1 v1), (k5_dev99 v1) < nD := fun v1 k5_hw1 => k5_hw1.2.2.2.2.2.2.2.2.2.2.2.2.2.2.2.2.2.2.1
theorem k5_dev101_lt : ∀ (v1 : BitVec 32) (k5_hw1 : k5_chk1 v1), (k5_dev101 v1) < nD := fun v1 k5_hw1 => k5_hw1.2.2.2.2.2.2.2.2.2.2.2.2.2.2.2.2.2.2.2.1
theorem k5_dev103_lt : ∀ (v1 : BitVec 32) (k5_hw1 : k5_chk1 v1), (k5_dev103 v1) < nD := fun v1 k5_hw1 => k5_hw1.2.2.2.2.2.2.2.2.2.2.2.2.2.2.2.2.2.2.2.2.1
theorem k5_dev105_lt : ∀ (v1 : BitVec 32) (k5_hw1 : k5_chk1 v1), (k5_dev105 v1) < nD := fun v1 k5_hw1 => k5_hw1.2.2.2.2.2.2.2.2.2.2.2.2.2.2.2.2.2.2.2.2.2.1
theorem k5_dev107_lt : ∀ (v1 : BitVec 32) (k5_hw1 : k5_chk1 v1), (k5_dev107 v1) < nD := fun v1 k5_hw1 => k5_hw1.2.2.2.2.2.2.2.2.2.2.2.2.2.2.2.2.2.2.2.2.2.2.1
theorem k5_dev109_lt : ∀ (v1 : BitVec 32) (k5_hw1 : k5_chk1 v1), (k5_dev109 v1) < nD := fun v1 k5_hw1 => k5_hw1.2.2.2.2.2.2.2.2.2.2.2.2.2.2.2.2.2.2.2.2.2.2.2.1
theorem k5_dev111_lt : ∀ (v1 : BitVec 32) (k5_hw1 : k5_chk1 v1), (k5_dev111 v1) < nD := fun v1 k5_hw1 => k5_hw1.2.2.2.2.2.2.2.2.2.2.2.2.2.2.2.2.2.2.2.2.2.2.2.2.1
theorem k5_dev113_lt : ∀ (v1 : BitVec 32) (k5_hw1 : k5_chk1 v1), (k5_dev113 v1) < nD := fun v1 k5_hw1 => k5_hw1.2.2.2.2.2.2.2.2.2.2.2.2.2.2.2.2.2.2.2.2.2.2.2.2.2.1
theorem k5_dev115_lt : ∀ (v1 : BitVec 32) (k5_hw1 : k5_chk1 v1), (k5_dev115 v1) < nD := fun v1 k5_hw1 => k5_hw1.2.2.2.2.2.2.2.2.2.2.2.2.2.2.2.2.2.2.2.2.2.2.2.2.2.2.1
theorem k5_dev117_lt : ∀ (v1 : BitVec 32) (k5_hw1 : k5_chk1 v1), (k5_dev117 v1) < nD := fun v1 k5_hw1 => k5_hw1.2.2.2.2.2.2.2.2.2.2.2.2.2.2.2.2.2.2.2.2.2.2.2.2.2.2.2.1
theorem k5_dev119_lt : ∀ (v1 : BitVec 32) (k5_hw1 : k5_chk1 v1), (k5_dev119 v1) < nD := fun v1 k5_hw1 => k5_hw1.2.2.2.2.2.2.2.2.2.2.2.2.2.2.2.2.2.2.2.2.2.2.2.2.2.2.2.2.1
theorem k5_dev121_lt : ∀ (v1 : BitVec 32) (k5_hw1 : k5_chk1 v1), (k5_dev121 v1) < nD := fun v1 k5_hw1 => k5_hw1.2.2.2.2.2.2.2.2.2.2.2.2.2.2.2.2.2.2.2.2.2.2.2.2.2.2.2.2.2.1
theorem k5_dev123_lt : ∀ (v1 : BitVec 32) (k5_hw1 : k5_chk1 v1), (k5_dev123 v1) < nD := fun v1 k5_hw1 => k5_hw1.2.2.2.2.2.2.2.2.2.2.2.2.2.2.2.2.2.2.2.2.2.2.2.2.2.2.2.2.2.2.1
theorem k5_dev125_lt : ∀ (v1 : BitVec 32) (k5_hw1 : k5_chk1 v1), (k5_dev125 v1) < nD := fun v1 k5_hw1 => k5_hw1.2.2.2.2.2.2.2.2.2.2.2.2.2.2.2.2.2.2.2.2.2.2.2.2.2.2.2.2.2.2.2

def k5_dev126 (v2 : BitVec 32) : Nat :=
  let c0_i32_5335 : BitVec 32 := 0#32
  let c1_i32_5334 : BitVec 32 := 1#32
  let v5379 : BitVec 32 := Scalar.muli v2 c1_i32_5334
  let v5380 : BitVec 32 := Scalar.addi c0_i32_5335 v5379
  v5380.toNat

def k5_chk2_0 (v2 : BitVec 32) : Prop :=
  ((k5_dev2 v2) < nD) ∧
  ((k5_dev4 v2) < nD) ∧
  ((k5_dev6 v2) < nD) ∧
  ((k5_dev8 v2) < nD) ∧
  ((k5_dev10 v2) < nD) ∧
  ((k5_dev12 v2) < nD) ∧
  ((k5_dev14 v2) < nD) ∧
  ((k5_dev16 v2) < nD) ∧
  ((k5_dev18 v2) < nD) ∧
  ((k5_dev20 v2) < nD) ∧
  ((k5_dev22 v2) < nD) ∧
  ((k5_dev24 v2) < nD) ∧
  ((k5_dev26 v2) < nD) ∧
  ((k5_dev28 v2) < nD) ∧
  ((k5_dev30 v2) < nD) ∧
  ((k5_dev32 v2) < nD) ∧
  ((k5_dev34 v2) < nD) ∧
  ((k5_dev36 v2) < nD) ∧
  ((k5_dev38 v2) < nD) ∧
  ((k5_dev40 v2) < nD) ∧
  ((k5_dev42 v2) < nD) ∧
  ((k5_dev44 v2) < nD) ∧
  ((k5_dev46 v2) < nD) ∧
  ((k5_dev48 v2) < nD) ∧
  ((k5_dev50 v2) < nD) ∧
  ((k5_dev52 v2) < nD) ∧
  ((k5_dev54 v2) < nD) ∧
  ((k5_dev56 v2) < nD) ∧
  ((k5_dev58 v2) < nD) ∧
  ((k5_dev60 v2) < nD) ∧
  ((k5_dev62 v2) < nD) ∧
  ((k5_dev64 v2) < nD)
def k5_chk2_1 (v2 : BitVec 32) : Prop :=
  ((k5_dev66 v2) < nD) ∧
  ((k5_dev68 v2) < nD) ∧
  ((k5_dev70 v2) < nD) ∧
  ((k5_dev72 v2) < nD) ∧
  ((k5_dev74 v2) < nD) ∧
  ((k5_dev76 v2) < nD) ∧
  ((k5_dev78 v2) < nD) ∧
  ((k5_dev80 v2) < nD) ∧
  ((k5_dev82 v2) < nD) ∧
  ((k5_dev84 v2) < nD) ∧
  ((k5_dev86 v2) < nD) ∧
  ((k5_dev88 v2) < nD) ∧
  ((k5_dev90 v2) < nD) ∧
  ((k5_dev92 v2) < nD) ∧
  ((k5_dev94 v2) < nD) ∧
  ((k5_dev96 v2) < nD) ∧
  ((k5_dev98 v2) < nD) ∧
  ((k5_dev100 v2) < nD) ∧
  ((k5_dev102 v2) < nD) ∧
  ((k5_dev104 v2) < nD) ∧
  ((k5_dev106 v2) < nD) ∧
  ((k5_dev108 v2) < nD) ∧
  ((k5_dev110 v2) < nD) ∧
  ((k5_dev112 v2) < nD) ∧
  ((k5_dev114 v2) < nD) ∧
  ((k5_dev116 v2) < nD) ∧
  ((k5_dev118 v2) < nD) ∧
  ((k5_dev120 v2) < nD) ∧
  ((k5_dev122 v2) < nD) ∧
  ((k5_dev124 v2) < nD) ∧
  ((k5_dev126 v2) < nD)
def k5_chk2 (v2 : BitVec 32) : Prop :=
  k5_chk2_0 v2 ∧
  k5_chk2_1 v2
theorem k5_dev2_lt : ∀ (v2 : BitVec 32) (k5_hw2 : k5_chk2 v2), (k5_dev2 v2) < nD := fun v2 k5_hw2 => k5_hw2.1.1
theorem k5_dev4_lt : ∀ (v2 : BitVec 32) (k5_hw2 : k5_chk2 v2), (k5_dev4 v2) < nD := fun v2 k5_hw2 => k5_hw2.1.2.1
theorem k5_dev6_lt : ∀ (v2 : BitVec 32) (k5_hw2 : k5_chk2 v2), (k5_dev6 v2) < nD := fun v2 k5_hw2 => k5_hw2.1.2.2.1
theorem k5_dev8_lt : ∀ (v2 : BitVec 32) (k5_hw2 : k5_chk2 v2), (k5_dev8 v2) < nD := fun v2 k5_hw2 => k5_hw2.1.2.2.2.1
theorem k5_dev10_lt : ∀ (v2 : BitVec 32) (k5_hw2 : k5_chk2 v2), (k5_dev10 v2) < nD := fun v2 k5_hw2 => k5_hw2.1.2.2.2.2.1
theorem k5_dev12_lt : ∀ (v2 : BitVec 32) (k5_hw2 : k5_chk2 v2), (k5_dev12 v2) < nD := fun v2 k5_hw2 => k5_hw2.1.2.2.2.2.2.1
theorem k5_dev14_lt : ∀ (v2 : BitVec 32) (k5_hw2 : k5_chk2 v2), (k5_dev14 v2) < nD := fun v2 k5_hw2 => k5_hw2.1.2.2.2.2.2.2.1
theorem k5_dev16_lt : ∀ (v2 : BitVec 32) (k5_hw2 : k5_chk2 v2), (k5_dev16 v2) < nD := fun v2 k5_hw2 => k5_hw2.1.2.2.2.2.2.2.2.1
theorem k5_dev18_lt : ∀ (v2 : BitVec 32) (k5_hw2 : k5_chk2 v2), (k5_dev18 v2) < nD := fun v2 k5_hw2 => k5_hw2.1.2.2.2.2.2.2.2.2.1
theorem k5_dev20_lt : ∀ (v2 : BitVec 32) (k5_hw2 : k5_chk2 v2), (k5_dev20 v2) < nD := fun v2 k5_hw2 => k5_hw2.1.2.2.2.2.2.2.2.2.2.1
theorem k5_dev22_lt : ∀ (v2 : BitVec 32) (k5_hw2 : k5_chk2 v2), (k5_dev22 v2) < nD := fun v2 k5_hw2 => k5_hw2.1.2.2.2.2.2.2.2.2.2.2.1
theorem k5_dev24_lt : ∀ (v2 : BitVec 32) (k5_hw2 : k5_chk2 v2), (k5_dev24 v2) < nD := fun v2 k5_hw2 => k5_hw2.1.2.2.2.2.2.2.2.2.2.2.2.1
theorem k5_dev26_lt : ∀ (v2 : BitVec 32) (k5_hw2 : k5_chk2 v2), (k5_dev26 v2) < nD := fun v2 k5_hw2 => k5_hw2.1.2.2.2.2.2.2.2.2.2.2.2.2.1
theorem k5_dev28_lt : ∀ (v2 : BitVec 32) (k5_hw2 : k5_chk2 v2), (k5_dev28 v2) < nD := fun v2 k5_hw2 => k5_hw2.1.2.2.2.2.2.2.2.2.2.2.2.2.2.1
theorem k5_dev30_lt : ∀ (v2 : BitVec 32) (k5_hw2 : k5_chk2 v2), (k5_dev30 v2) < nD := fun v2 k5_hw2 => k5_hw2.1.2.2.2.2.2.2.2.2.2.2.2.2.2.2.1
theorem k5_dev32_lt : ∀ (v2 : BitVec 32) (k5_hw2 : k5_chk2 v2), (k5_dev32 v2) < nD := fun v2 k5_hw2 => k5_hw2.1.2.2.2.2.2.2.2.2.2.2.2.2.2.2.2.1
theorem k5_dev34_lt : ∀ (v2 : BitVec 32) (k5_hw2 : k5_chk2 v2), (k5_dev34 v2) < nD := fun v2 k5_hw2 => k5_hw2.1.2.2.2.2.2.2.2.2.2.2.2.2.2.2.2.2.1
theorem k5_dev36_lt : ∀ (v2 : BitVec 32) (k5_hw2 : k5_chk2 v2), (k5_dev36 v2) < nD := fun v2 k5_hw2 => k5_hw2.1.2.2.2.2.2.2.2.2.2.2.2.2.2.2.2.2.2.1
theorem k5_dev38_lt : ∀ (v2 : BitVec 32) (k5_hw2 : k5_chk2 v2), (k5_dev38 v2) < nD := fun v2 k5_hw2 => k5_hw2.1.2.2.2.2.2.2.2.2.2.2.2.2.2.2.2.2.2.2.1
theorem k5_dev40_lt : ∀ (v2 : BitVec 32) (k5_hw2 : k5_chk2 v2), (k5_dev40 v2) < nD := fun v2 k5_hw2 => k5_hw2.1.2.2.2.2.2.2.2.2.2.2.2.2.2.2.2.2.2.2.2.1
theorem k5_dev42_lt : ∀ (v2 : BitVec 32) (k5_hw2 : k5_chk2 v2), (k5_dev42 v2) < nD := fun v2 k5_hw2 => k5_hw2.1.2.2.2.2.2.2.2.2.2.2.2.2.2.2.2.2.2.2.2.2.1
theorem k5_dev44_lt : ∀ (v2 : BitVec 32) (k5_hw2 : k5_chk2 v2), (k5_dev44 v2) < nD := fun v2 k5_hw2 => k5_hw2.1.2.2.2.2.2.2.2.2.2.2.2.2.2.2.2.2.2.2.2.2.2.1
theorem k5_dev46_lt : ∀ (v2 : BitVec 32) (k5_hw2 : k5_chk2 v2), (k5_dev46 v2) < nD := fun v2 k5_hw2 => k5_hw2.1.2.2.2.2.2.2.2.2.2.2.2.2.2.2.2.2.2.2.2.2.2.2.1
theorem k5_dev48_lt : ∀ (v2 : BitVec 32) (k5_hw2 : k5_chk2 v2), (k5_dev48 v2) < nD := fun v2 k5_hw2 => k5_hw2.1.2.2.2.2.2.2.2.2.2.2.2.2.2.2.2.2.2.2.2.2.2.2.2.1
theorem k5_dev50_lt : ∀ (v2 : BitVec 32) (k5_hw2 : k5_chk2 v2), (k5_dev50 v2) < nD := fun v2 k5_hw2 => k5_hw2.1.2.2.2.2.2.2.2.2.2.2.2.2.2.2.2.2.2.2.2.2.2.2.2.2.1
theorem k5_dev52_lt : ∀ (v2 : BitVec 32) (k5_hw2 : k5_chk2 v2), (k5_dev52 v2) < nD := fun v2 k5_hw2 => k5_hw2.1.2.2.2.2.2.2.2.2.2.2.2.2.2.2.2.2.2.2.2.2.2.2.2.2.2.1
theorem k5_dev54_lt : ∀ (v2 : BitVec 32) (k5_hw2 : k5_chk2 v2), (k5_dev54 v2) < nD := fun v2 k5_hw2 => k5_hw2.1.2.2.2.2.2.2.2.2.2.2.2.2.2.2.2.2.2.2.2.2.2.2.2.2.2.2.1
theorem k5_dev56_lt : ∀ (v2 : BitVec 32) (k5_hw2 : k5_chk2 v2), (k5_dev56 v2) < nD := fun v2 k5_hw2 => k5_hw2.1.2.2.2.2.2.2.2.2.2.2.2.2.2.2.2.2.2.2.2.2.2.2.2.2.2.2.2.1
theorem k5_dev58_lt : ∀ (v2 : BitVec 32) (k5_hw2 : k5_chk2 v2), (k5_dev58 v2) < nD := fun v2 k5_hw2 => k5_hw2.1.2.2.2.2.2.2.2.2.2.2.2.2.2.2.2.2.2.2.2.2.2.2.2.2.2.2.2.2.1
theorem k5_dev60_lt : ∀ (v2 : BitVec 32) (k5_hw2 : k5_chk2 v2), (k5_dev60 v2) < nD := fun v2 k5_hw2 => k5_hw2.1.2.2.2.2.2.2.2.2.2.2.2.2.2.2.2.2.2.2.2.2.2.2.2.2.2.2.2.2.2.1
theorem k5_dev62_lt : ∀ (v2 : BitVec 32) (k5_hw2 : k5_chk2 v2), (k5_dev62 v2) < nD := fun v2 k5_hw2 => k5_hw2.1.2.2.2.2.2.2.2.2.2.2.2.2.2.2.2.2.2.2.2.2.2.2.2.2.2.2.2.2.2.2.1
theorem k5_dev64_lt : ∀ (v2 : BitVec 32) (k5_hw2 : k5_chk2 v2), (k5_dev64 v2) < nD := fun v2 k5_hw2 => k5_hw2.1.2.2.2.2.2.2.2.2.2.2.2.2.2.2.2.2.2.2.2.2.2.2.2.2.2.2.2.2.2.2.2
theorem k5_dev66_lt : ∀ (v2 : BitVec 32) (k5_hw2 : k5_chk2 v2), (k5_dev66 v2) < nD := fun v2 k5_hw2 => k5_hw2.2.1
theorem k5_dev68_lt : ∀ (v2 : BitVec 32) (k5_hw2 : k5_chk2 v2), (k5_dev68 v2) < nD := fun v2 k5_hw2 => k5_hw2.2.2.1
theorem k5_dev70_lt : ∀ (v2 : BitVec 32) (k5_hw2 : k5_chk2 v2), (k5_dev70 v2) < nD := fun v2 k5_hw2 => k5_hw2.2.2.2.1
theorem k5_dev72_lt : ∀ (v2 : BitVec 32) (k5_hw2 : k5_chk2 v2), (k5_dev72 v2) < nD := fun v2 k5_hw2 => k5_hw2.2.2.2.2.1
theorem k5_dev74_lt : ∀ (v2 : BitVec 32) (k5_hw2 : k5_chk2 v2), (k5_dev74 v2) < nD := fun v2 k5_hw2 => k5_hw2.2.2.2.2.2.1
theorem k5_dev76_lt : ∀ (v2 : BitVec 32) (k5_hw2 : k5_chk2 v2), (k5_dev76 v2) < nD := fun v2 k5_hw2 => k5_hw2.2.2.2.2.2.2.1
theorem k5_dev78_lt : ∀ (v2 : BitVec 32) (k5_hw2 : k5_chk2 v2), (k5_dev78 v2) < nD := fun v2 k5_hw2 => k5_hw2.2.2.2.2.2.2.2.1
theorem k5_dev80_lt : ∀ (v2 : BitVec 32) (k5_hw2 : k5_chk2 v2), (k5_dev80 v2) < nD := fun v2 k5_hw2 => k5_hw2.2.2.2.2.2.2.2.2.1
theorem k5_dev82_lt : ∀ (v2 : BitVec 32) (k5_hw2 : k5_chk2 v2), (k5_dev82 v2) < nD := fun v2 k5_hw2 => k5_hw2.2.2.2.2.2.2.2.2.2.1
theorem k5_dev84_lt : ∀ (v2 : BitVec 32) (k5_hw2 : k5_chk2 v2), (k5_dev84 v2) < nD := fun v2 k5_hw2 => k5_hw2.2.2.2.2.2.2.2.2.2.2.1
theorem k5_dev86_lt : ∀ (v2 : BitVec 32) (k5_hw2 : k5_chk2 v2), (k5_dev86 v2) < nD := fun v2 k5_hw2 => k5_hw2.2.2.2.2.2.2.2.2.2.2.2.1
theorem k5_dev88_lt : ∀ (v2 : BitVec 32) (k5_hw2 : k5_chk2 v2), (k5_dev88 v2) < nD := fun v2 k5_hw2 => k5_hw2.2.2.2.2.2.2.2.2.2.2.2.2.1
theorem k5_dev90_lt : ∀ (v2 : BitVec 32) (k5_hw2 : k5_chk2 v2), (k5_dev90 v2) < nD := fun v2 k5_hw2 => k5_hw2.2.2.2.2.2.2.2.2.2.2.2.2.2.1
theorem k5_dev92_lt : ∀ (v2 : BitVec 32) (k5_hw2 : k5_chk2 v2), (k5_dev92 v2) < nD := fun v2 k5_hw2 => k5_hw2.2.2.2.2.2.2.2.2.2.2.2.2.2.2.1
theorem k5_dev94_lt : ∀ (v2 : BitVec 32) (k5_hw2 : k5_chk2 v2), (k5_dev94 v2) < nD := fun v2 k5_hw2 => k5_hw2.2.2.2.2.2.2.2.2.2.2.2.2.2.2.2.1
theorem k5_dev96_lt : ∀ (v2 : BitVec 32) (k5_hw2 : k5_chk2 v2), (k5_dev96 v2) < nD := fun v2 k5_hw2 => k5_hw2.2.2.2.2.2.2.2.2.2.2.2.2.2.2.2.2.1
theorem k5_dev98_lt : ∀ (v2 : BitVec 32) (k5_hw2 : k5_chk2 v2), (k5_dev98 v2) < nD := fun v2 k5_hw2 => k5_hw2.2.2.2.2.2.2.2.2.2.2.2.2.2.2.2.2.2.1
theorem k5_dev100_lt : ∀ (v2 : BitVec 32) (k5_hw2 : k5_chk2 v2), (k5_dev100 v2) < nD := fun v2 k5_hw2 => k5_hw2.2.2.2.2.2.2.2.2.2.2.2.2.2.2.2.2.2.2.1
theorem k5_dev102_lt : ∀ (v2 : BitVec 32) (k5_hw2 : k5_chk2 v2), (k5_dev102 v2) < nD := fun v2 k5_hw2 => k5_hw2.2.2.2.2.2.2.2.2.2.2.2.2.2.2.2.2.2.2.2.1
theorem k5_dev104_lt : ∀ (v2 : BitVec 32) (k5_hw2 : k5_chk2 v2), (k5_dev104 v2) < nD := fun v2 k5_hw2 => k5_hw2.2.2.2.2.2.2.2.2.2.2.2.2.2.2.2.2.2.2.2.2.1
theorem k5_dev106_lt : ∀ (v2 : BitVec 32) (k5_hw2 : k5_chk2 v2), (k5_dev106 v2) < nD := fun v2 k5_hw2 => k5_hw2.2.2.2.2.2.2.2.2.2.2.2.2.2.2.2.2.2.2.2.2.2.1
theorem k5_dev108_lt : ∀ (v2 : BitVec 32) (k5_hw2 : k5_chk2 v2), (k5_dev108 v2) < nD := fun v2 k5_hw2 => k5_hw2.2.2.2.2.2.2.2.2.2.2.2.2.2.2.2.2.2.2.2.2.2.2.1
theorem k5_dev110_lt : ∀ (v2 : BitVec 32) (k5_hw2 : k5_chk2 v2), (k5_dev110 v2) < nD := fun v2 k5_hw2 => k5_hw2.2.2.2.2.2.2.2.2.2.2.2.2.2.2.2.2.2.2.2.2.2.2.2.1
theorem k5_dev112_lt : ∀ (v2 : BitVec 32) (k5_hw2 : k5_chk2 v2), (k5_dev112 v2) < nD := fun v2 k5_hw2 => k5_hw2.2.2.2.2.2.2.2.2.2.2.2.2.2.2.2.2.2.2.2.2.2.2.2.2.1
theorem k5_dev114_lt : ∀ (v2 : BitVec 32) (k5_hw2 : k5_chk2 v2), (k5_dev114 v2) < nD := fun v2 k5_hw2 => k5_hw2.2.2.2.2.2.2.2.2.2.2.2.2.2.2.2.2.2.2.2.2.2.2.2.2.2.1
theorem k5_dev116_lt : ∀ (v2 : BitVec 32) (k5_hw2 : k5_chk2 v2), (k5_dev116 v2) < nD := fun v2 k5_hw2 => k5_hw2.2.2.2.2.2.2.2.2.2.2.2.2.2.2.2.2.2.2.2.2.2.2.2.2.2.2.1
theorem k5_dev118_lt : ∀ (v2 : BitVec 32) (k5_hw2 : k5_chk2 v2), (k5_dev118 v2) < nD := fun v2 k5_hw2 => k5_hw2.2.2.2.2.2.2.2.2.2.2.2.2.2.2.2.2.2.2.2.2.2.2.2.2.2.2.2.1
theorem k5_dev120_lt : ∀ (v2 : BitVec 32) (k5_hw2 : k5_chk2 v2), (k5_dev120 v2) < nD := fun v2 k5_hw2 => k5_hw2.2.2.2.2.2.2.2.2.2.2.2.2.2.2.2.2.2.2.2.2.2.2.2.2.2.2.2.2.1
theorem k5_dev122_lt : ∀ (v2 : BitVec 32) (k5_hw2 : k5_chk2 v2), (k5_dev122 v2) < nD := fun v2 k5_hw2 => k5_hw2.2.2.2.2.2.2.2.2.2.2.2.2.2.2.2.2.2.2.2.2.2.2.2.2.2.2.2.2.2.1
theorem k5_dev124_lt : ∀ (v2 : BitVec 32) (k5_hw2 : k5_chk2 v2), (k5_dev124 v2) < nD := fun v2 k5_hw2 => k5_hw2.2.2.2.2.2.2.2.2.2.2.2.2.2.2.2.2.2.2.2.2.2.2.2.2.2.2.2.2.2.2.1
theorem k5_dev126_lt : ∀ (v2 : BitVec 32) (k5_hw2 : k5_chk2 v2), (k5_dev126 v2) < nD := fun v2 k5_hw2 => k5_hw2.2.2.2.2.2.2.2.2.2.2.2.2.2.2.2.2.2.2.2.2.2.2.2.2.2.2.2.2.2.2.2

abbrev stage5_0 : Fin 1 → Memref sig .tc .smem S4 .i32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S2048x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S2048x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
-- ==== ReferenceIdeal.lean ====
abbrev S2048x1024 : Shape := ⟨2, ![2048, 1024]⟩
abbrev S1024x65536 : Shape := ⟨2, ![1024, 65536]⟩
abbrev S65536x1024 : Shape := ⟨2, ![65536, 1024]⟩
abbrev S2048x65536 : Shape := ⟨2, ![2048, 65536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x65536, .f32⟩
  | .hbm, ⟨2, _⟩ => ⟨S65536x1024, .f32⟩
  | .hbm, ⟨3, _⟩ => ⟨S1024x65536, .f32⟩
  | .hbm, ⟨4, _⟩ => ⟨S65536x1024, .f32⟩
  | .hbm, ⟨5, _⟩ => ⟨S1024x65536, .f32⟩
  | .hbm, ⟨6, _⟩ => ⟨S65536x1024, .f32⟩
  | .hbm, ⟨7, _⟩ => ⟨S2048x65536, .f32⟩
  | .hbm, ⟨8, _⟩ => ⟨S_, .f32⟩
  | .hbm, ⟨9, _⟩ => ⟨S2048x65536, .f32⟩
  | .hbm, ⟨10, _⟩ => ⟨S2048x65536, .f32⟩
  | .hbm, ⟨11, _⟩ => ⟨S2048x1024, .f32⟩
  | .hbm, ⟨12, _⟩ => ⟨S2048x65536, .f32⟩
  | .hbm, ⟨13, _⟩ => ⟨S_, .f32⟩
  | .hbm, ⟨14, _⟩ => ⟨S2048x65536, .f32⟩
  | .hbm, ⟨15, _⟩ => ⟨S2048x65536, .f32⟩
  | .hbm, ⟨16, _⟩ => ⟨S2048x1024, .f32⟩
  | .hbm, ⟨17, _⟩ => ⟨S2048x65536, .f32⟩
  | .hbm, ⟨18, _⟩ => ⟨S_, .f32⟩
  | .hbm, ⟨19, _⟩ => ⟨S2048x65536, .f32⟩
  | .hbm, ⟨20, _⟩ => ⟨S2048x65536, .f32⟩
  | .hbm, ⟨21, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ring.Prog.lean ====
module

public import Idealize.ShloMosaic.Lib.Pipeline
public import Idealize.ShloMosaic.Lib.Scf
public import Idealize.ShloMosaic.Lib.Sig
public import Idealize.ShloMosaic.Lib.StableHlo
public import Idealize.ShloMosaic.PureOps

/-! The steps of a ring over slots: what a kernel of this kind is made of, over any signature. -/

@[expose] public section

noncomputable section

namespace Cert.Ring

open Idealize.ShloMosaic Idealize.SL.Sem

abbrev nD : Nat := 32
abbrev τ : Topo := Topo.v7x

abbrev S_ : Shape := ⟨0, ![]⟩
abbrev S1 : Shape := ⟨1, ![1]⟩
abbrev S31 : Shape := ⟨1, ![31]⟩
abbrev S32x1024 : Shape := ⟨2, ![32, 1024]⟩
abbrev S1x32x1024 : Shape := ⟨3, ![1, 32, 1024]⟩
abbrev S4x32x1024 : Shape := ⟨3, ![4, 32, 1024]⟩
abbrev S2048x1024 : Shape := ⟨2, ![2048, 1024]⟩

theorem pos_rows : 0 < S32x1024.numel := by decide
theorem pos_slot : 0 < S1x32x1024.numel := by decide
theorem slot_rows : S1x32x1024.ShapeCasts S32x1024 := by decide
theorem rows_slot : S32x1024.ShapeCasts S1x32x1024 := by decide
theorem rows_rows : S32x1024.ShapeCasts S32x1024 := by decide
theorem squeeze_slot : S1x32x1024.Squeezes S32x1024 := by decide
theorem squeeze_sem : S1.Squeezes S_ := by decide

theorem slot_inb (n : Nat) : ∀ a, (![n % 4, 0, 0] : Fin 3 → Nat) a + S1x32x1024.size a ≤ S4x32x1024.size a := by
  have h : n % 4 < 4 := Nat.mod_lt _ (by decide)
  generalize n % 4 = k at h
  revert k; decide

theorem sem_inb (h : Fin 31) : ∀ a, (![h.val] : Fin 1 → Nat) a + S1.size a ≤ S31.size a := by
  revert h; decide

/-- An offset of 32 rows inside an array of 2048. -/
abbrev RowsIn (off : Fin 2 → Nat) : Prop := ∀ a, off a + S32x1024.size a ≤ S2048x1024.size a

abbrev rowRect (off : Fin 2 → Nat) (h : RowsIn off) : Rect S2048x1024 := Rect.unit (s := S2048x1024) off S32x1024.size h

/-- Slot `n % 4` of a communication buffer, as a rectangle, -/
abbrev slotRect (n : Nat) : Rect S4x32x1024 := Rect.unit (s := S4x32x1024) ![n % 4, 0, 0] S1x32x1024.size (slot_inb n)

variable {F : FTy → Type} [FloatOps F]

/-- A slot's contents as rows, and rows as a slot's contents. -/
abbrev toRows (v : FVec F S1x32x1024 .f32) : FVec F S32x1024 .f32 := shapeCast S32x1024 v slot_rows
abbrev toSlot (v : FVec F S32x1024 .f32) : FVec F S1x32x1024 .f32 := shapeCast S1x32x1024 v rows_slot
abbrev sameRows (v : FVec F S32x1024 .f32) : FVec F S32x1024 .f32 := shapeCast S32x1024 v rows_rows

variable {sig : RefSig} {Λ : Labels}

/-- A communication buffer of four slots, and an array of 2048 rows. -/
abbrev SlotMem (sig : RefSig) : Type := Memref sig .tc .vmem S4x32x1024 .f32
abbrev RowMem (sig : RefSig) : Type := Memref sig .tc .vmem S2048x1024 .f32

/-- and as the memory a copy reads or writes. -/
abbrev slotRef (m : SlotMem sig) (n : Nat) : Memref sig .tc .vmem S32x1024 .f32 :=
  (m.slice (slotRect n) (fun _ => rfl)).squeeze S32x1024 squeeze_slot

/-- Semaphore `h` of an array of 31. -/
abbrev semOf (a : DmaSems sig S31) (h : Fin 31) : DmaSem sig :=
  ((a.slice (Rect.unit (s := S31) ![h.val] S1.size (sem_inb h))).squeeze S_ squeeze_sem : DmaSems sig S_).sem

/-- Hop number `h` of a phase. -/
abbrev hopNo (h : Nat) : Fin 31 := ⟨h % 31, Nat.mod_lt _ (by decide)⟩

/-- Operations and programs of a kernel's body. -/
abbrev Op (sig : RefSig) (Λ : Labels) (F : FTy → Type) : Type → Type := TpuEff nD τ sig (Elt F) Λ .tc
abbrev BodyProg (sig : RefSig) (Λ : Labels) (F : FTy → Type) : Type → Type 1 := Prog (TpuEff nD τ sig (Elt F) Λ .tc)

/-- Start one copy: slot `n` of `m` here into slot `n + 1` of `m` on `d`. -/
abbrev send (m : SlotMem sig) (d : Dev nD) (s r : DmaSem sig) (n : Nat) : Op sig Λ F PUnit :=
  .enqueueDma (slotRef m n) (.remote (Dev.tc d) (slotRef m (n + 1)) (.dma s)) (.dma r)
    ((View.wordExact_bits rfl).reshape _ _) ((View.wordExact_bits rfl).reshape _ _) ⟨⟨rfl, Or.inl rfl⟩, trivial⟩

/-- Wait for a copy of one slot. -/
abbrev await (m : SlotMem sig) (s : DmaSem sig) (a b : Nat) : Op sig Λ F PUnit :=
  .waitDma2 s (slotRef m a) (slotRef m b) ((View.wordExact_bits rfl).reshape _ _) ((View.wordExact_bits rfl).reshape _ _)

/-- Read a slot. -/
abbrev loadSlot (m : SlotMem sig) (n : Nat) : Op sig Λ F (Vec F S1x32x1024 .f32) :=
  .load m (slotRect n).toLoadRect (View.loadsAt_vmem pos_slot)

/-- Write a slot. -/
abbrev storeSlot (m : SlotMem sig) (n : Nat) (v : FVec F S1x32x1024 .f32) : Op sig Λ F PUnit :=
  .store m (slotRect n) v Finset.univ (View.stores_vmem_bits_univ pos_slot rfl) (.inl rfl)

/-- Read 32 rows. -/
abbrev loadRows (m : RowMem sig) (off : Fin 2 → Nat) (h : RowsIn off) : Op sig Λ F (Vec F S32x1024 .f32) :=
  .load m (rowRect off h).toLoadRect (View.loadsAt_vmem pos_rows)

/-- Write 32 rows. -/
abbrev storeRows (m : RowMem sig) (off : Fin 2 → Nat) (h : RowsIn off) (v : FVec F S32x1024 .f32) : Op sig Λ F PUnit :=
  .store m (rowRect off h) v Finset.univ (View.stores_vmem_bits_univ pos_rows rfl) (.inl rfl)

/-- The exchange of a hop: both copies started, then both waited for. -/
def exchange (M : Bool → SlotMem sig) (peer : Bool → Dev nD) (s r : Bool → DmaSem sig) (n : Nat) : BodyProg sig Λ F PUnit :=
  .op (send (M false) (peer false) (s false) (r false) n) fun _ =>
  .op (send (M true) (peer true) (s true) (r true) n) fun _ =>
  .op (await (M false) (s false) (n + 1) n) fun _ =>
  .op (await (M false) (r false) n (n + 1)) fun _ =>
  .op (await (M true) (s true) (n + 1) n) fun _ =>
  .op (await (M true) (r true) n (n + 1)) .ret

/-- Put rows of `p` into slot 0. -/
def fill (p : RowMem sig) (m : SlotMem sig) (off : Fin 2 → Nat) (h : RowsIn off) : BodyProg sig Λ F PUnit :=
  .op (loadRows p off h) fun v =>
  .op (loadSlot m 0) fun _ =>
  .op (storeSlot m 0 (toSlot (sameRows v))) .ret

/-- Add rows of `p` to a slot. -/
def addRows (p : RowMem sig) (m : SlotMem sig) (n : Nat) (off : Fin 2 → Nat) (h : RowsIn off) : BodyProg sig Λ F PUnit :=
  .op (loadSlot m n) fun v =>
  .op (loadRows p off h) fun w =>
  .op (loadSlot m n) fun _ =>
  .op (storeSlot m n (toSlot (addf (toRows v) (sameRows w)))) .ret

/-- Copy a slot to rows of the result. -/
def emit (out : RowMem sig) (m : SlotMem sig) (n : Nat) (off : Fin 2 → Nat) (h : RowsIn off) : BodyProg sig Λ F PUnit :=
  .op (loadSlot m n) fun v =>
  .op (loadRows out off h) fun _ =>
  .op (storeRows out off h (toRows v)) .ret

/-- The offsets of a device's accesses, as its kernel computes them. -/
structure Offs where
  fillAt : Bool → Fin 2 → Nat
  fillIn : ∀ d, RowsIn (fillAt d)
  addAt : Bool → Fin 31 → Fin 2 → Nat
  addIn : ∀ d h, RowsIn (addAt d h)
  midAt : Bool → Fin 2 → Nat
  midIn : ∀ d, RowsIn (midAt d)
  emitAt : Bool → Fin 31 → Fin 2 → Nat
  emitIn : ∀ d h, RowsIn (emitAt d h)

/-- What the kernel's part after its start is run with. -/
structure Args (sig : RefSig) where
  p : RowMem sig
  out : RowMem sig
  M : Bool → SlotMem sig
  s : Bool → DmaSems sig S31
  r : Bool → DmaSems sig S31
  s' : Bool → DmaSems sig S31
  r' : Bool → DmaSems sig S31

/-- The semaphores of hop `g` of 62. -/
def Args.sS (A : Args sig) (d : Bool) (g : Nat) : DmaSem sig := if g < 31 then semOf (A.s d) (hopNo g) else semOf (A.s' d) (hopNo g)
def Args.sR (A : Args sig) (d : Bool) (g : Nat) : DmaSem sig := if g < 31 then semOf (A.r d) (hopNo g) else semOf (A.r' d) (hopNo g)

/-- A hop of the first phase. -/
def addHop (A : Args sig) (peer : Bool → Dev nD) (O : Offs) (g : Nat) : BodyProg sig Λ F PUnit := do
  exchange A.M peer (fun d => semOf (A.s d) (hopNo g)) (fun d => semOf (A.r d) (hopNo g)) g
  addRows A.p (A.M false) (g + 1) (O.addAt false (hopNo g)) (O.addIn false (hopNo g))
  addRows A.p (A.M true) (g + 1) (O.addAt true (hopNo g)) (O.addIn true (hopNo g))

/-- A hop of the second phase. -/
def copyHop (A : Args sig) (peer : Bool → Dev nD) (O : Offs) (g : Nat) : BodyProg sig Λ F PUnit := do
  exchange A.M peer (fun d => semOf (A.s' d) (hopNo g)) (fun d => semOf (A.r' d) (hopNo g)) (31 + g)
  emit A.out (A.M false) (31 + g + 1) (O.emitAt false (hopNo g)) (O.emitIn false (hopNo g))
  emit A.out (A.M true) (31 + g + 1) (O.emitAt true (hopNo g)) (O.emitIn true (hopNo g))

/-- Hops `n`, `n + 1`, … , `k` of them, then the rest. -/
def hops (f : Nat → BodyProg sig Λ F PUnit) : Nat → Nat → BodyProg sig Λ F PUnit → BodyProg sig Λ F PUnit
  | _, 0, q => q
  | n, k + 1, q => f n >>= fun _ => hops f (n + 1) k q

/-- The part after the barrier. -/
def reduceBody (A : Args sig) (peer : Bool → Dev nD) (O : Offs) : BodyProg sig Λ F PUnit := do
  fill A.p (A.M false) (O.fillAt false) (O.fillIn false)
  fill A.p (A.M true) (O.fillAt true) (O.fillIn true)
  hops (addHop A peer O) 0 31 (do
    emit A.out (A.M false) 31 (O.midAt false) (O.midIn false)
    emit A.out (A.M true) 31 (O.midAt true) (O.midIn true)
    hops (copyHop A peer O) 0 31 (pure ⟨⟩))

end Cert.Ring

end
-- ==== Proof.Ring.Hop.lean ====
module

public import Idealize.ShloMosaic.Lib.Rounds
public import Idealize.ShloMosaic.Lib.Tactic
public import Idealize.ShloMosaic.Lib.Pipeline.Value
public import Idealize.ShloMosaic.Harness.Basic
public import proofs.«01_k».proof.Proof.Ring.Prog

/-! One hop of a ring that goes both ways: each device sends a slot to both neighbours and receives one from each.
    Beside its slot a copy carries the right to write a slot of the sender's: the one the receiver fills next. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {F : FTy → Type} [FloatOps F] {Ix : Type} [DecidableEq Ix] {U : Type} [URA U] {Λ : Labels}

/-! ## Slots -/

section Slots

variable (m : SlotMem sig) (c : Dev nD)

/-- A slot of device `c`, held whole at `f`. -/
abbrev slotPts (n : ℕ) (f : Buf (Elt F) ((slotRef m n).view.loc (c : Thread nD τ))) : sProp (MT nD τ sig Ix (Elt F) ℕ U ℕ) :=
  (slotRef m n).view.loc (c : Thread nD τ) ↦[(slotRef m n).view.set]{fullShare} f

/-- Memory of device `c` that reads as the rows `v`, -/
def refIs (r : Memref sig .tc .vmem S32x1024 .f32) (v : FVec F S32x1024 .f32) : sProp (MT nD τ sig Ix (Elt F) ℕ U ℕ) :=
  iprop(∃ f : Buf (Elt F) (r.view.loc (c : Thread nD τ)), ⌜r.view.read (Elt F) f = v⌝ ∗ (r.view.loc (c : Thread nD τ) ↦[r.view.set]{fullShare} f))

/-- or as anything; -/
def refAny (r : Memref sig .tc .vmem S32x1024 .f32) : sProp (MT nD τ sig Ix (Elt F) ℕ U ℕ) :=
  iprop(∃ f : Buf (Elt F) (r.view.loc (c : Thread nD τ)), (r.view.loc (c : Thread nD τ) ↦[r.view.set]{fullShare} f))

/-- and a slot of its. -/
def slotIs (n : ℕ) (v : FVec F S32x1024 .f32) : sProp (MT nD τ sig Ix (Elt F) ℕ U ℕ) := refIs c (slotRef m n) v
def slotAny (n : ℕ) : sProp (MT nD τ sig Ix (Elt F) ℕ U ℕ) := refAny c (slotRef m n)

instance slotIs_storable (n : ℕ) (v : FVec F S32x1024 .f32) : BI.Storable (upEmb : UEmb _ (MT nD τ sig Ix (Elt F) ℕ U ℕ)) (slotIs m c n v) := by
  unfold slotIs refIs; infer_instance
instance slotAny_storable (n : ℕ) : BI.Storable (upEmb : UEmb _ (MT nD τ sig Ix (Elt F) ℕ U ℕ)) (slotAny (F := F) m c n) := by
  unfold slotAny refAny; infer_instance

theorem slotIs_any (n : ℕ) (v : FVec F S32x1024 .f32) : slotIs m c n v ⊢ (slotAny m c n : sProp (MT nD τ sig Ix (Elt F) ℕ U ℕ)) := by
  unfold slotIs slotAny refIs refAny
  iintro ⟨%f, -, H⟩
  iexists f; iexact H

theorem slotRef_congr {n n' : ℕ} (h : n % 4 = n' % 4) : slotRef m n = slotRef m n' := by
  have key : ∀ (k k' : ℕ) (hk : ∀ a, (![k, 0, 0] : Fin 3 → Nat) a + S1x32x1024.size a ≤ S4x32x1024.size a)
      (hk' : ∀ a, (![k', 0, 0] : Fin 3 → Nat) a + S1x32x1024.size a ≤ S4x32x1024.size a), k = k' →
      (m.slice (Rect.unit (s := S4x32x1024) ![k, 0, 0] S1x32x1024.size hk) (fun _ => rfl)).squeeze S32x1024 squeeze_slot
        = (m.slice (Rect.unit (s := S4x32x1024) ![k', 0, 0] S1x32x1024.size hk') (fun _ => rfl)).squeeze S32x1024 squeeze_slot := by
    intro k k' hk hk' e; subst e; rfl
  exact key _ _ _ _ h

theorem slotAny_congr {n n' : ℕ} (h : n % 4 = n' % 4) :
    slotAny m c n = (slotAny m c n' : sProp (MT nD τ sig Ix (Elt F) ℕ U ℕ)) := by
  unfold slotAny; rw [slotRef_congr m h]
theorem slotIs_congr {n n' : ℕ} (h : n % 4 = n' % 4) (v : FVec F S32x1024 .f32) :
    slotIs m c n v = (slotIs m c n' v : sProp (MT nD τ sig Ix (Elt F) ℕ U ℕ)) := by
  unfold slotIs; rw [slotRef_congr m h]

/-- The elements of a slot, as a load or a store names them. -/
theorem slot_set (n : ℕ) : (slotRef m n).view.set = (m.access (slotRect n)).set := View.set_reshape _ _

theorem read_slot (n : ℕ) (f : Buf (Elt F) (m.view.loc (c : Thread nD τ))) :
    toRows ((m.access (slotRect n)).read (Elt F) f) = (slotRef m n).view.read (Elt F) f := rfl

variable {defs : Defs nD τ sig (Elt F) Λ} (𝒱 : Variants) (bd : Option 𝒱.V) {α : Type} {Q : α → sProp (MT nD τ sig Ix (Elt F) ℕ U ℕ)}

/-- A slot's load gives its rows; -/
theorem wp_loadSlot {n : ℕ} {v : FVec F S32x1024 .f32} {k : Vec F S1x32x1024 .f32 → Prog (TpuEff nD τ sig (Elt F) Λ .tc) α} :
    slotIs m c n v
      ⊢ iprop((∀ w : Vec F S1x32x1024 .f32, ⌜toRows w = v⌝ -∗ slotIs m c n v -∗ wp frame (wpE defs 𝒱 c bd) Set.univ (k w) Q)
        -∗ wp frame (wpE defs 𝒱 c bd) Set.univ (.op (loadSlot m n) k) Q) := by
  unfold slotIs refIs
  iintro ⟨%f, %hf, H⟩ Hk
  iapply (wp_load_rect 𝒱 (c : Thread nD τ) bd Set.univ (m := m) (r := slotRect n) (f := f) (S := (slotRef m n).view.set) (q := fullShare)
    (slot_set m n).symm.subset) $$ [H]
  · iexact H
  iintro H
  iapply Hk $$ %((m.access (slotRect n)).read (Elt F) f) %hf [H]
  iexists f
  isplitr
  · ipureintro; exact hf
  iexact H

/-- its store leaves the rows stored. -/
theorem wp_storeSlot {n : ℕ} {w : FVec F S32x1024 .f32} {k : PUnit → Prog (TpuEff nD τ sig (Elt F) Λ .tc) α} :
    slotAny m c n
      ⊢ iprop((slotIs m c n w -∗ wp frame (wpE defs 𝒱 c bd) Set.univ (k ⟨⟩) Q)
        -∗ wp frame (wpE defs 𝒱 c bd) Set.univ (.op (storeSlot m n (toSlot w)) k) Q) := by
  unfold slotIs slotAny refIs refAny
  iintro ⟨%f, H⟩ Hk
  iapply (wp_store 𝒱 (c : Thread nD τ) bd Set.univ (m := m) (r := slotRect n) (f := f) (S := (slotRef m n).view.set)
    (by rw [View.setOn_univ]; exact (slot_set m n).symm.subset)) $$ [H]
  · iexact H
  iintro H
  iapply Hk
  iexists ((m.access (slotRect n)).write (Elt F) f (toSlot w) Finset.univ)
  isplitr
  · ipureintro
    rw [← read_slot m c, View.read_write_univ]
    exact shapeCast_shapeCast w rows_slot slot_rows
  iexact H

theorem await_eq (s : DmaSem sig) (a b : ℕ) (K : PUnit → sProp (MT nD τ sig Ix (Elt F) ℕ U ℕ)) :
    wpE defs 𝒱 (c : Thread nD τ) bd Set.univ (await m s a b) K
      = waitSpec (c : Thread nD τ) Set.univ (.dma s) (slotRef m 0).view.dmaCredit K :=
  wpE_waitDma2_eq 𝒱 (c : Thread nD τ) bd Set.univ K

end Slots

/-! ## The network -/

/-- A ring both ways, its protocol, and what travels on it. -/
structure Net (sig : RefSig) (F : FTy → Type) [FloatOps F] (Ix : Type) [DecidableEq Ix] (U : Type) [URA U] where
  E : Emb (URounds (GSem nD τ sig) Bool) (MT nD τ sig Ix (Elt F) ℕ U ℕ)
  Rd : Schedule (GSem nD τ sig) Bool (MT nD τ sig Ix (Elt F) ℕ U ℕ)
  K : GSem nD τ sig → ℕ
  M : Bool → SlotMem sig
  peer : Bool → Dev nD → Dev nD
  sS : Bool → ℕ → DmaSem sig
  sR : Bool → ℕ → DmaSem sig
  /-- The number of hops. -/
  last : ℕ
  /-- What device `c` sends at hop `g`. -/
  acc : Bool → ℕ → Dev nD → FVec F S32x1024 .f32
  ι : Ix
  L : GSem nD τ sig → Finset Ix
  lv : GSem nD τ sig → Ix → ℕ
  lo : ℕ
  /-- What a device still owes after the last hop. -/
  base : Dev nD → CellTallies nD τ sig Ix
  /-- What each device can vouch for before the first hop, and its copies pass on. -/
  note : Dev nD → sProp (MT nD τ sig Ix (Elt F) ℕ U ℕ)
  note_persistent : ∀ c, BI.Persistent (note c)
  note_storable : ∀ c, BI.Storable (upEmb : UEmb _ (MT nD τ sig Ix (Elt F) ℕ U ℕ)) (note c)
  /-- What every device knows throughout. -/
  I : sProp (MT nD τ sig Ix (Elt F) ℕ U ℕ)

namespace Net

variable (X : Net sig F Ix U) (d : Bool) (c : Dev nD) (g : ℕ)

local notation "ℙ" => sProp (MT nD τ sig Ix (Elt F) ℕ U ℕ)

abbrev sCell : GSem nD τ sig := ((c : Thread nD τ), .dma (X.sS d g))
abbrev rCell : GSem nD τ sig := ((c : Thread nD τ), .dma (X.sR d g))

/-- The device whose copies in direction `d` arrive at `c`. -/
abbrev from_ : Dev nD := X.peer (!d) c

abbrev is (v : FVec F S32x1024 .f32) : ℙ := slotIs (X.M d) c g v
abbrev any : ℙ := slotAny (X.M d) c g

/-- What one copy credits. -/
abbrev N : ℕ := (slotRef (X.M d) 0).view.dmaCredit

/-- The slot device `c` lets its neighbour in direction `!d` fill at hop `g + 1`. -/
def lend : ℙ := if g + 1 < X.last then X.any d c (g + 2) else iprop(emp)

instance : BI.Persistent (X.note c) := X.note_persistent c
instance : BI.Storable (upEmb : UEmb _ (MT nD τ sig Ix (Elt F) ℕ U ℕ)) (X.note c) := X.note_storable c

def recvPay : ℙ := iprop(X.is d c (g + 1) (X.acc d g (X.from_ d c)) ∗ X.lend (!d) (X.from_ d c) g ∗ X.note (X.from_ d c))
abbrev sendPay : ℙ := X.any d c g

instance lend_storable : BI.Storable (upEmb : UEmb _ (MT nD τ sig Ix (Elt F) ℕ U ℕ)) (X.lend d c g) := by
  unfold lend; split <;> infer_instance
instance recvPay_storable : BI.Storable (upEmb : UEmb _ (MT nD τ sig Ix (Elt F) ℕ U ℕ)) (X.recvPay d c g) := by
  unfold recvPay; infer_instance

/-- What device `c` owes with `k` hops to go from hop `n` on. -/
def owe : ℕ → ℕ → CellTallies nD τ sig Ix
  | _, 0 => X.base c
  | n, k + 1 => owe (n + 1) k + tallyAt (X.rCell true (X.peer true c) n) X.ι (X.N true) + tallyAt (X.rCell false (X.peer false c) n) X.ι (X.N false)

/-- The levels. -/
def levs : ℙ := levAts X.L X.lv

/-- The protocol is this ring's. -/
structure Ok : Prop where
  peer_peer : ∀ d c, X.peer (!d) (X.peer d c) = c
  persistent : BI.Persistent X.I
  inv_send : ∀ d c g, g < X.last → X.I ⊢ cellInv X.E X.Rd (X.K (X.sCell d c g)) (X.sCell d c g)
  inv_recv : ∀ d c g, g < X.last → X.I ⊢ cellInv X.E X.Rd (X.K (X.rCell d c g)) (X.rCell d c g)
  hlev : X.I ⊢ X.levs
  unitless : ∀ g, ¬ X.Rd.unitless g
  duties_send : ∀ d c g, g < X.last → X.Rd.duties (X.sCell d c g) 0 = {false}
  duties_recv : ∀ d c g, g < X.last → X.Rd.duties (X.rCell d c g) 0 = {false}
  later_send : ∀ d c g, g < X.last → ∀ r, 1 ≤ r → X.Rd.duties (X.sCell d c g) r = ∅
  later_recv : ∀ d c g, g < X.last → ∀ r, 1 ≤ r → X.Rd.duties (X.rCell d c g) r = ∅
  amount_send : ∀ d c g, g < X.last → X.Rd.amount (X.sCell d c g) 0 false = X.N d
  amount_recv : ∀ d c g, g < X.last → X.Rd.amount (X.rCell d c g) 0 false = X.N d
  payload_send : ∀ d c g, g < X.last → X.Rd.payload (X.sCell d c g) 0 false = X.sendPay d c g
  payload_recv : ∀ d c g, g < X.last → X.Rd.payload (X.rCell d c g) 0 false = X.recvPay d c g
  mem_send : ∀ d c g, g < X.last → X.ι ∈ X.L (X.sCell d c g)
  mem_recv : ∀ d c g, g < X.last → X.ι ∈ X.L (X.rCell d c g)
  lv_send : ∀ d c g, g < X.last → X.lv (X.sCell d c g) X.ι = X.lo
  lv_recv : ∀ d c g, g < X.last → X.lv (X.rCell d c g) X.ι = X.lo + 2 + g
  mem_base : ∀ c s i, 0 < X.base c s i → i ∈ X.L s ∧ X.lo + 2 + X.last ≤ X.lv s i

/-- What device `c` brings to hop `g` for direction `d`, -/
def res : ℙ :=
  iprop(atPos X.E (X.sCell d c g) 0 ∅ 0 ∗ atPos X.E (X.rCell d c g) 0 ∅ 0
    ∗ dutyTok X.E (X.sCell d c g) 0 false ∗ dutyTok X.E (X.rCell d (X.peer d c) g) 0 false
    ∗ cred (tallyAt (X.rCell d c g) X.ι (X.N d))
    ∗ reached X.E (X.sCell d c g) 0 ∗ reached X.E (X.rCell d (X.peer d c) g) 0 ∗ X.note c)

/-- and what it takes away: both counters, at zero, and its neighbour's word. -/
def done : ℙ := iprop((semVal (X.sCell d c g) 0 ∗ semVal (X.rCell d c g) 0) ∗ X.note (X.from_ d c))

variable {X}

theorem Ok.expect_send (h : X.Ok) (hg : g < X.last) : X.Rd.expect (X.sCell d c g) 0 = X.N d := by
  unfold Schedule.expect Schedule.amountOf; rw [h.duties_send d c g hg, Finset.sum_singleton, h.amount_send d c g hg]
theorem Ok.expect_recv (h : X.Ok) (hg : g < X.last) : X.Rd.expect (X.rCell d c g) 0 = X.N d := by
  unfold Schedule.expect Schedule.amountOf; rw [h.duties_recv d c g hg, Finset.sum_singleton, h.amount_recv d c g hg]

theorem Ok.rest_send (h : X.Ok) (hg : g < X.last) :
    bigSep (X.Rd.duties (X.sCell d c g) 0 \ ∅) (fun u => X.Rd.payload (X.sCell d c g) 0 u) = X.sendPay d c g := by
  rw [Finset.sdiff_empty, h.duties_send d c g hg, bigSep_singleton, h.payload_send d c g hg]
theorem Ok.rest_recv (h : X.Ok) (hg : g < X.last) :
    bigSep (X.Rd.duties (X.rCell d c g) 0 \ ∅) (fun u => X.Rd.payload (X.rCell d c g) 0 u) = X.recvPay d c g := by
  rw [Finset.sdiff_empty, h.duties_recv d c g hg, bigSep_singleton, h.payload_recv d c g hg]

theorem pos_of_tallyAt {s s' : GSem nD τ sig} {i j : Ix} {k : ℕ} (h : 0 < tallyAt s i k s' j) : s' = s ∧ j = i := by
  rw [tallyAt_apply] at h
  by_contra hn
  rw [if_neg hn] at h
  exact absurd h (Nat.lt_irrefl 0)

/-- Everything owed sits above level `lo + 1 + n`. -/
theorem Ok.owe_above (h : X.Ok) : ∀ (k n : ℕ), n + k = X.last → ∀ (s : GSem nD τ sig) (i : Ix), 0 < X.owe c n k s i →
    i ∈ X.L s ∧ X.lo + 2 + n ≤ X.lv s i
  | 0, n, hn, s, i, hp => by
      obtain rfl : n = X.last := by omega
      exact h.mem_base c s i hp
  | k + 1, n, hn, s, i, hp => by
      have hlt : n < X.last := by omega
      have one : ∀ d, 0 < tallyAt (X.rCell d (X.peer d c) n) X.ι (X.N d) s i → i ∈ X.L s ∧ X.lo + 2 + n ≤ X.lv s i := fun d hd => by
        obtain ⟨rfl, rfl⟩ := pos_of_tallyAt hd
        exact ⟨h.mem_recv d _ n hlt, (h.lv_recv d _ n hlt).ge⟩
      unfold owe at hp
      rw [Pi.add_apply, Finsupp.add_apply, Pi.add_apply, Finsupp.add_apply] at hp
      rcases Nat.add_pos_iff_pos_or_pos.mp hp with hp | hp
      · rcases Nat.add_pos_iff_pos_or_pos.mp hp with hp | hp
        · obtain ⟨h1, h2⟩ := Ok.owe_above h k (n + 1) (by omega) s i hp
          exact ⟨h1, by omega⟩
        · exact one true hp
      · exact one false hp

/-- A wait at a level not above `lo + 2 + g` may be made while the hops after `g` are owed. -/
theorem Ok.mayWait (h : X.Ok) {k : ℕ} (hk : g + 1 + k = X.last) (sm : SemLoc sig) (hm : X.ι ∈ X.L ((c : Thread nD τ), sm))
    (hl : X.lv ((c : Thread nD τ), sm) X.ι ≤ X.lo + 2 + g) :
    X.I ⊢ MayWait (c : Thread nD τ) sm X.ι (X.owe c (g + 1) k) := by
  have key : X.levs ⊢ MayWait (c : Thread nD τ) sm X.ι (X.owe c (g + 1) k) := by
    unfold levs
    refine MayOwe.of_cut (X.lo + 2 + g) ?_ ?_ ?_ ?_
    · intro p hp; rw [Finset.mem_singleton.mp hp]; exact hm
    · intro s i hs; exact (Ok.owe_above c h k (g + 1) hk s i hs).1
    · intro p hp; rw [Finset.mem_singleton.mp hp]; exact hl
    · intro s i hs
      have := (Ok.owe_above c h k (g + 1) hk s i hs).2
      omega
  refine BIBase.Entails.trans ?_ key
  cases h; assumption

variable {defs : Defs nD τ sig (Elt F) Λ} (𝒱 : Variants) (bd : Option 𝒱.V) {α : Type}

/-- Start of a copy. -/
theorem Ok.wp_send {Q : α → ℙ} (h : X.Ok) (hg : g < X.last) {O : CellTallies nD τ sig Ix} {W : Waits sig Ix}
    {k : PUnit → Prog (TpuEff nD τ sig (Elt F) Λ .tc) α} :
    iprop(X.I ∗ X.is d c g (X.acc d g c) ∗ X.any d (X.peer d c) (g + 1) ∗ (X.lend (!d) c g ∗ X.note c)
        ∗ owes (c : Thread nD τ) (O + tallyAt (X.rCell d (X.peer d c) g) X.ι (X.N d)) W
        ∗ dutyTok X.E (X.sCell d c g) 0 false ∗ reached X.E (X.sCell d c g) 0
        ∗ dutyTok X.E (X.rCell d (X.peer d c) g) 0 false ∗ reached X.E (X.rCell d (X.peer d c) g) 0)
      ⊢ iprop(((cred (tallyAt (X.sCell d c g) X.ι (X.N d)) ∗ owes (c : Thread nD τ) O W)
            -∗ wp frame (wpE defs 𝒱 c bd) Set.univ (k ⟨⟩) Q)
        -∗ wp frame (wpE defs 𝒱 c bd) Set.univ (.op (send (X.M d) (X.peer d c) (X.sS d g) (X.sR d g) g) k) Q) := by
  have hb : X.peer (!d) (X.peer d c) = c := h.peer_peer d c
  haveI := h.persistent
  iintro ⟨#HI, Hs, Hd, HF, HO, HtS, #HrS, HtR, #HrR⟩ Hk
  unfold is any slotIs slotAny refIs refAny
  icases Hs with ⟨%fs, %hfs, Hs⟩
  icases Hd with ⟨%fd, Hd⟩
  iapply (Rounds.wp_send_pointsTo_with 𝒱 X.E X.Rd (c : Thread nD τ) bd (c' := (X.peer d c : Thread nD τ)) (src := slotRef (X.M d) g)
      (dst := slotRef (X.M d) (g + 1)) (sS := .dma (X.sS d g)) (sem := .dma (X.sR d g)) (q := fullShare) (fs := fs) (fd := fd)
      (F := iprop(X.lend (!d) c g ∗ X.note c)) (κ₁ := X.K (X.sCell d c g)) (κ₂ := X.K (X.rCell d (X.peer d c) g))
      (r₁ := 0) (r₂ := 0) (d₁ := false) (d₂ := false)
      (by rw [h.duties_send d c g hg]; exact Finset.mem_singleton_self _)
      (by rw [h.duties_recv d _ g hg]; exact Finset.mem_singleton_self _)
      X.ι X.ι (X.N d) rfl (h.amount_send d c g hg) (h.amount_recv d _ g hg) O rfl (W := W)
      (by rw [h.payload_send d c g hg]; unfold sendPay any slotAny refAny
          iintro H; iexists fs; iexact H)
      (by rw [h.payload_recv d _ g hg]; unfold recvPay is from_ slotIs refIs; rw [hb]
          iintro ⟨H, HF⟩
          isplitr [HF]
          · iexists ((slotRef (X.M d) (g + 1)).view.write (Elt F) fd ((slotRef (X.M d) g).view.read (Elt F) fs) Finset.univ)
            isplitr
            · ipureintro; rw [View.read_write_univ, hfs]
            iexact H
          iexact HF)) $$ [Hs Hd HF HO HtS HtR]
  · isplitr; · iapply (h.inv_send d c g hg); iexact HI
    isplitr; · iapply (h.inv_recv d _ g hg); iexact HI
    isplitl [Hs]; · iexact Hs
    isplitl [Hd HF]
    · isplitl [Hd]; · iexact Hd
      iexact HF
    isplitl [HO]; · iexact HO
    isplitl [HtS]; · iexact HtS
    isplitr; · iexact HrS
    isplitl [HtR]; · iexact HtR
    iexact HrR
  iexact Hk

/-- The wait for a copy sent: the slot comes back and the counter with it. -/
theorem Ok.wp_sent {Q : α → ℙ} (h : X.Ok) {j : ℕ} (hj : g + 1 + j = X.last) {W : Waits sig Ix} {a b : ℕ}
    {k : PUnit → Prog (TpuEff nD τ sig (Elt F) Λ .tc) α} :
    iprop(X.I ∗ cred (tallyAt (X.sCell d c g) X.ι (X.N d)) ∗ owes (c : Thread nD τ) (X.owe c (g + 1) j) W ∗ atPos X.E (X.sCell d c g) 0 ∅ 0)
      ⊢ iprop(((owes (c : Thread nD τ) (X.owe c (g + 1) j) (insert (SemLoc.dma (X.sS d g), X.ι) W) ∗ semVal (X.sCell d c g) 0 ∗ X.any d c g)
            -∗ wp frame (wpE defs 𝒱 c bd) Set.univ (k ⟨⟩) Q)
        -∗ wp frame (wpE defs 𝒱 c bd) Set.univ (.op (await (X.M d) (X.sS d g) a b) k) Q) := by
  have hg : g < X.last := by omega
  haveI := h.persistent
  iintro ⟨#HI, Hc, HO, Hat⟩ Hk
  iapply (Rounds.wp_wait_rest_token 𝒱 X.E X.Rd (c : Thread nD τ) bd (κ := X.K (X.sCell d c g)) (sm := .dma (X.sS d g)) (k' := X.N d)
      (await_eq (X.M d) c 𝒱 bd _ a b) (Set.mem_univ _) X.ι (O := X.owe c (g + 1) j) (W := W) (R := 0) (m := 0) (T := ∅)
      ((Nat.zero_add _).trans (h.expect_send d c g hg).symm)) $$ [Hc HO Hat]
  · isplitr; · iapply (h.inv_send d c g hg); iexact HI
    isplitl [Hc]; · iexact Hc
    isplitl [HO]; · iexact HO
    isplitr
    · iapply (h.mayWait c g hj _ (h.mem_send d c g hg) (by rw [h.lv_send d c g hg]; omega)); iexact HI
    iexact Hat
  iintro ⟨HO, Hat, -, Hpay⟩
  ihave Hp := (Entails.of_eq (h.rest_send d c g hg)) $$ Hpay
  imod (Rounds.cell_close X.E X.Rd (Set.mem_univ (X.K (X.sCell d c g))) (h.unitless _) (h.later_send d c g hg)) $$ [Hat] with Hv
  · isplitr; · iapply (h.inv_send d c g hg); iexact HI
    iexact Hat
  iapply Hk
  isplitl [HO]; · iexact HO
  isplitl [Hv]; · iexact Hv
  iexact Hp

/-- The wait for a copy received. -/
theorem Ok.wp_received {Q : α → ℙ} (h : X.Ok) {j : ℕ} (hj : g + 1 + j = X.last) {W : Waits sig Ix} {a b : ℕ}
    {k : PUnit → Prog (TpuEff nD τ sig (Elt F) Λ .tc) α} :
    iprop(X.I ∗ cred (tallyAt (X.rCell d c g) X.ι (X.N d)) ∗ owes (c : Thread nD τ) (X.owe c (g + 1) j) W ∗ atPos X.E (X.rCell d c g) 0 ∅ 0)
      ⊢ iprop(((owes (c : Thread nD τ) (X.owe c (g + 1) j) (insert (SemLoc.dma (X.sR d g), X.ι) W) ∗ semVal (X.rCell d c g) 0 ∗ X.recvPay d c g)
            -∗ wp frame (wpE defs 𝒱 c bd) Set.univ (k ⟨⟩) Q)
        -∗ wp frame (wpE defs 𝒱 c bd) Set.univ (.op (await (X.M d) (X.sR d g) a b) k) Q) := by
  have hg : g < X.last := by omega
  haveI := h.persistent
  iintro ⟨#HI, Hc, HO, Hat⟩ Hk
  iapply (Rounds.wp_wait_rest_token 𝒱 X.E X.Rd (c : Thread nD τ) bd (κ := X.K (X.rCell d c g)) (sm := .dma (X.sR d g)) (k' := X.N d)
      (await_eq (X.M d) c 𝒱 bd _ a b) (Set.mem_univ _) X.ι (O := X.owe c (g + 1) j) (W := W) (R := 0) (m := 0) (T := ∅)
      ((Nat.zero_add _).trans (h.expect_recv d c g hg).symm)) $$ [Hc HO Hat]
  · isplitr; · iapply (h.inv_recv d c g hg); iexact HI
    isplitl [Hc]; · iexact Hc
    isplitl [HO]; · iexact HO
    isplitr
    · iapply (h.mayWait c g hj _ (h.mem_recv d c g hg) (h.lv_recv d c g hg).le); iexact HI
    iexact Hat
  iintro ⟨HO, Hat, -, Hpay⟩
  ihave Hp := (Entails.of_eq (h.rest_recv d c g hg)) $$ Hpay
  imod (Rounds.cell_close X.E X.Rd (Set.mem_univ (X.K (X.rCell d c g))) (h.unitless _) (h.later_recv d c g hg)) $$ [Hat] with Hv
  · isplitr; · iapply (h.inv_recv d c g hg); iexact HI
    iexact Hat
  iapply Hk
  isplitl [HO]; · iexact HO
  isplitl [Hv]; · iexact Hv
  iexact Hp

/-! ## A device's slots between hops -/

variable (X)

/-- Device `c`'s slots at the start of hop `g`: the one it sends, the one it may fill at its neighbour, and two of its own. -/
def ready (v : FVec F S32x1024 .f32) : ℙ :=
  iprop(X.is d c g v ∗ X.any d (if g < X.last then X.peer d c else c) (g + 1) ∗ X.any d c (g + 2) ∗ X.any d c (g + 3))

variable {X}

/-- Slots after a hop. -/
theorem Ok.ready_next (h : X.Ok) (hg : g < X.last) (v : FVec F S32x1024 .f32) :
    iprop(X.any d c g ∗ X.is d c (g + 1) v ∗ X.lend d (X.peer d c) g ∗ X.any d c (g + 3)
      ∗ (if g + 1 < X.last then iprop(emp) else X.any d c (g + 2))) ⊢ X.ready d c (g + 1) v := by
  unfold ready lend
  rw [show X.any d c (g + 1 + 3) = (X.any d c g : ℙ) from slotAny_congr (X.M d) c (by omega)]
  by_cases hl : g + 1 < X.last
  · rw [if_pos hl, if_pos hl, if_pos hl]
    iintro ⟨H0, H1, H2, H3, -⟩
    isplitl [H1]; · iexact H1
    isplitl [H2]; · iexact H2
    isplitl [H3]; · iexact H3
    iexact H0
  · rw [if_neg hl, if_neg hl, if_neg hl]
    iintro ⟨H0, H1, -, H3, H2⟩
    isplitl [H1]; · iexact H1
    isplitl [H2]; · iexact H2
    isplitl [H3]; · iexact H3
    iexact H0

theorem lend_split :
    (X.any d c (g + 2) : ℙ) ⊢ iprop(X.lend d c g ∗ (if g + 1 < X.last then iprop(emp) else X.any d c (g + 2))) := by
  unfold lend
  by_cases hl : g + 1 < X.last
  · rw [if_pos hl, if_pos hl]; iintro H; isplitl [H]; · iexact H
    iempintro
  · rw [if_neg hl, if_neg hl]; iintro H; isplitr; · iempintro
    iexact H

set_option maxHeartbeats 1600000 in
/-- The exchange of hop `g`. -/
theorem Ok.wp_exchange (h : X.Ok) {j : ℕ} (hj : g + 1 + j = X.last) {Q : PUnit → ℙ} :
    iprop(X.I ∗ (X.ready false c g (X.acc false g c) ∗ X.ready true c g (X.acc true g c)) ∗ (X.res false c g ∗ X.res true c g)
        ∗ (∃ W, owes (c : Thread nD τ) (X.owe c g (j + 1)) W))
      ⊢ iprop((((X.ready false c (g + 1) (X.acc false g (X.from_ false c)) ∗ X.ready true c (g + 1) (X.acc true g (X.from_ true c)))
              ∗ (X.done false c g ∗ X.done true c g) ∗ (∃ W, owes (c : Thread nD τ) (X.owe c (g + 1) j) W)) -∗ Q ⟨⟩)
        -∗ wp frame (wpE defs 𝒱 c bd) Set.univ
            (exchange X.M (fun d => X.peer d c) (fun d => X.sS d g) (fun d => X.sR d g) g : BodyProg sig Λ F PUnit) Q) := by
  have hg : g < X.last := by omega
  haveI := h.persistent
  have hdef : ∀ d v, X.ready d c g v = iprop(X.is d c g v ∗ X.any d (X.peer d c) (g + 1) ∗ X.any d c (g + 2) ∗ X.any d c (g + 3)) := fun d v => by
    unfold ready; rw [if_pos hg]
  rw [hdef, hdef, owe]
  unfold exchange res
  iintro ⟨#HI, ⟨⟨HsF, HpF, HuF, HvF⟩, HsT, HpT, HuT, HvT⟩, ⟨⟨HaSF, HaRF, HtSF, HtRF, HcF, #HrSF, #HrRF, #Hnt⟩, HaST, HaRT, HtST, HtRT, HcT, #HrST, #HrRT, -⟩, ⟨%W, HO⟩⟩ Hk
  ihave HlF := (lend_split false c g) $$ HuF
  ihave HlT := (lend_split true c g) $$ HuT
  icases HlF with ⟨HlF, HkF⟩
  icases HlT with ⟨HlT, HkT⟩
  iapply (h.wp_send false c g 𝒱 bd hg) $$ [HsF HpF HlT HO HtSF HtRF]
  · isplitr; · iexact HI
    isplitl [HsF]; · iexact HsF
    isplitl [HpF]; · iexact HpF
    isplitl [HlT]
    · isplitl; · iexact HlT
      iexact Hnt
    isplitl [HO]; · iexact HO
    isplitl [HtSF]; · iexact HtSF
    isplitr; · iexact HrSF
    isplitl [HtRF]; · iexact HtRF
    iexact HrRF
  iintro ⟨HcSF, HO⟩
  iapply (h.wp_send true c g 𝒱 bd hg) $$ [HsT HpT HlF HO HtST HtRT]
  · isplitr; · iexact HI
    isplitl [HsT]; · iexact HsT
    isplitl [HpT]; · iexact HpT
    isplitl [HlF]
    · isplitl; · iexact HlF
      iexact Hnt
    isplitl [HO]; · iexact HO
    isplitl [HtST]; · iexact HtST
    isplitr; · iexact HrST
    isplitl [HtRT]; · iexact HtRT
    iexact HrRT
  iintro ⟨HcST, HO⟩
  iapply (h.wp_sent false c g 𝒱 bd hj) $$ [HcSF HO HaSF]
  · isplitr; · iexact HI
    isplitl [HcSF]; · iexact HcSF
    isplitl [HO]; · iexact HO
    iexact HaSF
  iintro ⟨HO, HvSF, HzF⟩
  iapply (h.wp_received false c g 𝒱 bd hj) $$ [HcF HO HaRF]
  · isplitr; · iexact HI
    isplitl [HcF]; · iexact HcF
    isplitl [HO]; · iexact HO
    iexact HaRF
  iintro ⟨HO, HvRF, HpayF⟩
  iapply (h.wp_sent true c g 𝒱 bd hj) $$ [HcST HO HaST]
  · isplitr; · iexact HI
    isplitl [HcST]; · iexact HcST
    isplitl [HO]; · iexact HO
    iexact HaST
  iintro ⟨HO, HvST, HzT⟩
  iapply (h.wp_received true c g 𝒱 bd hj) $$ [HcT HO HaRT]
  · isplitr; · iexact HI
    isplitl [HcT]; · iexact HcT
    isplitl [HO]; · iexact HO
    iexact HaRT
  iintro ⟨HO, HvRT, HpayT⟩
  rw [wp_ret]
  imodintro
  unfold recvPay
  icases HpayF with ⟨HnF, HmT, #HntF⟩
  icases HpayT with ⟨HnT, HmF, #HntT⟩
  iapply Hk
  isplitl [HzF HnF HmF HvF HkF HzT HnT HmT HvT HkT]
  · isplitl [HzF HnF HmF HvF HkF]
    · iapply (h.ready_next false c g hg _)
      isplitl [HzF]; · iexact HzF
      isplitl [HnF]; · iexact HnF
      isplitl [HmF]; · iexact HmF
      isplitl [HvF]; · iexact HvF
      iexact HkF
    · iapply (h.ready_next true c g hg _)
      isplitl [HzT]; · iexact HzT
      isplitl [HnT]; · iexact HnT
      isplitl [HmT]; · iexact HmT
      isplitl [HvT]; · iexact HvT
      iexact HkT
  isplitl [HvSF HvRF HvST HvRT]
  · unfold done
    isplitl [HvSF HvRF]
    · isplitl
      · isplitl [HvSF]; · iexact HvSF
        iexact HvRF
      iexact HntF
    · isplitl
      · isplitl [HvST]; · iexact HvST
        iexact HvRT
      iexact HntT
  iexists _; iexact HO

end Net

end Cert.Ring

end
-- ==== Proof.Ring.Local.lean ====
module

public import proofs.«01_k».proof.Proof.Ring.Hop

/-! What a device does between two exchanges: it moves rows between its arrays and the slots, and adds to a slot. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {sig : RefSig} {F : FTy → Type} [FloatOps F] {Ix : Type} [DecidableEq Ix] {U : Type} [URA U] {Λ : Labels}

/-- The 32 rows from `off` on. -/
def rowsOf (off : Fin 2 → ℕ) (h : RowsIn off) (A : FVec F S2048x1024 .f32) : FVec F S32x1024 .f32 := fun i => A ((rowRect off h).emb i)

theorem rowsOf_congr {off off' : Fin 2 → ℕ} (e : off = off') (h : RowsIn off) (h' : RowsIn off') (A : FVec F S2048x1024 .f32) :
    rowsOf off h A = rowsOf off' h' A := by subst e; rfl

variable (m : RowMem sig) (c : Dev nD)

/-- An array of device `c` that reads as `A`. -/
def rowsIs (A : FVec F S2048x1024 .f32) : sProp (MT nD τ sig Ix (Elt F) ℕ U ℕ) :=
  iprop(∃ f : Buf (Elt F) (m.view.loc (c : Thread nD τ)), ⌜m.view.read (Elt F) f = A⌝ ∗ (m.view.loc (c : Thread nD τ) ↦[m.view.set]{fullShare} f))

/-- `A'` is `A` with the rows from `off` on replaced by `v`. -/
structure Put (off : Fin 2 → ℕ) (h : RowsIn off) (v : FVec F S32x1024 .f32) (A A' : FVec F S2048x1024 .f32) : Prop where
  here : rowsOf off h A' = v
  away : ∀ off' h', Disjoint (rowRect off h).set (rowRect off' h').set → rowsOf off' h' A' = rowsOf off' h' A

omit [FloatOps F] in
theorem put_write {κ : Kind} {sp : Space} (V : View sig κ sp S2048x1024 .f32) (off : Fin 2 → ℕ) (h : RowsIn off) (v : FVec F S32x1024 .f32)
    (f : V.ty.Contents (Elt F)) :
    Put off h v (V.read (Elt F) f) (V.read (Elt F) ((V.slice (rowRect off h)).write (Elt F) f v Finset.univ)) where
  here := funext fun i => View.read_slice_write_emb (rowRect off h) f v (Finset.mem_univ i)
  away off' h' hd := funext fun i => View.read_slice_write_of_not_mem (rowRect off h) f v Finset.univ fun hm =>
    Finset.disjoint_left.mp hd (by rw [Rect.map_emb_univ] at hm; exact hm) ((rowRect off' h').idx_mem i)

variable {defs : Defs nD τ sig (Elt F) Λ} (𝒱 : Variants) (bd : Option 𝒱.V)

section Steps

variable {α : Type} {Q : α → sProp (MT nD τ sig Ix (Elt F) ℕ U ℕ)} {off : Fin 2 → ℕ} {h : RowsIn off} {A : FVec F S2048x1024 .f32}

theorem wp_loadRows {k : Vec F S32x1024 .f32 → Prog (TpuEff nD τ sig (Elt F) Λ .tc) α} :
    rowsIs m c A
      ⊢ iprop((rowsIs m c A -∗ wp frame (wpE defs 𝒱 c bd) Set.univ (k (rowsOf off h A)) Q)
        -∗ wp frame (wpE defs 𝒱 c bd) Set.univ (.op (loadRows m off h) k) Q) := by
  unfold rowsIs
  iintro ⟨%f, %hf, H⟩ Hk
  iapply (wp_load_rect 𝒱 (c : Thread nD τ) bd Set.univ (m := m) (r := rowRect off h) (f := f) (S := m.view.set) (q := fullShare)
    (View.set_slice_subset _ _)) $$ [H]
  · iexact H
  iintro H
  rw [show (m.access (rowRect off h)).read (Elt F) f = rowsOf off h A from by rw [← hf]; rfl]
  iapply Hk
  iexists f
  isplitr
  · ipureintro; exact hf
  iexact H

theorem wp_storeRows {v : FVec F S32x1024 .f32} {k : PUnit → Prog (TpuEff nD τ sig (Elt F) Λ .tc) α} :
    rowsIs m c A
      ⊢ iprop((∀ A' : FVec F S2048x1024 .f32, ⌜Put off h v A A'⌝ -∗ rowsIs m c A' -∗ wp frame (wpE defs 𝒱 c bd) Set.univ (k ⟨⟩) Q)
        -∗ wp frame (wpE defs 𝒱 c bd) Set.univ (.op (storeRows m off h v) k) Q) := by
  unfold rowsIs
  iintro ⟨%f, %hf, H⟩ Hk
  iapply (wp_store 𝒱 (c : Thread nD τ) bd Set.univ (m := m) (r := rowRect off h) (f := f) (S := m.view.set)
    (by rw [View.setOn_univ]; exact View.set_slice_subset _ _)) $$ [H]
  · iexact H
  iintro H
  have hp := put_write m.view off h v f
  rw [hf] at hp
  iapply Hk $$ %_ %hp [H]
  iexists _
  isplitr
  · ipureintro; rfl
  iexact H

theorem slotAny_is (M : SlotMem sig) (n : ℕ) : (slotAny M c n : sProp (MT nD τ sig Ix (Elt F) ℕ U ℕ)) ⊢ iprop(∃ v, slotIs M c n v) := by
  unfold slotIs slotAny refIs refAny
  iintro ⟨%f, H⟩
  iexists _, f
  isplitr
  · ipureintro; rfl
  iexact H

end Steps

section Programs

variable {Q : PUnit → sProp (MT nD τ sig Ix (Elt F) ℕ U ℕ)} {off : Fin 2 → ℕ} {h : RowsIn off} {A : FVec F S2048x1024 .f32}
  (M : SlotMem sig)

/-- Filling a slot. -/
theorem wp_fill :
    iprop(rowsIs m c A ∗ slotAny M c 0)
      ⊢ iprop(((rowsIs m c A ∗ slotIs M c 0 (rowsOf off h A)) -∗ Q ⟨⟩)
        -∗ wp frame (wpE defs 𝒱 c bd) Set.univ (fill m M off h : BodyProg sig Λ F PUnit) Q) := by
  unfold fill
  iintro ⟨Hm, Hs⟩ Hk
  iapply (wp_loadRows m c 𝒱 bd) $$ Hm
  iintro Hm
  ihave Hs := (slotAny_is c M 0) $$ Hs
  icases Hs with ⟨%v, Hs⟩
  iapply (wp_loadSlot M c 𝒱 bd) $$ Hs
  iintro %w - Hs
  ihave Hs := (slotIs_any M c 0 v) $$ Hs
  rw [show sameRows (rowsOf off h A) = rowsOf off h A from shapeCast_self _ _]
  iapply (wp_storeSlot M c 𝒱 bd) $$ Hs
  iintro Hs
  rw [wp_ret]
  imodintro
  iapply Hk
  isplitl [Hm]; · iexact Hm
  iexact Hs

/-- Adding to a slot. -/
theorem wp_addRows {n : ℕ} {v : FVec F S32x1024 .f32} :
    iprop(rowsIs m c A ∗ slotIs M c n v)
      ⊢ iprop(((rowsIs m c A ∗ slotIs M c n (addf v (rowsOf off h A))) -∗ Q ⟨⟩)
        -∗ wp frame (wpE defs 𝒱 c bd) Set.univ (addRows m M n off h : BodyProg sig Λ F PUnit) Q) := by
  unfold addRows
  iintro ⟨Hm, Hs⟩ Hk
  iapply (wp_loadSlot M c 𝒱 bd) $$ Hs
  iintro %w %hw Hs
  iapply (wp_loadRows m c 𝒱 bd) $$ Hm
  iintro Hm
  iapply (wp_loadSlot M c 𝒱 bd) $$ Hs
  iintro %w' - Hs
  ihave Hs := (slotIs_any M c n v) $$ Hs
  rw [show sameRows (rowsOf off h A) = rowsOf off h A from shapeCast_self _ _, hw]
  iapply (wp_storeSlot M c 𝒱 bd) $$ Hs
  iintro Hs
  rw [wp_ret]
  imodintro
  iapply Hk
  isplitl [Hm]; · iexact Hm
  iexact Hs

/-- Copying a slot to rows of an array. -/
theorem wp_emit {n : ℕ} {v : FVec F S32x1024 .f32} :
    iprop(rowsIs m c A ∗ slotIs M c n v)
      ⊢ iprop((∀ A' : FVec F S2048x1024 .f32, ⌜Put off h v A A'⌝ -∗ (rowsIs m c A' ∗ slotIs M c n v) -∗ Q ⟨⟩)
        -∗ wp frame (wpE defs 𝒱 c bd) Set.univ (emit m M n off h : BodyProg sig Λ F PUnit) Q) := by
  unfold emit
  iintro ⟨Hm, Hs⟩ Hk
  iapply (wp_loadSlot M c 𝒱 bd) $$ Hs
  iintro %w %hw Hs
  iapply (wp_loadRows m c 𝒱 bd) $$ Hm
  iintro Hm
  rw [hw]
  iapply (wp_storeRows m c 𝒱 bd) $$ Hm
  iintro %A' %hp Hm
  rw [wp_ret]
  imodintro
  iapply Hk $$ %A' %hp [Hm Hs]
  isplitl [Hm]; · iexact Hm
  iexact Hs

end Programs

end Cert.Ring

end
-- ==== Proof.Ring.Layer.lean ====
module

public import proofs.«01_k».proof.Proof.Ring.Local
public import proofs.«01_k».proof.Proof.Gen.KernelIdeal.Skeleton
public import proofs.«01_k».proof.Proof.Gen.KernelIdeal.Points
public import Idealize.ShloMosaic.Lib.Pipeline.Value

/-! The layer's call on one device: what its body does to one block of rows, and the device's whole term. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Whole

variable {sig : RefSig} {F : FTy → Type} [FloatOps F] {Ix : Type} [DecidableEq Ix] {U : Type} [URA U] {Λ : Labels}
variable {s : Shape} (m : Memref sig .tc .vmem s .f32) (c : Dev nD) {defs : Defs nD τ sig (Elt F) Λ} (𝒱 : Variants) (bd : Option 𝒱.V)
variable {α : Type} {Q : α → sProp (MT nD τ sig Ix (Elt F) ℕ U ℕ)} {off : Fin s.rank → ℕ} (inb : ∀ a, off a + s.size a ≤ s.size a)

/-- Loading all of an array gives what it holds. -/
theorem wp_loadAll {X : s.Idx → Elt F .f32} (hz : off = fun _ => 0) (hl) {k : (s.Idx → Elt F .f32) → Prog (TpuEff nD τ sig (Elt F) Λ .tc) α} :
    owns (c : Thread nD τ) m fullShare X
      ⊢ iprop((owns (c : Thread nD τ) m fullShare X -∗ wp frame (wpE defs 𝒱 c bd) Set.univ (k X) Q)
        -∗ wp frame (wpE defs 𝒱 c bd) Set.univ (Prog.lift (.load m (Rect.unit off s.size inb).toLoadRect hl) >>= k) Q) := by
  show _ ⊢ iprop(_ -∗ wp frame (wpE defs 𝒱 c bd) Set.univ (.op (.load m (Rect.unit off s.size inb).toLoadRect hl) k) Q)
  unfold owns
  iintro ⟨%f, %hf, H⟩ Hk
  iapply (wp_load_rect 𝒱 (c : Thread nD τ) bd Set.univ (m := m) (r := Rect.unit off s.size inb) (f := f) (S := m.view.set) (q := fullShare)
    (View.set_slice_subset _ _)) $$ [H]
  · iexact H
  iintro H
  rw [show (m.access (Rect.unit off s.size inb)).read (Elt F) f = X from by
    rw [← hf]; exact View.ld_unit_zero hz inb (m.view.read (Elt F) f)]
  iapply Hk
  iexists f
  isplitr
  · ipureintro; exact hf
  iexact H

theorem read_whole (hz : off = fun _ => 0) (f) (Y : s.Idx → Elt F .f32) :
    m.view.read (Elt F) ((m.access (Rect.unit off s.size inb)).write (Elt F) f Y Finset.univ) = Y := by
  subst hz
  funext i
  have e := View.read_slice_write_emb (Val := Elt F) (v := m.view) (Rect.unit (fun _ => 0) s.size inb) f Y (Finset.mem_univ i)
  have e' : (Rect.unit (fun _ => 0) s.size inb).emb i = i := Rect.emb_whole_apply s i
  rw [e'] at e
  exact e

/-- Storing over all of an array leaves what was stored. -/
theorem wp_storeAll {X Y : s.Idx → Elt F .f32} (hz : off = fun _ => 0) (hs ha) {k : PUnit → Prog (TpuEff nD τ sig (Elt F) Λ .tc) α} :
    owns (c : Thread nD τ) m fullShare X
      ⊢ iprop((owns (c : Thread nD τ) m fullShare Y -∗ wp frame (wpE defs 𝒱 c bd) Set.univ (k ⟨⟩) Q)
        -∗ wp frame (wpE defs 𝒱 c bd) Set.univ (Prog.lift (.store m (Rect.unit off s.size inb) Y Finset.univ hs ha) >>= k) Q) := by
  show _ ⊢ iprop(_ -∗ wp frame (wpE defs 𝒱 c bd) Set.univ (.op (.store m (Rect.unit off s.size inb) Y Finset.univ hs ha) k) Q)
  unfold owns
  iintro ⟨%f, %hf, H⟩ Hk
  iapply (wp_store 𝒱 (c : Thread nD τ) bd Set.univ (m := m) (r := Rect.unit off s.size inb) (f := f) (S := m.view.set)
    (by rw [View.setOn_univ]; exact View.set_slice_subset _ _)) $$ [H]
  · iexact H
  iintro H
  iapply Hk
  iexists ((m.access (Rect.unit off s.size inb)).write (Elt F) f Y Finset.univ)
  isplitr
  · ipureintro; exact read_whole m inb hz f Y
  iexact H

end Whole

open Cert.KernelIdeal Cert.KernelIdeal.Gen

variable {F : FTy → Type} [FloatOps F]

theorem zeros : (![0, 0] : Fin 2 → ℕ) = fun _ => 0 := funext fun a => by fin_cases a <;> rfl

/-- The body of the layer's call: of a block of rows and the two weights, the block of the term. -/
theorem wp_layer {U : Type} [URA U] (c : Dev nD) (i : grid0.Coords) {M1 h1 M2 h2 M3 h3 M4 h4} (X : FVec F S256x1024 .f32) (W : FVec F S1024x2048 .f32)
    (O : FVec F S2048x1024 .f32) (Y : FVec F S256x1024 .f32) {Q : PUnit → sProp (MT nD τ sig (Fin 3) (Elt F) ℕ U ℕ)} :
    iprop(owns (c : Thread nD τ) M1 fullShare X ∗ owns (c : Thread nD τ) M2 fullShare W ∗ owns (c : Thread nD τ) M3 fullShare O
        ∗ owns (c : Thread nD τ) M4 fullShare Y)
      ⊢ iprop(((owns (c : Thread nD τ) M1 fullShare X ∗ owns (c : Thread nD τ) M2 fullShare W ∗ owns (c : Thread nD τ) M3 fullShare O
          ∗ owns (c : Thread nD τ) M4 fullShare (k0_pay1 X W O)) -∗ Q ⟨⟩)
        -∗ wp frame (wpE (defs₀ (F := F)) Variants.none c none) Set.univ (cc0__layer_body i M1 h1 M2 h2 M3 h3 M4 h4) Q) := by
  rw [cc0__layer_body_eq_skeleton]
  unfold cc0__layer_body_skel
  iintro ⟨H1, H2, H3, H4⟩ Hk
  iapply (wp_loadAll M1 c Variants.none none inb_S256x1024_S256x1024_0_0 zeros) $$ H1
  iintro H1
  iapply (wp_loadAll M2 c Variants.none none inb_S1024x2048_S1024x2048_0_0 zeros) $$ H2
  iintro H2
  iapply (wp_loadAll M3 c Variants.none none inb_S2048x1024_S2048x1024_0_0 zeros) $$ H3
  iintro H3
  iapply (wp_loadAll M4 c Variants.none none inb_S256x1024_S256x1024_0_0 zeros) $$ H4
  iintro H4
  iapply (wp_storeAll M4 c Variants.none none inb_S256x1024_S256x1024_0_0 zeros) $$ H4
  iintro H4
  iapply (show Q PUnit.unit ⊢ wp frame (wpE (defs₀ (F := F)) Variants.none c none) Set.univ (.ret PUnit.unit) Q from by
    rw [wp_ret]; iintro H; imodintro; iexact H)
  iapply Hk
  isplitl [H1]; · iexact H1
  isplitl [H2]; · iexact H2
  isplitl [H3]; · iexact H3
  iexact H4

/-- A block of rows of x. -/
def part (x : FVec F S2048x1024 .f32) (r : Fin 8) : FVec F S256x1024 .f32 := fun j =>
  x fun | 0 => ⟨r.val * 256 + (j 0).val, by have : (j 0).val < 256 := (j 0).isLt; have := r.isLt; show _ < 2048; omega⟩
        | 1 => ⟨(j 1).val, (j 1).isLt⟩

/-- The block of rows that holds row `i 0`, and the row's place in it. -/
def partOf (i : S2048x1024.Idx) : Fin 8 := ⟨(i 0).val / 256, by have : (i 0).val < 2048 := (i 0).isLt; omega⟩
def inPart (i : S2048x1024.Idx) : S256x1024.Idx
  | 0 => ⟨(i 0).val % 256, Nat.mod_lt _ (by decide)⟩
  | 1 => ⟨(i 1).val, (i 1).isLt⟩

/-- A device's term of the sum, from x and its blocks of the weights. -/
def termOf (x : FVec F S2048x1024 .f32) (W : FVec F S1024x2048 .f32) (O : FVec F S2048x1024 .f32) : FVec F S2048x1024 .f32 := fun i =>
  k0_pay1 (part x (partOf i)) W O (inPart i)

/-- The three layers' calls run one body. -/
theorem layer_same0 (i : grid0.Coords) {M1 h1 M2 h2 M3 h3 M4 h4} :
    cc0__layer_body (F := F) i M1 h1 M2 h2 M3 h3 M4 h4 = cc0__layer_body i M1 h1 M2 h2 M3 h3 M4 h4 := rfl

theorem layer_same2 (i : grid0.Coords) {M1 h1 M2 h2 M3 h3 M4 h4} :
    cc2__layer_body (F := F) i M1 h1 M2 h2 M3 h3 M4 h4 = cc0__layer_body i M1 h1 M2 h2 M3 h3 M4 h4 := rfl

theorem layer_same4 (i : grid0.Coords) {M1 h1 M2 h2 M3 h3 M4 h4} :
    cc4__layer_body (F := F) i M1 h1 M2 h2 M3 h3 M4 h4 = cc0__layer_body i M1 h1 M2 h2 M3 h3 M4 h4 := rfl

end Cert.Ring

end
-- ==== Proof.Ring.Body.lean ====
module

public import proofs.«01_k».proof.Proof.Gen.KernelIdeal.Points
public import proofs.«01_k».proof.Proof.Gen.KernelIdeal.Regions
public import proofs.«01_k».proof.Proof.Ring.Prog

/-! The all-reduce's body as a ring over slots. -/

@[expose] public section

noncomputable section

namespace Cert.Ring

open Idealize.ShloMosaic Idealize.SL.Sem
open Cert.KernelIdeal (sig Λ₀ k1_chk1 k1_chk2 k1_chk3 k1_dev1 k1_dev2 k1_dev1_lt k1_dev2_lt S4 cc1__ar_body cc3__ar_body cc5__ar_body)
open Cert.KernelIdeal.Facts₀

variable {F : FTy → Type} [FloatOps F]

/-- A device's offsets, from the word that gives its place on the ring. -/
def offs (v0 : BitVec 32) (hw : k1_chk3 v0) : Offs where
  fillAt d := if d then Cert.KernelIdeal.k1_off2 v0 else Cert.KernelIdeal.k1_off1 v0
  fillIn d := match d with
    | true => Cert.KernelIdeal.k1_off2_inb v0 hw
    | false => Cert.KernelIdeal.k1_off1_inb v0 hw
  addAt d h := if d then Cert.KernelIdeal.k1_off4 v0 (BitVec.ofNat 32 h.val) else Cert.KernelIdeal.k1_off3 v0 (BitVec.ofNat 32 h.val)
  addIn d h := match d with
    | true => Cert.KernelIdeal.k1_off4_inb v0 hw h
    | false => Cert.KernelIdeal.k1_off3_inb v0 hw h
  midAt d := if d then Cert.KernelIdeal.k1_off6 v0 else Cert.KernelIdeal.k1_off5 v0
  midIn d := match d with
    | true => Cert.KernelIdeal.k1_off6_inb v0 hw
    | false => Cert.KernelIdeal.k1_off5_inb v0 hw
  emitAt d h := if d then Cert.KernelIdeal.k1_off8 v0 (BitVec.ofNat 32 h.val) else Cert.KernelIdeal.k1_off7 v0 (BitVec.ofNat 32 h.val)
  emitIn d h := match d with
    | true => Cert.KernelIdeal.k1_off8_inb v0 hw h
    | false => Cert.KernelIdeal.k1_off7_inb v0 hw h

/-- The barrier semaphore. -/
abbrev barS : Sem sig := (SemArray.scalar (sig.barrier 1 rfl) : Sems sig S_).sem

/-- The two neighbours, from the words that name them. -/
abbrev peers (v1 v2 : BitVec 32) (hw1 : k1_chk1 v1) (hw2 : k1_chk2 v2) (d : Bool) : Dev nD :=
  if d then ⟨k1_dev2 v2, k1_dev2_lt v2 hw2⟩ else ⟨k1_dev1 v1, k1_dev1_lt v1 hw1⟩

/-- The whole body. -/
def body (meta_ : Memref sig .tc .smem S4 .i32) (A : Args sig) : BodyProg sig Λ₀ F PUnit := do
  let v0 ← smemLoad meta_ (Rect.unit (s := S4) ![0] S1.size inb_S4_S1_0) numel1_S1 rfl
  have hw3 : k1_chk3 v0 := (← Prog.lift (TpuEff.assume (k1_chk3 v0) (Cert.KernelIdeal.k1_chk3.dec v0))).down
  let v1 ← smemLoad meta_ (Rect.unit (s := S4) ![1] S1.size inb_S4_S1_1) numel1_S1 rfl
  have hw1 : k1_chk1 v1 := (← Prog.lift (TpuEff.assume (k1_chk1 v1) (Cert.KernelIdeal.k1_chk1.dec v1))).down
  let v2 ← smemLoad meta_ (Rect.unit (s := S4) ![2] S1.size inb_S4_S1_2) numel1_S1 rfl
  have hw2 : k1_chk2 v2 := (← Prog.lift (TpuEff.assume (k1_chk2 v2) (Cert.KernelIdeal.k1_chk2.dec v2))).down
  semSignalWord (peers v1 v2 hw1 hw2 false) barS 1#32
  semSignalWord (peers v1 v2 hw1 hw2 true) barS 1#32
  semWaitWord barS 2#32
  reduceBody A (peers v1 v2 hw1 hw2) (offs v0 hw3)

section

variable (a0 : Memref sig .tc .smem S4 .i32) (h0 : a0.IsWhole) (a1 : Memref sig .tc .vmem S2048x1024 .f32) (h1 : a1.IsWhole)
  (a2 : Memref sig .tc .vmem S2048x1024 .f32) (h2 : a2.IsWhole) (a3 : Memref sig .tc .vmem S4x32x1024 .f32) (h3 : a3.IsWhole)
  (a4 : Memref sig .tc .vmem S4x32x1024 .f32) (h4 : a4.IsWhole) (s5 s6 s7 s8 s9 s10 s11 s12 : DmaSems sig S31)

/-- The arguments of a call, sorted by direction. -/
abbrev argsOf : Args sig :=
  ⟨a1, a2, fun d => if d then a4 else a3, fun d => if d then s9 else s5, fun d => if d then s10 else s6,
    fun d => if d then s11 else s7, fun d => if d then s12 else s8⟩

/-- The three calls run the same body. -/
theorem body_eq : (cc1__ar_body a0 h0 a1 h1 a2 h2 a3 h3 a4 h4 s5 s6 s7 s8 s9 s10 s11 s12 : BodyProg sig Λ₀ F PUnit)
    = body a0 (argsOf a1 a2 a3 a4 s5 s6 s7 s8 s9 s10 s11 s12) := by
  chain_rfl

theorem body_eq3 : (cc3__ar_body a0 h0 a1 h1 a2 h2 a3 h3 a4 h4 s5 s6 s7 s8 s9 s10 s11 s12 : BodyProg sig Λ₀ F PUnit)
    = body a0 (argsOf a1 a2 a3 a4 s5 s6 s7 s8 s9 s10 s11 s12) := by
  chain_rfl

theorem body_eq5 : (cc5__ar_body a0 h0 a1 h1 a2 h2 a3 h3 a4 h4 s5 s6 s7 s8 s9 s10 s11 s12 : BodyProg sig Λ₀ F PUnit)
    = body a0 (argsOf a1 a2 a3 a4 s5 s6 s7 s8 s9 s10 s11 s12) := by
  chain_rfl

end

end Cert.Ring

end
-- ==== Proof.Ring.Place.lean ====
module

public import proofs.«01_k».proof.Proof.Ring.Local

/-! Which rows travel when. A result of 2048 rows is cut into 64 blocks of 32, half of them for each direction of the ring;
    going on by one hop, a device meets the block one place further on. -/

@[expose] public section

noncomputable section

namespace Cert.Ring

open Idealize.ShloMosaic

variable {F : FTy → Type} [FloatOps F]

/-- Where block `k` of direction `d` starts. -/
def place (d : Bool) (k : Fin 32) : Fin 2 → ℕ := ![(if d then 1024 else 0) + 32 * k.val, 0]

theorem placeIn (d : Bool) (k : Fin 32) : RowsIn (place d k) := by
  intro a
  have hk := k.isLt
  fin_cases a
  · show (if d then 1024 else 0) + 32 * k.val + 32 ≤ 2048
    cases d <;> simp <;> omega
  · show 0 + 1024 ≤ 1024
    omega

/-- The block met by place `k` after `n` hops. -/
def step (d : Bool) (k : Fin 32) (n : ℕ) : Fin 32 := if d then k + Fin.ofNat 32 n else k - Fin.ofNat 32 n

theorem step_val (d : Bool) (k : Fin 32) (n : ℕ) : (step d k n).val = if d then (k.val + n) % 32 else (32 - n % 32 + k.val) % 32 := by
  unfold step
  cases d
  · simp [Fin.sub_def]
  · simp [Fin.add_def]

theorem step_step (d : Bool) (k : Fin 32) (a b : ℕ) : step d (step d k a) b = step d k (a + b) := by
  apply Fin.ext
  have hk := k.isLt
  rw [step_val, step_val, step_val]
  cases d <;> simp <;> omega

theorem step_32 (d : Bool) (k : Fin 32) (a : ℕ) : step d k (32 + a) = step d k a := by
  apply Fin.ext
  rw [step_val, step_val]
  cases d <;> simp <;> omega

theorem step_zero (d : Bool) (k : Fin 32) : step d k 0 = k := by
  apply Fin.ext
  have hk := k.isLt
  rw [step_val]
  cases d <;> simp <;> omega

theorem step_back (d : Bool) (k : Fin 32) (a : ℕ) : step (!d) (step d k a) a = k := by
  apply Fin.ext
  have hk := k.isLt
  rw [step_val, step_val]
  cases d <;> simp <;> omega

/-- The last 32 hops meet every block. -/
theorem exists_step (d : Bool) (k k' : Fin 32) : ∃ t, t < 32 ∧ step d k (31 + t) = k' := by
  have hk := k.isLt
  have hk' := k'.isLt
  refine ⟨if d then (k'.val + 33 - k.val) % 32 else (k.val + 33 - k'.val) % 32, ?_, Fin.ext ?_⟩
  · cases d <;> simp <;> omega
  · rw [step_val]; cases d <;> simp <;> omega

/-- Block `k` of direction `d`. -/
abbrev chunk (d : Bool) (k : Fin 32) (A : FVec F S2048x1024 .f32) : FVec F S32x1024 .f32 := rowsOf (place d k) (placeIn d k) A

theorem place_disjoint {d d' : Bool} {k k' : Fin 32} (h : d ≠ d' ∨ k ≠ k') :
    Disjoint (rowRect (place d k) (placeIn d k)).set (rowRect (place d' k') (placeIn d' k')).set := by
  have h1 := k.isLt
  have h2 := k'.isLt
  refine Rect.unit_disjoint (0 : Fin 2) ?_
  show (if d then 1024 else 0) + 32 * k.val + 32 ≤ (if d' then 1024 else 0) + 32 * k'.val
    ∨ (if d' then 1024 else 0) + 32 * k'.val + 32 ≤ (if d then 1024 else 0) + 32 * k.val
  by_cases hd : d = d'
  · subst hd
    have hk : k.val ≠ k'.val := fun e => (h.resolve_left fun hn => hn rfl) (Fin.ext e)
    omega
  · cases d <;> cases d' <;> simp at hd ⊢ <;> omega

/-- Where an element of the result lies: its direction, its block, its place in the block. -/
def sideOf (i : S2048x1024.Idx) : Bool := decide (1024 ≤ (i 0).val)
def blockOf (i : S2048x1024.Idx) : Fin 32 := ⟨(i 0).val % 1024 / 32, by omega⟩
def insideOf (i : S2048x1024.Idx) : S32x1024.Idx
  | 0 => ⟨(i 0).val % 32, Nat.mod_lt _ (by decide)⟩
  | 1 => ⟨(i 1).val, (i 1).isLt⟩

theorem emb_inside (i : S2048x1024.Idx) :
    (rowRect (place (sideOf i) (blockOf i)) (placeIn _ _)).emb (insideOf i) = i := by
  have h0 : (i 0).val < 2048 := (i 0).isLt
  funext a
  apply Fin.ext
  rw [Rect.emb_apply]
  fin_cases a
  · show (if sideOf i then 1024 else 0) + 32 * ((i 0).val % 1024 / 32) + 1 * ((i 0).val % 32) = (i 0).val
    unfold sideOf
    by_cases h : 1024 ≤ (i 0).val <;> simp [h] <;> omega
  · show 0 + 1 * (i 1).val = (i 1).val
    omega

/-- The array of all blocks. -/
def joined (B : Bool → Fin 32 → FVec F S32x1024 .f32) : FVec F S2048x1024 .f32 := fun i => B (sideOf i) (blockOf i) (insideOf i)

omit [FloatOps F] in
theorem eq_joined {B : Bool → Fin 32 → FVec F S32x1024 .f32} {A : FVec F S2048x1024 .f32} (h : ∀ d k, chunk d k A = B d k) : A = joined B := by
  funext i
  unfold joined
  rw [← h]
  exact (congrArg A (emb_inside i)).symm

/-- The first `n` blocks that a device at place `k` is due in the last hops have arrived. -/
def Filled (B : Bool → Fin 32 → FVec F S32x1024 .f32) (d : Bool) (k : Fin 32) (n : ℕ) (A : FVec F S2048x1024 .f32) : Prop :=
  ∀ t, t < n → chunk d (step d k (31 + t)) A = B d (step d k (31 + t))

omit [FloatOps F] in
theorem filled_zero (B : Bool → Fin 32 → FVec F S32x1024 .f32) (d : Bool) (k : Fin 32) (A : FVec F S2048x1024 .f32) : Filled B d k 0 A :=
  fun _ h => absurd h (Nat.not_lt_zero _)

omit [FloatOps F] in
theorem Put.next {B : Bool → Fin 32 → FVec F S32x1024 .f32} {d : Bool} {k : Fin 32} {n : ℕ} {off : Fin 2 → ℕ} {h : RowsIn off}
    {v : FVec F S32x1024 .f32} {A A' : FVec F S2048x1024 .f32} (hp : Put off h v A A') (ho : off = place d (step d k (31 + n)))
    (hv : v = B d (step d k (31 + n))) (hA : Filled B d k n A) : Filled B d k (n + 1) A' := by
  subst ho
  intro t ht
  by_cases e : step d k (31 + t) = step d k (31 + n)
  · rw [e, ← hv]; exact hp.here
  · have hn : t ≠ n := fun e' => e (by rw [e'])
    rw [← hA t (by omega)]
    exact hp.away _ _ (place_disjoint (.inr fun e' => e e'.symm))

omit [FloatOps F] in
theorem Put.other {B : Bool → Fin 32 → FVec F S32x1024 .f32} {d d' : Bool} {k k' : Fin 32} {n : ℕ} {off : Fin 2 → ℕ} {h : RowsIn off}
    {v : FVec F S32x1024 .f32} {A A' : FVec F S2048x1024 .f32} (hp : Put off h v A A') (ho : off = place d' k') (hd : d' ≠ d)
    (hA : Filled B d k n A) : Filled B d k n A' := by
  subst ho
  intro t ht
  rw [← hA t ht]
  exact hp.away _ _ (place_disjoint (.inl hd))

omit [FloatOps F] in
theorem eq_joined_of_filled {B : Bool → Fin 32 → FVec F S32x1024 .f32} {k : Fin 32} {A : FVec F S2048x1024 .f32}
    (h : ∀ d, Filled B d k 32 A) : A = joined B :=
  eq_joined fun d k' => by
    obtain ⟨t, ht, rfl⟩ := exists_step d k k'
    exact h d t ht

/-! ## What travels -/

variable (peer : Bool → Dev nD → Dev nD) (pos : Dev nD → Fin 32) (P : Dev nD → FVec F S2048x1024 .f32)

/-- What device `c` holds for direction `d` after `g` hops, of which the first 31 add to what came. -/
def accOf (d : Bool) : ℕ → Dev nD → FVec F S32x1024 .f32
  | 0, c => chunk d (pos c) (P c)
  | g + 1, c => if g < 31 then addf (accOf d g (peer (!d) c)) (chunk d (step d (pos c) (g + 1)) (P c)) else accOf d g (peer (!d) c)

theorem accOf_add (d : Bool) {g : ℕ} (hg : g < 31) (c : Dev nD) :
    accOf peer pos P d (g + 1) c = addf (accOf peer pos P d g (peer (!d) c)) (chunk d (step d (pos c) (g + 1)) (P c)) := if_pos hg
theorem accOf_copy (d : Bool) {g : ℕ} (hg : 31 ≤ g) (c : Dev nD) : accOf peer pos P d (g + 1) c = accOf peer pos P d g (peer (!d) c) :=
  if_neg (Nat.not_lt.mpr hg)

/-- A block added up over the ring, given the device at each place. -/
def sumOf (dev : Fin 32 → Dev nD) (d : Bool) (k : Fin 32) : FVec F S32x1024 .f32 := accOf peer pos P d 31 (dev (step (!d) k 31))

theorem accOf_sumOf {dev : Fin 32 → Dev nD} (hdev : ∀ c, dev (pos c) = c) (hpos : ∀ d c, pos (peer (!d) c) = step d (pos c) 1) (d : Bool) :
    ∀ (t : ℕ) (c : Dev nD), accOf peer pos P d (31 + t) c = sumOf peer pos P dev d (step d (pos c) (31 + t))
  | 0, c => by unfold sumOf; rw [Nat.add_zero, step_back, hdev]
  | t + 1, c => by
      rw [← Nat.add_assoc, accOf_copy peer pos P d (by omega), accOf_sumOf hdev hpos d t, hpos, step_step]
      congr 2; omega

end Cert.Ring

end
-- ==== Proof.Ring.Run.lean ====
module

public import proofs.«01_k».proof.Proof.Ring.Place

/-! All hops of the ring, one after the other: 31 that add, 31 that copy. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {sig : RefSig} {F : FTy → Type} [FloatOps F] {Ix : Type} [DecidableEq Ix] {U : Type} [URA U] {Λ : Labels}

local notation "ℙ" => sProp (MT nD τ sig Ix (Elt F) ℕ U ℕ)

theorem bigSep_peel (Φ : ℕ → ℙ) (n k : ℕ) : bigSep (Finset.Ico n (n + (k + 1))) Φ = iprop(Φ n ∗ bigSep (Finset.Ico (n + 1) (n + 1 + k)) Φ) := by
  rw [show Finset.Ico n (n + (k + 1)) = insert n (Finset.Ico (n + 1) (n + 1 + k)) from by
    ext x; simp only [Finset.mem_Ico, Finset.mem_insert]; omega]
  exact bigSep_insert (by simp only [Finset.mem_Ico]; omega)

theorem bigSep_append (Φ : ℕ → ℙ) (n k j : ℕ) :
    bigSep (Finset.Ico n (n + (k + j))) Φ = iprop(bigSep (Finset.Ico n (n + k)) Φ ∗ bigSep (Finset.Ico (n + k) (n + k + j)) Φ) := by
  rw [show Finset.Ico n (n + (k + j)) = Finset.Ico n (n + k) ∪ Finset.Ico (n + k) (n + k + j) from by
    ext x; simp only [Finset.mem_Ico, Finset.mem_union]; omega]
  exact bigSep_union (Finset.disjoint_left.mpr fun x h h' => by simp only [Finset.mem_Ico] at h h'; omega)

/-- A device's offsets are those of place `k`. -/
structure Offs.At (O : Offs) (k : Fin 32) : Prop where
  fill : ∀ d, O.fillAt d = place d k
  add : ∀ d h, O.addAt d h = place d (step d k (h.val + 1))
  mid : ∀ d, O.midAt d = place d (step d k 31)
  emit : ∀ d h, O.emitAt d h = place d (step d k h.val)

/-- The network is the one that the body's arguments make, and carries the sums of `P`. -/
structure Plan (X : Net sig F Ix U) (A : Args sig) (pos : Dev nD → Fin 32) (dev : Fin 32 → Dev nD) (P : Dev nD → FVec F S2048x1024 .f32) : Prop where
  ok : X.Ok
  M : X.M = A.M
  sS : X.sS = A.sS
  sR : X.sR = A.sR
  last : X.last = 62
  acc : X.acc = accOf X.peer pos P
  hpos : ∀ d c, pos (X.peer (!d) c) = step d (pos c) 1
  hdev : ∀ c, dev (pos c) = c

namespace Plan

variable {X : Net sig F Ix U} {A : Args sig} {pos : Dev nD → Fin 32} {dev : Fin 32 → Dev nD} {P : Dev nD → FVec F S2048x1024 .f32}
  (h : Plan X A pos dev P) (c : Dev nD) {O : Offs} (hO : O.At (pos c))
  {defs : Defs nD τ sig (Elt F) Λ} (𝒱 : Variants) (bd : Option 𝒱.V)

/-- Both directions' needs for a hop, and what is left of them. -/
abbrev res2 (X : Net sig F Ix U) (c : Dev nD) (g : ℕ) : ℙ := iprop(X.res false c g ∗ X.res true c g)
abbrev done2 (X : Net sig F Ix U) (c : Dev nD) (g : ℕ) : ℙ := iprop(X.done false c g ∗ X.done true c g)
abbrev ready2 (X : Net sig F Ix U) (c : Dev nD) (g : ℕ) (v : Bool → FVec F S32x1024 .f32) : ℙ :=
  iprop(X.ready false c g (v false) ∗ X.ready true c g (v true))

/-- What the result's blocks are. -/
abbrev sums (X : Net sig F Ix U) (pos : Dev nD → Fin 32) (dev : Fin 32 → Dev nD) (P : Dev nD → FVec F S2048x1024 .f32) :
    Bool → Fin 32 → FVec F S32x1024 .f32 := sumOf X.peer pos P dev

include h hO in
theorem wp_addHop {g j : ℕ} (hg : g < 31) (hj : g + 1 + j = 62) {Q : PUnit → ℙ} :
    iprop(X.I ∗ rowsIs A.p c (P c) ∗ ready2 X c g (fun d => X.acc d g c) ∗ res2 X c g ∗ (∃ W, owes (c : Thread nD τ) (X.owe c g (j + 1)) W))
      ⊢ iprop(((rowsIs A.p c (P c) ∗ ready2 X c (g + 1) (fun d => X.acc d (g + 1) c) ∗ done2 X c g
              ∗ (∃ W, owes (c : Thread nD τ) (X.owe c (g + 1) j) W)) -∗ Q ⟨⟩)
        -∗ wp frame (wpE defs 𝒱 c bd) Set.univ (addHop A (fun d => X.peer d c) O g : BodyProg sig Λ F PUnit) Q) := by
  have hn : (hopNo g).val = g := Nat.mod_eq_of_lt hg
  have hs : (fun d => semOf (A.s d) (hopNo g)) = fun d => X.sS d g := by
    funext d; rw [h.sS]; exact (if_pos hg).symm
  have hr : (fun d => semOf (A.r d) (hopNo g)) = fun d => X.sR d g := by
    funext d; rw [h.sR]; exact (if_pos hg).symm
  have hacc : ∀ d, addf (X.acc d g (X.from_ d c)) (rowsOf (O.addAt d (hopNo g)) (O.addIn d (hopNo g)) (P c)) = X.acc d (g + 1) c := fun d => by
    rw [h.acc, accOf_add _ _ _ d hg, rowsOf_congr ((hO.add d (hopNo g)).trans (by rw [hn])) _ (placeIn d _)]
  haveI := h.ok.persistent
  unfold addHop ready2
  beta_reduce
  rw [hs, hr, ← h.M, wp_bind, ← hacc, ← hacc]
  iintro ⟨#HI, Hp, Hrd, Hres, HO⟩ Hk
  iapply (h.ok.wp_exchange c g 𝒱 bd (hj.trans h.last.symm)) $$ [Hrd Hres HO]
  · isplitr; · iexact HI
    isplitl [Hrd]; · iexact Hrd
    isplitl [Hres]; · iexact Hres
    iexact HO
  iintro ⟨⟨HrF, HrT⟩, Hd, HO⟩
  unfold Net.ready
  icases HrF with ⟨HsF, HqF⟩
  icases HrT with ⟨HsT, HqT⟩
  rw [wp_bind]
  iapply (wp_addRows A.p c 𝒱 bd (X.M false)) $$ [Hp HsF]
  · isplitl [Hp]; · iexact Hp
    iexact HsF
  iintro ⟨Hp, HsF⟩
  iapply (wp_addRows A.p c 𝒱 bd (X.M true)) $$ [Hp HsT]
  · isplitl [Hp]; · iexact Hp
    iexact HsT
  iintro ⟨Hp, HsT⟩
  iapply Hk
  isplitl [Hp]; · iexact Hp
  isplitl [HsF HqF HsT HqT]
  · isplitl [HsF HqF]
    · isplitl [HsF]; · iexact HsF
      iexact HqF
    · isplitl [HsT]; · iexact HsT
      iexact HqT
  isplitl [Hd]; · iexact Hd
  iexact HO

/-- A result array that holds the first `n` blocks of either direction. -/
def outIs (A : Args sig) (c : Dev nD) (B : Bool → Fin 32 → FVec F S32x1024 .f32) (k : Fin 32) (n : ℕ) : ℙ :=
  iprop(∃ V, ⌜∀ d, Filled B d k n V⌝ ∗ rowsIs A.out c V)

/-- Both slots copied to the result. -/
theorem wp_emit2 {B : Bool → Fin 32 → FVec F S32x1024 .f32} {k : Fin 32} {n g : ℕ} {v : Bool → FVec F S32x1024 .f32}
    {off : Bool → Fin 2 → ℕ} {hi : ∀ d, RowsIn (off d)}
    (ho : ∀ d, off d = place d (step d k (31 + n))) (hv : ∀ d, v d = B d (step d k (31 + n))) {q : BodyProg sig Λ F PUnit} {Q : PUnit → ℙ} :
    iprop(outIs A c B k n ∗ ready2 X c g v)
      ⊢ iprop(((outIs A c B k (n + 1) ∗ ready2 X c g v) -∗ wp frame (wpE defs 𝒱 c bd) Set.univ q Q)
        -∗ wp frame (wpE defs 𝒱 c bd) Set.univ
            (emit A.out (X.M false) g (off false) (hi false) >>= fun _ => emit A.out (X.M true) g (off true) (hi true) >>= fun _ => q) Q) := by
  unfold outIs ready2 Net.ready
  iintro ⟨⟨%V, %hV, Ho⟩, ⟨HsF, HqF⟩, ⟨HsT, HqT⟩⟩ Hk
  rw [wp_bind]
  iapply (wp_emit A.out c 𝒱 bd (X.M false)) $$ [Ho HsF]
  · isplitl [Ho]; · iexact Ho
    iexact HsF
  iintro %V1 %h1 ⟨Ho, HsF⟩
  rw [wp_bind]
  iapply (wp_emit A.out c 𝒱 bd (X.M true)) $$ [Ho HsT]
  · isplitl [Ho]; · iexact Ho
    iexact HsT
  iintro %V2 %h2 ⟨Ho, HsT⟩
  have hfill : ∀ d, Filled B d k (n + 1) V2 := fun d => match d with
    | false => h2.other (ho true) (by decide) (h1.next (ho false) (hv false) (hV false))
    | true => h2.next (ho true) (hv true) (h1.other (ho false) (by decide) (hV true))
  iapply Hk
  isplitl [Ho]
  · iexists V2
    isplitr
    · ipureintro; exact hfill
    iexact Ho
  isplitl [HsF HqF]
  · isplitl [HsF]; · iexact HsF
    iexact HqF
  · isplitl [HsT]; · iexact HsT
    iexact HqT

include h hO in
theorem wp_copyHop {g j : ℕ} (hg : g < 31) (hj : 31 + g + 1 + j = 62) {Q : PUnit → ℙ} :
    iprop(X.I ∗ outIs A c (sums X pos dev P) (pos c) (g + 1) ∗ ready2 X c (31 + g) (fun d => X.acc d (31 + g) c) ∗ res2 X c (31 + g)
        ∗ (∃ W, owes (c : Thread nD τ) (X.owe c (31 + g) (j + 1)) W))
      ⊢ iprop(((outIs A c (sums X pos dev P) (pos c) (g + 1 + 1) ∗ ready2 X c (31 + (g + 1)) (fun d => X.acc d (31 + (g + 1)) c) ∗ done2 X c (31 + g)
              ∗ (∃ W, owes (c : Thread nD τ) (X.owe c (31 + (g + 1)) j) W)) -∗ Q ⟨⟩)
        -∗ wp frame (wpE defs 𝒱 c bd) Set.univ (copyHop A (fun d => X.peer d c) O g : BodyProg sig Λ F PUnit) Q) := by
  have hn : (hopNo g).val = g := Nat.mod_eq_of_lt hg
  have hng : ¬ 31 + g < 31 := by omega
  have hno : hopNo (31 + g) = hopNo g := Fin.ext (Nat.add_mod_left 31 g)
  have hs : (fun d => semOf (A.s' d) (hopNo g)) = fun d => X.sS d (31 + g) := by
    funext d; rw [h.sS, ← hno]; exact (if_neg hng).symm
  have hr : (fun d => semOf (A.r' d) (hopNo g)) = fun d => X.sR d (31 + g) := by
    funext d; rw [h.sR, ← hno]; exact (if_neg hng).symm
  have hacc : ∀ d, X.acc d (31 + g) (X.from_ d c) = X.acc d (31 + (g + 1)) c := fun d => by
    rw [h.acc]; exact (accOf_copy _ _ _ d (by omega) c).symm
  have ho : ∀ d, O.emitAt d (hopNo g) = place d (step d (pos c) (31 + (g + 1))) := fun d => by
    rw [hO.emit, hn, ← step_32 d (pos c) g]; congr 2; omega
  have hv : ∀ d, X.acc d (31 + (g + 1)) c = sums X pos dev P d (step d (pos c) (31 + (g + 1))) := fun d => by
    rw [h.acc]; exact accOf_sumOf X.peer pos P h.hdev h.hpos d (g + 1) c
  haveI := h.ok.persistent
  unfold copyHop
  rw [hs, hr, ← h.M, wp_bind]
  iintro ⟨#HI, Ho, Hrd, Hres, HO⟩ Hk
  iapply (h.ok.wp_exchange c (31 + g) 𝒱 bd (hj.trans h.last.symm)) $$ [Hrd Hres HO]
  · isplitr; · iexact HI
    isplitl [Hrd]; · iexact Hrd
    isplitl [Hres]; · iexact Hres
    iexact HO
  rw [hacc, hacc]
  iintro ⟨Hrd, Hd, HO⟩
  have e := wp_emit2 (X := X) (A := A) (B := sums X pos dev P) (k := pos c) (n := g + 1) (g := 31 + g + 1)
    (v := fun d => X.acc d (31 + (g + 1)) c) (off := fun d => O.emitAt d (hopNo g)) (hi := fun d => O.emitIn d (hopNo g)) c (defs := defs) 𝒱 bd ho hv
    (q := .ret ⟨⟩) (Q := Q)
  iapply e $$ [Ho Hrd]
  · isplitl [Ho]; · iexact Ho
    iexact Hrd
  iintro ⟨Ho, Hrd⟩
  rw [wp_ret]
  imodintro
  iapply Hk
  isplitl [Ho]; · iexact Ho
  isplitl [Hrd]; · iexact Hrd
  isplitl [Hd]; · iexact Hd
  iexact HO

include h hO in
/-- Hops that add, `n` to `30`. -/
theorem wp_adds {q : BodyProg sig Λ F PUnit} {Q : PUnit → ℙ} : ∀ (k n : ℕ), n + k = 31 →
    iprop(X.I ∗ rowsIs A.p c (P c) ∗ ready2 X c n (fun d => X.acc d n c) ∗ bigSep (Finset.Ico n (n + k)) (res2 X c)
        ∗ (∃ W, owes (c : Thread nD τ) (X.owe c n (k + 31)) W))
      ⊢ iprop(((rowsIs A.p c (P c) ∗ ready2 X c 31 (fun d => X.acc d 31 c) ∗ bigSep (Finset.Ico n (n + k)) (done2 X c)
              ∗ (∃ W, owes (c : Thread nD τ) (X.owe c 31 31) W)) -∗ wp frame (wpE defs 𝒱 c bd) Set.univ q Q)
        -∗ wp frame (wpE defs 𝒱 c bd) Set.univ (hops (addHop A (fun d => X.peer d c) O) n k q) Q)
  | 0, n, hn => by
      obtain rfl : n = 31 := by omega
      rw [Nat.zero_add]
      unfold hops
      iintro ⟨-, Hp, Hrd, -, HO⟩ Hk
      iapply Hk
      isplitl [Hp]; · iexact Hp
      isplitl [Hrd]; · iexact Hrd
      isplitr
      · rw [show Finset.Ico 31 (31 + 0) = ∅ from Finset.Ico_self _, bigSep_empty]; iempintro
      iexact HO
  | k + 1, n, hn => by
      haveI := h.ok.persistent
      unfold hops
      rw [wp_bind, bigSep_peel, bigSep_peel, show k + 1 + 31 = k + 31 + 1 from by omega]
      iintro ⟨#HI, Hp, Hrd, ⟨Hr, Hrs⟩, HO⟩ Hk
      iapply (h.wp_addHop c hO 𝒱 bd (g := n) (j := k + 31) (by omega) (by omega)) $$ [Hp Hrd Hr HO]
      · isplitr; · iexact HI
        isplitl [Hp]; · iexact Hp
        isplitl [Hrd]; · iexact Hrd
        isplitl [Hr]; · iexact Hr
        iexact HO
      iintro ⟨Hp, Hrd, Hd, HO⟩
      iapply (wp_adds (q := q) (Q := Q) k (n + 1) (by omega)) $$ [Hp Hrd Hrs HO]
      · isplitr; · iexact HI
        isplitl [Hp]; · iexact Hp
        isplitl [Hrd]; · iexact Hrd
        isplitl [Hrs]; · iexact Hrs
        iexact HO
      iintro ⟨Hp, Hrd, Hds, HO⟩
      iapply Hk
      isplitl [Hp]; · iexact Hp
      isplitl [Hrd]; · iexact Hrd
      isplitl [Hd Hds]
      · isplitl [Hd]; · iexact Hd
        iexact Hds
      iexact HO

include h hO in
/-- Hops that copy. -/
theorem wp_copies {q : BodyProg sig Λ F PUnit} {Q : PUnit → ℙ} : ∀ (k n : ℕ), n + k = 31 →
    iprop(X.I ∗ outIs A c (sums X pos dev P) (pos c) (n + 1) ∗ ready2 X c (31 + n) (fun d => X.acc d (31 + n) c)
        ∗ bigSep (Finset.Ico (31 + n) (31 + n + k)) (res2 X c) ∗ (∃ W, owes (c : Thread nD τ) (X.owe c (31 + n) k) W))
      ⊢ iprop(((outIs A c (sums X pos dev P) (pos c) 32 ∗ ready2 X c 62 (fun d => X.acc d 62 c)
              ∗ bigSep (Finset.Ico (31 + n) (31 + n + k)) (done2 X c)
              ∗ (∃ W, owes (c : Thread nD τ) (X.base c) W)) -∗ wp frame (wpE defs 𝒱 c bd) Set.univ q Q)
        -∗ wp frame (wpE defs 𝒱 c bd) Set.univ (hops (copyHop A (fun d => X.peer d c) O) n k q) Q)
  | 0, n, hn => by
      obtain rfl : n = 31 := by omega
      unfold hops Net.owe
      iintro ⟨-, Ho, Hrd, -, HO⟩ Hk
      iapply Hk
      isplitl [Ho]; · iexact Ho
      isplitl [Hrd]; · iexact Hrd
      isplitr
      · rw [Nat.add_zero, Finset.Ico_self, bigSep_empty]; iempintro
      iexact HO
  | k + 1, n, hn => by
      haveI := h.ok.persistent
      unfold hops
      rw [wp_bind, bigSep_peel, bigSep_peel]
      iintro ⟨#HI, Ho, Hrd, ⟨Hr, Hrs⟩, HO⟩ Hk
      iapply (h.wp_copyHop c hO 𝒱 bd (g := n) (j := k) (by omega) (by omega)) $$ [Ho Hrd Hr HO]
      · isplitr; · iexact HI
        isplitl [Ho]; · iexact Ho
        isplitl [Hrd]; · iexact Hrd
        isplitl [Hr]; · iexact Hr
        iexact HO
      iintro ⟨Ho, Hrd, Hd, HO⟩
      iapply (wp_copies (q := q) (Q := Q) k (n + 1) (by omega)) $$ [Ho Hrd Hrs HO]
      · isplitr; · iexact HI
        isplitl [Ho]; · iexact Ho
        isplitl [Hrd]; · iexact Hrd
        isplitl [Hrs]; · iexact Hrs
        iexact HO
      iintro ⟨Ho, Hrd, Hds, HO⟩
      iapply Hk
      isplitl [Ho]; · iexact Ho
      isplitl [Hrd]; · iexact Hrd
      isplitl [Hd Hds]
      · isplitl [Hd]; · iexact Hd
        iexact Hds
      iexact HO

/-- What direction `d` needs to start: the slot that `p` is put into, the neighbour's slot that the barrier hands over, two of its own. -/
def open_ (X : Net sig F Ix U) (d : Bool) (c : Dev nD) : ℙ :=
  iprop(X.any d c 0 ∗ X.any d (X.peer d c) 1 ∗ X.any d c 2 ∗ X.any d c 3)

/-- And what it ends with: all four slots. -/
def slots (X : Net sig F Ix U) (d : Bool) (c : Dev nD) : ℙ :=
  iprop(X.any d c 0 ∗ X.any d c 1 ∗ X.any d c 2 ∗ X.any d c 3)

include h in
theorem slots_of_ready (d : Bool) (v : FVec F S32x1024 .f32) : X.ready d c 62 v ⊢ slots X d c := by
  unfold Net.ready slots
  rw [if_neg (by rw [h.last]; decide)]
  iintro ⟨H2, H3, H0, H1⟩
  ihave H2 := (slotIs_any (X.M d) c 62 v) $$ H2
  isplitl [H0]; · rw [show X.any d c 0 = (X.any d c (62 + 2) : ℙ) from slotAny_congr _ _ (by decide)]; iexact H0
  isplitl [H1]; · rw [show X.any d c 1 = (X.any d c (62 + 3) : ℙ) from slotAny_congr _ _ (by decide)]; iexact H1
  isplitl [H2]; · rw [show X.any d c 2 = (X.any d c 62 : ℙ) from slotAny_congr _ _ (by decide)]; iexact H2
  rw [show X.any d c 3 = (X.any d c (62 + 1) : ℙ) from slotAny_congr _ _ (by decide)]; iexact H3

include h hO in
set_option maxHeartbeats 800000 in
/-- The whole of it: from slots that the barrier has handed over, to the blocks added up. -/
theorem wp_reduce {Q : PUnit → ℙ} :
    iprop(X.I ∗ rowsIs A.p c (P c) ∗ (∃ V, rowsIs A.out c V) ∗ (open_ X false c ∗ open_ X true c)
        ∗ bigSep (Finset.Ico 0 62) (res2 X c) ∗ (∃ W, owes (c : Thread nD τ) (X.owe c 0 62) W))
      ⊢ iprop(((rowsIs A.p c (P c) ∗ rowsIs A.out c (joined (sums X pos dev P)) ∗ (slots X false c ∗ slots X true c)
              ∗ bigSep (Finset.Ico 0 62) (done2 X c) ∗ (∃ W, owes (c : Thread nD τ) (X.base c) W)) -∗ Q ⟨⟩)
        -∗ wp frame (wpE defs 𝒱 c bd) Set.univ (reduceBody A (fun d => X.peer d c) O : BodyProg sig Λ F PUnit) Q) := by
  haveI := h.ok.persistent
  have hacc : ∀ d, rowsOf (O.fillAt d) (O.fillIn d) (P c) = X.acc d 0 c := fun d => by
    rw [h.acc]; exact rowsOf_congr (hO.fill d) _ _ _
  have hv : ∀ d, X.acc d 31 c = sums X pos dev P d (step d (pos c) (31 + 0)) := fun d => by
    rw [h.acc]; exact accOf_sumOf X.peer pos P h.hdev h.hpos d 0 c
  have hs : ∀ Φ : ℕ → ℙ, bigSep (Finset.Ico 0 62) Φ = iprop(bigSep (Finset.Ico 0 (0 + 31)) Φ ∗ bigSep (Finset.Ico (31 + 0) (31 + 0 + 31)) Φ) :=
    fun Φ => bigSep_append Φ 0 31 31
  have hl : 0 < X.last := by rw [h.last]; decide
  unfold reduceBody open_
  rw [hs, hs]
  iintro ⟨#HI, Hp, ⟨%V, Ho⟩, ⟨⟨H0F, H1F, H2F, H3F⟩, H0T, H1T, H2T, H3T⟩, ⟨HrA, HrB⟩, HO⟩ Hk
  rw [wp_bind]
  iapply (wp_fill A.p c 𝒱 bd (A.M false)) $$ [Hp H0F]
  · isplitl [Hp]; · iexact Hp
    rw [← h.M]; iexact H0F
  iintro ⟨Hp, HsF⟩
  rw [wp_bind]
  iapply (wp_fill A.p c 𝒱 bd (A.M true)) $$ [Hp H0T]
  · isplitl [Hp]; · iexact Hp
    rw [← h.M]; iexact H0T
  iintro ⟨Hp, HsT⟩
  rw [hacc, hacc, ← h.M]
  iapply (h.wp_adds c hO 𝒱 bd 31 0 rfl) $$ [Hp HsF H1F H2F H3F HsT H1T H2T H3T HrA HO]
  · isplitr; · iexact HI
    isplitl [Hp]; · iexact Hp
    isplitl [HsF H1F H2F H3F HsT H1T H2T H3T]
    · unfold ready2 Net.ready
      rw [if_pos hl, if_pos hl]
      isplitl [HsF H1F H2F H3F]
      · isplitl [HsF]; · iexact HsF
        isplitl [H1F]; · iexact H1F
        isplitl [H2F]; · iexact H2F
        iexact H3F
      · isplitl [HsT]; · iexact HsT
        isplitl [H1T]; · iexact H1T
        isplitl [H2T]; · iexact H2T
        iexact H3T
    isplitl [HrA]; · iexact HrA
    iexact HO
  iintro ⟨Hp, Hrd, HdA, HO⟩
  have e := wp_emit2 (X := X) (A := A) (B := sums X pos dev P) (k := pos c) (n := 0) (g := 31)
    (v := fun d => X.acc d 31 c) (off := O.midAt) (hi := O.midIn) c (defs := defs) 𝒱 bd (fun d => hO.mid d) hv
    (q := hops (copyHop A (fun d => X.peer d c) O) 0 31 (pure ⟨⟩)) (Q := Q)
  iapply e $$ [Ho Hrd]
  · isplitl [Ho]
    · unfold outIs
      iexists V
      isplitr
      · ipureintro; exact fun d => filled_zero _ _ _ _
      iexact Ho
    iexact Hrd
  iintro ⟨Ho, Hrd⟩
  iapply (h.wp_copies c hO 𝒱 bd (q := pure ⟨⟩) (Q := Q) 31 0 rfl) $$ [Ho Hrd HrB HO]
  · isplitr; · iexact HI
    isplitl [Ho]; · iexact Ho
    isplitl [Hrd]; · iexact Hrd
    isplitl [HrB]; · iexact HrB
    iexact HO
  iintro ⟨Ho, ⟨HrF, HrT⟩, HdB, HO⟩
  rw [show (pure ⟨⟩ : BodyProg sig Λ F PUnit) = .ret ⟨⟩ from rfl, wp_ret]
  imodintro
  unfold outIs
  icases Ho with ⟨%V', %hV, Ho⟩
  rw [eq_joined_of_filled hV]
  ihave HrF := (h.slots_of_ready c false _) $$ HrF
  ihave HrT := (h.slots_of_ready c true _) $$ HrT
  iapply Hk
  isplitl [Hp]; · iexact Hp
  isplitl [Ho]; · iexact Ho
  isplitl [HrF HrT]
  · isplitl [HrF]; · iexact HrF
    iexact HrT
  isplitl [HdA HdB]
  · isplitl [HdA]; · iexact HdA
    iexact HdB
  iexact HO

end Plan

end Cert.Ring

end
-- ==== Proof.Ring.Mesh.lean ====
module

public import proofs.«01_k».proof.Proof.Ring.Body
public import proofs.«01_k».proof.Proof.Ring.Run

/-! The ring of 32 devices that the kernel's tables describe, and the semaphores of its hops. -/

@[expose] public section

noncomputable section

namespace Cert.Ring

open Idealize.ShloMosaic Idealize.SL.Sem
open Cert.KernelIdeal (sig k1_chk1 k1_chk2 k1_chk3 k1_dev1 k1_dev2 lit0 lit1 lit2
  cc1_stg1_0 cc1_stg2_0 cc1_scratch0 cc1_scratch1 cc1_scratch2 cc1_scratch3 cc1_scratch4 cc1_scratch5 cc1_scratch6 cc1_scratch7 cc1_scratch8 cc1_scratch9
  cc3_stg1_0 cc3_stg2_0 cc3_scratch0 cc3_scratch1 cc3_scratch2 cc3_scratch3 cc3_scratch4 cc3_scratch5 cc3_scratch6 cc3_scratch7 cc3_scratch8 cc3_scratch9
  cc5_stg1_0 cc5_stg2_0 cc5_scratch0 cc5_scratch1 cc5_scratch2 cc5_scratch3 cc5_scratch4 cc5_scratch5 cc5_scratch6 cc5_scratch7 cc5_scratch8 cc5_scratch9)

/-! ## Places and neighbours -/

/-- A device's place on the ring, its two neighbours, and the device at a place. -/
def pos (c : Dev nD) : Fin 32 := Fin.ofNat 32 (lit0 c).toNat
def peer (d : Bool) (c : Dev nD) : Dev nD := Fin.ofNat 32 (if d then lit2 c else lit1 c).toNat
def dev (k : Fin 32) : Dev nD := (peer false)^[k.val] 0

theorem dev_pos : ∀ c, dev (pos c) = c := by decide +kernel
theorem peer_peer : ∀ d c, peer (!d) (peer d c) = c := by decide +kernel
theorem pos_peer : ∀ d c, pos (peer (!d) c) = step d (pos c) 1 := by decide +kernel
theorem peer_ne : ∀ c, peer false c ≠ peer true c := by decide +kernel

theorem peer_inj (d : Bool) {c c' : Dev nD} (h : peer d c = peer d c') : c = c' := by
  rw [← peer_peer d c, h, peer_peer]

/-- Going round by one is a permutation of the devices. -/
def turn (d : Bool) : Dev nD ≃ Dev nD where
  toFun := peer d
  invFun := peer (!d)
  left_inv c := peer_peer d c
  right_inv c := by have h := peer_peer (!d) c; rwa [Bool.not_not] at h

theorem chk3_pos : ∀ c : Dev nD, k1_chk3 (lit0 c) := by decide +kernel
theorem chk1_next : ∀ c : Dev nD, k1_chk1 (lit1 c) := by decide +kernel
theorem chk2_prev : ∀ c : Dev nD, k1_chk2 (lit2 c) := by decide +kernel

theorem peers_eq (c : Dev nD) (h1 : k1_chk1 (lit1 c)) (h2 : k1_chk2 (lit2 c)) : peers (lit1 c) (lit2 c) h1 h2 = fun d => peer d c := by
  have key : ∀ c : Dev nD, k1_dev1 (lit1 c) = (peer false c).val ∧ k1_dev2 (lit2 c) = (peer true c).val := by decide +kernel
  funext d
  apply Fin.ext
  cases d
  · exact (key c).1
  · exact (key c).2

theorem offs_at (c : Dev nD) (h : k1_chk3 (lit0 c)) : (offs (lit0 c) h).At (pos c) where
  fill d := by
    have key : ∀ (c : Dev nD), Cert.KernelIdeal.k1_off1 (lit0 c) = place false (pos c) ∧ Cert.KernelIdeal.k1_off2 (lit0 c) = place true (pos c) := by
      decide +kernel
    cases d
    · exact (key c).1
    · exact (key c).2
  add d n := by
    have key : ∀ (c : Dev nD) (n : Fin 31), Cert.KernelIdeal.k1_off3 (lit0 c) (BitVec.ofNat 32 n.val) = place false (step false (pos c) (n.val + 1))
        ∧ Cert.KernelIdeal.k1_off4 (lit0 c) (BitVec.ofNat 32 n.val) = place true (step true (pos c) (n.val + 1)) := by decide +kernel
    cases d
    · exact (key c n).1
    · exact (key c n).2
  mid d := by
    have key : ∀ (c : Dev nD), Cert.KernelIdeal.k1_off5 (lit0 c) = place false (step false (pos c) 31)
        ∧ Cert.KernelIdeal.k1_off6 (lit0 c) = place true (step true (pos c) 31) := by decide +kernel
    cases d
    · exact (key c).1
    · exact (key c).2
  emit d n := by
    have key : ∀ (c : Dev nD) (n : Fin 31), Cert.KernelIdeal.k1_off7 (lit0 c) (BitVec.ofNat 32 n.val) = place false (step false (pos c) n.val)
        ∧ Cert.KernelIdeal.k1_off8 (lit0 c) (BitVec.ofNat 32 n.val) = place true (step true (pos c) n.val) := by decide +kernel
    cases d
    · exact (key c n).1
    · exact (key c n).2

/-! ## Arguments of the body -/

/-- The arguments of each of the three calls. -/
abbrev args : Fin 3 → Args sig
  | 0 => argsOf (Memref.whole cc1_stg1_0) (Memref.whole cc1_stg2_0) (Memref.whole cc1_scratch0) (Memref.whole cc1_scratch1)
      cc1_scratch2 cc1_scratch3 cc1_scratch4 cc1_scratch5 cc1_scratch6 cc1_scratch7 cc1_scratch8 cc1_scratch9
  | 1 => argsOf (Memref.whole cc3_stg1_0) (Memref.whole cc3_stg2_0) (Memref.whole cc3_scratch0) (Memref.whole cc3_scratch1)
      cc3_scratch2 cc3_scratch3 cc3_scratch4 cc3_scratch5 cc3_scratch6 cc3_scratch7 cc3_scratch8 cc3_scratch9
  | 2 => argsOf (Memref.whole cc5_stg1_0) (Memref.whole cc5_stg2_0) (Memref.whole cc5_scratch0) (Memref.whole cc5_scratch1)
      cc5_scratch2 cc5_scratch3 cc5_scratch4 cc5_scratch5 cc5_scratch6 cc5_scratch7 cc5_scratch8 cc5_scratch9

/-- A copy's two semaphores: call, direction, hop, and which end. -/
abbrev End : Type := Fin 3 × Bool × Fin 62 × Bool

def semAt (e : End) : DmaSem sig := if e.2.2.2 then (args e.1).sR e.2.1 e.2.2.1.val else (args e.1).sS e.2.1 e.2.2.1.val

/-- Its number, -/
def numAt (e : End) : ℕ := 9 + 257 * e.1.val + 124 * e.2.1.toNat + 62 * (e.2.2.1.val / 31) + 31 * e.2.2.2.toNat + e.2.2.1.val % 31

theorem semAt_val : ∀ e, (semAt e).val = numAt e := by decide +kernel

/-- from which the four are read off again. -/
def endOf (i : ℕ) : Fin 3 × Bool × ℕ × Bool :=
  (Fin.ofNat 3 ((i - 9) / 257), decide (124 ≤ (i - 9) % 257), 31 * ((i - 9) % 257 % 124 / 62) + (i - 9) % 257 % 31,
    decide (31 ≤ (i - 9) % 257 % 62))

/-- The numbers of such semaphores. -/
def isEnd (i : ℕ) : Prop := 9 ≤ i ∧ (i - 9) % 257 < 248
instance : DecidablePred isEnd := fun _ => inferInstanceAs (Decidable (_ ∧ _))

theorem endOf_numAt : ∀ e : End, endOf (numAt e) = (e.1, e.2.1, e.2.2.1.val, e.2.2.2) := by decide +kernel
theorem isEnd_numAt : ∀ e : End, isEnd (numAt e) := by decide +kernel

theorem endOf_semAt (e : End) : endOf (semAt e).val = (e.1, e.2.1, e.2.2.1.val, e.2.2.2) := by rw [semAt_val, endOf_numAt]
theorem isEnd_semAt (e : End) : isEnd (semAt e).val := by rw [semAt_val]; exact isEnd_numAt e

theorem semAt_inj : Function.Injective semAt := fun e e' h => by
  have h1 := endOf_semAt e
  rw [h, endOf_semAt e'] at h1
  obtain ⟨q, a, b, d⟩ := e
  obtain ⟨q', a', b', d'⟩ := e'
  simp only [Prod.mk.injEq] at h1
  obtain ⟨rfl, rfl, hb, rfl⟩ := h1
  rw [Fin.ext hb]

end Cert.Ring

end
-- ==== Proof.Ring.Cells.lean ====
module

public import proofs.«01_k».proof.Proof.Ring.Mesh

/-! The protocol on this mesh: for each of three calls two cells per copy, open for one round, and one barrier cell with a
    round per call, by which a device's neighbours lend it the first slots that it writes. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal (sig)

variable {F : FTy → Type} [FloatOps F]

abbrev UU : Type := UR sig nD τ × URounds (GSem nD τ sig) Bool

local notation "𝕄" => MT nD τ sig (Fin 3) (Elt F) ℕ UU ℕ
local notation "ℙ" => sProp (MT nD τ sig (Fin 3) (Elt F) ℕ UU ℕ)

abbrev EP : Emb (UR sig nD τ) (MT nD τ sig (Fin 3) (Elt F) ℕ UU ℕ) := embL
abbrev ER : Emb (URounds (GSem nD τ sig) Bool) (MT nD τ sig (Fin 3) (Elt F) ℕ UU ℕ) := embR

/-! ## Cells and levels -/

abbrev barCell (c : Dev nD) : GSem nD τ sig := ((c : Thread nD τ), .reg barS)
abbrev endCell (c : Dev nD) (e : End) : GSem nD τ sig := ((c : Thread nD τ), .dma (semAt e))

/-- What one copy credits. -/
abbrev credit : ℕ := (slotRef ((args 0).M false) 0).view.dmaCredit
theorem credit_pos : 0 < credit := View.dmaCredit_pos _ (by decide)

def L (g : GSem nD τ sig) : Finset (Fin 3) := if g.1.2 = .tc then Finset.univ else ∅
theorem L_of_ne (g : GSem nD τ sig) (h : g.1.2 ≠ .tc) : L g = ∅ := if_neg h
theorem mem_L (c : Dev nD) (sm : SemLoc sig) (q : Fin 3) : q ∈ L ((c : Thread nD τ), sm) := by unfold L; rw [if_pos rfl]; exact Finset.mem_univ q

/-- Later calls are above earlier ones. In one call arrivals are above the barrier, later ones above earlier ones, and all
    that above the waits for copies sent. -/
def lv (g : GSem nD τ sig) (q : Fin 3) : ℕ :=
  match g.2 with
  | .reg _ => 100 * q.val + 1
  | .dma i => if isEnd i.val then 100 * (endOf i.val).1.val + (if (endOf i.val).2.2.2 = true then 2 + (endOf i.val).2.2.1 else 0) else 0

theorem lv_end (c : Dev nD) (e : End) (q : Fin 3) : lv (endCell c e) q = 100 * e.1.val + if e.2.2.2 then 2 + e.2.2.1.val else 0 := by
  show (if isEnd (semAt e).val then
    100 * (endOf (semAt e).val).1.val + (if (endOf (semAt e).val).2.2.2 = true then 2 + (endOf (semAt e).val).2.2.1 else 0) else 0) = _
  rw [endOf_semAt, if_pos (isEnd_semAt e)]

/-! ## What is owed -/

/-- The arrivals that a device owes in a call, hop by hop, -/
def arrivals (q : Fin 3) (c : Dev nD) : CellTallies nD τ sig (Fin 3) :=
  ∑ g : Fin 62, (tallyAt (endCell (peer true c) (q, true, g, true)) q credit + tallyAt (endCell (peer false c) (q, false, g, true)) q credit)

/-- and its two signals. -/
def signals (q : Fin 3) (c : Dev nD) : CellTallies nD τ sig (Fin 3) :=
  tallyAt (barCell (peer true c)) q 1 + tallyAt (barCell (peer false c)) q 1

/-- The calls from number `n` on, -/
abbrev rest (n : ℕ) : Finset (Fin 3) := Finset.univ.filter fun q => n ≤ q.val
theorem rest_eq : ∀ q : Fin 3, rest q.val = insert q (rest (q.val + 1)) := by decide
theorem notMem_rest : ∀ q : Fin 3, q ∉ rest (q.val + 1) := by decide
theorem rest_none : rest 3 = ∅ := by decide

/-- and all that is owed in them. -/
def owed (n : ℕ) (c : Dev nD) : CellTallies nD τ sig (Fin 3) := ∑ q ∈ rest n, (arrivals q c + signals q c)

theorem owed_eq (q : Fin 3) (c : Dev nD) : owed q.val c = owed (q.val + 1) c + arrivals q c + signals q c := by
  unfold owed
  rw [rest_eq, Finset.sum_insert (notMem_rest q)]
  ac_rfl

theorem owed_none (c : Dev nD) : owed 3 c = 0 := by unfold owed; rw [rest_none, Finset.sum_empty]

theorem pos_add {A B : CellTallies nD τ sig (Fin 3)} {s : GSem nD τ sig} {i : Fin 3} (h : 0 < (A + B) s i) : 0 < A s i ∨ 0 < B s i := by
  rw [Pi.add_apply, Finsupp.add_apply] at h
  omega

theorem pos_sum {ι : Type} (S : Finset ι) (A : ι → CellTallies nD τ sig (Fin 3)) {s : GSem nD τ sig} {i : Fin 3} (h : 0 < (∑ k ∈ S, A k) s i) :
    ∃ k ∈ S, 0 < A k s i := by
  rw [Finset.sum_apply, Finsupp.finset_sum_apply] at h
  exact Finset.sum_pos_iff.mp h

/-- What is owed from call `n` on is above the barrier of that call, and owed under a level. -/
theorem owed_above (n : ℕ) (c : Dev nD) (s : GSem nD τ sig) (i : Fin 3) (h : 0 < owed n c s i) : i ∈ L s ∧ 100 * n + 1 ≤ lv s i := by
  obtain ⟨q, hq, h⟩ := pos_sum _ _ h
  have hn : n ≤ q.val := (Finset.mem_filter.mp hq).2
  have bar : ∀ d, 0 < tallyAt (barCell (peer d c)) q 1 s i → i ∈ L s ∧ 100 * n + 1 ≤ lv s i := fun d h => by
    obtain ⟨rfl, rfl⟩ := Net.pos_of_tallyAt h
    exact ⟨mem_L _ _ _, show 100 * n + 1 ≤ 100 * i.val + 1 by omega⟩
  have arr : ∀ (d : Bool) (g : Fin 62), 0 < tallyAt (endCell (peer d c) (q, d, g, true)) q credit s i → i ∈ L s ∧ 100 * n + 1 ≤ lv s i := fun d g h => by
    obtain ⟨rfl, rfl⟩ := Net.pos_of_tallyAt h
    refine ⟨mem_L _ _ _, ?_⟩
    rw [lv_end]
    show 100 * n + 1 ≤ 100 * i.val + (if true = true then 2 + g.val else 0)
    rw [if_pos rfl]
    omega
  rcases pos_add h with h | h
  · obtain ⟨g, -, h⟩ := pos_sum _ _ h
    rcases pos_add h with h | h
    · exact arr true g h
    · exact arr false g h
  · rcases pos_add h with h | h
    · exact bar true h
    · exact bar false h

/-! ## The schedule -/

section

variable (P : Fin 3 → Dev nD → FVec F S2048x1024 .f32)

/-- A call's ring with no protocol yet: enough to say what its copies hand over. -/
def bare (q : Fin 3) : Net sig F (Fin 3) UU where
  E := ER
  Rd := { duties := fun _ _ => ∅, amount := fun _ _ _ => 0, payload := fun _ _ _ => iprop(emp), amount_pos := fun _ _ _ h => absurd h (Finset.notMem_empty _) }
  K _ := 0
  M := (args q).M
  peer := peer
  sS := (args q).sS
  sR := (args q).sR
  last := 62
  acc := accOf peer pos (P q)
  ι := q
  L := L
  lv := lv
  lo := 100 * q.val
  base := owed (q.val + 1)
  note c := reached ER (barCell c) (q.val + 1)
  note_persistent _ := inferInstance
  note_storable _ := inferInstance
  I := iprop(emp)

/-- Paid to device `c`'s barrier cell by the neighbour that it sends to in direction `!u`. -/
def barPay (q : Fin 3) (c : Dev nD) (u : Bool) : ℙ :=
  iprop((bare P q).any (!u) (peer (!u) c) 1 ∗ bigSep (Finset.Ico 0 62) fun g => reached ER ((bare P q).rCell (!u) (peer (!u) c) g) 0)

def endPay (q : Fin 3) (c : Dev nD) (d : Bool) (g : ℕ) (k : Bool) : ℙ := if k then (bare P q).recvPay d c g else (bare P q).sendPay d c g

instance barPay_storable (q : Fin 3) (c : Dev nD) (u : Bool) : BI.Storable (upEmb : UEmb _ 𝕄) (barPay P q c u) := by
  unfold barPay; infer_instance
instance endPay_storable (q : Fin 3) (c : Dev nD) (d : Bool) (g : ℕ) (k : Bool) : BI.Storable (upEmb : UEmb _ 𝕄) (endPay P q c d g k) := by
  unfold endPay; split <;> infer_instance

def sched : Schedule (GSem nD τ sig) Bool 𝕄 where
  duties g r :=
    if g.1.2 = .tc then
      match g.2 with
      | .reg _ => if r < 3 then Finset.univ else ∅
      | .dma i => if r = 0 ∧ isEnd i.val then {false} else ∅
    else ∅
  amount g _ _ := match g.2 with
    | .reg _ => 1
    | .dma _ => credit
  payload g r u := match g.2 with
    | .reg _ => barPay P (Fin.ofNat 3 r) g.1.1 u
    | .dma i => endPay P (endOf i.val).1 g.1.1 (endOf i.val).2.1 (endOf i.val).2.2.1 (endOf i.val).2.2.2
  unitless _ := False
  amount_pos g _ _ _ := by
    rcases g with ⟨t, s | s⟩
    · first | exact Nat.one_pos | exact credit_pos
    · first | exact Nat.one_pos | exact credit_pos

instance sched_storable (g : GSem nD τ sig) (r : ℕ) (u : Bool) : BI.Storable (upEmb : UEmb _ 𝕄) ((sched P).payload g r u) := by
  rcases g with ⟨t, s | s⟩
  · dsimp only [sched]; infer_instance
  · dsimp only [sched]; infer_instance

theorem duties_bar (c : Dev nD) (q : Fin 3) : (sched P).duties (barCell c) q.val = Finset.univ := by
  dsimp only [sched]; rw [if_pos rfl, if_pos q.isLt]
theorem duties_end (c : Dev nD) (e : End) : (sched P).duties (endCell c e) 0 = {false} := by
  dsimp only [sched]; rw [if_pos rfl, if_pos ⟨rfl, isEnd_semAt e⟩]
theorem later_bar (c : Dev nD) (r : ℕ) (hr : 3 ≤ r) : (sched P).duties (barCell c) r = ∅ := by
  dsimp only [sched]; rw [if_pos rfl, if_neg (by omega)]
theorem later_end (c : Dev nD) (e : End) (r : ℕ) (hr : 1 ≤ r) : (sched P).duties (endCell c e) r = ∅ := by
  dsimp only [sched]; rw [if_pos rfl, if_neg (by omega)]
theorem amount_bar (c : Dev nD) (r : ℕ) (u : Bool) : (sched P).amount (barCell c) r u = 1 := rfl
theorem amount_end (c : Dev nD) (e : End) (u : Bool) : (sched P).amount (endCell c e) 0 u = credit := rfl
theorem payload_bar (c : Dev nD) (q : Fin 3) (u : Bool) : (sched P).payload (barCell c) q.val u = barPay P q c u := by
  have e : Fin.ofNat 3 q.val = q := Fin.ext (Nat.mod_eq_of_lt q.isLt)
  dsimp only [sched]; rw [e]
theorem payload_end (c : Dev nD) (e : End) (u : Bool) : (sched P).payload (endCell c e) 0 u = endPay P e.1 c e.2.1 e.2.2.1.val e.2.2.2 := by
  dsimp only [sched]; rw [endOf_semAt]
theorem expect_bar (c : Dev nD) (q : Fin 3) : (sched P).expect (barCell c) q.val = 2 := by
  unfold Schedule.expect Schedule.amountOf; rw [duties_bar]; rfl
theorem rest_bar (c : Dev nD) (q : Fin 3) :
    bigSep ((sched P).duties (barCell c) q.val \ ∅) (fun u => (sched P).payload (barCell c) q.val u) = iprop(barPay P q c false ∗ barPay P q c true) := by
  rw [Finset.sdiff_empty, duties_bar, show (Finset.univ : Finset Bool) = {false, true} from by decide, bigSep_insert (by decide), bigSep_singleton,
    payload_bar, payload_bar]
  rfl

/-! ## The network -/

def barEmb : Dev nD ↪ GSem nD τ sig := ⟨fun c => barCell c, fun _ _ h => congrArg (fun g : GSem nD τ sig => g.1.1) h⟩
def endEmb : Dev nD × End ↪ GSem nD τ sig :=
  ⟨fun ce => endCell ce.1 ce.2, fun _ _ h =>
    Prod.ext (congrArg (fun g : GSem nD τ sig => g.1.1) h) (semAt_inj (SemLoc.dma.inj (congrArg Prod.snd h)))⟩

/-- The barrier cells, open from the start; the copies' cells, opened when the kernel is entered. -/
abbrev barCells : Finset (GSem nD τ sig) := Finset.univ.map barEmb
abbrev endCells : Finset (GSem nD τ sig) := Finset.univ.map endEmb

theorem disjoint_cells : Disjoint (barCells : Finset (GSem nD τ sig)) endCells := by
  rw [Finset.disjoint_left]
  rintro g h₁ h₂
  obtain ⟨c, -, rfl⟩ := Finset.mem_map.mp h₁
  obtain ⟨ce, -, h⟩ := Finset.mem_map.mp h₂
  cases congrArg Prod.snd h

theorem bar_mem (c : Dev nD) : barCell c ∈ (barCells ∪ endCells : Finset (GSem nD τ sig)) :=
  Finset.mem_union_left _ (Finset.mem_map_of_mem barEmb (Finset.mem_univ c))
theorem end_mem (c : Dev nD) (e : End) : endCell c e ∈ (barCells ∪ endCells : Finset (GSem nD τ sig)) :=
  Finset.mem_union_right _ (Finset.mem_map_of_mem endEmb (Finset.mem_univ (c, e)))

variable (κ : GSem nD τ sig → ℕ)

/-- What every device may consult. -/
def records : ℙ :=
  iprop((bigSep (barCells ∪ endCells) fun g => cellInv ER (sched P) (κ g) g) ∗ levAts L lv)

instance records_persistent : BI.Persistent (records P κ) := by unfold records; infer_instance

theorem inv_at {g : GSem nD τ sig} (hg : g ∈ (barCells ∪ endCells : Finset (GSem nD τ sig))) :
    records P κ ⊢ cellInv ER (sched P) (κ g) g := by
  unfold records
  refine BIBase.Entails.trans (sep_mono_left (bigSep_elim hg)) ?_
  iintro ⟨H, -⟩
  iexact H

variable (q : Fin 3)

def net : Net sig F (Fin 3) UU := { bare P q with Rd := sched P, K := κ, I := records P κ }

/-- Cells of hop `g`, as ends of copies. -/
abbrev endS (q : Fin 3) (d : Bool) {g : ℕ} (hg : g < 62) : End := (q, d, ⟨g, hg⟩, false)
abbrev endR (q : Fin 3) (d : Bool) {g : ℕ} (hg : g < 62) : End := (q, d, ⟨g, hg⟩, true)

theorem sCell_eq (d : Bool) (c : Dev nD) {g : ℕ} (hg : g < 62) : (net P κ q).sCell d c g = endCell c (endS q d hg) := rfl
theorem rCell_eq (d : Bool) (c : Dev nD) {g : ℕ} (hg : g < 62) : (net P κ q).rCell d c g = endCell c (endR q d hg) := rfl

theorem net_N (d : Bool) : (net P κ q).N d = credit := by
  match q, d with
  | 0, false => rfl
  | 0, true => rfl
  | 1, false => rfl
  | 1, true => rfl
  | 2, false => rfl
  | 2, true => rfl

theorem note_eq (c : Dev nD) : (net P κ q).note c = reached ER (barCell c) (q.val + 1) := rfl

theorem from_eq (d : Bool) (c : Dev nD) : (net P κ q).from_ d c = peer (!d) c := rfl

theorem net_ok : (net P κ q).Ok := by
  constructor
  case peer_peer => exact peer_peer
  case persistent => exact records_persistent P κ
  case inv_send => exact fun d c g hg => inv_at P κ (end_mem c (endS q d hg))
  case inv_recv => exact fun d c g hg => inv_at P κ (end_mem c (endR q d hg))
  case hlev => unfold Net.levs; show records P κ ⊢ levAts L lv; unfold records; iintro ⟨-, H⟩; iexact H
  case unitless => exact fun _ => id
  case duties_send => exact fun d c g hg => duties_end P c (endS q d hg)
  case duties_recv => exact fun d c g hg => duties_end P c (endR q d hg)
  case later_send => exact fun d c g hg => later_end P c (endS q d hg)
  case later_recv => exact fun d c g hg => later_end P c (endR q d hg)
  case amount_send => exact fun d c g hg => (amount_end P c (endS q d hg) false).trans (net_N P κ q d).symm
  case amount_recv => exact fun d c g hg => (amount_end P c (endR q d hg) false).trans (net_N P κ q d).symm
  case payload_send => exact fun d c g hg => (payload_end P c (endS q d hg) false).trans rfl
  case payload_recv => exact fun d c g hg => (payload_end P c (endR q d hg) false).trans rfl
  case mem_send => exact fun d c g hg => mem_L c (.dma ((args q).sS d g)) q
  case mem_recv => exact fun d c g hg => mem_L c (.dma ((args q).sR d g)) q
  case lv_send => exact fun d c g hg => (lv_end c (endS q d hg) q).trans rfl
  case lv_recv => exact fun d c g hg => (lv_end c (endR q d hg) q).trans (by show 100 * q.val + (2 + g) = 100 * q.val + 2 + g; omega)
  case mem_base =>
    intro c s i h
    obtain ⟨h1, h2⟩ := owed_above (q.val + 1) c s i h
    exact ⟨h1, show 100 * q.val + 2 + 62 ≤ lv s i by omega⟩

theorem net_plan : Plan (net P κ q) (args q) pos dev (P q) where
  ok := net_ok P κ q
  M := rfl
  sS := rfl
  sR := rfl
  last := rfl
  acc := rfl
  hpos := pos_peer
  hdev := dev_pos

/-- What a device owes in a call and after it, hop by hop. -/
theorem owe_eq (c : Dev nD) : ∀ k n, n + k = 62 → (net P κ q).owe c n k
    = owed (q.val + 1) c + ∑ g ∈ Finset.univ.filter (fun g : Fin 62 => n ≤ g.val),
        (tallyAt (endCell (peer true c) (q, true, g, true)) q credit + tallyAt (endCell (peer false c) (q, false, g, true)) q credit)
  | 0, n, hn => by
      rw [show (Finset.univ.filter fun g : Fin 62 => n ≤ g.val) = ∅ from
        Finset.filter_eq_empty_iff.mpr fun g _ => by have := g.isLt; omega, Finset.sum_empty, add_zero]
      rfl
  | k + 1, n, hn => by
      have hlt : n < 62 := by omega
      rw [show (Finset.univ.filter fun g : Fin 62 => n ≤ g.val) = insert ⟨n, hlt⟩ (Finset.univ.filter fun g : Fin 62 => n + 1 ≤ g.val) from by
          ext g; simp only [Finset.mem_filter, Finset.mem_univ, true_and, Finset.mem_insert, Fin.ext_iff]; omega,
        Finset.sum_insert (by simp), Net.owe, owe_eq c k (n + 1) (by omega), net_N,
        rCell_eq P κ q true _ hlt, rCell_eq P κ q false _ hlt]
      show owed (q.val + 1) c + _ + tallyAt _ q credit + tallyAt _ q credit = _
      ac_rfl

theorem owe_all (c : Dev nD) : owed q.val c
    = (net P κ q).owe c 0 62 + tallyAt (barCell (peer true c)) q 1 + tallyAt (barCell (peer false c)) q 1 := by
  rw [owed_eq, owe_eq P κ q c 62 0 rfl, show (Finset.univ.filter fun g : Fin 62 => 0 ≤ g.val) = Finset.univ from
    Finset.filter_true_of_mem fun g _ => Nat.zero_le _]
  unfold arrivals signals
  ac_rfl

end

end Cert.Ring

end
-- ==== Proof.Ring.Talk.lean ====
module

public import proofs.«01_k».proof.Proof.Ring.Cells

/-! The body of the all-reduce on one device: what it needs, and what it leaves. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Plan

variable {F : FTy → Type} [FloatOps F]

local notation "𝕄" => MT nD τ sig (Fin 3) (Elt F) ℕ UU ℕ
local notation "ℙ" => sProp (MT nD τ sig (Fin 3) (Elt F) ℕ UU ℕ)

/-- The four words a device is given: its place on the ring, its two neighbours, itself. -/
def words (c : Dev nD) : S4.Idx → BitVec 32 := fun i => (![lit0 c, lit1 c, lit2 c, BitVec.ofNat 32 c.val] : Fin 4 → BitVec 32) (i 0)

abbrev metaM : Fin 3 → Memref sig .tc .smem S4 .i32
  | 0 => .whole cc1_stg0_0
  | 1 => .whole cc3_stg0_0
  | 2 => .whole cc5_stg0_0

/-- They are in its table. -/
abbrev told (q : Fin 3) (c : Dev nD) : ℙ := owns (c : Thread nD τ) (metaM q) fullShare (words c)

variable (P : Fin 3 → Dev nD → FVec F S2048x1024 .f32) (κ : GSem nD τ sig → ℕ) (q : Fin 3) (c : Dev nD)

/-- A hop's resources that a device has from the start, -/
def near (d : Bool) (c : Dev nD) (g : ℕ) : ℙ :=
  iprop(atPos ER ((net P κ q).sCell d c g) 0 ∅ 0 ∗ atPos ER ((net P κ q).rCell d c g) 0 ∅ 0
    ∗ dutyTok ER ((net P κ q).sCell d c g) 0 false ∗ dutyTok ER ((net P κ q).rCell d (peer d c) g) 0 false
    ∗ cred (tallyAt ((net P κ q).rCell d c g) q credit) ∗ reached ER ((net P κ q).sCell d c g) 0)

/-- and that its neighbour tells of. -/
abbrev told_ (d : Bool) (c : Dev nD) (g : ℕ) : ℙ := reached ER ((net P κ q).rCell d c g) 0

theorem near_res (d : Bool) (g : ℕ) : iprop(reached ER (barCell c) (q.val + 1) ∗ near P κ q d c g ∗ told_ P κ q d (peer d c) g) ⊢ (net P κ q).res d c g := by
  unfold near told_ Net.res
  rw [net_N P κ q d, note_eq]
  iintro ⟨H8, ⟨H1, H2, H3, H4, H5, H6⟩, H7⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What a device enters the body with, besides buffers and what it owes. -/
def opened (c : Dev nD) : ℙ :=
  iprop(atPos ER (barCell c) q.val ∅ 0 ∗ (reached ER (barCell (peer false c)) q.val ∗ reached ER (barCell (peer true c)) q.val)
    ∗ (dutyTok ER (barCell (peer false c)) q.val false ∗ dutyTok ER (barCell (peer true c)) q.val true)
    ∗ cred (tallyAt (barCell c) q 2)
    ∗ (bigSep (Finset.Ico 0 62) (near P κ q false c) ∗ bigSep (Finset.Ico 0 62) (near P κ q true c))
    ∗ bigSep (Finset.Ico 0 62) (told_ P κ q false c) ∗ bigSep (Finset.Ico 0 62) (told_ P κ q true c))

abbrev total : FVec F S2048x1024 .f32 := joined (sums (net P κ q) pos dev (P q))

section Body

variable (𝒱 : Variants) (bd : Option 𝒱.V) {defs : Defs nD τ sig (Elt F) Λ₀}

theorem wp_word {r : Rect S4} {hn : r.shape.numel = 1} {hw : EltTy.packing .i32 = 1} {v : BitVec 32}
    (hv : words c (r.emb (Shape.Idx.first (hn.symm ▸ Nat.one_pos))) = v)
    {Q : BitVec 32 → ℙ} :
    told q c ⊢ iprop((told q c -∗ Q v) -∗ wp frame (wpE defs 𝒱 c bd) Set.univ (smemLoad (metaM q) r hn hw : Prog (TpuEff nD τ sig (Elt F) Λ₀ .tc) (Elt F .i32)) Q) := by
  unfold told owns smemLoad
  iintro ⟨%f, %hf, H⟩ Hk
  iapply (wp_smemLoadElt 𝒱 (c : Thread nD τ) bd Set.univ (m := metaM q) (r := r) (f := f) (S := (metaM q).view.set) (q := fullShare)
    (View.set_slice_subset _ _)) $$ [H]
  · iexact H
  iintro H
  rw [wp_ret]
  imodintro
  rw [show ((metaM q).access r).read (Elt F) f (Shape.Idx.first (hn.symm ▸ Nat.one_pos)) = v from by rw [← hv, ← hf]; rfl]
  iapply Hk
  iexists f
  isplitr
  · ipureintro; exact hf
  iexact H

theorem wp_checked {p : Prop} {dec : Decidable p} (h : p) {Q : PLift p → ℙ} :
    Q ⟨h⟩ ⊢ wp frame (wpE defs 𝒱 c bd) Set.univ (Prog.lift (TpuEff.assume p dec) : Prog (TpuEff nD τ sig (Elt F) Λ₀ .tc) (PLift p)) Q := by
  unfold Prog.lift
  rw [wp_assume_of 𝒱 (c : Thread nD τ) bd Set.univ h, wp_ret]
  iintro H
  imodintro
  iexact H

/-- A signal to a neighbour's barrier cell. -/
theorem wp_tell (d : Bool) {O : CellTallies nD τ sig (Fin 3)} {Q : PUnit → ℙ} :
    iprop(records P κ ∗ reached ER (barCell (peer d c)) q.val ∗ dutyTok ER (barCell (peer d c)) q.val d ∗ barPay P q (peer d c) d
        ∗ (∃ W, owes (c : Thread nD τ) (O + tallyAt (barCell (peer d c)) q 1) W))
      ⊢ iprop(((∃ W, owes (c : Thread nD τ) O W) -∗ Q ⟨⟩)
        -∗ wp frame (wpE defs 𝒱 c bd) Set.univ (semSignalWord (peer d c) barS 1#32 : BodyProg sig Λ₀ F PUnit) Q) := by
  iintro ⟨#HI, #Hr, Ht, Hp, %W, HO⟩ Hk
  ihave #Hc := (inv_at P κ (bar_mem (peer d c))) $$ HI
  unfold semSignalWord
  iapply (Rounds.wp_signal 𝒱 ER (sched P) (c : Thread nD τ) bd (dst := (peer d c : Thread nD τ)) (sem := barS) (r := q.val) (d := d)
    (κ := κ (barCell (peer d c))) (k' := 1) (by rw [duties_bar]; exact Finset.mem_univ _) (amount_bar P (peer d c) q.val d) q O rfl) $$ [HO Ht Hp]
  · isplitr; · iexact Hc
    isplitl [HO]; · iexact HO
    isplitl [Ht]; · iexact Ht
    isplitl [Hp]; · rw [payload_bar]; iexact Hp
    iexact Hr
  iintro HO
  rw [wp_ret]
  imodintro
  iapply Hk
  iexists W; iexact HO

theorem mayWait_bar : records P κ ⊢ MayWait (c : Thread nD τ) (.reg barS) q ((net P κ q).owe c 0 62) := by
  have key : levAts L lv ⊢ (MayWait (c : Thread nD τ) (.reg barS) q ((net P κ q).owe c 0 62) : ℙ) := by
    refine MayOwe.of_cut (100 * q.val + 1) ?_ ?_ ?_ ?_
    · intro p hp; rw [Finset.mem_singleton.mp hp]; exact mem_L c (.reg barS) q
    · intro s i hs; exact (Net.Ok.owe_above c (net_ok P κ q) 62 0 rfl s i hs).1
    · intro p hp; rw [Finset.mem_singleton.mp hp]; exact le_refl (100 * q.val + 1)
    · intro s i hs
      have := (Net.Ok.owe_above c (net_ok P κ q) 62 0 rfl s i hs).2
      have e : (net P κ q).lo = 100 * q.val := rfl
      have e' : (net P κ q).lv = lv := rfl
      rw [e, e'] at this
      omega
  refine BIBase.Entails.trans ?_ key
  unfold records
  iintro ⟨-, H⟩
  iexact H

/-- The wait at the device's own barrier cell: both neighbours' first slots, and the cell in its next round. -/
theorem wp_hear {Q : PUnit → ℙ} :
    iprop(records P κ ∗ cred (tallyAt (barCell c) q 2) ∗ atPos ER (barCell c) q.val ∅ 0 ∗ (∃ W, owes (c : Thread nD τ) ((net P κ q).owe c 0 62) W))
      ⊢ iprop(((barPay P q c false ∗ barPay P q c true ∗ (atPos ER (barCell c) (q.val + 1) ∅ 0 ∗ reached ER (barCell c) (q.val + 1))
            ∗ (∃ W, owes (c : Thread nD τ) ((net P κ q).owe c 0 62) W)) -∗ Q ⟨⟩)
        -∗ wp frame (wpE defs 𝒱 c bd) Set.univ (semWaitWord barS 2#32 : BodyProg sig Λ₀ F PUnit) Q) := by
  iintro ⟨#HI, Hcr, Hat, %W, HO⟩ Hk
  ihave #Hc := (inv_at P κ (bar_mem c)) $$ HI
  ihave #Hm := (mayWait_bar P κ q c) $$ HI
  unfold semWaitWord
  iapply (Rounds.wp_wait_rest_token 𝒱 ER (sched P) (c : Thread nD τ) bd (κ := κ (barCell c)) (k' := 2)
      (wpE_semWait_eq 𝒱 (c : Thread nD τ) bd Set.univ) (Set.mem_univ _) q (O := (net P κ q).owe c 0 62) (W := W) (R := q.val) (m := 0) (T := ∅)
      ((Nat.zero_add 2).trans (expect_bar P c q).symm)) $$ [Hcr HO Hat]
  · isplitr; · iexact Hc
    isplitl [Hcr]; · iexact Hcr
    isplitl [HO]; · iexact HO
    isplitr; · iexact Hm
    iexact Hat
  iintro ⟨HO, Hat, Hr, Hpay⟩
  ihave Hp := (Entails.of_eq (rest_bar P c q)) $$ Hpay
  icases Hp with ⟨Hp, Hp'⟩
  rw [wp_ret]
  imodintro
  iapply Hk
  isplitl [Hp]; · iexact Hp
  isplitl [Hp']; · iexact Hp'
  isplitl [Hat Hr]
  · isplitl [Hat]; · iexact Hat
    iexact Hr
  iexists _; iexact HO

/-- A device's first slot and its cells of direction `!d`, lent to the neighbour that writes there. -/
theorem lend_pay (d : Bool) : iprop((net P κ q).any (!d) c 1 ∗ bigSep (Finset.Ico 0 62) (told_ P κ q (!d) c)) ⊢ barPay P q (peer d c) d := by
  unfold barPay
  rw [peer_peer d c]
  exact .rfl

theorem near_told (d : Bool) :
    iprop(reached ER (barCell c) (q.val + 1) ∗ bigSep (Finset.Ico 0 62) (near P κ q d c) ∗ bigSep (Finset.Ico 0 62) (told_ P κ q d (peer d c)))
      ⊢ bigSep (Finset.Ico 0 62) fun g => (net P κ q).res d c g := by
  rw [← bigSep_sep']
  exact bigSep_with_persistent fun g _ => near_res P κ q c d g

theorem pay_got (d u : Bool) (hu : u = !d) : barPay P q c u ⊢ iprop((net P κ q).any d (peer d c) 1 ∗ bigSep (Finset.Ico 0 62) (told_ P κ q d (peer d c))) := by
  subst hu
  unfold barPay
  rw [Bool.not_not]
  exact .rfl

set_option backward.isDefEq.respectTransparency false in
theorem wp_body {Q : PUnit → ℙ} :
    iprop(records P κ ∗ told q c ∗ rowsIs (args q).p c (P q c) ∗ (∃ V, rowsIs (args q).out c V)
        ∗ (slots (net P κ q) false c ∗ slots (net P κ q) true c) ∗ opened P κ q c ∗ (∃ W, owes (c : Thread nD τ) (owed q.val c) W))
      ⊢ iprop(((told q c ∗ rowsIs (args q).p c (P q c) ∗ rowsIs (args q).out c (total P κ q) ∗ (slots (net P κ q) false c ∗ slots (net P κ q) true c)
            ∗ bigSep (Finset.Ico 0 62) (done2 (net P κ q) c) ∗ atPos ER (barCell c) (q.val + 1) ∅ 0
            ∗ (∃ W, owes (c : Thread nD τ) (owed (q.val + 1) c) W)) -∗ Q ⟨⟩)
        -∗ wp frame (wpE defs 𝒱 c bd) Set.univ (body (metaM q) (args q) : BodyProg sig Λ₀ F PUnit) Q) := by
  rw [owe_all P κ q c]
  unfold opened slots body
  iintro ⟨#HI, Hm, Hp, Hout, ⟨⟨HA0, HA1, HA2, HA3⟩, HB0, HB1, HB2, HB3⟩, ⟨Hat, ⟨#Hr0, #Hr1⟩, ⟨Ht, Ht'⟩, Hcr, ⟨HN, HN'⟩, HR, HR'⟩, HO⟩ Hk
  rw [wp_bind]
  iapply (wp_word q c 𝒱 bd (v := lit0 c) rfl) $$ Hm
  iintro Hm
  rw [wp_bind]
  iapply (wp_checked c 𝒱 bd (chk3_pos c))
  rw [wp_bind]
  iapply (wp_word q c 𝒱 bd (v := lit1 c) rfl) $$ Hm
  iintro Hm
  rw [wp_bind]
  iapply (wp_checked c 𝒱 bd (chk1_next c))
  rw [wp_bind]
  iapply (wp_word q c 𝒱 bd (v := lit2 c) rfl) $$ Hm
  iintro Hm
  rw [wp_bind]
  iapply (wp_checked c 𝒱 bd (chk2_prev c))
  dsimp only
  rw [peers_eq c]
  rw [wp_bind]
  iapply (wp_tell P κ q c 𝒱 bd false) $$ [Ht HB1 HR' HO]
  · isplitr; · iexact HI
    isplitr; · iexact Hr0
    isplitl [Ht]; · iexact Ht
    isplitl [HB1 HR']
    · iapply (lend_pay P κ q c false)
      isplitl [HB1]; · iexact HB1
      iexact HR'
    iexact HO
  iintro HO
  rw [wp_bind]
  iapply (wp_tell P κ q c 𝒱 bd true) $$ [Ht' HA1 HR HO]
  · isplitr; · iexact HI
    isplitr; · iexact Hr1
    isplitl [Ht']; · iexact Ht'
    isplitl [HA1 HR]
    · iapply (lend_pay P κ q c true)
      isplitl [HA1]; · iexact HA1
      iexact HR
    iexact HO
  iintro HO
  rw [wp_bind]
  iapply (wp_hear P κ q c 𝒱 bd) $$ [Hcr Hat HO]
  · isplitr; · iexact HI
    isplitl [Hcr]; · iexact Hcr
    isplitl [Hat]; · iexact Hat
    iexact HO
  iintro ⟨Hp1, Hp0, ⟨Hz, #Hnt⟩, HO⟩
  ihave Hg0 := (pay_got P κ q c false true rfl) $$ Hp0
  icases Hg0 with ⟨HA1, HR⟩
  ihave Hg1 := (pay_got P κ q c true false rfl) $$ Hp1
  icases Hg1 with ⟨HB1, HR'⟩
  iapply ((net_plan P κ q).wp_reduce c (offs_at c (chk3_pos c)) 𝒱 bd) $$ [Hp Hout HA0 HA1 HA2 HA3 HB0 HB1 HB2 HB3 HN HN' HR HR' HO]
  · isplitr; · rw [show (net P κ q).I = records P κ from rfl]; iexact HI
    isplitl [Hp]; · iexact Hp
    isplitl [Hout]; · iexact Hout
    isplitl [HA0 HA1 HA2 HA3 HB0 HB1 HB2 HB3]
    · unfold open_
      isplitl [HA0 HA1 HA2 HA3]
      · isplitl [HA0]; · iexact HA0
        isplitl [HA1]; · iexact HA1
        isplitl [HA2]; · iexact HA2
        iexact HA3
      · isplitl [HB0]; · iexact HB0
        isplitl [HB1]; · iexact HB1
        isplitl [HB2]; · iexact HB2
        iexact HB3
    isplitl [HN HN' HR HR']
    · unfold res2
      rw [bigSep_sep']
      isplitl [HN HR]
      · iapply (near_told P κ q c false)
        isplitr; · iexact Hnt
        isplitl [HN]; · iexact HN
        iexact HR
      · iapply (near_told P κ q c true)
        isplitr; · iexact Hnt
        isplitl [HN']; · iexact HN'
        iexact HR'
    iexact HO
  iintro ⟨Hp, Hout, Hs, Hd, HO⟩
  iapply Hk
  isplitl [Hm]; · iexact Hm
  isplitl [Hp]; · iexact Hp
  isplitl [Hout]; · iexact Hout
  isplitl [Hs]; · unfold slots; iexact Hs
  isplitl [Hd]; · iexact Hd
  isplitl [Hz]; · iexact Hz
  iexact HO

end Body

end Cert.Ring

end
-- ==== Proof.Ring.Entry.lean ====
module

public import proofs.«01_k».proof.Proof.Ring.Talk
public import Idealize.ShloMosaic.Lib.Ring.AtN

/-! What a device holds when it enters the kernel: its slots cut out of two buffers. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal
open Plan

variable {F : FTy → Type} [FloatOps F]

local notation "𝕄" => MT nD τ sig (Fin 3) (Elt F) ℕ UU ℕ
local notation "ℙ" => sProp (MT nD τ sig (Fin 3) (Elt F) ℕ UU ℕ)

/-! ## Slots -/

theorem slot_inbs (s : Fin 4) (a : Fin S4x32x1024.rank) : (![s.val, 0, 0] : Fin 3 → ℕ) a + S1x32x1024.size a ≤ S4x32x1024.size a := by
  revert s a; decide

/-- The elements of each slot. -/
def slotSet (s : Fin 4) : Finset S4x32x1024.Idx := (Rect.unit (s := S4x32x1024) ![s.val, 0, 0] S1x32x1024.size (slot_inbs s)).set

theorem slotSet_disjoint (s s' : Fin 4) (h : s ≠ s') : Disjoint (slotSet s) (slotSet s') :=
  Ring.lead_disjoint (s := S4x32x1024) (0 : Fin 3) 1 (fun s : Fin 4 => ![s.val, 0, 0]) S1x32x1024.size slot_inbs (by decide) rfl s s' h

theorem slotSet_cover : Finset.univ.biUnion slotSet = Finset.univ :=
  Ring.lead_cover (s := S4x32x1024) (0 : Fin 3) 1 (fun s : Fin 4 => ![s.val, 0, 0]) S1x32x1024.size slot_inbs (by decide) (by decide) rfl (by decide) rfl

variable (P : Fin 3 → Dev nD → FVec F S2048x1024 .f32) (κ : GSem nD τ sig → ℕ) (q : Fin 3) (c : Dev nD)

section

variable (m : SlotMem sig) (hm : m.IsWhole)

/-- The same as elements of a buffer seen whole. -/
def cut (s : Fin 4) : Finset m.view.ref.ty.shape.Idx := (slotSet s).map m.view.emb

theorem cut_disjoint (s s' : Fin 4) (h : s ≠ s') : Disjoint (cut m s) (cut m s') :=
  (Finset.disjoint_map _).mpr (slotSet_disjoint s s' h)

include hm in
theorem cut_cover : Finset.univ.biUnion (cut m) = Finset.univ := by
  rw [← hm.set_eq_univ]
  show Finset.univ.biUnion (fun s => (slotSet s).map m.view.emb) = Finset.univ.map m.view.emb
  rw [← slotSet_cover]
  ext x
  simp only [Finset.mem_biUnion, Finset.mem_map, Finset.mem_univ, true_and]
  constructor
  · rintro ⟨s, y, hy, rfl⟩; exact ⟨y, ⟨s, hy⟩, rfl⟩
  · rintro ⟨y, ⟨s, hy⟩, rfl⟩; exact ⟨s, y, hy, rfl⟩

theorem slotRef_set (s : Fin 4) : (slotRef m s.val).view.set = cut m s := by
  have key : ∀ n, n % 4 = s.val → (slotRef m n).view.set = cut m s := fun n h => by
    obtain rfl : s = ⟨n % 4, Nat.mod_lt _ (by decide)⟩ := Fin.ext h.symm
    rw [slot_set]
    exact View.set_slice _ _
  exact key s.val (Nat.mod_eq_of_lt s.isLt)

/-- A buffer at anything, -/
abbrev someBuf : ℙ := iprop(∃ f, m.view.loc (c : Thread nD τ) ↦{fullShare} f)

/-- and a slot of it. -/
def piece (s : Fin 4) (f : Buf (Elt F) (m.view.loc (c : Thread nD τ))) : ℙ :=
  m.view.loc (c : Thread nD τ) ↦[(slotRef m s.val).view.set]{fullShare} f

theorem piece_eq (s : Fin 4) (f : Buf (Elt F) (m.view.loc (c : Thread nD τ))) :
    piece c m s f = (m.view.loc (c : Thread nD τ) ↦[cut m s]{fullShare} f : ℙ) := by
  unfold piece
  rw [slotRef_set m s]

include hm in
/-- It is its four slots. -/
theorem split_slots : (someBuf c m : ℙ) ⊢ iprop((∃ f, piece c m 0 f) ∗ (∃ f, piece c m 1 f) ∗ (∃ f, piece c m 2 f) ∗ ∃ f, piece c m 3 f) :=
  Ring.slots4_split (ℓ := m.view.loc (c : Thread nD τ)) (q := fullShare) (cut m) (cut_disjoint m) (cut_cover m hm)
    (piece (F := F) c m 0) (piece c m 1) (piece c m 2) (piece c m 3) (piece_eq c m 0) (piece_eq c m 1) (piece_eq c m 2) (piece_eq c m 3)

include hm in
theorem join_slots : iprop((∃ f, piece c m 0 f) ∗ (∃ f, piece c m 1 f) ∗ (∃ f, piece c m 2 f) ∗ ∃ f, piece c m 3 f) ⊢ (someBuf c m : ℙ) :=
  Ring.slots4_join (ℓ := m.view.loc (c : Thread nD τ)) (q := fullShare) (cut m) (cut_disjoint m) (cut_cover m hm)
    (piece (F := F) c m 0) (piece c m 1) (piece c m 2) (piece c m 3) (piece_eq c m 0) (piece_eq c m 1) (piece_eq c m 2) (piece_eq c m 3)

end

theorem whole_slots (d : Bool) : ((args q).M d).IsWhole := by
  match q, d with
  | 0, false => exact Memref.isWhole_whole _
  | 0, true => exact Memref.isWhole_whole _
  | 1, false => exact Memref.isWhole_whole _
  | 1, true => exact Memref.isWhole_whole _
  | 2, false => exact Memref.isWhole_whole _
  | 2, true => exact Memref.isWhole_whole _

theorem slots_split (d : Bool) : someBuf c ((args q).M d) ⊢ slots (net P κ q) d c := split_slots c _ (whole_slots q d)
theorem slots_join (d : Bool) : slots (net P κ q) d c ⊢ someBuf c ((args q).M d) := join_slots c _ (whole_slots q d)

end Cert.Ring

end
-- ==== Proof.Ring.Open.lean ====
module

public import proofs.«01_k».proof.Proof.Ring.Entry

/-! Entering the kernel: the copies' cells are opened with the counters at zero, and what a device was dealt at launch
    becomes what its body asks for. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Plan

variable {F : FTy → Type} [FloatOps F]

local notation "𝕄" => MT nD τ sig (Fin 3) (Elt F) ℕ UU ℕ
local notation "ℙ" => sProp (MT nD τ sig (Fin 3) (Elt F) ℕ UU ℕ)

variable (P : Fin 3 → Dev nD → FVec F S2048x1024 .f32) (κ : GSem nD τ sig → ℕ) (q : Fin 3) (c : Dev nD)

/-! ## Ends of copies and hops -/

/-- One for each hop, numbered or bounded. -/
theorem bigSep_hops (Φ : ℕ → ℙ) : bigSep (Finset.Ico 0 62) Φ = bigSep Finset.univ fun g : Fin 62 => Φ g.val := by
  rw [show Finset.Ico 0 62 = (Finset.univ : Finset (Fin 62)).map Fin.valEmbedding from by
    ext n; simp only [Finset.mem_Ico, Finset.mem_map, Finset.mem_univ, true_and, Fin.valEmbedding_apply]
    exact ⟨fun h => ⟨⟨n, h.2⟩, rfl⟩, fun ⟨g, hg⟩ => ⟨Nat.zero_le _, hg ▸ g.isLt⟩⟩, BI.bigSep_map]
  rfl

theorem bigSep_two (Φ : Bool → ℙ) : bigSep Finset.univ Φ = iprop(Φ false ∗ Φ true) := by
  rw [show (Finset.univ : Finset Bool) = {false, true} from by decide, BI.bigSep_insert (by decide), BI.bigSep_singleton]; rfl

/-- The ends of one call. -/
abbrev CallEnd : Type := Bool × Fin 62 × Bool
abbrev endIn (q : Fin 3) (e : CallEnd) : End := (q, e)

/-- They are: of each direction and hop, the two. -/
theorem bigSep_ends (Φ : CallEnd → ℙ) : bigSep Finset.univ Φ
    = bigSep Finset.univ fun d : Bool => bigSep Finset.univ fun g : Fin 62 => iprop(Φ (d, g, false) ∗ Φ (d, g, true)) := by
  rw [BI.bigSep_univ_prod]
  refine bigSep_congr fun d _ => ?_
  rw [BI.bigSep_univ_prod]
  exact bigSep_congr fun g _ => bigSep_two _

/-! ## Opening -/

/-- A cell that has been opened. -/
def fresh (e : CallEnd) : ℙ := iprop(atPos ER (endCell c (q, e)) 0 ∅ 0 ∗ reached ER (endCell c (q, e)) 0)

/-- The tokens of what a device pays in a hop, and the credit for what it receives. -/
def pays (d : Bool) (g : Fin 62) : ℙ :=
  iprop(dutyTok ER (endCell c (q, d, g, false)) 0 false ∗ dutyTok ER (endCell (peer d c) (q, d, g, true)) 0 false
    ∗ cred (tallyAt (endCell c (q, d, g, true)) q credit))

/-- What is dealt to a device at launch for a call, besides its copies' cells, -/
def dealt : ℙ :=
  iprop((dutyTok ER (barCell (peer false c)) q.val false ∗ dutyTok ER (barCell (peer true c)) q.val true)
    ∗ cred (tallyAt (barCell c) q 2) ∗ bigSep Finset.univ fun d : Bool => bigSep Finset.univ (pays q c d))

/-- and where it stands with the barrier cells before call number `n`. -/
def stand (n : ℕ) (c : Dev nD) : ℙ :=
  iprop(atPos ER (barCell c) n ∅ 0 ∗ (reached ER (barCell (peer false c)) n ∗ reached ER (barCell (peer true c)) n))

theorem fresh_near (d : Bool) (g : Fin 62) :
    iprop((fresh q c (d, g, false) ∗ fresh q c (d, g, true)) ∗ pays q c d g) ⊢ iprop(near P κ q d c g.val ∗ told_ P κ q d c g.val) := by
  unfold fresh pays near told_
  rw [sCell_eq P κ q d c g.isLt, rCell_eq P κ q d c g.isLt, rCell_eq P κ q d (peer d c) g.isLt]
  iintro ⟨⟨⟨H1, H2⟩, H3, H4⟩, H5, H6, H7⟩
  isplitr [H4]
  · isplitl [H1]; · iexact H1
    isplitl [H3]; · iexact H3
    isplitl [H5]; · iexact H5
    isplitl [H6]; · iexact H6
    isplitl [H7]; · iexact H7
    iexact H2
  iexact H4

theorem all_near (d : Bool) :
    iprop((bigSep Finset.univ fun g : Fin 62 => iprop(fresh q c (d, g, false) ∗ fresh q c (d, g, true))) ∗ bigSep Finset.univ (pays q c d))
      ⊢ iprop(bigSep (Finset.Ico 0 62) (near P κ q d c) ∗ bigSep (Finset.Ico 0 62) (told_ P κ q d c)) := by
  rw [bigSep_hops, bigSep_hops, ← bigSep_sep', ← bigSep_sep']
  exact bigSep_mono fun g _ => fresh_near P κ q c d g

theorem opened_intro : iprop(stand q.val c ∗ dealt q c ∗ bigSep Finset.univ (fresh q c)) ⊢ opened P κ q c := by
  unfold stand dealt opened
  rw [bigSep_ends, bigSep_two, bigSep_two]
  iintro ⟨⟨H1, H2⟩, ⟨H3, H4, H5, H6⟩, H7, H8⟩
  isplitl [H1]; · iexact H1
  isplitl [H2]; · iexact H2
  isplitl [H3]; · iexact H3
  isplitl [H4]; · iexact H4
  ihave HA := (all_near P κ q c false) $$ [H7 H5]
  · isplitl [H7] <;> iassumption
  ihave HB := (all_near P κ q c true) $$ [H8 H6]
  · isplitl [H8] <;> iassumption
  icases HA with ⟨HA, HA'⟩
  icases HB with ⟨HB, HB'⟩
  isplitl [HA HB]
  · isplitl [HA] <;> iassumption
  isplitl [HA'] <;> iassumption

/-- A call's own counters. -/
def ownSem (e : CallEnd) : SemLoc sig := .dma (semAt (q, e))

theorem open_end (e : CallEnd) : iprop(records P κ ∗ (openTok ER (endCell c (q, e)) ∗ semVal (endCell c (q, e)) 0)) ⊢ (|={Set.univ}=> fresh q c e : ℙ) := by
  iintro ⟨#HI, H1, H2⟩
  ihave #Hc := (inv_at P κ (end_mem c (q, e))) $$ HI
  imod (Rounds.cell_open ER (sched P) (g := endCell c (q, e)) (Set.mem_univ (κ (endCell c (q, e))))) $$ [H1 H2] with ⟨H3, H4⟩
  · isplitr; · iexact Hc
    isplitl [H1] <;> iassumption
  imodintro
  unfold fresh
  isplitl [H3] <;> iassumption

theorem open_ends : iprop(records P κ ∗ (bigSep Finset.univ (fun e => openTok ER (endCell c (q, e))) ∗ Pipeline.ownSems0 (ownSem q) c))
    ⊢ (|={Set.univ}=> bigSep Finset.univ (fresh q c) : ℙ) := by
  unfold Pipeline.ownSems0
  rw [← bigSep_sep']
  exact (bigSep_with_persistent fun e _ => open_end P κ q c e).trans (bigSep_fupd _ _)

/-! ## Leaving -/

/-- The counters are back at zero, and the neighbours have told how far they are. -/
theorem done_ends : bigSep (Finset.Ico 0 62) (done2 (net P κ q) c)
    ⊢ iprop(Pipeline.ownSems0 (ownSem q) c ∗ (reached ER (barCell (peer false c)) (q.val + 1) ∗ reached ER (barCell (peer true c)) (q.val + 1))) := by
  have told : bigSep (Finset.Ico 0 62) (done2 (net P κ q) c)
      ⊢ (iprop(reached ER (barCell (peer false c)) (q.val + 1) ∗ reached ER (barCell (peer true c)) (q.val + 1)) : ℙ) := by
    refine BIBase.Entails.trans (bigSep_elim (Finset.mem_Ico.mpr ⟨le_refl 0, by decide⟩ : 0 ∈ Finset.Ico 0 62)) ?_
    unfold done2 Net.done
    rw [note_eq, note_eq, from_eq, from_eq, Bool.not_false, Bool.not_true]
    iintro ⟨⟨-, H1⟩, -, H2⟩
    isplitl [H2]; · iexact H2
    iexact H1
  have zero : bigSep (Finset.Ico 0 62) (done2 (net P κ q) c) ⊢ (Pipeline.ownSems0 (ownSem q) c : ℙ) := by
    unfold Pipeline.ownSems0
    rw [bigSep_ends, bigSep_two, ← bigSep_sep', bigSep_hops]
    refine bigSep_mono fun g _ => ?_
    have one : ∀ d, (net P κ q).done d c g.val
        ⊢ iprop(semVal ((net P κ q).sCell d c g.val) 0 ∗ semVal ((net P κ q).rCell d c g.val) 0) := fun d => by
      unfold Net.done; exact sep_elim_left
    exact (BI.sep_mono (one false) (one true)).trans (BI.Entails.refl _)
  iintro H
  ihave #Ht := told $$ H
  isplitl
  · iapply zero; iexact H
  iexact Ht

end Cert.Ring

end
-- ==== Proof.Ring.Table.lean ====
module

public import proofs.«01_k».proof.Proof.Ring.Talk
public import proofs.«01_k».proof.Proof.Gen.KernelIdeal.Regions
public import Idealize.ShloMosaic.Lib.StableHlo.Run
public import Idealize.ShloMosaic.Lib.Claim

/-! The host computes each device's four words from its number. -/

@[expose] public section

noncomputable section

namespace Cert.Ring

open Idealize.ShloMosaic
open Idealize.ShloMosaic.TcCoe
open Idealize.SL.Sem
open Cert.KernelIdeal Cert.KernelIdeal.Gen

variable {F : FTy → Type} [FloatOps F]

/-- A slice at one index, of a table: the index read at its own buffer. -/
theorem sliced_result {a b y : Ref sig .tc} (T : BufTy) (f : a.ty.Contents (Elt F) → (Fin 1 → T.Contents (Elt F)) → y.ty.Contents (Elt F))
    (hT ha hix hy) (V : Valuation τ sig (Elt F)) :
    (StableHlo.unaryIndexed (τ := τ) a ![b] T y f hT ha hix hy).result V (no_index (Proc.devRef .tc y))
      = f (V (Proc.devRef .tc a)) (fun _ => cast (congrArg (fun U : BufTy => U.Contents (Elt F)) (hT 0)) (V (Proc.devRef .tc b))) := by
  rw [StableHlo.unaryIndexed_result]
  congr 1
  funext k
  fin_cases k
  rfl

/-- The place of a word among the four. -/
def fourth (j : Fin 4) : S4.Idx
  | 0 => j

/-- The place a device computes of itself, in the host program's words. -/
def self (c : Dev nD) : S_.Idx → BitVec 32 :=
  Host.remui (Host.divui (constantI S_ 32 (Dev.word c)) (constantI S_ 32 1#32)) (constantI S_ 32 32#32)

/-- A table read at a device's own place. -/
def taken (lit : Fin 32 → BitVec 32) (c : Dev nD) : S1.Idx → BitVec 32 :=
  broadcastInDim S1 ![] bcast_S_S1 fun i =>
    shapeCast S_ (Host.dynamicSlice S1 (fun i => lit (S32.rowMajor i))
      (fun _ => BitVec.toInt (select (cmpi .slt (self c) (constantI S_ 32 0#32)) (addi (self c) (constantI S_ 32 32#32)) (self c)
        (Shape.Idx.first h_S_))) sliceFits_S32_S1) shapeCasts_S1_S_ i

theorem taken_first : ∀ (c : Dev nD) (j : S1.Idx), taken lit0 c j = lit0 c := by decide +kernel
theorem taken_second : ∀ (c : Dev nD) (j : S1.Idx), taken lit1 c j = lit1 c := by decide +kernel
theorem taken_third : ∀ (c : Dev nD) (j : S1.Idx), taken lit2 c j = lit2 c := by decide +kernel
theorem self_word : ∀ (c : Dev nD) (j : S1.Idx), broadcastInDim S1 ![] bcast_S_S1 (self c) j = BitVec.ofNat 32 c.val := by
  decide +kernel

theorem four_words : ∀ (c : Dev nD) (j : Fin 4),
    (concatenate S4 0 [⟨S1, (fun _ => lit0 c : S1.Idx → BitVec 32)⟩, ⟨S1, (fun _ => lit1 c : S1.Idx → BitVec 32)⟩,
      ⟨S1, (fun _ => lit2 c : S1.Idx → BitVec 32)⟩, ⟨S1, (fun _ => BitVec.ofNat 32 c.val : S1.Idx → BitVec 32)⟩] concatenates_S1_S1_S1_S1_S4_d0) (fourth j)
      = words c (fourth j) := by decide +kernel

theorem meta_words (m : (ℓ : Loc nD τ sig) → Buf (Elt F) ℓ) (c : Dev nD) : V1 m c main_v24 = words c := by
  have key : ∀ V : Valuation τ sig (Elt F), V main_v20 = (fun _ => lit0 c : S1.Idx → BitVec 32) → V main_v21 = (fun _ => lit1 c : S1.Idx → BitVec 32)
      → V main_v22 = (fun _ => lit2 c : S1.Idx → BitVec 32) → V main_v23 = (fun _ => BitVec.ofNat 32 c.val : S1.Idx → BitVec 32)
      → concatenate S4 0 [⟨S1, (V main_v20 : S1.Idx → BitVec 32)⟩, ⟨S1, (V main_v21 : S1.Idx → BitVec 32)⟩, ⟨S1, (V main_v22 : S1.Idx → BitVec 32)⟩,
        ⟨S1, (V main_v23 : S1.Idx → BitVec 32)⟩] concatenates_S1_S1_S1_S1_S4_d0 = words c := by
    intro V h0 h1 h2 h3
    generalize (V main_v20 : S1.Idx → BitVec 32) = a at *
    generalize (V main_v21 : S1.Idx → BitVec 32) = a at *
    generalize (V main_v22 : S1.Idx → BitVec 32) = a at *
    generalize (V main_v23 : S1.Idx → BitVec 32) = a at *
    subst h0 h1 h2 h3
    funext i
    have e : i = fourth (i 0) := funext fun a => by fin_cases a; rfl
    rw [e]
    exact four_words c (i 0)
  show (StableHlo.nary ![main_v20, main_v21, main_v22, main_v23] main_v24
      (fun u => (concatenate S4 0 [⟨S1, (u 0 : (⟨S1, .i32⟩ : BufTy).Contents (Elt F))⟩, ⟨S1, (u 1 : (⟨S1, .i32⟩ : BufTy).Contents (Elt F))⟩, ⟨S1, (u 2 : (⟨S1, .i32⟩ : BufTy).Contents (Elt F))⟩, ⟨S1, (u 3 : (⟨S1, .i32⟩ : BufTy).Contents (Elt F))⟩] concatenates_S1_S1_S1_S1_S4_d0 : (⟨S4, .i32⟩ : BufTy).Contents (Elt F)))).result (StableHlo.after ((hostOps0 c).take 34) (V0 m c)) main_v24 = _
  rw [StableHlo.nary4_result]
  have hV : ∀ V : Valuation τ sig (Elt F), StableHlo.after ((hostOps0 c).take 34) (V0 m c) = V → V main_v20 = (fun _ => lit0 c : S1.Idx → BitVec 32) ∧ V main_v21 = (fun _ => lit1 c : S1.Idx → BitVec 32)
      ∧ V main_v22 = (fun _ => lit2 c : S1.Idx → BitVec 32) ∧ V main_v23 = (fun _ => BitVec.ofNat 32 c.val : S1.Idx → BitVec 32) := by
    rintro V rfl
    simp only [hostOps0, List.take_succ_cons, List.take_zero]
    refine ⟨?_, ?_, ?_, ?_⟩
    all_goals simp (disch := decide) only [StableHlo.after_cons, StableHlo.after_nil, StableHlo.nullary_result', StableHlo.unary_result',
        StableHlo.binary_result', StableHlo.ternary_result', StableHlo.reshape_result', sliced_result, StableHlo.nullary_result_ne',
        StableHlo.unary_result_ne', StableHlo.binary_result_ne', StableHlo.ternary_result_ne', StableHlo.reshape_result_ne',
        StableHlo.unaryIndexed_result_ne']
    · exact funext (taken_first c)
    · exact funext (taken_second c)
    · exact funext (taken_third c)
    · exact funext (self_word c)
  generalize StableHlo.after ((hostOps0 c).take 34) (V0 m c) = V at hV ⊢
  obtain ⟨h0, h1, h2, h3⟩ := hV V rfl
  exact key V h0 h1 h2 h3

end Cert.Ring

end
-- ==== Proof.Ring.Terms.lean ====
module

public import proofs.«01_k».proof.Proof.Ring.Layer
public import proofs.«01_k».proof.Proof.Ring.Open
public import proofs.«01_k».proof.Proof.Ring.Table
public import Idealize.ShloMosaic.Lib.Pipeline.RegionArraysS
public import Idealize.ShloMosaic.Lib.Pipeline.ValueKit.Geometry

/-! The layers' calls as regions of the program: the values from call to call, the layers' windows, their body's obligation, and
    the terms they leave. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Plan

variable {F : FTy → Type} [FloatOps F]

local notation "𝕄" => MT nD τ sig (Fin 3) (Elt F) ℕ UU ℕ
local notation "ℙ" => sProp (MT nD τ sig (Fin 3) (Elt F) ℕ UU ℕ)

variable (m : (ℓ : Loc nD τ sig) → Buf (Elt F) ℓ)

/-! ## The values from call to call -/

/-- A device's blocks of the weights of each layer. -/
def weightIn : ℕ → Dev nD → FVec F S1024x2048 .f32
  | 0, c => m ((c : Thread nD τ).loc main_arg1)
  | 1, c => m ((c : Thread nD τ).loc main_arg3)
  | _, c => m ((c : Thread nD τ).loc main_arg5)
def weightOut : ℕ → Dev nD → FVec F S2048x1024 .f32
  | 0, c => m ((c : Thread nD τ).loc main_arg2)
  | 1, c => m ((c : Thread nD τ).loc main_arg4)
  | _, c => m ((c : Thread nD τ).loc main_arg6)

/-- What a device's layer number `n` starts from: x, and after that the sum of all devices' terms as the ring computes it. -/
def rowsAt : ℕ → Dev nD → FVec F S2048x1024 .f32
  | 0, c => m ((c : Thread nD τ).loc main_arg0)
  | n + 1, _ => joined (sumOf peer pos (fun c => termOf (rowsAt n c) (weightIn m n c) (weightOut m n c)) dev)

/-- A device's term of each layer's sum, -/
def term (q : Fin 3) (c : Dev nD) : FVec F S2048x1024 .f32 := termOf (rowsAt m q.val c) (weightIn m q.val c) (weightOut m q.val c)
/-- and the sum as the ring computes it. -/
def summed (q : Fin 3) : FVec F S2048x1024 .f32 := joined (sumOf peer pos (term m q) dev)

/-- The buffer each call writes, -/
def wrote : ℕ → Ref sig .tc
  | 0 => main_v25 | 1 => main_v26 | 2 => main_v27 | 3 => main_v28 | 4 => main_v29 | _ => main_v30

/-- and the buffers after it. -/
def next (c : Dev nD) (V : Valuation τ sig (Elt F)) : ℕ → Valuation τ sig (Elt F)
  | 0 => Function.update V main_v25 (term m 0 c)
  | 1 => Function.update V main_v26 (summed m 0)
  | 2 => Function.update V main_v27 (term m 1 c)
  | 3 => Function.update V main_v28 (summed m 1)
  | 4 => Function.update V main_v29 (term m 2 c)
  | _ => Function.update V main_v30 (summed m 2)

/-- The buffers before call number `n`. -/
def Vat : ℕ → Dev nD → Valuation τ sig (Elt F)
  | 0, c => V1 m c
  | n + 1, c => next m c (Vat n c) n

/-- A call leaves the other buffers as they were. -/
theorem Vat_next (n : ℕ) (c : Dev nD) (b : DevRef τ sig) (h : b ≠ Proc.devRef .tc (wrote n)) : Vat m (n + 1) c b = Vat m n c b := by
  show next m c (Vat m n c) n b = _
  match n with
  | 0 => exact Function.update_of_ne h _ _
  | 1 => exact Function.update_of_ne h _ _
  | 2 => exact Function.update_of_ne h _ _
  | 3 => exact Function.update_of_ne h _ _
  | 4 => exact Function.update_of_ne h _ _
  | _ + 5 => exact Function.update_of_ne h _ _

theorem Vat_kept (n : ℕ) (c : Dev nD) (r : Ref sig .tc) (h : r ≠ wrote n) : Vat m (n + 1) c r = Vat m n c r :=
  Vat_next m n c _ (StableHlo.devRef_ne_of_ne h)

/-- No call writes an argument or the words. -/
theorem Vat_all (c : Dev nD) (r : Ref sig .tc) (h : r ∉ [main_v25, main_v26, main_v27, main_v28, main_v29, main_v30]) :
    ∀ n, Vat m n c r = V1 m c r
  | 0 => rfl
  | n + 1 => (Vat_kept m n c r fun e => h (by subst e; unfold wrote; split <;> decide)).trans (Vat_all c r h n)

theorem Vat_arg (c : Dev nD) (r : Ref sig .tc) (h : r ∉ [main_v25, main_v26, main_v27, main_v28, main_v29, main_v30]) (h' : r ∉ hostOps0_W)
    (n : ℕ) : Vat m n c r = m ((c : Thread nD τ).loc r) := (Vat_all m c r h n).trans (V1_of m c r h')

/-- What it does write. -/
theorem Vat_wrote0 (c : Dev nD) : Vat m 1 c main_v25 = term m 0 c := by
  show Function.update (Vat m 0 c) (Proc.devRef .tc main_v25) (term m 0 c) (Proc.devRef .tc main_v25) = _
  exact Function.update_self ..
theorem Vat_wrote1 (c : Dev nD) : Vat m 2 c main_v26 = summed m 0 := by
  show Function.update (Vat m 1 c) (Proc.devRef .tc main_v26) (summed m 0) (Proc.devRef .tc main_v26) = _
  exact Function.update_self ..
theorem Vat_wrote2 (c : Dev nD) : Vat m 3 c main_v27 = term m 1 c := by
  show Function.update (Vat m 2 c) (Proc.devRef .tc main_v27) (term m 1 c) (Proc.devRef .tc main_v27) = _
  exact Function.update_self ..
theorem Vat_wrote3 (c : Dev nD) : Vat m 4 c main_v28 = summed m 1 := by
  show Function.update (Vat m 3 c) (Proc.devRef .tc main_v28) (summed m 1) (Proc.devRef .tc main_v28) = _
  exact Function.update_self ..
theorem Vat_wrote4 (c : Dev nD) : Vat m 5 c main_v29 = term m 2 c := by
  show Function.update (Vat m 4 c) (Proc.devRef .tc main_v29) (term m 2 c) (Proc.devRef .tc main_v29) = _
  exact Function.update_self ..
theorem Vat_wrote5 (c : Dev nD) : Vat m 6 c main_v30 = summed m 2 := by
  show Function.update (Vat m 5 c) (Proc.devRef .tc main_v30) (summed m 2) (Proc.devRef .tc main_v30) = _
  exact Function.update_self ..

theorem rowsAt_next (q : Fin 3) (c : Dev nD) : rowsAt m (q.val + 1) c = summed m q := rfl

/-! ## What is owed -/

theorem owed_level (n : ℕ) {c : Dev nD} {g : GSem nD τ sig} {u : Fin 3} (h : 0 < (owed n c : CellTallies nD τ sig (Fin 3)) g u) :
    u ∈ L g ∧ 0 < lv g u := by
  have h := owed_above n c g u h
  exact ⟨h.1, by omega⟩

/-! ## The layers' windows -/

/-- The block of rows of a point. -/
def partAt (t : Fin grid0.N) : Fin 8 := ⟨t.val, N_0 ▸ t.isLt⟩

theorem part_at (x : FVec F S2048x1024 .f32) (k : Fin 8) (j : S256x1024.Idx) (i : S2048x1024.Idx) (h0 : (i 0).val = k.val * 256 + (j 0).val)
    (h1 : (i 1).val = (j 1).val) : x i = part x k j :=
  congrArg x (funext fun a => Fin.ext (by
    match a with
    | 0 => exact h0
    | 1 => exact h1))

theorem whole_at {n k : ℕ} {α : Type} (x : (⟨2, ![n, k]⟩ : Shape).Idx → α) (i j : (⟨2, ![n, k]⟩ : Shape).Idx) (h0 : (i 0).val = (j 0).val)
    (h1 : (i 1).val = (j 1).val) : x i = x j :=
  congrArg x (funext fun a => Fin.ext (by
    match a with
    | 0 => exact h0
    | 1 => exact h1))

/-- A block's term is the term at the block's rows. -/
theorem termOf_at (x : FVec F S2048x1024 .f32) (W : FVec F S1024x2048 .f32) (O : FVec F S2048x1024 .f32) (k : Fin 8) (y : S256x1024.Idx)
    (i : S2048x1024.Idx) (h0 : (i 0).val = k.val * 256 + (y 0).val) (h1 : (i 1).val = (y 1).val) : k0_pay1 (part x k) W O y = termOf x W O i := by
  have hy : (y 0).val < 256 := (y 0).isLt
  have ht : partOf i = k := Fin.ext (by
    show (i 0).val / 256 = k.val
    rw [h0]; omega)
  have hi : inPart i = y := funext fun a => Fin.ext (by
    match a with
    | 0 =>
      show (i 0).val % 256 = (y 0).val
      rw [h0]; omega
    | 1 => exact h1)
  unfold termOf
  rw [ht, hi]

/-- At one point: from what the windows hold before the body to what they hold after it. -/
theorem layer_step (c : Dev nD) {i : grid0.Coords} {M1 h1 M2 h2 M3 h3 M4 h4} {p : Prog (TpuEff nD τ sig (Elt F) Λ₀ .tc) PUnit}
    (hp : p = cc0__layer_body i M1 h1 M2 h2 M3 h3 M4 h4) (X : FVec F S256x1024 .f32) (W : FVec F S1024x2048 .f32)
    (O : FVec F S2048x1024 .f32) {A B : ℙ} {D1 D2 D3 D4 : Type} {f1 : D1 → FVec F S256x1024 .f32} {f2 : D2 → FVec F S1024x2048 .f32}
    {f3 : D3 → FVec F S2048x1024 .f32} {f4 : D4 → FVec F S256x1024 .f32} (e1 : ∀ d, f1 d = X) (e2 : ∀ d, f2 d = W) (e3 : ∀ d, f3 d = O) :
    iprop(A ∗ B ∗ (∃ d, owns (c : Thread nD τ) M1 fullShare (f1 d)) ∗ (∃ d, owns (c : Thread nD τ) M2 fullShare (f2 d))
        ∗ (∃ d, owns (c : Thread nD τ) M3 fullShare (f3 d)) ∗ ∃ d, owns (c : Thread nD τ) M4 fullShare (f4 d))
      ⊢ wp frame (wpE (defs₀ (F := F)) Variants.none c none) Set.univ p fun _ =>
        iprop(A ∗ B ∗ owns (c : Thread nD τ) M1 fullShare X ∗ owns (c : Thread nD τ) M2 fullShare W ∗ owns (c : Thread nD τ) M3 fullShare O
          ∗ owns (c : Thread nD τ) M4 fullShare (k0_pay1 X W O)) := by
  iintro ⟨HA, HB, ⟨%d1, H1⟩, ⟨%d2, H2⟩, ⟨%d3, H3⟩, %d4, H4⟩
  rw [e1, e2, e3]
  subst hp
  iapply (wp_layer c i (M1 := M1) (h1 := h1) (M2 := M2) (h2 := h2) (M3 := M3) (h3 := h3) (M4 := M4) (h4 := h4) X W O (f4 d4)) $$ [H1 H2 H3 H4]
  · isplitl [H1]; · iexact H1
    isplitl [H2]; · iexact H2
    isplitl [H3] <;> iassumption
  iintro ⟨H1, H2, H3, H4⟩
  isplitl [HA]; · iexact HA
  isplitl [HB]; · iexact HB
  isplitl [H1]; · iexact H1
  isplitl [H2]; · iexact H2
  isplitl [H3]; · iexact H3
  iexact H4

theorem index_x0 : ∀ t : Fin grid0.N, win0_0.index t = ![t.val, 0] := by decide +kernel
theorem index_x2 : ∀ t : Fin grid0.N, win2_0.index t = ![t.val, 0] := by decide +kernel
theorem index_x4 : ∀ t : Fin grid0.N, win4_0.index t = ![t.val, 0] := by decide +kernel
theorem index_term0 : ∀ t : Fin grid0.N, win0_3.index t = ![t.val, 0] := by decide +kernel
theorem index_term2 : ∀ t : Fin grid0.N, win2_3.index t = ![t.val, 0] := by decide +kernel
theorem index_term4 : ∀ t : Fin grid0.N, win4_3.index t = ![t.val, 0] := by decide +kernel

theorem arg_x0 (c : Dev nD) : Vat m 0 c main_arg0 = rowsAt m 0 c := Vat_arg m c main_arg0 (by decide) (by decide) 0
theorem arg_in0 (c : Dev nD) : Vat m 0 c main_arg1 = weightIn m 0 c := Vat_arg m c main_arg1 (by decide) (by decide) 0
theorem arg_out0 (c : Dev nD) : Vat m 0 c main_arg2 = weightOut m 0 c := Vat_arg m c main_arg2 (by decide) (by decide) 0

/-- Layer 1's call: what its windows hold. -/
def dat0 (c : Dev nD) : Dat τ (Elt F) (Fin 3) ℕ UU ℕ cfg0 c where
  A := fun | 0 => Vat m 0 c main_arg0 | 1 => Vat m 0 c main_arg1 | 2 => Vat m 0 c main_arg2 | 3 => Vat m 0 c main_v25
           | ⟨_ + 4, h⟩ => absurd h (Nat.not_lt.2 (Nat.le_add_left _ _))
  after := fun | 0 => fun t => part (rowsAt m 0 c) (partAt t) | 1 => fun _ => weightIn m 0 c | 2 => fun _ => weightOut m 0 c
               | 3 => fun t => k0_pay1 (part (rowsAt m 0 c) (partAt t)) (weightIn m 0 c) (weightOut m 0 c)
               | ⟨_ + 4, h⟩ => absurd h (Nat.not_lt.2 (Nat.le_add_left _ _))
  Φ _ := Pipeline.scopedRest spec0 c
  q _ := fullShare
  owed _ := owed 0 c

theorem found_x0 (c : Dev nD) (t : Fin cfg0.N) (d) : (dat0 m c).before 0 t d = part (rowsAt m 0 c) (partAt t) :=
  ((dat0 m c).before_fetched 0 t (fetch0_0 t) d).trans (funext fun j => (congrFun (arg_x0 m c) _).trans
    (part_at _ _ j _ ((Pipeline.Window.rect_emb_val win0_0 t j 0).trans (by rw [index_x0]; rfl))
      (Pipeline.Window.rect_emb_val_of_index_zero win0_0 t 1 (by rw [index_x0]; rfl) j)))

theorem block_in0 (c : Dev nD) (t : Fin cfg0.N) : (dat0 m c).blockOf 1 t = weightIn m 0 c := funext fun j =>
  (congrFun (arg_in0 m c) _).trans (whole_at _ _ j (Pipeline.Window.rect_emb_val_of_index_zero win0_1 t 0 rfl j)
    (Pipeline.Window.rect_emb_val_of_index_zero win0_1 t 1 rfl j))

theorem block_out0 (c : Dev nD) (t : Fin cfg0.N) : (dat0 m c).blockOf 2 t = weightOut m 0 c := funext fun j =>
  (congrFun (arg_out0 m c) _).trans (whole_at _ _ j (Pipeline.Window.rect_emb_val_of_index_zero win0_2 t 0 rfl j)
    (Pipeline.Window.rect_emb_val_of_index_zero win0_2 t 1 rfl j))

theorem found_in0 (c : Dev nD) (t : Fin cfg0.N) (d) : (dat0 m c).before 1 t d = weightIn m 0 c :=
  ((dat0 m c).before_in_eq_fetched 1 rfl (fun _ => rfl) (fun _ _ _ => rfl) (fun t => (block_in0 m c t).symm) t d).trans (block_in0 m c t)
theorem found_out0 (c : Dev nD) (t : Fin cfg0.N) (d) : (dat0 m c).before 2 t d = weightOut m 0 c :=
  ((dat0 m c).before_in_eq_fetched 2 rfl (fun _ => rfl) (fun _ _ _ => rfl) (fun t => (block_out0 m c t).symm) t d).trans (block_out0 m c t)

theorem layer_ok0 (c : Dev nD) : BodyObligation (dat0 m c) (defs₀ (F := F)) Variants.none 0 Set.univ := fun t => by
  rw [bigSep_W0, bigSep_W0, show defs₀ (F := F) .tc cfg0.body (cfg0.bodyArgs t (cfg0.slots t)) = bodyAt0 t from rfl]
  exact layer_step c (layer_same0 (grid0.coords t)) (part (rowsAt m 0 c) (partAt t)) (weightIn m 0 c) (weightOut m 0 c)
    (found_x0 m c t) (found_in0 m c t) (found_out0 m c t)

theorem terms_first0 (c : Dev nD) : ∀ w : Fin 4, (dat0 m c).arrAt w 0 = Vat m 0 c (Proc.devRef .tc (Pipeline.arrRef spec0 w))
  | 0 => rfl
  | 1 => rfl
  | 2 => rfl
  | 3 => rfl

theorem terms_last0 (c : Dev nD) : ∀ w : Fin 4, (dat0 m c).arrAt w cfg0.N = Vat m 1 c (Proc.devRef .tc (Pipeline.arrRef spec0 w))
  | 0 => ((dat0 m c).arrAt_in 0 rfl _).trans (Vat_kept m 0 c main_arg0 (by decide)).symm
  | 1 => ((dat0 m c).arrAt_in 1 rfl _).trans (Vat_kept m 0 c main_arg1 (by decide)).symm
  | 2 => ((dat0 m c).arrAt_in 2 rfl _).trans (Vat_kept m 0 c main_arg2 (by decide)).symm
  | 3 => ((dat0 m c).arrAt_eq_of_covers 3 (term m 0 c) (by decide +kernel) fun t _ y =>
      termOf_at _ _ _ (partAt t) y _ ((Pipeline.Window.rect_emb_val win0_3 t y 0).trans (by rw [index_term0]; rfl))
        (Pipeline.Window.rect_emb_val_of_index_zero win0_3 t 1 (by rw [index_term0]; rfl) y)).trans (Vat_wrote0 m c).symm

theorem arg_x2 (c : Dev nD) : Vat m 2 c main_v26 = rowsAt m 1 c := (Vat_wrote1 m c).trans (rowsAt_next m 0 c).symm
theorem arg_in2 (c : Dev nD) : Vat m 2 c main_arg3 = weightIn m 1 c := Vat_arg m c main_arg3 (by decide) (by decide) 2
theorem arg_out2 (c : Dev nD) : Vat m 2 c main_arg4 = weightOut m 1 c := Vat_arg m c main_arg4 (by decide) (by decide) 2

/-- Layer 2's call: what its windows hold. -/
def dat2 (c : Dev nD) : Dat τ (Elt F) (Fin 3) ℕ UU ℕ cfg2 c where
  A := fun | 0 => Vat m 2 c main_v26 | 1 => Vat m 2 c main_arg3 | 2 => Vat m 2 c main_arg4 | 3 => Vat m 2 c main_v27
           | ⟨_ + 4, h⟩ => absurd h (Nat.not_lt.2 (Nat.le_add_left _ _))
  after := fun | 0 => fun t => part (rowsAt m 1 c) (partAt t) | 1 => fun _ => weightIn m 1 c | 2 => fun _ => weightOut m 1 c
               | 3 => fun t => k0_pay1 (part (rowsAt m 1 c) (partAt t)) (weightIn m 1 c) (weightOut m 1 c)
               | ⟨_ + 4, h⟩ => absurd h (Nat.not_lt.2 (Nat.le_add_left _ _))
  Φ _ := Pipeline.scopedRest spec2 c
  q _ := fullShare
  owed _ := owed 1 c

theorem found_x2 (c : Dev nD) (t : Fin cfg2.N) (d) : (dat2 m c).before 0 t d = part (rowsAt m 1 c) (partAt t) :=
  ((dat2 m c).before_fetched 0 t (fetch2_0 t) d).trans (funext fun j => (congrFun (arg_x2 m c) _).trans
    (part_at _ _ j _ ((Pipeline.Window.rect_emb_val win2_0 t j 0).trans (by rw [index_x2]; rfl))
      (Pipeline.Window.rect_emb_val_of_index_zero win2_0 t 1 (by rw [index_x2]; rfl) j)))

theorem block_in2 (c : Dev nD) (t : Fin cfg2.N) : (dat2 m c).blockOf 1 t = weightIn m 1 c := funext fun j =>
  (congrFun (arg_in2 m c) _).trans (whole_at _ _ j (Pipeline.Window.rect_emb_val_of_index_zero win2_1 t 0 rfl j)
    (Pipeline.Window.rect_emb_val_of_index_zero win2_1 t 1 rfl j))

theorem block_out2 (c : Dev nD) (t : Fin cfg2.N) : (dat2 m c).blockOf 2 t = weightOut m 1 c := funext fun j =>
  (congrFun (arg_out2 m c) _).trans (whole_at _ _ j (Pipeline.Window.rect_emb_val_of_index_zero win2_2 t 0 rfl j)
    (Pipeline.Window.rect_emb_val_of_index_zero win2_2 t 1 rfl j))

theorem found_in2 (c : Dev nD) (t : Fin cfg2.N) (d) : (dat2 m c).before 1 t d = weightIn m 1 c :=
  ((dat2 m c).before_in_eq_fetched 1 rfl (fun _ => rfl) (fun _ _ _ => rfl) (fun t => (block_in2 m c t).symm) t d).trans (block_in2 m c t)
theorem found_out2 (c : Dev nD) (t : Fin cfg2.N) (d) : (dat2 m c).before 2 t d = weightOut m 1 c :=
  ((dat2 m c).before_in_eq_fetched 2 rfl (fun _ => rfl) (fun _ _ _ => rfl) (fun t => (block_out2 m c t).symm) t d).trans (block_out2 m c t)

theorem layer_ok2 (c : Dev nD) : BodyObligation (dat2 m c) (defs₀ (F := F)) Variants.none 0 Set.univ := fun t => by
  rw [bigSep_W2, bigSep_W2, show defs₀ (F := F) .tc cfg2.body (cfg2.bodyArgs t (cfg2.slots t)) = bodyAt2 t from rfl]
  exact layer_step c (layer_same2 (grid0.coords t)) (part (rowsAt m 1 c) (partAt t)) (weightIn m 1 c) (weightOut m 1 c)
    (found_x2 m c t) (found_in2 m c t) (found_out2 m c t)

theorem terms_first2 (c : Dev nD) : ∀ w : Fin 4, (dat2 m c).arrAt w 0 = Vat m 2 c (Proc.devRef .tc (Pipeline.arrRef spec2 w))
  | 0 => rfl
  | 1 => rfl
  | 2 => rfl
  | 3 => rfl

theorem terms_last2 (c : Dev nD) : ∀ w : Fin 4, (dat2 m c).arrAt w cfg2.N = Vat m 3 c (Proc.devRef .tc (Pipeline.arrRef spec2 w))
  | 0 => ((dat2 m c).arrAt_in 0 rfl _).trans (Vat_kept m 2 c main_v26 (by decide)).symm
  | 1 => ((dat2 m c).arrAt_in 1 rfl _).trans (Vat_kept m 2 c main_arg3 (by decide)).symm
  | 2 => ((dat2 m c).arrAt_in 2 rfl _).trans (Vat_kept m 2 c main_arg4 (by decide)).symm
  | 3 => ((dat2 m c).arrAt_eq_of_covers 3 (term m 1 c) (by decide +kernel) fun t _ y =>
      termOf_at _ _ _ (partAt t) y _ ((Pipeline.Window.rect_emb_val win2_3 t y 0).trans (by rw [index_term2]; rfl))
        (Pipeline.Window.rect_emb_val_of_index_zero win2_3 t 1 (by rw [index_term2]; rfl) y)).trans (Vat_wrote2 m c).symm

theorem arg_x4 (c : Dev nD) : Vat m 4 c main_v28 = rowsAt m 2 c := (Vat_wrote3 m c).trans (rowsAt_next m 1 c).symm
theorem arg_in4 (c : Dev nD) : Vat m 4 c main_arg5 = weightIn m 2 c := Vat_arg m c main_arg5 (by decide) (by decide) 4
theorem arg_out4 (c : Dev nD) : Vat m 4 c main_arg6 = weightOut m 2 c := Vat_arg m c main_arg6 (by decide) (by decide) 4

/-- Layer 3's call: what its windows hold. -/
def dat4 (c : Dev nD) : Dat τ (Elt F) (Fin 3) ℕ UU ℕ cfg4 c where
  A := fun | 0 => Vat m 4 c main_v28 | 1 => Vat m 4 c main_arg5 | 2 => Vat m 4 c main_arg6 | 3 => Vat m 4 c main_v29
           | ⟨_ + 4, h⟩ => absurd h (Nat.not_lt.2 (Nat.le_add_left _ _))
  after := fun | 0 => fun t => part (rowsAt m 2 c) (partAt t) | 1 => fun _ => weightIn m 2 c | 2 => fun _ => weightOut m 2 c
               | 3 => fun t => k0_pay1 (part (rowsAt m 2 c) (partAt t)) (weightIn m 2 c) (weightOut m 2 c)
               | ⟨_ + 4, h⟩ => absurd h (Nat.not_lt.2 (Nat.le_add_left _ _))
  Φ _ := Pipeline.scopedRest spec4 c
  q _ := fullShare
  owed _ := owed 2 c

theorem found_x4 (c : Dev nD) (t : Fin cfg4.N) (d) : (dat4 m c).before 0 t d = part (rowsAt m 2 c) (partAt t) :=
  ((dat4 m c).before_fetched 0 t (fetch4_0 t) d).trans (funext fun j => (congrFun (arg_x4 m c) _).trans
    (part_at _ _ j _ ((Pipeline.Window.rect_emb_val win4_0 t j 0).trans (by rw [index_x4]; rfl))
      (Pipeline.Window.rect_emb_val_of_index_zero win4_0 t 1 (by rw [index_x4]; rfl) j)))

theorem block_in4 (c : Dev nD) (t : Fin cfg4.N) : (dat4 m c).blockOf 1 t = weightIn m 2 c := funext fun j =>
  (congrFun (arg_in4 m c) _).trans (whole_at _ _ j (Pipeline.Window.rect_emb_val_of_index_zero win4_1 t 0 rfl j)
    (Pipeline.Window.rect_emb_val_of_index_zero win4_1 t 1 rfl j))

theorem block_out4 (c : Dev nD) (t : Fin cfg4.N) : (dat4 m c).blockOf 2 t = weightOut m 2 c := funext fun j =>
  (congrFun (arg_out4 m c) _).trans (whole_at _ _ j (Pipeline.Window.rect_emb_val_of_index_zero win4_2 t 0 rfl j)
    (Pipeline.Window.rect_emb_val_of_index_zero win4_2 t 1 rfl j))

theorem found_in4 (c : Dev nD) (t : Fin cfg4.N) (d) : (dat4 m c).before 1 t d = weightIn m 2 c :=
  ((dat4 m c).before_in_eq_fetched 1 rfl (fun _ => rfl) (fun _ _ _ => rfl) (fun t => (block_in4 m c t).symm) t d).trans (block_in4 m c t)
theorem found_out4 (c : Dev nD) (t : Fin cfg4.N) (d) : (dat4 m c).before 2 t d = weightOut m 2 c :=
  ((dat4 m c).before_in_eq_fetched 2 rfl (fun _ => rfl) (fun _ _ _ => rfl) (fun t => (block_out4 m c t).symm) t d).trans (block_out4 m c t)

theorem layer_ok4 (c : Dev nD) : BodyObligation (dat4 m c) (defs₀ (F := F)) Variants.none 0 Set.univ := fun t => by
  rw [bigSep_W4, bigSep_W4, show defs₀ (F := F) .tc cfg4.body (cfg4.bodyArgs t (cfg4.slots t)) = bodyAt4 t from rfl]
  exact layer_step c (layer_same4 (grid0.coords t)) (part (rowsAt m 2 c) (partAt t)) (weightIn m 2 c) (weightOut m 2 c)
    (found_x4 m c t) (found_in4 m c t) (found_out4 m c t)

theorem terms_first4 (c : Dev nD) : ∀ w : Fin 4, (dat4 m c).arrAt w 0 = Vat m 4 c (Proc.devRef .tc (Pipeline.arrRef spec4 w))
  | 0 => rfl
  | 1 => rfl
  | 2 => rfl
  | 3 => rfl

theorem terms_last4 (c : Dev nD) : ∀ w : Fin 4, (dat4 m c).arrAt w cfg4.N = Vat m 5 c (Proc.devRef .tc (Pipeline.arrRef spec4 w))
  | 0 => ((dat4 m c).arrAt_in 0 rfl _).trans (Vat_kept m 4 c main_v28 (by decide)).symm
  | 1 => ((dat4 m c).arrAt_in 1 rfl _).trans (Vat_kept m 4 c main_arg5 (by decide)).symm
  | 2 => ((dat4 m c).arrAt_in 2 rfl _).trans (Vat_kept m 4 c main_arg6 (by decide)).symm
  | 3 => ((dat4 m c).arrAt_eq_of_covers 3 (term m 2 c) (by decide +kernel) fun t _ y =>
      termOf_at _ _ _ (partAt t) y _ ((Pipeline.Window.rect_emb_val win4_3 t y 0).trans (by rw [index_term4]; rfl))
        (Pipeline.Window.rect_emb_val_of_index_zero win4_3 t 1 (by rw [index_term4]; rfl) y)).trans (Vat_wrote4 m c).symm

end Cert.Ring

end
-- ==== Proof.Ring.Region.lean ====
module

public import proofs.«01_k».proof.Proof.Ring.Terms
public import Idealize.ShloMosaic.Lib.Pipeline.RegionTalk

/-! The all-reduces as regions of the program: their windows, their body's obligation, what they are entered with and left with;
    and the layers' regions before them. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Plan

variable {F : FTy → Type} [FloatOps F]

local notation "𝕄" => MT nD τ sig (Fin 3) (Elt F) ℕ UU ℕ
local notation "ℙ" => sProp (MT nD τ sig (Fin 3) (Elt F) ℕ UU ℕ)

variable (m : (ℓ : Loc nD τ sig) → Buf (Elt F) ℓ)

/-! ## What a device holds between the calls -/

/-- What a device was dealt for a call. -/
def stock (q : Fin 3) (c : Dev nD) : ℙ :=
  iprop(dealt q c ∗ bigSep Finset.univ fun e : CallEnd => openTok ER (endCell c (q, e)))

/-- What it has before call number `n`, -/
def Tk (n : ℕ) (c : Dev nD) : ℙ := iprop(∃ κ, records (term m) κ ∗ stand n c ∗ bigSep (rest n) fun q => stock q c)
/-- and in the call, with its cells open. -/
def Xk (q : Fin 3) (c : Dev nD) : ℙ := iprop(∃ κ, records (term m) κ ∗ opened (term m) κ q c ∗ bigSep (rest (q.val + 1)) fun q => stock q c)

theorem rest_stock (q : Fin 3) (c : Dev nD) : (bigSep (rest q.val) fun q => stock q c : ℙ)
    = iprop(stock q c ∗ bigSep (rest (q.val + 1)) fun q => stock q c) := by
  rw [rest_eq, BI.bigSep_insert (notMem_rest q)]; rfl

theorem enter (q : Fin 3) (c : Dev nD) : iprop(Tk m q.val c ∗ Pipeline.ownSems0 (ownSem q) c ∗ levAts L lv) ⊢ (|={Set.univ}=> Xk m q c : ℙ) := by
  unfold Tk Xk
  rw [rest_stock]
  iintro ⟨⟨%κ, #HI, Hp, Hd, Hr⟩, Hs, -⟩
  ihave Hd := (Entails.of_eq (show (stock q c : ℙ) = iprop(dealt q c ∗ bigSep Finset.univ fun e : CallEnd => openTok ER (endCell c (q, e))) from rfl)) $$ Hd
  icases Hd with ⟨Hd, Ho⟩
  imod (open_ends (term m) κ q c) $$ [Ho Hs] with Hf
  · isplitr; · iexact HI
    isplitl [Ho] <;> iassumption
  imodintro
  iexists κ
  isplitr; · iexact HI
  isplitr [Hr]; swap; · iexact Hr
  iapply (opened_intro (term m) κ q c)
  isplitl [Hp]; · iexact Hp
  isplitl [Hd] <;> iassumption

/-- The last call's barrier is at zero. -/
theorem close (c : Dev nD) : Tk m 3 c ⊢ (|={Set.univ}=> semVal (barCell c) 0 : ℙ) := by
  unfold Tk stand
  iintro ⟨%κ, #HI, ⟨Hat, -⟩, -⟩
  ihave #Hc := (inv_at (term m) κ (bar_mem c)) $$ HI
  iapply (Rounds.cell_close ER (sched (term m)) (Set.mem_univ (κ (barCell c))) id (later_bar (term m) c))
  isplitr; · iexact Hc
  iexact Hat

/-- The two buffers of slots. -/
def scratch (q : Fin 3) (c : Dev nD) : ℙ := iprop(someBuf c ((args q).M false) ∗ someBuf c ((args q).M true))

/-- What the body does not touch: the other calls' buffers, -/
def away : Fin 3 → Dev nD → ℙ
  | 0, c => Pipeline.scopedRestBut spec1 c [cc1_scratch0, cc1_scratch1]
  | 1, c => Pipeline.scopedRestBut spec3 c [cc3_scratch0, cc3_scratch1]
  | 2, c => Pipeline.scopedRestBut spec5 c [cc5_scratch0, cc5_scratch1]
/-- and the generator. -/
def idle (q : Fin 3) (c : Dev nD) : ℙ := iprop(away q c ∗ ∃ r, prngReg c r)

/-- The body's state before, -/
def before (q : Fin 3) (c : Dev nD) : ℙ := iprop(Xk m q c ∗ scratch q c ∗ idle q c)
/-- and after. -/
def after (q : Fin 3) (c : Dev nD) : ℙ := iprop((Tk m (q.val + 1) c ∗ Pipeline.ownSems0 (ownSem q) c) ∗ scratch q c ∗ idle q c)

def stateAt (q : Fin 3) (c : Dev nD) : ℕ → ℙ
  | 0 => before m q c
  | _ + 1 => after m q c
/-- The same of what is owed. -/
def owedAt (q : Fin 3) (c : Dev nD) : ℕ → CellTallies nD τ sig (Fin 3)
  | 0 => owed q.val c
  | _ + 1 => owed (q.val + 1) c

theorem owedAt_level {q : Fin 3} {c : Dev nD} {n : ℕ} {g : GSem nD τ sig} {u : Fin 3} (h : 0 < owedAt q c n g u) : u ∈ L g ∧ (0 : ℕ) < lv g u := by
  match n with
  | 0 => exact owed_level _ h
  | _ + 1 => exact owed_level _ h

/-! ## The body -/

theorem slots_scratch (κ : GSem nD τ sig → ℕ) (q : Fin 3) (c : Dev nD) :
    scratch q c ⊢ iprop(slots (net (term m) κ q) false c ∗ slots (net (term m) κ q) true c) := by
  unfold scratch
  exact BI.sep_mono (slots_split (term m) κ q c false) (slots_split (term m) κ q c true)

theorem scratch_slots (κ : GSem nD τ sig → ℕ) (q : Fin 3) (c : Dev nD) :
    iprop(slots (net (term m) κ q) false c ∗ slots (net (term m) κ q) true c) ⊢ scratch q c := by
  unfold scratch
  exact BI.sep_mono (slots_join (term m) κ q c false) (slots_join (term m) κ q c true)

theorem owes_in {cfg : Pipeline.Cfg sig Λ₀} {c : Dev nD} (D : Dat τ (Elt F) (Fin 3) ℕ UU ℕ cfg c) (t : Fin (cfg.N + 1)) :
    D.owesAt 0 t ⊢ (iprop(∃ W, owes (c : Thread nD τ) (D.owed t) W) : ℙ) := by
  unfold Dat.owesAt Pipeline.owesWithin
  iintro ⟨%W, -, HO⟩
  iexists W; iexact HO

theorem owes_out {cfg : Pipeline.Cfg sig Λ₀} {c : Dev nD} (D : Dat τ (Elt F) (Fin 3) ℕ UU ℕ cfg c) (t : Fin (cfg.N + 1)) (h : D.recorded t = Set.univ) :
    (iprop(∃ W, owes (c : Thread nD τ) (D.owed t) W) : ℙ) ⊢ D.owesAt 0 t := by
  unfold Dat.owesAt Pipeline.owesWithin Dat.bound
  rw [h]
  iintro ⟨%W, HO⟩
  iexists W
  isplitr; · ipureintro; exact fun _ _ => Or.inl trivial
  iexact HO

/-- The body, from what a device holds in the call to what it holds after it. -/
theorem ring_step (q : Fin 3) (c : Dev nD) (V : FVec F S2048x1024 .f32) {Q : PUnit → ℙ} :
    iprop(before m q c ∗ (∃ W, owes (c : Thread nD τ) (owed q.val c) W) ∗ told q c ∗ rowsIs (args q).p c (term m q c) ∗ rowsIs (args q).out c V)
      ⊢ iprop(((after m q c ∗ (∃ W, owes (c : Thread nD τ) (owed (q.val + 1) c) W) ∗ told q c ∗ rowsIs (args q).p c (term m q c)
          ∗ rowsIs (args q).out c (summed m q)) -∗ Q ⟨⟩)
        -∗ wp frame (wpE (defs₀ (F := F)) Variants.none c none) Set.univ (body (metaM q) (args q) : BodyProg sig Λ₀ F PUnit) Q) := by
  unfold before Xk
  iintro ⟨⟨⟨%κ, #HI, Hg, Hk⟩, Hs, Hr⟩, HO, H0, H1, H2⟩ HQ
  ihave Hs := (slots_scratch m κ q c) $$ Hs
  iapply (wp_body (term m) κ q c Variants.none none) $$ [H0 H1 H2 Hs Hg HO]
  · isplitr; · iexact HI
    isplitl [H0]; · iexact H0
    isplitl [H1]; · iexact H1
    isplitl [H2]; · iexists V; iexact H2
    isplitl [Hs]; · iexact Hs
    isplitl [Hg]; · iexact Hg
    iexact HO
  rw [show total (term m) κ q = summed m q from rfl]
  iintro ⟨H0, H1, H2, Hs, Hd, Hb, HO⟩
  ihave Hd := (done_ends (term m) κ q c) $$ Hd
  icases Hd with ⟨Hd, Hn⟩
  iapply HQ
  isplitl [Hs Hd Hb Hr Hk Hn]
  · unfold after Tk stand
    isplitl [Hd Hb Hk Hn]
    · isplitr [Hd]; swap; · iexact Hd
      iexists κ
      isplitr; · iexact HI
      isplitr [Hk]; swap; · iexact Hk
      isplitl [Hb] <;> iassumption
    isplitl [Hs]; · iapply (scratch_slots m κ q c) $$ Hs
    iexact Hr
  isplitl [HO]; · iexact HO
  isplitl [H0]; · iexact H0
  isplitl [H1]; · iexact H1
  iexact H2

/-! ## The windows of each call -/

theorem words_at (n : ℕ) (c : Dev nD) : Vat m n c main_v24 = words c := (Vat_all m c main_v24 (by decide) n).trans (meta_words m c)

/-- Call number 1 of the all-reduce: what its windows hold. -/
def dat1 (c : Dev nD) : Dat τ (Elt F) (Fin 3) ℕ UU ℕ cfg1 c where
  A := fun | 0 => Vat m 1 c main_v24 | 1 => Vat m 1 c main_v25 | 2 => Vat m 1 c main_v26 | ⟨_ + 3, h⟩ => absurd h (Nat.not_lt.2 (Nat.le_add_left _ _))
  after := fun | 0 => fun _ => words c | 1 => fun _ => term m 0 c | 2 => fun _ => summed m 0 | ⟨_ + 3, h⟩ => absurd h (Nat.not_lt.2 (Nat.le_add_left _ _))
  Φ t := stateAt m 0 c t.val
  q _ := fullShare
  owed t := owedAt 0 c t.val

theorem found_words1 (c : Dev nD) (d) : (dat1 m c).before 0 t1_0 d = words c :=
  ((dat1 m c).before_fetched 0 t1_0 (fetch1_0 t1_0) d).trans (funext fun j => (congrFun (words_at m 1 c) _).trans
    (congrArg (words c) (funext fun a => Fin.ext (Pipeline.Window.rect_emb_val_of_index_zero win1_0 t1_0 a rfl j))))
theorem found_term1 (c : Dev nD) (d) : (dat1 m c).before 1 t1_0 d = term m 0 c :=
  ((dat1 m c).before_fetched 1 t1_0 (fetch1_1 t1_0) d).trans (funext fun j => (congrFun (Vat_wrote0 m c) _).trans
    (congrArg (term m 0 c) (funext fun a => Fin.ext (Pipeline.Window.rect_emb_val_of_index_zero win1_1 t1_0 a rfl j))))

theorem kernel_body1 : defs₀ (F := F) .tc cfg1.body (cfg1.bodyArgs t1_0 (cfg1.slots t1_0)) = body (metaM 0) (args 0) := by
  show bodyAt1 (F := F) t1_0 = _
  exact body_eq ..

theorem state_first1 (c : Dev nD) : (dat1 m c).Φ t1_0.castSucc = before m 0 c := rfl
theorem state_last1 (c : Dev nD) : (dat1 m c).Φ t1_0.succ = after m 0 c := rfl
theorem owes_first1 (c : Dev nD) : (dat1 m c).owesAt 0 t1_0.castSucc ⊢ (iprop(∃ W, owes (c : Thread nD τ) (owed (0 : Fin 3).val c) W) : ℙ) :=
  owes_in (dat1 m c) t1_0.castSucc
theorem owes_last1 (c : Dev nD) : (iprop(∃ W, owes (c : Thread nD τ) (owed ((0 : Fin 3).val + 1) c) W) : ℙ) ⊢ (dat1 m c).owesAt 0 t1_0.succ :=
  owes_out (dat1 m c) t1_0.succ rfl

theorem stage_term1 (c : Dev nD) (X : FVec F S2048x1024 .f32) :
    (owns (c : Thread nD τ) ((cfg1.win 1).stage (cfg1.slots t1_0 1)) fullShare X : ℙ) = rowsIs (args 0).p c X := by
  unfold rowsIs owns; rfl
theorem stage_sum1 (c : Dev nD) (X : FVec F S2048x1024 .f32) :
    (owns (c : Thread nD τ) ((cfg1.win 2).stage (cfg1.slots t1_0 2)) fullShare X : ℙ) = rowsIs (args 0).out c X := by
  unfold rowsIs owns; rfl

theorem ring_ok1 (c : Dev nD) : BodyObligation (dat1 m c) (defs₀ (F := F)) Variants.none 0 Set.univ := fun t => by
  obtain rfl := fin_N1 t
  rw [bigSep_W1, bigSep_W1, kernel_body1, state_first1, state_last1]
  iintro ⟨Hs, HO, ⟨%d0, H0⟩, ⟨%d1, H1⟩, %d2, H2⟩
  rw [found_words1 m c d0, found_term1 m c d1]
  ihave HO := (owes_first1 m c) $$ HO
  ihave H1 := (Entails.of_eq (stage_term1 c (term m 0 c))) $$ H1
  ihave H2 := (Entails.of_eq (stage_sum1 c ((dat1 m c).before 2 t1_0 d2))) $$ H2
  iapply (ring_step m 0 c ((dat1 m c).before 2 t1_0 d2)) $$ [Hs HO H0 H1 H2]
  · isplitl [Hs]; · iexact Hs
    isplitl [HO]; · iexact HO
    isplitl [H0]; · iexact H0
    isplitl [H1]; · iexact H1
    iexact H2
  iintro ⟨Hs, HO, H0, H1, H2⟩
  isplitl [Hs]; · iexact Hs
  isplitl [HO]; · iapply (owes_last1 m c) $$ HO
  isplitl [H0]; · iexact H0
  isplitl [H1]; · iapply (Entails.of_eq (stage_term1 c (term m 0 c)).symm) $$ H1
  iapply (Entails.of_eq (stage_sum1 c (summed m 0)).symm) $$ H2

theorem sums_first1 (c : Dev nD) : ∀ w : Fin 3, (dat1 m c).arrAt w 0 = Vat m 1 c (Proc.devRef .tc (Pipeline.arrRef spec1 w))
  | 0 => rfl
  | 1 => rfl
  | 2 => rfl

theorem sums_last1 (c : Dev nD) : ∀ w : Fin 3, (dat1 m c).arrAt w cfg1.N = Vat m 2 c (Proc.devRef .tc (Pipeline.arrRef spec1 w))
  | 0 => ((dat1 m c).arrAt_in 0 rfl _).trans (Vat_kept m 1 c main_v24 (by decide)).symm
  | 1 => ((dat1 m c).arrAt_in 1 rfl _).trans (Vat_kept m 1 c main_v25 (by decide)).symm
  | 2 => ((dat1 m c).arrAt_eq_of_after_last 2 t1_0 (by decide +kernel) (summed m 0) fun j => rfl).trans (Vat_wrote1 m c).symm

/-- Call number 2 of the all-reduce: what its windows hold. -/
def dat3 (c : Dev nD) : Dat τ (Elt F) (Fin 3) ℕ UU ℕ cfg3 c where
  A := fun | 0 => Vat m 3 c main_v24 | 1 => Vat m 3 c main_v27 | 2 => Vat m 3 c main_v28 | ⟨_ + 3, h⟩ => absurd h (Nat.not_lt.2 (Nat.le_add_left _ _))
  after := fun | 0 => fun _ => words c | 1 => fun _ => term m 1 c | 2 => fun _ => summed m 1 | ⟨_ + 3, h⟩ => absurd h (Nat.not_lt.2 (Nat.le_add_left _ _))
  Φ t := stateAt m 1 c t.val
  q _ := fullShare
  owed t := owedAt 1 c t.val

theorem found_words3 (c : Dev nD) (d) : (dat3 m c).before 0 t3_0 d = words c :=
  ((dat3 m c).before_fetched 0 t3_0 (fetch3_0 t3_0) d).trans (funext fun j => (congrFun (words_at m 3 c) _).trans
    (congrArg (words c) (funext fun a => Fin.ext (Pipeline.Window.rect_emb_val_of_index_zero win3_0 t3_0 a rfl j))))
theorem found_term3 (c : Dev nD) (d) : (dat3 m c).before 1 t3_0 d = term m 1 c :=
  ((dat3 m c).before_fetched 1 t3_0 (fetch3_1 t3_0) d).trans (funext fun j => (congrFun (Vat_wrote2 m c) _).trans
    (congrArg (term m 1 c) (funext fun a => Fin.ext (Pipeline.Window.rect_emb_val_of_index_zero win3_1 t3_0 a rfl j))))

theorem kernel_body3 : defs₀ (F := F) .tc cfg3.body (cfg3.bodyArgs t3_0 (cfg3.slots t3_0)) = body (metaM 1) (args 1) := by
  show bodyAt3 (F := F) t3_0 = _
  exact body_eq3 ..

theorem state_first3 (c : Dev nD) : (dat3 m c).Φ t3_0.castSucc = before m 1 c := rfl
theorem state_last3 (c : Dev nD) : (dat3 m c).Φ t3_0.succ = after m 1 c := rfl
theorem owes_first3 (c : Dev nD) : (dat3 m c).owesAt 0 t3_0.castSucc ⊢ (iprop(∃ W, owes (c : Thread nD τ) (owed (1 : Fin 3).val c) W) : ℙ) :=
  owes_in (dat3 m c) t3_0.castSucc
theorem owes_last3 (c : Dev nD) : (iprop(∃ W, owes (c : Thread nD τ) (owed ((1 : Fin 3).val + 1) c) W) : ℙ) ⊢ (dat3 m c).owesAt 0 t3_0.succ :=
  owes_out (dat3 m c) t3_0.succ rfl

theorem stage_term3 (c : Dev nD) (X : FVec F S2048x1024 .f32) :
    (owns (c : Thread nD τ) ((cfg3.win 1).stage (cfg3.slots t3_0 1)) fullShare X : ℙ) = rowsIs (args 1).p c X := by
  unfold rowsIs owns; rfl
theorem stage_sum3 (c : Dev nD) (X : FVec F S2048x1024 .f32) :
    (owns (c : Thread nD τ) ((cfg3.win 2).stage (cfg3.slots t3_0 2)) fullShare X : ℙ) = rowsIs (args 1).out c X := by
  unfold rowsIs owns; rfl

theorem ring_ok3 (c : Dev nD) : BodyObligation (dat3 m c) (defs₀ (F := F)) Variants.none 0 Set.univ := fun t => by
  obtain rfl := fin_N3 t
  rw [bigSep_W3, bigSep_W3, kernel_body3, state_first3, state_last3]
  iintro ⟨Hs, HO, ⟨%d0, H0⟩, ⟨%d1, H1⟩, %d2, H2⟩
  rw [found_words3 m c d0, found_term3 m c d1]
  ihave HO := (owes_first3 m c) $$ HO
  ihave H1 := (Entails.of_eq (stage_term3 c (term m 1 c))) $$ H1
  ihave H2 := (Entails.of_eq (stage_sum3 c ((dat3 m c).before 2 t3_0 d2))) $$ H2
  iapply (ring_step m 1 c ((dat3 m c).before 2 t3_0 d2)) $$ [Hs HO H0 H1 H2]
  · isplitl [Hs]; · iexact Hs
    isplitl [HO]; · iexact HO
    isplitl [H0]; · iexact H0
    isplitl [H1]; · iexact H1
    iexact H2
  iintro ⟨Hs, HO, H0, H1, H2⟩
  isplitl [Hs]; · iexact Hs
  isplitl [HO]; · iapply (owes_last3 m c) $$ HO
  isplitl [H0]; · iexact H0
  isplitl [H1]; · iapply (Entails.of_eq (stage_term3 c (term m 1 c)).symm) $$ H1
  iapply (Entails.of_eq (stage_sum3 c (summed m 1)).symm) $$ H2

theorem sums_first3 (c : Dev nD) : ∀ w : Fin 3, (dat3 m c).arrAt w 0 = Vat m 3 c (Proc.devRef .tc (Pipeline.arrRef spec3 w))
  | 0 => rfl
  | 1 => rfl
  | 2 => rfl

theorem sums_last3 (c : Dev nD) : ∀ w : Fin 3, (dat3 m c).arrAt w cfg3.N = Vat m 4 c (Proc.devRef .tc (Pipeline.arrRef spec3 w))
  | 0 => ((dat3 m c).arrAt_in 0 rfl _).trans (Vat_kept m 3 c main_v24 (by decide)).symm
  | 1 => ((dat3 m c).arrAt_in 1 rfl _).trans (Vat_kept m 3 c main_v27 (by decide)).symm
  | 2 => ((dat3 m c).arrAt_eq_of_after_last 2 t3_0 (by decide +kernel) (summed m 1) fun j => rfl).trans (Vat_wrote3 m c).symm

/-- Call number 3 of the all-reduce: what its windows hold. -/
def dat5 (c : Dev nD) : Dat τ (Elt F) (Fin 3) ℕ UU ℕ cfg5 c where
  A := fun | 0 => Vat m 5 c main_v24 | 1 => Vat m 5 c main_v29 | 2 => Vat m 5 c main_v30 | ⟨_ + 3, h⟩ => absurd h (Nat.not_lt.2 (Nat.le_add_left _ _))
  after := fun | 0 => fun _ => words c | 1 => fun _ => term m 2 c | 2 => fun _ => summed m 2 | ⟨_ + 3, h⟩ => absurd h (Nat.not_lt.2 (Nat.le_add_left _ _))
  Φ t := stateAt m 2 c t.val
  q _ := fullShare
  owed t := owedAt 2 c t.val

theorem found_words5 (c : Dev nD) (d) : (dat5 m c).before 0 t5_0 d = words c :=
  ((dat5 m c).before_fetched 0 t5_0 (fetch5_0 t5_0) d).trans (funext fun j => (congrFun (words_at m 5 c) _).trans
    (congrArg (words c) (funext fun a => Fin.ext (Pipeline.Window.rect_emb_val_of_index_zero win5_0 t5_0 a rfl j))))
theorem found_term5 (c : Dev nD) (d) : (dat5 m c).before 1 t5_0 d = term m 2 c :=
  ((dat5 m c).before_fetched 1 t5_0 (fetch5_1 t5_0) d).trans (funext fun j => (congrFun (Vat_wrote4 m c) _).trans
    (congrArg (term m 2 c) (funext fun a => Fin.ext (Pipeline.Window.rect_emb_val_of_index_zero win5_1 t5_0 a rfl j))))

theorem kernel_body5 : defs₀ (F := F) .tc cfg5.body (cfg5.bodyArgs t5_0 (cfg5.slots t5_0)) = body (metaM 2) (args 2) := by
  show bodyAt5 (F := F) t5_0 = _
  exact body_eq5 ..

theorem state_first5 (c : Dev nD) : (dat5 m c).Φ t5_0.castSucc = before m 2 c := rfl
theorem state_last5 (c : Dev nD) : (dat5 m c).Φ t5_0.succ = after m 2 c := rfl
theorem owes_first5 (c : Dev nD) : (dat5 m c).owesAt 0 t5_0.castSucc ⊢ (iprop(∃ W, owes (c : Thread nD τ) (owed (2 : Fin 3).val c) W) : ℙ) :=
  owes_in (dat5 m c) t5_0.castSucc
theorem owes_last5 (c : Dev nD) : (iprop(∃ W, owes (c : Thread nD τ) (owed ((2 : Fin 3).val + 1) c) W) : ℙ) ⊢ (dat5 m c).owesAt 0 t5_0.succ :=
  owes_out (dat5 m c) t5_0.succ rfl

theorem stage_term5 (c : Dev nD) (X : FVec F S2048x1024 .f32) :
    (owns (c : Thread nD τ) ((cfg5.win 1).stage (cfg5.slots t5_0 1)) fullShare X : ℙ) = rowsIs (args 2).p c X := by
  unfold rowsIs owns; rfl
theorem stage_sum5 (c : Dev nD) (X : FVec F S2048x1024 .f32) :
    (owns (c : Thread nD τ) ((cfg5.win 2).stage (cfg5.slots t5_0 2)) fullShare X : ℙ) = rowsIs (args 2).out c X := by
  unfold rowsIs owns; rfl

theorem ring_ok5 (c : Dev nD) : BodyObligation (dat5 m c) (defs₀ (F := F)) Variants.none 0 Set.univ := fun t => by
  obtain rfl := fin_N5 t
  rw [bigSep_W5, bigSep_W5, kernel_body5, state_first5, state_last5]
  iintro ⟨Hs, HO, ⟨%d0, H0⟩, ⟨%d1, H1⟩, %d2, H2⟩
  rw [found_words5 m c d0, found_term5 m c d1]
  ihave HO := (owes_first5 m c) $$ HO
  ihave H1 := (Entails.of_eq (stage_term5 c (term m 2 c))) $$ H1
  ihave H2 := (Entails.of_eq (stage_sum5 c ((dat5 m c).before 2 t5_0 d2))) $$ H2
  iapply (ring_step m 2 c ((dat5 m c).before 2 t5_0 d2)) $$ [Hs HO H0 H1 H2]
  · isplitl [Hs]; · iexact Hs
    isplitl [HO]; · iexact HO
    isplitl [H0]; · iexact H0
    isplitl [H1]; · iexact H1
    iexact H2
  iintro ⟨Hs, HO, H0, H1, H2⟩
  isplitl [Hs]; · iexact Hs
  isplitl [HO]; · iapply (owes_last5 m c) $$ HO
  isplitl [H0]; · iexact H0
  isplitl [H1]; · iapply (Entails.of_eq (stage_term5 c (term m 2 c)).symm) $$ H1
  iapply (Entails.of_eq (stage_sum5 c (summed m 2)).symm) $$ H2

theorem sums_first5 (c : Dev nD) : ∀ w : Fin 3, (dat5 m c).arrAt w 0 = Vat m 5 c (Proc.devRef .tc (Pipeline.arrRef spec5 w))
  | 0 => rfl
  | 1 => rfl
  | 2 => rfl

theorem sums_last5 (c : Dev nD) : ∀ w : Fin 3, (dat5 m c).arrAt w cfg5.N = Vat m 6 c (Proc.devRef .tc (Pipeline.arrRef spec5 w))
  | 0 => ((dat5 m c).arrAt_in 0 rfl _).trans (Vat_kept m 5 c main_v24 (by decide)).symm
  | 1 => ((dat5 m c).arrAt_in 1 rfl _).trans (Vat_kept m 5 c main_v29 (by decide)).symm
  | 2 => ((dat5 m c).arrAt_eq_of_after_last 2 t5_0 (by decide +kernel) (summed m 2) fun j => rfl).trans (Vat_wrote5 m c).symm

end Cert.Ring

end
-- ==== Proof.Ring.Calls.lean ====
module

public import proofs.«01_k».proof.Proof.Ring.Region
public import Idealize.ShloMosaic.Lib.Pipeline.RegionTalk

/-! The six calls as regions of the program, and what they are entered with and left with. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Plan

variable {F : FTy → Type} [FloatOps F]

local notation "𝕄" => MT nD τ sig (Fin 3) (Elt F) ℕ UU ℕ
local notation "ℙ" => sProp (MT nD τ sig (Fin 3) (Elt F) ℕ UU ℕ)

variable (m : (ℓ : Loc nD τ sig) → Buf (Elt F) ℓ)

/-- What each call's windows hold. -/
abbrev pdats : (p : Fin 6) → (c : Dev nD) → Dat τ (Elt F) (Fin 3) ℕ UU ℕ (cfgs p) c
  | 0 => dat0 m | 1 => dat1 m | 2 => dat2 m | 3 => dat3 m | 4 => dat4 m | 5 => dat5 m
  | ⟨_ + 6, h⟩ => absurd h (Nat.not_lt.2 (Nat.le_add_left _ _))

/-- The calls of the layers and of the all-reduce. -/
abbrev layerAt : Fin 3 → Fin 6 | 0 => 0 | 1 => 2 | 2 => 4
abbrev ringAt : Fin 3 → Fin 6 | 0 => 1 | 1 => 3 | 2 => 5

/-! ## What holds of every call -/

theorem launches : ∀ p : Fin 6, Pipeline.LaunchFacts (nD := nD) (τ := τ) cfgs p
  | 0 => launch0 | 1 => launch1 | 2 => launch2 | 3 => launch3 | 4 => launch4 | 5 => launch5

theorem share_of {cfg : Pipeline.Cfg sig Λ₀} {c : Dev nD} (D : Dat τ (Elt F) (Fin 3) ℕ UU ℕ cfg c) (h : ∀ w, D.q w = fullShare) (w : Fin cfg.W) :
    D.share w = fullShare := by
  unfold Dat.share
  split
  · rfl
  · exact h w

theorem shares : ∀ (p : Fin 6) (c : Dev nD) (w : Fin (cfgs p).W), (pdats m p c).share w = fullShare
  | 0, c => share_of (dat0 m c) fun _ => rfl
  | 1, c => share_of (dat1 m c) fun _ => rfl
  | 2, c => share_of (dat2 m c) fun _ => rfl
  | 3, c => share_of (dat3 m c) fun _ => rfl
  | 4, c => share_of (dat4 m c) fun _ => rfl
  | 5, c => share_of (dat5 m c) fun _ => rfl

theorem unbound : ∀ (p : Fin 6) (c : Dev nD), (pdats m p c).recorded 0 = Set.univ
  | 0, _ => rfl | 1, _ => rfl | 2, _ => rfl | 3, _ => rfl | 4, _ => rfl | 5, _ => rfl

/-- The staging semaphores come before the ring's. -/
theorem stage_level (p : Fin 6) (c : Dev nD) (w : Fin (cfgs p).W) (s : Fin ((cfgs p).win w).nbuf) (q : Fin 3) :
    lv ((c : Thread nD τ), .dma (((cfgs p).win w).sem s)) q = 0 := by
  refine if_neg ?_
  revert w
  match p with
  | 0 => decide +kernel
  | 1 => decide +kernel
  | 2 => decide +kernel
  | 3 => decide +kernel
  | 4 => decide +kernel
  | 5 => decide +kernel

/-! ## The layers' calls -/

theorem layer_ok : ∀ (q : Fin 3) (c : Dev nD), BodyObligation (pdats m (layerAt q) c) (defs₀ (F := F)) Variants.none 0 Set.univ
  | 0 => layer_ok0 m | 1 => layer_ok2 m | 2 => layer_ok4 m

theorem layer_owed : ∀ (q : Fin 3) (c : Dev nD) (t), (pdats m (layerAt q) c).owed t = owed q.val c
  | 0, _, _ => rfl | 1, _, _ => rfl | 2, _, _ => rfl

theorem layer_in : ∀ (q : Fin 3) (c : Dev nD), iprop(Pipeline.scopedRest (cfgs (layerAt q)).spec c ∗ emp) ⊢ (pdats m (layerAt q) c).Φ 0
  | 0, _ => Entails.of_eq (BI.equiv_iff.mp sep_emp)
  | 1, _ => Entails.of_eq (BI.equiv_iff.mp sep_emp)
  | 2, _ => Entails.of_eq (BI.equiv_iff.mp sep_emp)

theorem layer_out : ∀ (q : Fin 3) (c : Dev nD), (pdats m (layerAt q) c).Φ (Fin.last _) ⊢ iprop(Pipeline.scopedRest (cfgs (layerAt q)).spec c ∗ emp)
  | 0, _ => Entails.of_eq (BI.equiv_iff.mp sep_emp).symm
  | 1, _ => Entails.of_eq (BI.equiv_iff.mp sep_emp).symm
  | 2, _ => Entails.of_eq (BI.equiv_iff.mp sep_emp).symm

/-- A layer's windows at the start -/
theorem layer_first : ∀ (q : Fin 3) (c : Dev nD) (w : Fin (cfgs (layerAt q)).W),
    (pdats m (layerAt q) c).arrAt w 0 = Vat m (2 * q.val) c (Proc.devRef .tc (Pipeline.arrRef (cfgs (layerAt q)).spec w))
  | 0, c => terms_first0 m c | 1, c => terms_first2 m c | 2, c => terms_first4 m c

/-- and at the end. -/
theorem layer_last : ∀ (q : Fin 3) (c : Dev nD) (w : Fin (cfgs (layerAt q)).W),
    (pdats m (layerAt q) c).arrAt w (cfgs (layerAt q)).N = Vat m (2 * q.val + 1) c (Proc.devRef .tc (Pipeline.arrRef (cfgs (layerAt q)).spec w))
  | 0, c => terms_last0 m c | 1, c => terms_last2 m c | 2, c => terms_last4 m c

/-- The buffers a call does not work on. -/
def others (p : Fin 6) : Finset (DevRef τ sig) := Pipeline.ucRefs τ sig \ Pipeline.arrRefs (τ := τ) (cfgs p).spec

/-- What rides along while a layer is computed. -/
def beside (q : Fin 3) (c : Dev nD) : ℙ :=
  iprop(StableHlo.held (c : Thread nD τ) (others (layerAt q)) (Vat m (2 * q.val) c) ∗ Tk m q.val c ∗ ∃ r, prngReg c r)

set_option backward.isDefEq.respectTransparency.types false in
/-- A layer's call. -/
def layerRegion (q : Fin 3) : Pipeline.RegionSeg (pcfgs (F := F)) adm (pdats m) 0 defs₀ Variants.none L lv (layerAt q) :=
  Pipeline.RegionSeg.ofHeld (pcfgs (F := F)) adm (pdats m) 0 defs₀ Variants.none L lv (layerAt q) (owed q.val) (fun _ => iprop(emp)) (fun _ => iprop(emp))
    (launches (layerAt q)).toP rfl (fun c => (layer_ok m q c).loose) (layer_owed m q) (unbound m (layerAt q)) (shares m (layerAt q))
    (layer_in m q) (layer_out m q)
    (fun _ => 0) ⟨fun c _ _ => mem_L c _ 0, fun c w s => le_of_eq (stage_level (layerAt q) c w s 0), fun c g i h => owed_level q.val h⟩
    (beside m q) (Vat m (2 * q.val)) (Vat m (2 * q.val + 1)) (layer_first m q) (layer_last m q)

/-! ## The all-reduce's calls -/

theorem ring_ok : ∀ (q : Fin 3) (c : Dev nD), BodyObligation (pdats m (ringAt q) c) (defs₀ (F := F)) Variants.none 0 Set.univ
  | 0 => ring_ok1 m | 1 => ring_ok3 m | 2 => ring_ok5 m

theorem ring_owed_first (q : Fin 3) (c : Dev nD) : (pdats m (ringAt q) c).owed 0 = owed (q.val + 1) c + (arrivals q c + signals q c) := by
  refine Eq.trans ?_ ((owed_eq q c).trans (add_assoc _ _ _))
  match q with
  | 0 => rfl
  | 1 => rfl
  | 2 => rfl

theorem ring_owed_last : ∀ (q : Fin 3) (c : Dev nD), (pdats m (ringAt q) c).owed (Fin.last _) = owed (q.val + 1) c
  | 0, _ => rfl | 1, _ => rfl | 2, _ => rfl

theorem ring_level (q : Fin 3) (c : Dev nD) (t) (g : GSem nD τ sig) (u : Fin 3) (h : 0 < (pdats m (ringAt q) c).owed t g u) :
    u ∈ L g ∧ (0 : ℕ) < lv g u := by
  match q with
  | 0 => exact owedAt_level (q := 0) h
  | 1 => exact owedAt_level (q := 1) h
  | 2 => exact owedAt_level (q := 2) h

theorem own_sems (q : Fin 3) : Pipeline.OwnSemFacts (cfgs (ringAt q)).spec (ownSem q) where
  isScoped := by revert q; decide +kernel
  inj := fun e e' h => congrArg Prod.snd (semAt_inj (SemLoc.dma.inj h))
  disj := by
    match q with
    | 0 => decide +kernel
    | 1 => decide +kernel
    | 2 => decide +kernel

theorem rest_split : ∀ (q : Fin 3) (c : Dev nD), (Pipeline.scopedRest (cfgs (ringAt q)).spec c : ℙ) = iprop(scratch q c ∗ away q c)
  | 0, c => scopedRest1_split c
  | 1, c => scopedRest3_split c
  | 2, c => scopedRest5_split c

theorem held_none (c : Dev nD) (W : Valuation τ sig (Elt F)) : (StableHlo.held (c : Thread nD τ) ∅ W : ℙ) = BI.emp := by
  unfold StableHlo.held; exact BI.bigSep_empty

theorem ring_before : ∀ (q : Fin 3) (c : Dev nD), (pdats m (ringAt q) c).Φ 0 = before m q c
  | 0, _ => rfl | 1, _ => rfl | 2, _ => rfl
theorem ring_after : ∀ (q : Fin 3) (c : Dev nD), (pdats m (ringAt q) c).Φ (Fin.last _) = after m q c
  | 0, _ => rfl | 1, _ => rfl | 2, _ => rfl

theorem ring_in (q : Fin 3) (c : Dev nD) :
    iprop(Pipeline.scopedRest (cfgs (ringAt q)).spec c ∗ (∃ r, prngReg c r) ∗ StableHlo.held (c : Thread nD τ) ∅ (Vat m (2 * q.val + 1) c) ∗ Xk m q c)
      ⊢ (pdats m (ringAt q) c).Φ 0 := by
  rw [ring_before, rest_split]
  unfold before idle
  iintro ⟨⟨Hs, Ha⟩, Hr, -, Hx⟩
  isplitl [Hx]; · iexact Hx
  isplitl [Hs]; · iexact Hs
  isplitl [Ha] <;> iassumption

theorem ring_out (q : Fin 3) (c : Dev nD) : (pdats m (ringAt q) c).Φ (Fin.last _)
    ⊢ iprop(Pipeline.scopedRest (cfgs (ringAt q)).spec c ∗ (∃ r, prngReg c r) ∗ StableHlo.held (c : Thread nD τ) ∅ (Vat m (2 * q.val + 2) c)
      ∗ Pipeline.ownSems0 (ownSem q) c ∗ Tk m (q.val + 1) c) := by
  rw [ring_after, rest_split, held_none]
  unfold after idle
  iintro ⟨⟨Ht, Ho⟩, Hs, Ha, Hr⟩
  isplitl [Hs Ha]
  · isplitl [Hs] <;> iassumption
  isplitl [Hr]; · iexact Hr
  isplitr; · iempintro
  isplitl [Ho] <;> iassumption

theorem ring_first : ∀ (q : Fin 3) (c : Dev nD) (w : Fin (cfgs (ringAt q)).W),
    (pdats m (ringAt q) c).arrAt w 0 = Vat m (2 * q.val + 1) c (Proc.devRef .tc (Pipeline.arrRef (cfgs (ringAt q)).spec w))
  | 0, c => sums_first1 m c | 1, c => sums_first3 m c | 2, c => sums_first5 m c

theorem ring_last : ∀ (q : Fin 3) (c : Dev nD) (w : Fin (cfgs (ringAt q)).W),
    (pdats m (ringAt q) c).arrAt w (cfgs (ringAt q)).N = Vat m (2 * q.val + 2) c (Proc.devRef .tc (Pipeline.arrRef (cfgs (ringAt q)).spec w))
  | 0, c => sums_last1 m c | 1, c => sums_last3 m c | 2, c => sums_last5 m c

/-- The buffer a call writes is one it works on. -/
theorem wrote_layer : ∀ q : Fin 3, Proc.devRef .tc (wrote (2 * q.val)) ∈ Pipeline.arrRefs (τ := τ) (cfgs (layerAt q)).spec
  | 0 => by decide
  | 1 => by decide
  | 2 => by decide
theorem wrote_ring : ∀ q : Fin 3, Proc.devRef .tc (wrote (2 * q.val + 1)) ∈ Pipeline.arrRefs (τ := τ) (cfgs (ringAt q)).spec
  | 0 => by decide
  | 1 => by decide
  | 2 => by decide

theorem layer_kept (q : Fin 3) (c : Dev nD) (b) (hb : b ∈ others (layerAt q)) : Vat m (2 * q.val + 1) c b = Vat m (2 * q.val) c b :=
  Vat_next m _ c b fun h => (Finset.mem_sdiff.mp hb).2 (h ▸ wrote_layer q)
theorem ring_kept (q : Fin 3) (c : Dev nD) (b) (hb : b ∈ others (ringAt q) \ ∅) : Vat m (2 * q.val + 2) c b = Vat m (2 * q.val + 1) c b :=
  Vat_next m _ c b fun h => (Finset.mem_sdiff.mp (Finset.mem_sdiff.mp hb).1).2 (h ▸ wrote_ring q)

set_option backward.isDefEq.respectTransparency.types false in
/-- A call of the all-reduce. -/
def ringRegion (q : Fin 3) : Pipeline.RegionSeg (pcfgs (F := F)) adm (pdats m) 0 defs₀ Variants.none L lv (ringAt q) :=
  Pipeline.RegionSeg.ofTalk (pcfgs (F := F)) adm (pdats m) 0 defs₀ Variants.none L lv (ringAt q) (ownSem q) (own_sems q)
    ∅ (others (ringAt q)) (Finset.empty_subset _) (launches (ringAt q)).toP rfl (fun c => (ring_ok m q c).loose)
    (owed (q.val + 1)) (fun c => arrivals q c + signals q c) (ring_owed_first m q) (ring_owed_last m q) (unbound m (ringAt q))
    (shares m (ringAt q)) (Vat m (2 * q.val + 1)) (Vat m (2 * q.val + 2)) (ring_kept m q)
    (Tk m q.val) (Tk m (q.val + 1)) (Xk m q) (Tk m (q.val + 1)) (enter m q) (ring_in m q) (ring_out m q)
    (fun c => by iintro H; imodintro; iexact H)
    (fun _ => 0)
    ⟨fun c _ _ => mem_L c _ 0, fun c w s => le_of_eq (stage_level (ringAt q) c w s 0), fun c t g i h => ring_level m q c t g i h⟩
    (fun _ => iprop(emp))
    (ring_first m q) (ring_last m q)

end Cert.Ring

end
-- ==== Proof.Ring.Credit.lean ====
module

public import proofs.«01_k».proof.Proof.Ring.Calls

/-! What the devices owe at launch, summed at one cell: the credit its owner starts with. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Plan

variable {F : FTy → Type} [FloatOps F]

local notation "𝕄" => MT nD τ sig (Fin 3) (Elt F) ℕ UU ℕ
local notation "ℙ" => sProp (MT nD τ sig (Fin 3) (Elt F) ℕ UU ℕ)

/-! ## At one cell -/

/-- What a device owes a cell for its arrivals of hop `g` of a call. -/
def owedHop (q : Fin 3) (c : Dev nD) (x : GSem nD τ sig) (i : Fin 3) (g : Fin 62) : ℕ :=
  tallyAt (endCell (peer true c) (q, true, g, true)) q credit x i + tallyAt (endCell (peer false c) (q, false, g, true)) q credit x i

theorem rest_all : rest 0 = Finset.univ := by decide

theorem owed_at (c : Dev nD) (x : GSem nD τ sig) (i : Fin 3) : owed 0 c x i
    = ∑ q : Fin 3, ((∑ g : Fin 62, owedHop q c x i g) + (tallyAt (barCell (peer true c)) q 1 x i + tallyAt (barCell (peer false c)) q 1 x i)) := by
  unfold owed
  rw [rest_all, Finset.sum_apply, Finsupp.finsetSum_apply]
  refine Finset.sum_congr rfl fun q _ => ?_
  unfold arrivals signals
  rw [Pi.add_apply, Finsupp.add_apply, Finset.sum_apply, Finsupp.finsetSum_apply]
  rfl

/-! ## Over all devices -/

/-- The neighbours of all devices are all devices. -/
theorem sum_peer (d : Bool) (f : Dev nD → ℕ) : ∑ c, f (peer d c) = ∑ c, f c := Equiv.sum_comp (turn d) f

theorem bar_one (q i : Fin 3) (k : ℕ) (c : Dev nD) : ∑ a : Dev nD, tallyAt (barCell a) q k (barCell c) i = if i = q then k else 0 := by
  rw [Finset.sum_eq_single c]
  · rw [tallyAt_apply]; exact if_congr ⟨fun e => e.2, fun e => ⟨rfl, e⟩⟩ rfl rfl
  · exact fun a _ h => by rw [tallyAt_apply, if_neg fun e => h (barEmb.injective e.1).symm]
  · exact fun h => absurd (Finset.mem_univ c) h

theorem end_one (k : ℕ) (c : Dev nD) (q q' i : Fin 3) (d d' : Bool) (g : Fin 62) :
    ∑ h : Fin 62, ∑ a : Dev nD, tallyAt (endCell a (q', d', h, true)) q' k (endCell c (q, d, g, true)) i
      = if d' = d ∧ q' = q ∧ i = q then k else 0 := by
  have key (h : Fin 62) (a : Dev nD) : tallyAt (endCell a (q', d', h, true)) q' k (endCell c (q, d, g, true)) i
      = if c = a ∧ q = q' ∧ d = d' ∧ g = h ∧ i = q' then k else 0 := by
    rw [tallyAt_apply]
    refine if_congr ⟨fun e => ?_, fun e => ?_⟩ rfl rfl
    · have e' := endEmb.injective (a₁ := (c, (q, d, g, true))) (a₂ := (a, (q', d', h, true))) e.1
      cases e'; exact ⟨rfl, rfl, rfl, rfl, e.2⟩
    · obtain ⟨rfl, rfl, rfl, rfl, h⟩ := e; exact ⟨rfl, h⟩
  simp only [key]
  by_cases hd : d' = d ∧ q' = q ∧ i = q
  · obtain ⟨rfl, rfl, rfl⟩ := hd
    rw [if_pos ⟨rfl, rfl, rfl⟩, Finset.sum_eq_single g, Finset.sum_eq_single c, if_pos ⟨rfl, rfl, rfl, rfl, rfl⟩]
    · exact fun a _ h => if_neg fun e => h e.1.symm
    · exact fun h => absurd (Finset.mem_univ c) h
    · exact fun h _ hh => Finset.sum_eq_zero fun a _ => if_neg fun e => hh e.2.2.2.1.symm
    · exact fun h => absurd (Finset.mem_univ g) h
  · rw [if_neg hd]
    exact Finset.sum_eq_zero fun h _ => Finset.sum_eq_zero fun a _ => if_neg fun ⟨_, hq, he, _, hi⟩ => hd ⟨he.symm, hq.symm, hi.trans hq.symm⟩

theorem hops_all (q : Fin 3) (x : GSem nD τ sig) (i : Fin 3) : (∑ c, ∑ g : Fin 62, owedHop q c x i g)
    = (∑ g : Fin 62, ∑ a : Dev nD, tallyAt (endCell a (q, true, g, true)) q credit x i)
      + ∑ g : Fin 62, ∑ a : Dev nD, tallyAt (endCell a (q, false, g, true)) q credit x i := by
  rw [Finset.sum_comm, ← Finset.sum_add_distrib]
  refine Finset.sum_congr rfl fun g _ => ?_
  unfold owedHop
  rw [Finset.sum_add_distrib, sum_peer true fun a => tallyAt (endCell a (q, true, g, true)) q credit x i,
    sum_peer false fun a => tallyAt (endCell a (q, false, g, true)) q credit x i]

theorem owed_all (x : GSem nD τ sig) (i : Fin 3) : (∑ c, owed 0 c x i)
    = ∑ q : Fin 3, (((∑ g : Fin 62, ∑ a : Dev nD, tallyAt (endCell a (q, true, g, true)) q credit x i)
      + ∑ g : Fin 62, ∑ a : Dev nD, tallyAt (endCell a (q, false, g, true)) q credit x i)
      + ((∑ a : Dev nD, tallyAt (barCell a) q 1 x i) + ∑ a : Dev nD, tallyAt (barCell a) q 1 x i)) := by
  rw [Finset.sum_congr rfl fun c _ => owed_at c x i, Finset.sum_comm]
  refine Finset.sum_congr rfl fun q _ => ?_
  rw [Finset.sum_add_distrib, Finset.sum_add_distrib, hops_all,
    sum_peer true fun a => tallyAt (barCell a) q 1 x i, sum_peer false fun a => tallyAt (barCell a) q 1 x i]

theorem end_ne_bar (a c : Dev nD) (e : End) : endCell a e ≠ barCell c := fun h => by cases congrArg Prod.snd h

theorem owed_bar (c : Dev nD) (i : Fin 3) : ∑ a, owed 0 a (barCell c) i = 2 := by
  have none (q : Fin 3) (d : Bool) : ∑ g : Fin 62, ∑ a : Dev nD, tallyAt (endCell a (q, d, g, true)) q credit (barCell c) i = 0 :=
    Finset.sum_eq_zero fun g _ => Finset.sum_eq_zero fun a _ => by rw [tallyAt_apply, if_neg fun e => end_ne_bar a c _ e.1.symm]
  rw [owed_all]
  simp only [none, bar_one]
  clear none; revert i; decide

theorem owed_end (c : Dev nD) (q i : Fin 3) (d : Bool) (g : Fin 62) : ∑ a, owed 0 a (endCell c (q, d, g, true)) i = if i = q then credit else 0 := by
  have hb (q' : Fin 3) : ∑ a : Dev nD, tallyAt (barCell a) q' 1 (endCell c (q, d, g, true)) i = 0 :=
    Finset.sum_eq_zero fun a _ => by rw [tallyAt_apply, if_neg fun e => end_ne_bar c a _ e.1]
  rw [owed_all]
  simp only [hb, end_one]
  rw [Finset.sum_eq_single q (fun q' _ h => by simp [h]) fun h => absurd (Finset.mem_univ q) h]
  cases d <;> simp

/-! ## The credit -/

theorem launch_bar (c : Dev nD) :
    tallyOn (barCell c) (launchCredit (Pipeline.owing (owed 0)) 0 (barCell c)) = ∑ q : Fin 3, (tallyAt (barCell c) q 2 : CellTallies nD τ sig (Fin 3)) := by
  rw [show (launchCredit (Pipeline.owing (owed 0)) 0 (barCell c)) = ∑ q : Fin 3, Finsupp.single q 2 from Finsupp.ext fun i => by
    rw [Pipeline.launchCredit_owing, owed_bar, Finsupp.finsetSum_apply]
    simp only [Finsupp.single_apply]
    revert i; decide]
  unfold tallyAt
  rw [Fin.sum_univ_three, Fin.sum_univ_three, tallyOn_add, tallyOn_add]

theorem launch_end (c : Dev nD) (q : Fin 3) (d : Bool) (g : Fin 62) :
    tallyOn (endCell c (q, d, g, true)) (launchCredit (Pipeline.owing (owed 0)) 0 (endCell c (q, d, g, true)))
      = (tallyAt (endCell c (q, d, g, true)) q credit : CellTallies nD τ sig (Fin 3)) := by
  unfold tallyAt; refine congrArg _ (Finsupp.ext fun i => ?_)
  rw [Pipeline.launchCredit_owing, Finsupp.single_apply, owed_end]
  exact if_congr eq_comm rfl rfl

/-- The credit for the arrivals of one direction of a call. -/
def credits (q : Fin 3) (c : Dev nD) (d : Bool) : ℙ := bigSep Finset.univ fun g : Fin 62 => cred (tallyAt (endCell c (q, d, g, true)) q credit)

/-- A device's receiving ends. -/
def recvEmb : Fin 3 × Bool × Fin 62 ↪ SemLoc sig :=
  ⟨fun e => .dma (semAt (e.1, e.2.1, e.2.2, true)), fun e e' h => by
    have h := semAt_inj (SemLoc.dma.inj h)
    exact Prod.ext (congrArg (fun t : End => t.1) h) (Prod.ext (congrArg (fun t : End => t.2.1) h) (congrArg (fun t : End => t.2.2.1) h))⟩

/-- What a device's credit is, call by call. -/
theorem creds (c : Dev nD) : (Pipeline.launchCred (owed 0) c : ℙ)
    ⊢ bigSep Finset.univ fun q : Fin 3 => iprop(cred (tallyAt (barCell c) q 2) ∗ credits q c false ∗ credits q c true) := by
  unfold Pipeline.launchCred
  rw [bigSep_sep', bigSep_univ_at _ (SemLoc.reg barS), launch_bar c, Pipeline.cred_finsetSum]
  refine sep_mono_right ?_
  have hs : Finset.univ.map recvEmb ⊆ Finset.univ.erase (SemLoc.reg barS : SemLoc sig) := fun sm h => by
    obtain ⟨e, -, rfl⟩ := Finset.mem_map.mp h
    refine Finset.mem_erase.mpr ⟨fun h => ?_, Finset.mem_univ _⟩
    cases (show SemLoc.dma _ = SemLoc.reg _ from h)
  refine BIBase.Entails.trans (bigSep_subset hs) (BIBase.Entails.of_eq ?_)
  rw [BI.bigSep_map, BI.bigSep_univ_prod]
  refine bigSep_congr fun q _ => ?_
  rw [BI.bigSep_univ_prod, bigSep_two]
  unfold credits
  congr 1 <;> exact bigSep_congr fun g _ => congrArg _ (launch_end c q _ g)

end Cert.Ring

end
-- ==== Proof.Ring.Launch.lean ====
module

public import proofs.«01_k».proof.Proof.Ring.Credit
public import proofs.«01_k».proof.Proof.Gen.KernelIdeal.Regions

/-! The launch, which deals every device its part, and the run of the program. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Plan

variable {F : FTy → Type} [FloatOps F]

local notation "𝕄" => MT nD τ sig (Fin 3) (Elt F) ℕ UU ℕ
local notation "ℙ" => sProp (MT nD τ sig (Fin 3) (Elt F) ℕ UU ℕ)

variable (m : (ℓ : Loc nD τ sig) → Buf (Elt F) ℓ) (ρ : Dev nD → PrngReg)

/-! ## Tokens -/

/-- What the barrier's signals are paid with, -/
def barTok : Dev nD × Fin 3 × Bool ↪ GSem nD τ sig × ℕ × Bool :=
  ⟨fun x => (barCell x.1, x.2.1.val, x.2.2), fun _ _ h => Prod.ext (barEmb.injective (congrArg Prod.fst h))
    (Prod.ext (Fin.ext (congrArg (fun t => t.2.1) h)) (congrArg (fun t => t.2.2) h))⟩
/-- and the copies. -/
def endTok : Dev nD × End ↪ GSem nD τ sig × ℕ × Bool :=
  ⟨fun x => (endCell x.1 x.2, 0, false), fun _ _ h => endEmb.injective (congrArg Prod.fst h)⟩

def toks : Finset (GSem nD τ sig × ℕ × Bool) := Finset.univ.map barTok ∪ Finset.univ.map endTok

theorem toks_apart : Disjoint (Finset.univ.map barTok) (Finset.univ.map endTok) := by
  rw [Finset.disjoint_left]
  rintro g h₁ h₂
  obtain ⟨x, -, rfl⟩ := Finset.mem_map.mp h₁
  obtain ⟨y, -, h⟩ := Finset.mem_map.mp h₂
  exact end_ne_bar y.1 x.1 y.2 (congrArg Prod.fst h)

def tok (x : GSem nD τ sig × ℕ × Bool) : ℙ := dutyTok ER x.1 x.2.1 x.2.2

theorem around (d : Bool) (Φ : Dev nD → ℙ) : bigSep Finset.univ Φ = bigSep Finset.univ fun c => Φ (peer d c) := bigSep_univ_equiv (turn d) Φ

/-- Of two families over devices and calls, each may be turned its own way. -/
theorem turned (d d' : Bool) (A B : Dev nD → Fin 3 → ℙ) :
    (bigSep Finset.univ fun c : Dev nD => bigSep Finset.univ fun q : Fin 3 => iprop(A c q ∗ B c q))
      = bigSep Finset.univ fun c : Dev nD => bigSep Finset.univ fun q : Fin 3 => iprop(A (peer d c) q ∗ B (peer d' c) q) := by
  rw [bigSep_congr fun c _ => bigSep_sep' .., bigSep_sep', around d fun c => bigSep Finset.univ (A c), around d' fun c => bigSep Finset.univ (B c),
    ← bigSep_sep']
  exact bigSep_congr fun c _ => (bigSep_sep' ..).symm

/-- The signals' tokens, each with the device that signals. -/
theorem bar_toks : bigSep (Finset.univ.map barTok) (tok (F := F)) = bigSep Finset.univ fun c : Dev nD => bigSep Finset.univ fun q : Fin 3 =>
    iprop(dutyTok ER (barCell (peer false c)) q.val false ∗ dutyTok ER (barCell (peer true c)) q.val true) := by
  rw [BI.bigSep_map, BI.bigSep_univ_prod,
    bigSep_congr fun c _ => (BI.bigSep_univ_prod _).trans (bigSep_congr fun q _ => bigSep_two _), turned false true]
  rfl

/-- The tokens of one direction's copies in a call, each with the device that starts the copy. -/
def copies (q : Fin 3) (c : Dev nD) (d : Bool) : ℙ := bigSep Finset.univ fun g : Fin 62 =>
  iprop(dutyTok ER (endCell c (q, d, g, false)) 0 false ∗ dutyTok ER (endCell (peer d c) (q, d, g, true)) 0 false)

theorem copies_around (d : Bool) : (bigSep Finset.univ fun c : Dev nD => bigSep Finset.univ fun q : Fin 3 => bigSep Finset.univ fun g : Fin 62 =>
      iprop(tok (F := F) (endTok (c, q, d, g, false)) ∗ tok (endTok (c, q, d, g, true))))
    = bigSep Finset.univ fun c : Dev nD => bigSep Finset.univ fun q : Fin 3 => copies q c d := by
  rw [bigSep_congr fun c _ => bigSep_congr fun q _ => bigSep_sep' .., bigSep_congr fun c _ => bigSep_sep' .., bigSep_sep',
    around d fun c => bigSep Finset.univ fun q : Fin 3 => bigSep Finset.univ fun g : Fin 62 => tok (endTok (c, q, d, g, true)), ← bigSep_sep']
  refine bigSep_congr fun c _ => ?_
  unfold copies
  rw [← bigSep_sep']
  refine bigSep_congr fun q _ => ?_
  rw [← bigSep_sep']
  rfl

theorem end_toks : bigSep (Finset.univ.map endTok) (tok (F := F))
    = bigSep Finset.univ fun c : Dev nD => bigSep Finset.univ fun q : Fin 3 => iprop(copies q c false ∗ copies q c true) := by
  rw [BI.bigSep_map, BI.bigSep_univ_prod,
    bigSep_congr fun c _ => (BI.bigSep_univ_prod _).trans (bigSep_congr fun q _ => (bigSep_ends _).trans (bigSep_two _)),
    bigSep_congr fun c _ => bigSep_sep' .., bigSep_sep', copies_around, copies_around, ← bigSep_sep']
  exact bigSep_congr fun c _ => (bigSep_sep' ..).symm

/-- The tokens that a device has for a call. -/
def purse (c : Dev nD) (q : Fin 3) : ℙ :=
  iprop((dutyTok ER (barCell (peer false c)) q.val false ∗ dutyTok ER (barCell (peer true c)) q.val true) ∗ copies q c false ∗ copies q c true)

theorem toks_dealt : bigSep toks (tok (F := F)) = bigSep Finset.univ fun c : Dev nD => bigSep Finset.univ (purse c) := by
  unfold toks
  rw [bigSep_union toks_apart, bar_toks, end_toks]
  refine (bigSep_sep' ..).symm.trans (bigSep_congr fun c _ => ?_)
  exact (bigSep_sep' ..).symm

theorem pays_intro (q : Fin 3) (c : Dev nD) (d : Bool) : iprop(copies q c d ∗ credits q c d) ⊢ (bigSep Finset.univ (pays q c d) : ℙ) := by
  have one (g : Fin 62) : iprop((dutyTok ER (endCell c (q, d, g, false)) 0 false ∗ dutyTok ER (endCell (peer d c) (q, d, g, true)) 0 false)
      ∗ cred (tallyAt (endCell c (q, d, g, true)) q credit)) ⊢ (pays q c d g : ℙ) := by
    unfold pays
    iintro ⟨⟨H1, H2⟩, H3⟩
    isplitl [H1]; · iexact H1
    isplitl [H2] <;> iassumption
  unfold copies credits
  rw [← bigSep_sep']
  exact bigSep_mono fun g _ => one g

/-! ## The launch -/

def u₀ : UU := (initOf (Pipeline.cells cfgs cellOf_inj) (Pipeline.launchToks cfgs cellOf_inj), launchOf barCells endCells toks)

/-- One device starts with all of it. -/
def G (c : Dev nD) : ℙ := if c = 0 then BI.own (ER (launchOf barCells endCells toks)) else BI.emp

theorem all_G : bigSep Finset.univ (G (F := F)) = BI.own (ER (launchOf barCells endCells toks)) := by
  unfold G
  rw [bigSep_univ_at _ (0 : Dev nD), bigSep_congr fun c hc => if_neg (Finset.ne_of_mem_erase hc), bigSep_emp_const]
  rw [if_pos rfl]
  exact BI.equiv_iff.mp sep_emp

/-- The credit that a device has for a call. -/
def credited (c : Dev nD) (q : Fin 3) : ℙ := iprop(cred (tallyAt (barCell c) q 2) ∗ credits q c false ∗ credits q c true)

/-- What of a device's holdings has nothing to do with tokens. -/
def bundle (c : Dev nD) : ℙ :=
  iprop(bigSep Finset.univ (credited c) ∗ (∃ r, prngReg c r) ∗ ∃ W, owes (c : Thread nD τ) (owed 0 c) W)

/-- What a device runs with besides the buffers, before call number `n`. -/
def mid (n : ℕ) (c : Dev nD) : ℙ := iprop(Tk m n c ∗ (∃ r, prngReg c r) ∗ ∃ W, owes (c : Thread nD τ) (owed n c) W)

theorem stock_intro (c : Dev nD) (q : Fin 3) :
    iprop((purse c q ∗ credited c q) ∗ bigSep Finset.univ fun e : CallEnd => openTok ER (endCell c (q, e))) ⊢ (stock q c : ℙ) := by
  unfold stock dealt purse credited
  rw [bigSep_two]
  iintro ⟨⟨⟨⟨B1, B2⟩, C1, C2⟩, K, A1, A2⟩, Ho⟩
  isplitr [Ho]; swap; · iexact Ho
  isplitl [B1 B2]
  · isplitl [B1] <;> iassumption
  isplitl [K]; · iexact K
  isplitl [C1 A1]
  · iapply (pays_intro q c false)
    isplitl [C1] <;> iassumption
  · iapply (pays_intro q c true)
    isplitl [C2] <;> iassumption

theorem stocks_intro (c : Dev nD) :
    iprop((bigSep Finset.univ (purse c) ∗ bigSep Finset.univ (credited c)) ∗ bigSep Finset.univ fun e : End => openTok ER (endCell c e))
      ⊢ (bigSep (rest 0) fun q => stock q c : ℙ) := by
  rw [rest_all, BI.bigSep_univ_prod, ← bigSep_sep', ← bigSep_sep']
  exact bigSep_mono fun q _ => stock_intro c q

theorem reached_at (c : Dev nD) : (bigSep barCells fun g => reached ER g 0) ⊢ (reached ER (barCell c) 0 : ℙ) := by
  rw [BI.bigSep_map]
  exact bigSep_elim (Φ := fun c : Dev nD => (reached ER (barCell c) 0 : ℙ)) (Finset.mem_univ c)

theorem start_intro (κ : GSem nD τ sig → ℕ) (c : Dev nD) :
    iprop((records (term m) κ ∗ bigSep barCells fun g => reached ER g 0) ∗ ((bigSep Finset.univ (purse c)
        ∗ atPos ER (barCell c) 0 ∅ 0 ∗ bigSep Finset.univ fun e : End => openTok ER (endCell c e)) ∗ bundle c)) ⊢ mid m 0 c := by
  unfold bundle mid Tk stand
  iintro ⟨⟨#HI, #Hf⟩, ⟨⟨Hp, Ha, Ho⟩, K, Hr, HO⟩⟩
  isplitr [Hr HO]
  · iexists κ
    isplitr; · iexact HI
    isplitl [Ha]
    · isplitl [Ha]; · iexact Ha
      isplitr
      · iapply (reached_at (peer false c)); iexact Hf
      · iapply (reached_at (peer true c)); iexact Hf
    iapply (stocks_intro c)
    isplitr [Ho]; swap; · iexact Ho
    isplitl [Hp] <;> iassumption
  isplitl [Hr] <;> iassumption

theorem unscopedSems0_eq (c : Dev nD) : (unscopedSems0 c : ℙ) = semVal (barCell c) 0 := by
  unfold unscopedSems0
  rw [show (Finset.univ.filter fun sm : SemLoc sig => ¬ sm.isScoped .tc = true) = {SemLoc.reg barS} from by decide +kernel, BI.bigSep_singleton]

theorem hold_at (c : Dev nD) :
    iprop(unscopedSems0 c ∗ owes (c : Thread nD τ) (owed 0 c) ∅ ∗ Pipeline.launchCred (owed 0) c ∗ prngReg c (ρ c) ∗ G c)
      ⊢ (iprop(bundle c ∗ (semVal (barCell c) 0 ∗ G c)) : ℙ) := by
  have hc : (Pipeline.launchCred (owed 0) c : ℙ) ⊢ bigSep Finset.univ (credited c) := creds c
  rw [unscopedSems0_eq]
  unfold bundle
  iintro ⟨Hs, HO, Hc, Hr, HG⟩
  ihave Hc := hc $$ Hc
  isplitl [HO Hc Hr]
  · isplitl [Hc]; · iexact Hc
    isplitl [Hr]; · iexists (ρ c); iexact Hr
    iexists ∅; iexact HO
  isplitl [Hs] <;> iassumption

/-- What the devices hold at launch. -/
def holdings : ℙ := iprop(bigSep Finset.univ bundle ∗ (bigSep Finset.univ fun c : Dev nD => semVal (barCell c) 0) ∗ bigSep Finset.univ G)

theorem hold_all : (bigSep Finset.univ fun c : Dev nD =>
      iprop(unscopedSems0 c ∗ owes (c : Thread nD τ) (owed 0 c) ∅ ∗ Pipeline.launchCred (owed 0) c ∗ prngReg c (ρ c) ∗ G c)) ⊢ (holdings : ℙ) := by
  unfold holdings
  rw [← bigSep_sep', ← bigSep_sep']
  exact bigSep_mono fun c _ => hold_at ρ c

/-- What the protocol gives each device, -/
def given (c : Dev nD) : ℙ :=
  iprop(bigSep Finset.univ (purse c) ∗ atPos ER (barCell c) 0 ∅ 0 ∗ bigSep Finset.univ fun e : End => openTok ER (endCell c e))

/-- and what all may read. -/
def known (κ : GSem nD τ sig → ℕ) : ℙ := iprop(records (term m) κ ∗ bigSep barCells fun g => reached ER g 0)

instance known_persistent (κ : GSem nD τ sig → ℕ) : Persistent (known m κ) := by unfold known; infer_instance

theorem begin_at (κ : GSem nD τ sig → ℕ) (c : Dev nD) : iprop(known m κ ∗ (given c ∗ bundle c)) ⊢ mid m 0 c := start_intro m κ c

theorem bars (Φ : GSem nD τ sig → ℙ) : bigSep barCells Φ = bigSep Finset.univ fun c : Dev nD => Φ (barCell c) := BI.bigSep_map ..
theorem ends (Φ : GSem nD τ sig → ℙ) : bigSep endCells Φ = bigSep Finset.univ fun c : Dev nD => bigSep Finset.univ fun e => Φ (endCell c e) := by
  rw [BI.bigSep_map, BI.bigSep_univ_prod]; rfl

theorem toks_given : (bigSep toks fun x => dutyTok ER x.1 x.2.1 x.2.2 : ℙ) = bigSep Finset.univ fun c : Dev nD => bigSep Finset.univ (purse c) := toks_dealt

theorem given_all : (bigSep Finset.univ fun c : Dev nD => given c : ℙ) = iprop((bigSep Finset.univ fun c : Dev nD => bigSep Finset.univ (purse c))
    ∗ (bigSep Finset.univ fun c : Dev nD => atPos ER (barCell c) 0 ∅ 0)
    ∗ bigSep Finset.univ fun c : Dev nD => bigSep Finset.univ fun e : End => openTok ER (endCell c e)) := by
  unfold given
  rw [bigSep_sep', bigSep_sep']

theorem fund : iprop((bigSep Finset.univ fun c : Dev nD => semVal (barCell c) 0) ∗ BI.own (ER (launchOf barCells endCells toks)) ∗ levAts L lv)
    ⊢ (|={Set.univ}=> ∃ κ, known m κ ∗ bigSep Finset.univ fun c : Dev nD => given c : ℙ) := by
  have h := Rounds.fund_launch (Es := Set.univ) ER (sched (term m)) disjoint_cells (fun g _ h => h) toks
  rw [bars (fun g => semVal g 0), bars (fun g => atPos ER g 0 ∅ 0), ends, toks_given] at h
  unfold known records
  rw [given_all]
  iintro ⟨Hv, HG, #Hl⟩
  imod h $$ [Hv HG] with ⟨%κ, -, #Hi, #Hr, Ha, Ho, Ht⟩
  · isplitl [Hv] <;> iassumption
  imodintro
  iexists κ
  isplitr
  · isplitr
    · isplitr; · iexact Hi
      iexact Hl
    iexact Hr
  isplitl [Ht]; · iexact Ht
  isplitl [Ha] <;> iassumption

theorem begin_all (κ : GSem nD τ sig → ℕ) :
    iprop(known m κ ∗ (bigSep Finset.univ fun c : Dev nD => given c) ∗ bigSep Finset.univ bundle) ⊢ bigSep Finset.univ (mid m 0) := by
  rw [← bigSep_sep']
  exact bigSep_with_persistent (R := known m κ) fun c _ => begin_at m κ c

theorem init :
    iprop((bigSep Finset.univ fun c : Dev nD => iprop(unscopedSems0 c ∗ owes (c : Thread nD τ) (owed 0 c) ∅ ∗ Pipeline.launchCred (owed 0) c ∗ prngReg c (ρ c) ∗ G c))
        ∗ levAts L lv) ⊢ (|={Set.univ}=> bigSep Finset.univ (mid m 0) : ℙ) := by
  iintro ⟨H, #Hl⟩
  ihave H := (hold_all ρ) $$ H
  ihave H := (Entails.of_eq (show (holdings : ℙ) = iprop(bigSep Finset.univ bundle ∗ (bigSep Finset.univ fun c : Dev nD => semVal (barCell c) 0)
    ∗ bigSep Finset.univ G) from rfl)) $$ H
  icases H with ⟨HB, Hv, HG⟩
  ihave HG := (Entails.of_eq (all_G (F := F))) $$ HG
  imod (fund m) $$ [Hv HG] with ⟨%κ, Hk, Ht⟩
  · isplitl [Hv]; · iexact Hv
    isplitl [HG]; · iexact HG
    iexact Hl
  imodintro
  iapply (begin_all m κ)
  isplitl [Hk]; · iexact Hk
  isplitl [Ht] <;> iassumption

end Cert.Ring

end
-- ==== Proof.Ring.Finish.lean ====
module

public import proofs.«01_k».proof.Proof.Ring.Launch

/-! The run of the program: every device ends with the sum, its arguments as they were, and every semaphore at zero. -/

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
open Plan

variable {F : FTy → Type} [FloatOps F]

local notation "𝕄" => MT nD τ sig (Fin 3) (Elt F) ℕ UU ℕ
local notation "ℙ" => sProp (MT nD τ sig (Fin 3) (Elt F) ℕ UU ℕ)

variable (m : (ℓ : Loc nD τ sig) → Buf (Elt F) ℓ) (ρ : Dev nD → PrngReg)

theorem arrays_held (p : Fin 6) : Pipeline.arrRefs (τ := τ) (cfgs p).spec ⊆ Pipeline.ucRefs τ sig := by
  match p with
  | 0 => decide +kernel
  | 1 => decide +kernel
  | 2 => decide +kernel
  | 3 => decide +kernel
  | 4 => decide +kernel
  | 5 => decide +kernel

/-- What a device holds, by whether a call works on it. -/
theorem held_split (p : Fin 6) (c : Dev nD) (V : Valuation τ sig (Elt F)) : (StableHlo.held (c : Thread nD τ) (Pipeline.ucRefs τ sig) V : ℙ)
    = iprop(StableHlo.held (c : Thread nD τ) (Pipeline.arrRefs (τ := τ) (cfgs p).spec) V ∗ StableHlo.held (c : Thread nD τ) (others p) V) :=
  StableHlo.held_sub_split (c : Thread nD τ) (arrays_held p) V

/-- What a device has before call number `n`, or at the end. -/
def atCall (k n : ℕ) (c : Dev nD) : ℙ := iprop(StableHlo.held (c : Thread nD τ) (Pipeline.ucRefs τ sig) (Vat m k c) ∗ mid m n c)

theorem before_layer (q : Fin 3) (c : Dev nD) : atCall m (2 * q.val) q.val c ⊢ (layerRegion m q).pre c := by
  show _ ⊢ iprop(StableHlo.held (c : Thread nD τ) (Pipeline.arrRefs (τ := τ) (cfgs (layerAt q)).spec) (Vat m (2 * q.val) c) ∗ emp ∗ beside m q c
    ∗ ∃ W, owes (c : Thread nD τ) (owed q.val c) W)
  unfold atCall mid beside
  rw [held_split (layerAt q)]
  iintro ⟨⟨Ha, Ho⟩, Ht, Hr, HO⟩
  isplitl [Ha]; · iexact Ha
  isplitr; · iempintro
  isplitr [HO]; swap; · iexact HO
  isplitl [Ho]; · iexact Ho
  isplitl [Ht] <;> iassumption

theorem after_layer (q : Fin 3) (c : Dev nD) : (layerRegion m q).post c ⊢ atCall m (2 * q.val + 1) q.val c := by
  show iprop(StableHlo.held (c : Thread nD τ) (Pipeline.arrRefs (τ := τ) (cfgs (layerAt q)).spec) (Vat m (2 * q.val + 1) c) ∗ emp ∗ beside m q c
    ∗ ∃ W, owes (c : Thread nD τ) (owed q.val c) W) ⊢ _
  unfold atCall mid beside
  rw [held_split (layerAt q), StableHlo.held_congr (c : Thread nD τ) (S := others (layerAt q)) (layer_kept m q c)]
  iintro ⟨Ha, -, ⟨Ho, Ht, Hr⟩, HO⟩
  isplitl [Ha Ho]
  · isplitl [Ha] <;> iassumption
  isplitl [Ht]; · iexact Ht
  isplitl [Hr] <;> iassumption

theorem before_ring (q : Fin 3) (c : Dev nD) : atCall m (2 * q.val + 1) q.val c ⊢ (ringRegion m q).pre c := by
  show _ ⊢ iprop(StableHlo.held (c : Thread nD τ) (Pipeline.arrRefs (τ := τ) (cfgs (ringAt q)).spec) (Vat m (2 * q.val + 1) c) ∗ (∃ r, prngReg c r)
    ∗ (StableHlo.held (c : Thread nD τ) (others (ringAt q) \ ∅) (Vat m (2 * q.val + 1) c) ∗ emp) ∗ Tk m q.val c
    ∗ ∃ W, owes (c : Thread nD τ) (owed (q.val + 1) c + (arrivals q c + signals q c)) W)
  unfold atCall mid
  rw [held_split (ringAt q), owed_eq, add_assoc, Finset.sdiff_empty]
  iintro ⟨⟨Ha, Ho⟩, Ht, Hr, HO⟩
  isplitl [Ha]; · iexact Ha
  isplitl [Hr]; · iexact Hr
  isplitl [Ho]
  · isplitl [Ho]; · iexact Ho
    iempintro
  isplitl [Ht] <;> iassumption

theorem after_ring (q : Fin 3) (c : Dev nD) : (ringRegion m q).post c ⊢ atCall m (2 * q.val + 2) (q.val + 1) c := by
  show iprop(StableHlo.held (c : Thread nD τ) (Pipeline.arrRefs (τ := τ) (cfgs (ringAt q)).spec) (Vat m (2 * q.val + 2) c) ∗ (∃ r, prngReg c r)
    ∗ (StableHlo.held (c : Thread nD τ) (others (ringAt q) \ ∅) (Vat m (2 * q.val + 2) c) ∗ emp) ∗ Tk m (q.val + 1) c
    ∗ ∃ W, owes (c : Thread nD τ) (owed (q.val + 1) c) W) ⊢ _
  unfold atCall mid
  rw [held_split (ringAt q), Finset.sdiff_empty]
  iintro ⟨Ha, Hr, ⟨Ho, -⟩, Ht, HO⟩
  isplitl [Ha Ho]
  · isplitl [Ha] <;> iassumption
  isplitl [Ht]; · iexact Ht
  isplitl [Hr] <;> iassumption

theorem unscoped_one : ∀ sm : SemLoc sig, sm.isScoped .tc = false → sm = .reg barS := by decide +kernel

/-- What a device ends with. -/
def ended (c : Dev nD) : ℙ := iprop(StableHlo.held (c : Thread nD τ) (Pipeline.ucRefs τ sig) (Vat m 6 c) ∗ Tk m 3 c)

theorem ended_intro (c : Dev nD) : atCall m 6 3 c ⊢ iprop(ended m c ∗ ∃ W, owes (c : Thread nD τ) 0 W) := by
  unfold atCall mid ended
  rw [owed_none]
  iintro ⟨Hh, Ht, -, HO⟩
  isplitr [HO]
  · isplitl [Hh] <;> iassumption
  · iexact HO

theorem read_at (c : Dev nD) (s' : Phys nD τ sig (Elt F)) :
    iprop(ended m c ∗ SI s') ⊢ (|={Set.univ}=>
      iprop(⌜(∀ b : Ref sig .tc, (Proc.devRef .tc b : DevRef τ sig).isScoped = false → s'.mem.mem ((c : Thread nD τ).loc b) = Vat m 6 c b)
        ∧ s'.mem.sem (barCell c) = 0⌝ ∗ SI s') : ℙ) := by
  unfold ended StableHlo.held
  iintro ⟨⟨Hh, Ht⟩, HSI⟩
  imod (close m c) $$ Ht with Hb
  icombine HSI Hb gives %hb
  ihave Hr := (pointsTo_read_all (Pipeline.ucRefs τ sig) (fun b => ((c : Thread nD τ).1, b)) (Vat m 6 c) s') $$ [Hh HSI]
  · isplitl [Hh] <;> iassumption
  icases Hr with ⟨%h, HSI⟩
  imodintro
  isplitr
  · ipureintro
    exact ⟨fun b hb => h (Proc.devRef .tc b) (Finset.mem_filter.mpr ⟨StableHlo.devRef_mem_tcRefs b, by rw [hb]; exact Bool.false_ne_true⟩), by simpa using hb⟩
  · iexact HSI

/-- The program's segments. -/
abbrev parts (c : Dev nD) := segs m Variants.none L lv (fun _ => mid m 0) (0 : Fin 3) (pdats m)
  (layerRegion m 0) (ringRegion m 0) (layerRegion m 1) (ringRegion m 1) (layerRegion m 2) (ringRegion m 2) c

theorem hold_first :
    (bigSep Finset.univ fun c : Dev nD => iprop(unscopedBufs c (fun b => m ((c.tc : Thread nD τ).loc b)) ∗ unscopedSems0 c
          ∗ owes (c.tc : Thread nD τ) (owed 0 c) ∅ ∗ Pipeline.launchCred (owed 0) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed 0 c) ∅ ∗ Pipeline.launchCred (owed 0) c
              ∗ prngReg c (ρ c) ∗ G c)) : ℙ) := by
  rw [← bigSep_sep']
  exact bigSep_mono fun c _ => by
    rw [← Pipeline.unscopedBufs_held (Ix := Fin 3) (Name := ℕ) (U := UU) (Lvl := ℕ) c (V0 m c)]; exact BI.Entails.refl _

/-- A buffer that nothing writes. -/
theorem unwritten (c : Dev nD) (b : Ref sig .tc) (h : b ∉ [main_v25, main_v26, main_v27, main_v28, main_v29, main_v30]) (h' : b ∉ hostOps0_W) :
    Vat m 6 c b = m ((c : Thread nD τ).loc b) := Vat_arg m c b h h' 6

set_option backward.isDefEq.respectTransparency.types false in
/-- From any memory, with every semaphore at zero, every run ends; then every device's arguments are as they were, its result is the
    last layer's sum as the ring computes it, and every semaphore is at zero. -/
theorem run : θ_run defs (onTc (τ := τ) (main (F := F))) ⟨m, fun _ => 0, ρ⟩ (fun r =>
    (∀ c : Dev nD, r.2.mem ((c : Thread nD τ).loc main_v30) = summed m 2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) := by
  refine Pipeline.θ_run_regions_kit_dev_sems (pcfgs (F := F)) adm (pdats m) (0 : Fin 3) cellOf_inj EP defs₀ Variants.none L lv m ρ main
    (parts m)
    (fun c Q => by
      rewrite [main_chain c, Seg.run_eq_chain,
        show (parts m c).map Seg.prog = [
          StableHlo.seq (hostOps0 c),
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()) ] from rfl]
      dsimp (config := { failIfUnchanged := false }) only
      exact .rfl)
    (fun c => by simp only [parts, segs, Seg.pipes_host, Seg.pipes_region, Seg.pipes_nil]; decide) (owed 0) L_of_ne G u₀ ?_
    (T₀ := fun c => iprop(StableHlo.held (c : Thread nD τ) (Pipeline.ucRefs τ sig) (V0 m c) ∗ mid m 0 c))
    (Tₙ := ended m)
    (hch := fun c => ⟨.rfl, before_layer m 0 c, (after_layer m 0 c).trans (before_ring m 0 c), (after_ring m 0 c).trans (before_layer m 1 c),
      (after_layer m 1 c).trans (before_ring m 1 c), (after_ring m 1 c).trans (before_layer m 2 c), (after_layer m 2 c).trans (before_ring m 2 c),
      (after_ring m 2 c).trans (ended_intro m c)⟩)
    (hinit := ?_)
    (QY := fun c s => (∀ b : Ref sig .tc, (Proc.devRef .tc b : DevRef τ sig).isScoped = false → s.mem ((c : Thread nD τ).loc b) = Vat m 6 c b)
        ∧ s.sem (barCell c) = 0)
    (hfin := fun c s' => read_at m c s') (hQ := fun s h hs => ⟨fun c => ?_, ?_⟩)
  · unfold u₀
    iintro Hu
    ihave H := (ownU_pair _ _) $$ Hu
    icases H with ⟨HP, HX⟩
    imodintro
    isplitl [HP]; · iexact HP
    rw [all_G]; iexact HX
  · iintro ⟨H, Hl⟩
    ihave H := (hold_first m ρ) $$ H
    icases H with ⟨Hh, Hr⟩
    imod (init m ρ) $$ [Hr Hl] with HE
    · isplitl [Hr] <;> iassumption
    imodintro
    rw [bigSep_sep']
    isplitl [Hh] <;> iassumption
  · have h := (h c).1
    exact ⟨(h main_v30 rfl).trans (Vat_wrote5 m c),
      (h main_arg0 rfl).trans (unwritten m c main_arg0 (by decide) (by decide)),
      (h main_arg1 rfl).trans (unwritten m c main_arg1 (by decide) (by decide)),
      (h main_arg2 rfl).trans (unwritten m c main_arg2 (by decide) (by decide)),
      (h main_arg3 rfl).trans (unwritten m c main_arg3 (by decide) (by decide)),
      (h main_arg4 rfl).trans (unwritten m c main_arg4 (by decide) (by decide)),
      (h main_arg5 rfl).trans (unwritten m c main_arg5 (by decide) (by decide)),
      (h main_arg6 rfl).trans (unwritten m c main_arg6 (by decide) (by decide))⟩
  · refine sem_eq_zero hs fun c sm hsm => ?_
    obtain rfl := unscoped_one sm hsm
    exact (h c).2

end Cert.Ring

end
-- ==== Proof.Ring.Same.lean ====
module

public import proofs.«01_k».proof.Proof.Gen.Kernel
public import proofs.«01_k».proof.Proof.Gen.KernelIdeal
public import proofs.«01_k».proof.Defs
public import Idealize.ShloMosaic.Lib.Pipeline.Regions

@[expose] public section

/-! The program and its idealization are one text: run on bit patterns, they do the same. -/

noncomputable section

namespace Cert.Ring

open Idealize.ShloMosaic Idealize.SL.Sem

/-- What is claimed of the program run on bit patterns, -/
def FrameK : Prop := Cert.quiescent_Kernel

/-- and the same, said of the idealization's text. -/
def FrameI : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

theorem same : FrameK = FrameI := by chain_rfl

end Cert.Ring

end
-- ==== Proof.Ring.Sum.lean ====
module

public import proofs.«01_k».proof.Proof.Ring.Mesh
public import proofs.«01_k».proof.Proof.Ring.Terms
public import proofs.«01_k».proof.Proof.Gen.ReferenceIdeal.Run
public import Idealize.ShloMosaic.Lib.Layout
public import Idealize.ShloMosaic.Lib.Pointwise
public import Idealize.ShloMosaic.PureOps.Ideal.Laws
public import Idealize.ShloMosaic.Lib.Pipeline.ValueKit.Acc

/-! What goes round the ring adds up, in exact numbers, to the sum of all devices' terms; and that is the layer on one device,
    three times over. -/

@[expose] public section

noncomputable section

namespace Cert.Ring

open Idealize.ShloMosaic

/-! ## Round the ring -/

theorem dev_step (d : Bool) (c : Dev nD) (t : ℕ) : dev (step d (pos (peer (!d) c)) t) = dev (step d (pos c) (t + 1)) := by
  rw [pos_peer, step_step, Nat.add_comm]

/-- What a device holds after `n` hops: the terms of the devices the block has been at. -/
theorem accOf_sum (P : Dev nD → FVec Ideal S2048x1024 .f32) (d : Bool) (j : S32x1024.Idx) : ∀ (n : ℕ), n ≤ 31 → ∀ c : Dev nD,
    accOf peer pos P d n c j = ∑ t ∈ Finset.range (n + 1), chunk d (step d (pos c) n) (P (dev (step d (pos c) t))) j
  | 0, _, c => by
    rw [Finset.sum_range_one, step_zero, dev_pos]; rfl
  | n + 1, h, c => by
    rw [accOf_add peer pos P d (by omega)]
    show accOf peer pos P d n (peer (!d) c) j + chunk d (step d (pos c) (n + 1)) (P c) j = _
    rw [accOf_sum P d j n (by omega), Finset.sum_range_succ' _ (n + 1), step_zero, dev_pos]
    refine congrArg (· + _) (Finset.sum_congr rfl fun t _ => ?_)
    rw [dev_step, pos_peer, step_step, Nat.add_comm 1 n]

/-- From any place, 32 hops meet every device. -/
def meets (d : Bool) (k : Fin 32) : Fin 32 ≃ Dev nD where
  toFun t := dev (step d k t.val)
  invFun c := if d then pos c - k else k - pos c
  left_inv := by revert d k; decide +kernel
  right_inv := by revert d k; decide +kernel

theorem sumOf_sum (P : Dev nD → FVec Ideal S2048x1024 .f32) (d : Bool) (k : Fin 32) (j : S32x1024.Idx) :
    sumOf peer pos P dev d k j = ∑ c : Dev nD, chunk d k (P c) j := by
  unfold sumOf
  have hp : ∀ k, pos (dev k) = k := by decide +kernel
  rw [accOf_sum P d j 31 le_rfl, hp, show step d (step (!d) k 31) 31 = k by
    have h := step_back (!d) k 31; rwa [Bool.not_not] at h, Finset.sum_range]
  exact Equiv.sum_comp (meets d (step (!d) k 31)) fun c => chunk d k (P c) j

/-- The whole result is the sum. -/
theorem joined_sum (P : Dev nD → FVec Ideal S2048x1024 .f32) (i : S2048x1024.Idx) :
    joined (sumOf peer pos P dev) i = ∑ c : Dev nD, P c i := by
  unfold joined
  rw [sumOf_sum]
  exact Finset.sum_congr rfl fun c _ => congrArg (P c) (emb_inside i)

/-! ## The layer on one device -/

/-- A layer on one device. -/
def oneLayer (x : FVec Ideal Cert.ReferenceIdeal.S2048x1024 .f32) (W : FVec Ideal Cert.ReferenceIdeal.S1024x65536 .f32)
    (O : FVec Ideal Cert.ReferenceIdeal.S65536x1024 .f32) : FVec Ideal Cert.ReferenceIdeal.S2048x1024 .f32 :=
  Host.dotGeneral Cert.ReferenceIdeal.dot_S2048x65536_S65536x1024_S2048x1024_1_0_0_1_n_n none
    (maximumf (Host.dotGeneral Cert.ReferenceIdeal.dot_S2048x1024_S1024x65536_S2048x65536_1_0_0_1_n_n none x W)
      (broadcastInDim Cert.ReferenceIdeal.S2048x65536 ![] Cert.ReferenceIdeal.Gen.bcast_S_S2048x65536
        (constant (F := Ideal) Cert.ReferenceIdeal.S_ .f32 0x00000000#32))) O

/-- The layer is the sum of the devices' terms: the hidden units are cut among them. -/
theorem reference_sum (x : FVec Ideal Cert.ReferenceIdeal.S2048x1024 .f32) (W : FVec Ideal Cert.ReferenceIdeal.S1024x65536 .f32)
    (O : FVec Ideal Cert.ReferenceIdeal.S65536x1024 .f32) (i : Cert.ReferenceIdeal.S2048x1024.Idx) :
    ∑ c : Fin 32, termOf x (Layout.block ⟨2, ![1024, 2048]⟩ ⟨2, ![1024, 65536]⟩ 1 32 c W) (Layout.block ⟨2, ![2048, 1024]⟩ ⟨2, ![65536, 1024]⟩ 0 32 c O) i
      = oneLayer x W O i := by
  unfold oneLayer termOf Cert.KernelIdeal.Gen.k0_pay1
  simp only [pointwise]
  rw [zero_add]
  simp only [zero_add]
  refine Fin.sum_mul_add_congr (S := 32) (n := 2048) fun c l hl => ?_
  have hx (k : Fin 1024) : part x (partOf i) (ValueIdx.ix2 (inPart i 0) k) = x (ValueIdx.ix2 (i 0) k) := congrArg x (funext fun a => Fin.ext (by
    match a with
    | 0 => exact Nat.div_add_mod' (i 0).val 256
    | 1 => rfl))
  have hW (k : Fin 1024) : Layout.block ⟨2, ![1024, 2048]⟩ ⟨2, ![1024, 65536]⟩ 1 32 c W (by decide) (ValueIdx.ix2 k l) = W (ValueIdx.ix2 k ⟨c.val * 2048 + l.val, hl⟩) :=
    congrArg W (funext fun a => Fin.ext (by
      match a with
      | 0 => rfl
      | 1 => rfl))
  have hO : Layout.block ⟨2, ![2048, 1024]⟩ ⟨2, ![65536, 1024]⟩ 0 32 c O (by decide) (ValueIdx.ix2 l (inPart i 1)) = O (ValueIdx.ix2 ⟨c.val * 2048 + l.val, hl⟩ (i 1)) :=
    congrArg O (funext fun a => Fin.ext (by
      match a with
      | 0 => rfl
      | 1 => rfl))
  exact congrArg₂ (· * ·) (congrArg (max · 0) (Finset.sum_congr rfl fun k _ => congrArg₂ (· * ·) (hx k) (hW k))) hO

/-- From the same rows on every device, and each with its blocks of the weights, a layer and its all-reduce leave every device with
    the layer on one device. -/
theorem rowsAt_layer (m : (ℓ : Loc nD Cert.KernelIdeal.τ Cert.KernelIdeal.sig) → Buf (Elt Ideal) ℓ) (n : ℕ)
    (x : FVec Ideal Cert.ReferenceIdeal.S2048x1024 .f32) (W : FVec Ideal Cert.ReferenceIdeal.S1024x65536 .f32)
    (O : FVec Ideal Cert.ReferenceIdeal.S65536x1024 .f32) (hx : ∀ c, rowsAt m n c = x)
    (hW : ∀ c, weightIn m n c = Layout.block ⟨2, ![1024, 2048]⟩ ⟨2, ![1024, 65536]⟩ 1 32 c W)
    (hO : ∀ c, weightOut m n c = Layout.block ⟨2, ![2048, 1024]⟩ ⟨2, ![65536, 1024]⟩ 0 32 c O) (c : Dev nD) :
    rowsAt m (n + 1) c = oneLayer x W O := by
  funext i
  rw [rowsAt]
  refine (joined_sum _ i).trans (Eq.trans ?_ (reference_sum x W O i))
  exact Finset.sum_congr rfl fun c _ => by rw [hx, hW, hO]

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ring.Finish
public import proofs.«01_k».proof.Proof.Ring.Same
public import proofs.«01_k».proof.Proof.Ring.Sum
public import Idealize.ShloMosaic.Adequacy
public import Idealize.ShloMosaic.Init

@[expose] public section

noncomputable section

namespace Cert.Proof

open Idealize.ShloMosaic Idealize.SL.Sem Cert.Kernel

/-- The idealization, on any values: the runs end, the arguments unchanged and every semaphore at zero. -/
theorem frame_of {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5)
          = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6)
          = m ((c.tc : Thread Cert.KernelIdeal.nD Cert.KernelIdeal.τ).loc Cert.KernelIdeal.main_arg6))
      ∧ r.2.sem = fun _ => 0) :=
  (θ_run _ _ _).mono (fun _ h => ⟨fun c => (h.1 c).2, h.2⟩) (Cert.Ring.run m g)

theorem frame_kernel : Cert.quiescent_Kernel := by
  have h : Cert.Ring.FrameI := fun m g _ => frame_of m g
  rw [← Cert.Ring.same] at h
  exact h

theorem frame_ideal : Cert.quiescent_KernelIdeal := fun m g _ => frame_of m g

theorem frame_reference : Cert.quiescent_ReferenceIdeal := fun m g _ =>
  (θ_run _ _ _).mono (fun r h => ⟨fun c => (h c).2, sem_eq_zero_of_no_sems (by decide) r.2⟩) (Cert.ReferenceIdeal.Value.run m g)

/-- From the reference's arguments, cut among the devices, the last sum is the reference's result. -/
theorem last_sum (m : (ℓ : Loc Cert.KernelIdeal.nD Cert.KernelIdeal.τ Cert.KernelIdeal.sig) → Buf (Elt Ideal) ℓ)
    (x : FVec Ideal Cert.ReferenceIdeal.S2048x1024 .f32) (W₀ W₁ W₂ : FVec Ideal Cert.ReferenceIdeal.S1024x65536 .f32)
    (O₀ O₁ O₂ : FVec Ideal Cert.ReferenceIdeal.S65536x1024 .f32) (hm : ∀ c : Dev Cert.KernelIdeal.nD,
      Cert.Ring.rowsAt m 0 c = x
      ∧ Cert.Ring.weightIn m 0 c = Layout.block ⟨2, ![1024, 2048]⟩ ⟨2, ![1024, 65536]⟩ 1 32 c W₀
      ∧ Cert.Ring.weightOut m 0 c = Layout.block ⟨2, ![2048, 1024]⟩ ⟨2, ![65536, 1024]⟩ 0 32 c O₀
      ∧ Cert.Ring.weightIn m 1 c = Layout.block ⟨2, ![1024, 2048]⟩ ⟨2, ![1024, 65536]⟩ 1 32 c W₁
      ∧ Cert.Ring.weightOut m 1 c = Layout.block ⟨2, ![2048, 1024]⟩ ⟨2, ![65536, 1024]⟩ 0 32 c O₁
      ∧ Cert.Ring.weightIn m 2 c = Layout.block ⟨2, ![1024, 2048]⟩ ⟨2, ![1024, 65536]⟩ 1 32 c W₂
      ∧ Cert.Ring.weightOut m 2 c = Layout.block ⟨2, ![2048, 1024]⟩ ⟨2, ![65536, 1024]⟩ 0 32 c O₂) :
    Cert.Ring.summed m 2 = Cert.Ring.oneLayer (Cert.Ring.oneLayer (Cert.Ring.oneLayer x W₀ O₀) W₁ O₁) W₂ O₂ :=
  (Cert.Ring.rowsAt_next m 2 0).symm.trans (Cert.Ring.rowsAt_layer m 2 _ W₂ O₂
    (Cert.Ring.rowsAt_layer m 1 _ W₁ O₁
      (Cert.Ring.rowsAt_layer m 0 x W₀ O₀ (fun c => (hm c).1) (fun c => (hm c).2.1) fun c => (hm c).2.2.1)
      (fun c => (hm c).2.2.2.1) fun c => (hm c).2.2.2.2.1)
    (fun c => (hm c).2.2.2.2.2.1) (fun c => (hm c).2.2.2.2.2.2) 0)

theorem sums : Cert.algebraic_KernelIdeal_ReferenceIdeal := fun m g m' g' _ hm =>
  ⟨_, (θ_run _ _ _).mono (fun _ h c => ⟨(h.1 c).1.trans (last_sum m _ _ _ _ _ _ _ hm), (h.1 c).2⟩) (Cert.Ring.run m g),
    (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts, frame_kernel, frame_ideal, frame_reference, trivial, sums⟩

end Cert.Proof

end
